-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)) (v7 : (c : Dev Cert.KernelIdeal.nD) → Buf (Elt Ideal) ((c.tc : Thread Cert.KernelIdeal.nD Cert.KernelIdeal.τ).loc Cert.KernelIdeal.main_v14_7)) (v8 : (c : Dev Cert.KernelIdeal.nD) → Buf (Elt Ideal) ((c.tc : Thread Cert.KernelIdeal.nD Cert.KernelIdeal.τ).loc Cert.KernelIdeal.main_v14_8)) (v9 : (c : Dev Cert.KernelIdeal.nD) → Buf (Elt Ideal) ((c.tc : Thread Cert.KernelIdeal.nD Cert.KernelIdeal.τ).loc Cert.KernelIdeal.main_v14_9)) (v10 : (c : Dev Cert.KernelIdeal.nD) → Buf (Elt Ideal) ((c.tc : Thread Cert.KernelIdeal.nD Cert.KernelIdeal.τ).loc Cert.KernelIdeal.main_v14_10)) (v11 : (c : Dev Cert.KernelIdeal.nD) → Buf (Elt Ideal) ((c.tc : Thread Cert.KernelIdeal.nD Cert.KernelIdeal.τ).loc Cert.KernelIdeal.main_v14_11)) (v12 : (c : Dev Cert.KernelIdeal.nD) → Buf (Elt Ideal) ((c.tc : Thread Cert.KernelIdeal.nD Cert.KernelIdeal.τ).loc Cert.KernelIdeal.main_v14_12)) (v13 : (c : Dev Cert.KernelIdeal.nD) → Buf (Elt Ideal) ((c.tc : Thread Cert.KernelIdeal.nD Cert.KernelIdeal.τ).loc Cert.KernelIdeal.main_v14_13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_v14_7) = v7 c
          ∧ r.2.mem ((c.tc : Thread Cert.KernelIdeal.nD Cert.KernelIdeal.τ).loc Cert.KernelIdeal.main_v14_8) = v8 c
          ∧ r.2.mem ((c.tc : Thread Cert.KernelIdeal.nD Cert.KernelIdeal.τ).loc Cert.KernelIdeal.main_v14_9) = v9 c
          ∧ r.2.mem ((c.tc : Thread Cert.KernelIdeal.nD Cert.KernelIdeal.τ).loc Cert.KernelIdeal.main_v14_10) = v10 c
          ∧ r.2.mem ((c.tc : Thread Cert.KernelIdeal.nD Cert.KernelIdeal.τ).loc Cert.KernelIdeal.main_v14_11) = v11 c
          ∧ r.2.mem ((c.tc : Thread Cert.KernelIdeal.nD Cert.KernelIdeal.τ).loc Cert.KernelIdeal.main_v14_12) = v12 c
          ∧ r.2.mem ((c.tc : Thread Cert.KernelIdeal.nD Cert.KernelIdeal.τ).loc Cert.KernelIdeal.main_v14_13) = v13 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v483) = v0 c
          ∧ r.2.mem ((c.tc : Thread Cert.ReferenceIdeal.nD Cert.ReferenceIdeal.τ).loc Cert.ReferenceIdeal.main_v484) = v1 c
          ∧ r.2.mem ((c.tc : Thread Cert.ReferenceIdeal.nD Cert.ReferenceIdeal.τ).loc Cert.ReferenceIdeal.main_v246) = v2 c
          ∧ r.2.mem ((c.tc : Thread Cert.ReferenceIdeal.nD Cert.ReferenceIdeal.τ).loc Cert.ReferenceIdeal.main_v485) = v3 c
          ∧ r.2.mem ((c.tc : Thread Cert.ReferenceIdeal.nD Cert.ReferenceIdeal.τ).loc Cert.ReferenceIdeal.main_v486) = v4 c
          ∧ r.2.mem ((c.tc : Thread Cert.ReferenceIdeal.nD Cert.ReferenceIdeal.τ).loc Cert.ReferenceIdeal.main_v249) = v5 c
          ∧ r.2.mem ((c.tc : Thread Cert.ReferenceIdeal.nD Cert.ReferenceIdeal.τ).loc Cert.ReferenceIdeal.main_v327) = v6 c
          ∧ r.2.mem ((c.tc : Thread Cert.ReferenceIdeal.nD Cert.ReferenceIdeal.τ).loc Cert.ReferenceIdeal.main_v407) = v7 c
          ∧ r.2.mem ((c.tc : Thread Cert.ReferenceIdeal.nD Cert.ReferenceIdeal.τ).loc Cert.ReferenceIdeal.main_v377) = v8 c
          ∧ r.2.mem ((c.tc : Thread Cert.ReferenceIdeal.nD Cert.ReferenceIdeal.τ).loc Cert.ReferenceIdeal.main_v374) = v9 c
          ∧ r.2.mem ((c.tc : Thread Cert.ReferenceIdeal.nD Cert.ReferenceIdeal.τ).loc Cert.ReferenceIdeal.main_v415) = v10 c
          ∧ r.2.mem ((c.tc : Thread Cert.ReferenceIdeal.nD Cert.ReferenceIdeal.τ).loc Cert.ReferenceIdeal.main_v371) = v11 c
          ∧ r.2.mem ((c.tc : Thread Cert.ReferenceIdeal.nD Cert.ReferenceIdeal.τ).loc Cert.ReferenceIdeal.main_v366) = v12 c
          ∧ r.2.mem ((c.tc : Thread Cert.ReferenceIdeal.nD Cert.ReferenceIdeal.τ).loc Cert.ReferenceIdeal.main_v481) = v13 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_1)) (v1 : (c : Dev Cert.Kernel2Ideal.nD) → Buf (Elt Ideal) ((c.tc : Thread Cert.Kernel2Ideal.nD Cert.Kernel2Ideal.τ).loc Cert.Kernel2Ideal.main_v2_2)) (v2 : (c : Dev Cert.Kernel2Ideal.nD) → Buf (Elt Ideal) ((c.tc : Thread Cert.Kernel2Ideal.nD Cert.Kernel2Ideal.τ).loc Cert.Kernel2Ideal.main_v3_0)) (v3 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_1) = v0 c
          ∧ r.2.mem ((c.tc : Thread Cert.Kernel2Ideal.nD Cert.Kernel2Ideal.τ).loc Cert.Kernel2Ideal.main_v2_2) = v1 c
          ∧ r.2.mem ((c.tc : Thread Cert.Kernel2Ideal.nD Cert.Kernel2Ideal.τ).loc Cert.Kernel2Ideal.main_v3_0) = v2 c
          ∧ r.2.mem ((c.tc : Thread Cert.Kernel2Ideal.nD Cert.Kernel2Ideal.τ).loc Cert.Kernel2Ideal.main_v3_1) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v6) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v11) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x2048 : Shape := ⟨2, ![4096, 2048]⟩
abbrev S4096x7168 : Shape := ⟨2, ![4096, 7168]⟩
abbrev S256x2048 : Shape := ⟨2, ![256, 2048]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S1x3072 : Shape := ⟨2, ![1, 3072]⟩
abbrev S3072x2048 : Shape := ⟨2, ![3072, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x7168 : S_.BroadcastsInDim S4096x7168 (![] : Fin 0 → Fin S4096x7168.rank)
  bcast_S_S256x2048 : S_.BroadcastsInDim S256x2048 (![] : Fin 0 → Fin S256x2048.rank)
  bcast_S_S4x256x256 : S_.BroadcastsInDim S4x256x256 (![] : Fin 0 → Fin S4x256x256.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x3072 : S_.BroadcastsInDim S1x3072 (![] : Fin 0 → Fin S1x3072.rank)
  bcast_S_S3072x2048 : S_.BroadcastsInDim S3072x2048 (![] : Fin 0 → Fin S3072x2048.rank)
  bcast_S_S1x2048 : S_.BroadcastsInDim S1x2048 (![] : Fin 0 → Fin S1x2048.rank)

variable [Facts]

def fn_part2 {F : FTy → Type} [FloatOps F] (main_arg12 : FVec F S1x2048 .f32) (main_v4 : IVec S4096x2048 1) (main_v7 : IVec S4096x2048 1) (main_v10 : IVec S4096x7168 1) (main_v13 : IVec S256x2048 1) (main_v16 : IVec S4x256x256 1) (main_v19 : IVec S1x1024 1) (main_v22 : IVec S1x1024 1) (main_v25 : IVec S1x1024 1) (main_v28 : IVec S8x128x128 1) (main_v31 : IVec S8x128 1) (main_v34 : IVec S1x3072 1) (main_v35 : FVec F S3072x2048 .f32) (main_cst_10 : FVec F S_ .f32) : IVec S4096x2048 1 × IVec S4096x2048 1 × IVec S4096x7168 1 × IVec S256x2048 1 × IVec S4x256x256 1 × IVec S1x1024 1 × IVec S1x1024 1 × IVec S1x1024 1 × IVec S8x128x128 1 × IVec S8x128 1 × IVec S1x3072 1 × IVec S3072x2048 1 × IVec S1x2048 1 :=
  let main_v36 : FVec F S3072x2048 .f32 := broadcastInDim S3072x2048 ![] bcast_S_S3072x2048 main_cst_10
  let main_v37 : IVec S3072x2048 1 := cmpf .olt main_v35 main_v36
  let main_v38 : FVec F S1x2048 .f32 := Host.absf main_arg12
  let main_cst_11 : FVec F S_ .f32 := constant S_ .f32 0x7F800000#32
  let main_v39 : FVec F S1x2048 .f32 := broadcastInDim S1x2048 ![] bcast_S_S1x2048 main_cst_11
  let main_v40 : IVec S1x2048 1 := cmpf .olt main_v38 main_v39
  (main_v4, main_v7, main_v10, main_v13, main_v16, main_v19, main_v22, main_v25, main_v28, main_v31, main_v34, main_v37, main_v40)

def fn_part1 {F : FTy → Type} [FloatOps F] (main_arg6 : FVec F S1x1024 .f32) (main_arg7 : FVec F S1x1024 .f32) (main_arg8 : FVec F S8x128x128 .f32) (main_arg9 : FVec F S8x128 .f32) (main_arg10 : FVec F S1x3072 .f32) (main_arg11 : FVec F S3072x2048 .f32) (main_arg12 : FVec F S1x2048 .f32) (main_v4 : IVec S4096x2048 1) (main_v7 : IVec S4096x2048 1) (main_v10 : IVec S4096x7168 1) (main_v13 : IVec S256x2048 1) (main_v16 : IVec S4x256x256 1) (main_v17 : FVec F S1x1024 .f32) (main_cst_4 : FVec F S_ .f32) : IVec S4096x2048 1 × IVec S4096x2048 1 × IVec S4096x7168 1 × IVec S256x2048 1 × IVec S4x256x256 1 × IVec S1x1024 1 × IVec S1x1024 1 × IVec S1x1024 1 × IVec S8x128x128 1 × IVec S8x128 1 × IVec S1x3072 1 × IVec S3072x2048 1 × IVec S1x2048 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  let main_v26 : FVec F S8x128x128 .f32 := Host.absf main_arg8
  let main_cst_7 : FVec F S_ .f32 := constant S_ .f32 0x7F800000#32
  let main_v27 : FVec F S8x128x128 .f32 := broadcastInDim S8x128x128 ![] bcast_S_S8x128x128 main_cst_7
  let main_v28 : IVec S8x128x128 1 := cmpf .olt main_v26 main_v27
  let main_v29 : FVec F S8x128 .f32 := Host.absf main_arg9
  let main_cst_8 : FVec F S_ .f32 := constant S_ .f32 0x7F800000#32
  let main_v30 : FVec F S8x128 .f32 := broadcastInDim S8x128 ![] bcast_S_S8x128 main_cst_8
  let main_v31 : IVec S8x128 1 := cmpf .olt main_v29 main_v30
  let main_v32 : FVec F S1x3072 .f32 := Host.absf main_arg10
  let main_cst_9 : FVec F S_ .f32 := constant S_ .f32 0x7F800000#32
  let main_v33 : FVec F S1x3072 .f32 := broadcastInDim S1x3072 ![] bcast_S_S1x3072 main_cst_9
  let main_v34 : IVec S1x3072 1 := cmpf .olt main_v32 main_v33
  let main_v35 : FVec F S3072x2048 .f32 := Host.absf main_arg11
  let main_cst_10 : FVec F S_ .f32 := constant S_ .f32 0x7F800000#32
  fn_part2 (F := F) main_arg12 main_v4 main_v7 main_v10 main_v13 main_v16 main_v19 main_v22 main_v25 main_v28 main_v31 main_v34 main_v35 main_cst_10

def fn {F : FTy → Type} [FloatOps F] (main_arg0 : FVec F S4096x2048 .f32) (main_arg1 : FVec F S4096x2048 .f32) (main_arg2 : FVec F S4096x7168 .bf16) (main_arg3 : FVec F S256x2048 .bf16) (main_arg4 : FVec F S4x256x256 .f32) (main_arg5 : FVec F S1x1024 .f32) (main_arg6 : FVec F S1x1024 .f32) (main_arg7 : FVec F S1x1024 .f32) (main_arg8 : FVec F S8x128x128 .f32) (main_arg9 : FVec F S8x128 .f32) (main_arg10 : FVec F S1x3072 .f32) (main_arg11 : FVec F S3072x2048 .f32) (main_arg12 : FVec F S1x2048 .f32) : IVec S4096x2048 1 × IVec S4096x2048 1 × IVec S4096x7168 1 × IVec S256x2048 1 × IVec S4x256x256 1 × IVec S1x1024 1 × IVec S1x1024 1 × IVec S1x1024 1 × IVec S8x128x128 1 × IVec S8x128 1 × IVec S1x3072 1 × IVec S3072x2048 1 × IVec S1x2048 1 :=
  let main_v0 : FVec F S4096x7168 .f32 := (extf .f32 · bitsLt_bf16_f32) main_arg2
  let main_v1 : FVec F S256x2048 .f32 := (extf .f32 · bitsLt_bf16_f32) main_arg3
  let main_v2 : FVec F S4096x2048 .f32 := Host.absf main_arg0
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S4096x2048 .f32 := Host.absf main_arg1
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x7168 .f32 := Host.absf main_v0
  let main_cst_1 : FVec F S_ .f32 := constant S_ .f32 0x7F800000#32
  let main_v9 : FVec F S4096x7168 .f32 := broadcastInDim S4096x7168 ![] bcast_S_S4096x7168 main_cst_1
  let main_v10 : IVec S4096x7168 1 := cmpf .olt main_v8 main_v9
  let main_v11 : FVec F S256x2048 .f32 := Host.absf main_v1
  let main_cst_2 : FVec F S_ .f32 := constant S_ .f32 0x7F800000#32
  let main_v12 : FVec F S256x2048 .f32 := broadcastInDim S256x2048 ![] bcast_S_S256x2048 main_cst_2
  let main_v13 : IVec S256x2048 1 := cmpf .olt main_v11 main_v12
  let main_v14 : FVec F S4x256x256 .f32 := Host.absf main_arg4
  let main_cst_3 : FVec F S_ .f32 := constant S_ .f32 0x7F800000#32
  let main_v15 : FVec F S4x256x256 .f32 := broadcastInDim S4x256x256 ![] bcast_S_S4x256x256 main_cst_3
  let main_v16 : IVec S4x256x256 1 := cmpf .olt main_v14 main_v15
  let main_v17 : FVec F S1x1024 .f32 := Host.absf main_arg5
  let main_cst_4 : FVec F S_ .f32 := constant S_ .f32 0x7F800000#32
  fn_part1 (F := F) main_arg6 main_arg7 main_arg8 main_arg9 main_arg10 main_arg11 main_arg12 main_v4 main_v7 main_v10 main_v13 main_v16 main_v17 main_cst_4
-- ==== Kernel.lean ====
abbrev S4096x2048 : Shape := ⟨2, ![4096, 2048]⟩
abbrev S4096x7168 : Shape := ⟨2, ![4096, 7168]⟩
abbrev S256x2048 : Shape := ⟨2, ![256, 2048]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S1x3072 : Shape := ⟨2, ![1, 3072]⟩
abbrev S3072x2048 : Shape := ⟨2, ![3072, 2048]⟩
abbrev S1x2048 : Shape := ⟨2, ![1, 2048]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S2048x256 : Shape := ⟨2, ![2048, 256]⟩
abbrev S2048x3072 : Shape := ⟨2, ![2048, 3072]⟩
abbrev S4096x3072 : Shape := ⟨2, ![4096, 3072]⟩
abbrev S1x128 : Shape := ⟨2, ![1, 128]⟩
abbrev S128x7168 : Shape := ⟨2, ![128, 7168]⟩
abbrev S16x1024 : Shape := ⟨2, ![16, 1024]⟩
abbrev S128x2048 : Shape := ⟨2, ![128, 2048]⟩
abbrev S128x3072 : Shape := ⟨2, ![128, 3072]⟩
abbrev S2 : Shape := ⟨1, ![2]⟩
abbrev S1 : Shape := ⟨1, ![1]⟩
abbrev S128x1 : Shape := ⟨2, ![128, 1]⟩
abbrev S16x256 : Shape := ⟨2, ![16, 256]⟩
abbrev S128x256 : Shape := ⟨2, ![128, 256]⟩
abbrev S144x256 : Shape := ⟨2, ![144, 256]⟩
abbrev S1x256x256 : Shape := ⟨3, ![1, 256, 256]⟩
abbrev S256x256 : Shape := ⟨2, ![256, 256]⟩
abbrev S128 : Shape := ⟨1, ![128]⟩
abbrev S1024x2048 : Shape := ⟨2, ![1024, 2048]⟩
abbrev S1x1 : Shape := ⟨2, ![1, 1]⟩
abbrev S2048 : Shape := ⟨1, ![2048]⟩
abbrev S2048x1024 : Shape := ⟨2, ![2048, 1024]⟩
abbrev S1024 : Shape := ⟨1, ![1024]⟩

abbrev nBuf : Space → Nat
  | .hbm => 54
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x7168, .bf16⟩
  | .hbm, ⟨3, _⟩ => ⟨S256x2048, .bf16⟩
  | .hbm, ⟨4, _⟩ => ⟨S4x256x256, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S8x128, .f32⟩
  | .hbm, ⟨10, _⟩ => ⟨S1x3072, .f32⟩
  | .hbm, ⟨11, _⟩ => ⟨S3072x2048, .f32⟩
  | .hbm, ⟨12, _⟩ => ⟨S1x2048, .f32⟩
  | .hbm, ⟨13, _⟩ => ⟨S_, .i1⟩
  | .hbm, ⟨14, _⟩ => ⟨S128x128, .i1⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S_, .i1⟩
  | .hbm, ⟨22, _⟩ => ⟨S128x128, .i1⟩
  | .hbm, ⟨23, _⟩ => ⟨S128x128, .i1⟩
  | .hbm, ⟨24, _⟩ => ⟨S1x128x128, .i1⟩
  | .hbm, ⟨25, _⟩ => ⟨S_, .f32⟩
  | .hbm, ⟨26, _⟩ => ⟨S_, .f32⟩
  | .hbm, ⟨27, _⟩ => ⟨S8x128x128, .i1⟩
  | .hbm, ⟨28, _⟩ => ⟨S8x128x128, .f32⟩
  | .hbm, ⟨29, _⟩ => ⟨S8x128x128, .f32⟩
  | .hbm, ⟨30, _⟩ => ⟨S8x128x128, .bf16⟩
  | .hbm, ⟨31, _⟩ => ⟨S128x8, .f32⟩
  | .hbm, ⟨32, _⟩ => ⟨S128x8x128, .f32⟩
  | .hbm, ⟨33, _⟩ => ⟨S128x1024, .f32⟩
  | .hbm, ⟨34, _⟩ => ⟨S3072x2048, .bf16⟩
  | .hbm, ⟨35, _⟩ => ⟨S4x256x256, .bf16⟩
  | .hbm, ⟨36, _⟩ => ⟨S2048x256, .bf16⟩
  | .hbm, ⟨37, _⟩ => ⟨S2048x3072, .bf16⟩
  | .hbm, ⟨38, _⟩ => ⟨S4x256x256, .bf16⟩
  | .hbm, ⟨39, _⟩ => ⟨S8x128x128, .bf16⟩
  | .hbm, ⟨40, _⟩ => ⟨S4096x3072, .bf16⟩
  | .hbm, ⟨41, _⟩ => ⟨S4096x2048, .bf16⟩
  | .hbm, ⟨42, _⟩ => ⟨S4096x2048, .f32⟩
  | .hbm, ⟨43, _⟩ => ⟨S4096x7168, .bf16⟩
  | .hbm, ⟨44, _⟩ => ⟨S1x128, .f32⟩
  | .hbm, ⟨45, _⟩ => ⟨S1x2048, .f32⟩
  | .hbm, ⟨46, _⟩ => ⟨S1x3072, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S4x256x256, .f32⟩
  | .hbm, ⟨51, _⟩ => ⟨S8x128x128, .f32⟩
  | .hbm, ⟨52, _⟩ => ⟨S8x128, .f32⟩
  | .hbm, ⟨53, _⟩ => ⟨S256x2048, .f32⟩
  | .local _ .vmem, ⟨0, _⟩ => ⟨S128x7168, .bf16⟩
  | .local _ .vmem, ⟨1, _⟩ => ⟨S128x7168, .bf16⟩
  | .local _ .vmem, ⟨2, _⟩ => ⟨S16x1024, .bf16⟩
  | .local _ .vmem, ⟨3, _⟩ => ⟨S16x1024, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S256x2048, .bf16⟩
  | .local _ .vmem, ⟨9, _⟩ => ⟨S2048x256, .bf16⟩
  | .local _ .vmem, ⟨10, _⟩ => ⟨S4x256x256, .bf16⟩
  | .local _ .vmem, ⟨11, _⟩ => ⟨S4x256x256, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | .local _ .vmem, ⟨16, _⟩ => ⟨S8x128x128, .bf16⟩
  | .local _ .vmem, ⟨17, _⟩ => ⟨S8x128x128, .bf16⟩
  | .local _ .vmem, ⟨18, _⟩ => ⟨S1x3072, .f32⟩
  | .local _ .vmem, ⟨19, _⟩ => ⟨S1x2048, .f32⟩
  | .local _ .vmem, ⟨20, _⟩ => ⟨S128x3072, .bf16⟩
  | .local _ .vmem, ⟨21, _⟩ => ⟨S128x3072, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .f32⟩
  | .local _ .vmem, ⟨25, _⟩ => ⟨S128x2048, .f32⟩
  | .local _ .vmem, ⟨26, _⟩ => ⟨S128x7168, .bf16⟩
  | .local _ .vmem, ⟨27, _⟩ => ⟨S128x7168, .bf16⟩
  | .local _ .vmem, ⟨28, _⟩ => ⟨S1x128, .f32⟩
  | .local _ .vmem, ⟨29, _⟩ => ⟨S1x2048, .f32⟩
  | .local _ .vmem, ⟨30, _⟩ => ⟨S1x3072, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S8x128, .f32⟩
  | .local _ .vmem, ⟨35, _⟩ => ⟨S16x1024, .f32⟩
  | .local _ .vmem, ⟨36, _⟩ => ⟨S128x1024, .f32⟩
  | .local _ .vmem, ⟨37, _⟩ => ⟨S4x256x256, .f32⟩
  | .local _ .vmem, ⟨38, _⟩ => ⟨S8x128x128, .f32⟩
  | .local _ .vmem, ⟨39, _⟩ => ⟨S256x2048, .f32⟩
  | .local _ .vmem, ⟨40, _⟩ => ⟨S3072x2048, .bf16⟩
  | .local _ .vmem, ⟨41, _⟩ => ⟨S2048x3072, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_v14_3 : Ref sig .tc := ⟨.hbm, 43, rfl⟩
abbrev main_v14_4 : Ref sig .tc := ⟨.hbm, 44, rfl⟩
abbrev main_v14_5 : Ref sig .tc := ⟨.hbm, 45, rfl⟩
abbrev main_v14_6 : Ref sig .tc := ⟨.hbm, 46, rfl⟩
abbrev main_v14_7 : Ref sig .tc := ⟨.hbm, 47, rfl⟩
abbrev main_v14_8 : Ref sig .tc := ⟨.hbm, 48, rfl⟩
abbrev main_v14_9 : Ref sig .tc := ⟨.hbm, 49, rfl⟩
abbrev main_v14_10 : Ref sig .tc := ⟨.hbm, 50, rfl⟩
abbrev main_v14_11 : Ref sig .tc := ⟨.hbm, 51, rfl⟩
abbrev main_v14_12 : Ref sig .tc := ⟨.hbm, 52, rfl⟩
abbrev main_v14_13 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34

abbrev nD : Nat := 1
abbrev τ : Topo := Topo.v7x

variable {F : FTy → Type} [FloatOps F]

abbrev grid0 : Pipeline.Grid := ⟨1, ![32], ![false]⟩

def k0_cond4 (i : grid0.Coords) : BitVec 1 :=
  let arg0 : BitVec 32 := BitVec.ofNat 32 (i 0).val
  let c31_i32_452 : BitVec 32 := 31#32
  let v839 : BitVec 1 := Scalar.cmpi .eq arg0 c31_i32_452
  let v840 : BitVec 32 := Scalar.extui v839
  let c0_i32_453 : BitVec 32 := 0#32
  let v841 : BitVec 1 := Scalar.cmpi .ne v840 c0_i32_453
  v841

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x7168 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x3072 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== ReferenceIdeal.lean ====
abbrev S4096x2048 : Shape := ⟨2, ![4096, 2048]⟩
abbrev S4096x7168 : Shape := ⟨2, ![4096, 7168]⟩
abbrev S256x2048 : Shape := ⟨2, ![256, 2048]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S1x3072 : Shape := ⟨2, ![1, 3072]⟩
abbrev S3072x2048 : Shape := ⟨2, ![3072, 2048]⟩
abbrev S1x2048 : Shape := ⟨2, ![1, 2048]⟩
abbrev S4096x1024 : Shape := ⟨2, ![4096, 1024]⟩
abbrev S256x1024 : Shape := ⟨2, ![256, 1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4096x3072 : Shape := ⟨2, ![4096, 3072]⟩
abbrev S2048 : Shape := ⟨1, ![2048]⟩
abbrev S1024 : Shape := ⟨1, ![1024]⟩
abbrev S1x128 : Shape := ⟨2, ![1, 128]⟩

abbrev nBuf : Space → Nat
  | .hbm => 660
  | .vmem => 0
  | .smem => 0
  | _ => 0

abbrev hbmTy0_0 (i : Nat) : BufTy := match i % 128 with
  | 0 => ⟨S4096x2048, .f32⟩
  | 1 => ⟨S4096x2048, .f32⟩
  | 2 => ⟨S4096x7168, .bf16⟩
  | 3 => ⟨S256x2048, .bf16⟩
  | 4 => ⟨S4x256x256, .f32⟩
  | 5 => ⟨S1x1024, .f32⟩
  | 6 => ⟨S1x1024, .f32⟩
  | 7 => ⟨S1x1024, .f32⟩
  | 8 => ⟨S8x128x128, .f32⟩
  | 9 => ⟨S8x128, .f32⟩
  | 10 => ⟨S1x3072, .f32⟩
  | 11 => ⟨S3072x2048, .f32⟩
  | 12 => ⟨S1x2048, .f32⟩
  | 13 => ⟨S4096x7168, .f32⟩
  | 14 => ⟨S256x2048, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S256x1024, .f32⟩
  | 23 => ⟨S256x1024, .f32⟩
  | 24 => ⟨S4096x4x256, .f32⟩
  | 25 => ⟨S_, .f32⟩
  | 26 => ⟨S_, .f32⟩
  | 27 => ⟨S4096x4x256, .f32⟩
  | 28 => ⟨S4096, .f32⟩
  | 29 => ⟨S_, .f32⟩
  | 30 => ⟨S4096, .f32⟩
  | 31 => ⟨S4096, .f32⟩
  | 32 => ⟨S4096x1x256, .f32⟩
  | 33 => ⟨S4096x256, .f32⟩
  | 34 => ⟨S_, .f32⟩
  | 35 => ⟨S2x256, .f32⟩
  | 36 => ⟨S4094x256, .f32⟩
  | 37 => ⟨S4096x256, .f32⟩
  | 38 => ⟨S_, .f32⟩
  | 39 => ⟨S2x256, .f32⟩
  | 40 => ⟨S_, .f32⟩
  | 41 => ⟨S4096, .f32⟩
  | 42 => ⟨S4096, .f32⟩
  | 43 => ⟨S4096x1, .f32⟩
  | 44 => ⟨S4096x256, .f32⟩
  | 45 => ⟨S4096x256, .f32⟩
  | 46 => ⟨S4096x256, .f32⟩
  | 47 => ⟨S4096x1x256, .f32⟩
  | 48 => ⟨S4096x256, .f32⟩
  | 49 => ⟨S4096x256, .f32⟩
  | 50 => ⟨S4096x1x256, .f32⟩
  | 51 => ⟨S4096x256, .f32⟩
  | 52 => ⟨S_, .f32⟩
  | 53 => ⟨S4x256, .f32⟩
  | 54 => ⟨S4092x256, .f32⟩
  | 55 => ⟨S4096x256, .f32⟩
  | 56 => ⟨S_, .f32⟩
  | 57 => ⟨S4x256, .f32⟩
  | 58 => ⟨S_, .f32⟩
  | 59 => ⟨S4096, .f32⟩
  | 60 => ⟨S4096, .f32⟩
  | 61 => ⟨S4096x1, .f32⟩
  | 62 => ⟨S4096x256, .f32⟩
  | 63 => ⟨S4096x256, .f32⟩
  | 64 => ⟨S4096x256, .f32⟩
  | 65 => ⟨S4096x1x256, .f32⟩
  | 66 => ⟨S4096x256, .f32⟩
  | 67 => ⟨S4096x256, .f32⟩
  | 68 => ⟨S4096x1x256, .f32⟩
  | 69 => ⟨S4096x256, .f32⟩
  | 70 => ⟨S_, .f32⟩
  | 71 => ⟨S8x256, .f32⟩
  | 72 => ⟨S4088x256, .f32⟩
  | 73 => ⟨S4096x256, .f32⟩
  | 74 => ⟨S_, .f32⟩
  | 75 => ⟨S8x256, .f32⟩
  | 76 => ⟨S_, .f32⟩
  | 77 => ⟨S4096, .f32⟩
  | 78 => ⟨S4096, .f32⟩
  | 79 => ⟨S4096x1, .f32⟩
  | 80 => ⟨S4096x256, .f32⟩
  | 81 => ⟨S4096x256, .f32⟩
  | 82 => ⟨S4096x256, .f32⟩
  | 83 => ⟨S4096x1x256, .f32⟩
  | 84 => ⟨S4096x256, .f32⟩
  | 85 => ⟨S4096x256, .f32⟩
  | 86 => ⟨S4096x1x256, .f32⟩
  | 87 => ⟨S4096x256, .f32⟩
  | 88 => ⟨S_, .f32⟩
  | 89 => ⟨S16x256, .f32⟩
  | 90 => ⟨S4080x256, .f32⟩
  | 91 => ⟨S4096x256, .f32⟩
  | 92 => ⟨S_, .f32⟩
  | 93 => ⟨S16x256, .f32⟩
  | 94 => ⟨S_, .f32⟩
  | 95 => ⟨S4096, .f32⟩
  | 96 => ⟨S4096, .f32⟩
  | 97 => ⟨S4096x1, .f32⟩
  | 98 => ⟨S4096x256, .f32⟩
  | 99 => ⟨S4096x256, .f32⟩
  | 100 => ⟨S4096x256, .f32⟩
  | 101 => ⟨S4096x1x256, .f32⟩
  | 102 => ⟨S4096x256, .f32⟩
  | 103 => ⟨S4096x256, .f32⟩
  | 104 => ⟨S4096x1x256, .f32⟩
  | 105 => ⟨S4096x1x256, .f32⟩
  | 106 => ⟨S4096x1x256, .f32⟩
  | 107 => ⟨S4096x1x256, .f32⟩
  | 108 => ⟨S4096x4x256, .f32⟩
  | 109 => ⟨S4x256x4096, .f32⟩
  | 110 => ⟨S4096x4x256, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x2048, .f32⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S32x128x8x128, .f32⟩
  | 30 => ⟨S_, .i1⟩
  | 31 => ⟨S128x128, .i1⟩
  | 32 => ⟨S128x128, .i32⟩
  | 33 => ⟨S_, .i32⟩
  | 34 => ⟨S128x128, .i32⟩
  | 35 => ⟨S128x128, .i32⟩
  | 36 => ⟨S128x128, .i32⟩
  | 37 => ⟨S128x128, .i1⟩
  | 38 => ⟨S_, .i1⟩
  | 39 => ⟨S128x128, .i1⟩
  | 40 => ⟨S128x128, .i1⟩
  | 41 => ⟨S1x128x128, .i1⟩
  | 42 => ⟨S_, .f32⟩
  | 43 => ⟨S8x128x128, .f32⟩
  | 44 => ⟨S8x128x128, .i1⟩
  | 45 => ⟨S8x128x128, .f32⟩
  | 46 => ⟨S_, .f32⟩
  | 47 => ⟨S8x128x128, .f32⟩
  | 48 => ⟨S8x32x128x128, .f32⟩
  | 49 => ⟨S32x128x8x128, .f32⟩
  | 50 => ⟨S128x8, .f32⟩
  | 51 => ⟨S1x128x8x1, .f32⟩
  | 52 => ⟨S32x128x8x128, .f32⟩
  | 53 => ⟨S32x128x8x128, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x4x256, .f32⟩
  | 71 => ⟨S256x4x256, .f32⟩
  | 72 => ⟨S256x4x256, .f32⟩
  | 73 => ⟨S4x4096x256, .f32⟩
  | 74 => ⟨S_, .f32⟩
  | 75 => ⟨S4x4096x256, .f32⟩
  | 76 => ⟨S4x4096x256, .f32⟩
  | 77 => ⟨S_, .f32⟩
  | 78 => ⟨S4x4096, .f32⟩
  | 79 => ⟨S4x4096x1, .f32⟩
  | 80 => ⟨S4x4096x256, .f32⟩
  | 81 => ⟨S4x4096x256, .i1⟩
  | 82 => ⟨S4x4096x256, .f32⟩
  | 83 => ⟨S_, .f32⟩
  | 84 => ⟨S4x4096, .f32⟩
  | 85 => ⟨S_, .f32⟩
  | 86 => ⟨S4x4096, .f32⟩
  | 87 => ⟨S4x4096, .f32⟩
  | 88 => ⟨S_, .f32⟩
  | 89 => ⟨S4x4096, .f32⟩
  | 90 => ⟨S4x4096, .i1⟩
  | 91 => ⟨S_, .f32⟩
  | 92 => ⟨S4x4096, .f32⟩
  | 93 => ⟨S4x4096, .i1⟩
  | 94 => ⟨S_, .f32⟩
  | 95 => ⟨S4x4096, .f32⟩
  | 96 => ⟨S_, .f32⟩
  | 97 => ⟨S4x4096, .f32⟩
  | 98 => ⟨S_, .f32⟩
  | 99 => ⟨S4x4096, .f32⟩
  | 100 => ⟨S4x4096, .f32⟩
  | 101 => ⟨S4x4096, .f32⟩
  | 102 => ⟨S4x4096x1, .f32⟩
  | 103 => ⟨S4x4096x256, .f32⟩
  | 104 => ⟨S4x4096x256, .f32⟩
  | 105 => ⟨S4x4096x256, .f32⟩
  | 106 => ⟨S_, .f32⟩
  | 107 => ⟨S4x4096, .f32⟩
  | 108 => ⟨S4x4096x1, .f32⟩
  | 109 => ⟨S4x4096x256, .f32⟩
  | 110 => ⟨S4x4096x256, .f32⟩
  | 111 => ⟨S4x4096x1, .f32⟩
  | 112 => ⟨S_, .f32⟩
  | 113 => ⟨S4x4096x1, .f32⟩
  | 114 => ⟨S4x4096x1, .f32⟩
  | 115 => ⟨S4x256x4096, .f32⟩
  | 116 => ⟨S4096x4x256, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S_, .f32⟩
  | 127 => ⟨S4096x1024, .f32⟩
  | _ => ⟨S4096x2048, .f32⟩

abbrev hbmTy0_2 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1x1024, .f32⟩
  | 5 => ⟨S1x1024, .f32⟩
  | 6 => ⟨S1x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S4096x1024, .f32⟩
  | 63 => ⟨S4096x1024, .f32⟩
  | 64 => ⟨S4096x3072, .f32⟩
  | 65 => ⟨S4096x2048, .f32⟩
  | 66 => ⟨S4096x2048, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x2048, .f32⟩
  | 82 => ⟨S4096x2048, .f32⟩
  | 83 => ⟨S4096x2048, .f32⟩
  | 84 => ⟨S4096x2048, .f32⟩
  | 85 => ⟨S4096x2048, .f32⟩
  | 86 => ⟨S4096x2048, .f32⟩
  | 87 => ⟨S4096x2048, .f32⟩
  | 88 => ⟨S_, .f32⟩
  | 89 => ⟨S4096x2048, .f32⟩
  | 90 => ⟨S4096x2048, .f32⟩
  | 91 => ⟨S_, .f32⟩
  | 92 => ⟨S4096, .f32⟩
  | 93 => ⟨S_, .f32⟩
  | 94 => ⟨S4096, .f32⟩
  | 95 => ⟨S4096, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S4096, .f32⟩
  | 104 => ⟨S_, .f32⟩
  | 105 => ⟨S4096, .f32⟩
  | 106 => ⟨S4096, .f32⟩
  | 107 => ⟨S4096x2048, .f32⟩
  | 108 => ⟨S4096x2048, .f32⟩
  | 109 => ⟨S4096x2048, .f32⟩
  | 110 => ⟨S_, .f32⟩
  | 111 => ⟨S2048, .f32⟩
  | 112 => ⟨S1x2048, .f32⟩
  | 113 => ⟨S4096x2048, .f32⟩
  | 114 => ⟨S4096x2048, .f32⟩
  | 115 => ⟨S4096x2048, .f32⟩
  | 116 => ⟨S_, .f32⟩
  | 117 => ⟨S4096, .f32⟩
  | 118 => ⟨S4096x1, .f32⟩
  | 119 => ⟨S4096x2048, .f32⟩
  | 120 => ⟨S4096x2048, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x2048, .f32⟩
  | _ => ⟨S4096x2048, .f32⟩

abbrev hbmTy0_3 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x3072, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S1024, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1024, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S4096x1024, .f32⟩
  | 42 => ⟨S4096x1024, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S1024, .f32⟩
  | 57 => ⟨S1x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1024, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S1x3072, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x4x256, .f32⟩
  | 85 => ⟨S4x256x4096, .f32⟩
  | 86 => ⟨S4x4096x256, .f32⟩
  | 87 => ⟨S4x256x256, .f32⟩
  | 88 => ⟨S256x4x256, .f32⟩
  | 89 => ⟨S4x4096x256, .f32⟩
  | 90 => ⟨S4x4096x256, .f32⟩
  | 91 => ⟨S4x4096x256, .f32⟩
  | 92 => ⟨S_, .f32⟩
  | 93 => ⟨S4x4096, .f32⟩
  | 94 => ⟨S4x4096x1, .f32⟩
  | 95 => ⟨S4x4096x1, .f32⟩
  | 96 => ⟨S4x4096x256, .f32⟩
  | 97 => ⟨S4x4096x256, .f32⟩
  | 98 => ⟨S_, .f32⟩
  | 99 => ⟨S4x4096, .f32⟩
  | 100 => ⟨S4x4096x256, .f32⟩
  | 101 => ⟨S4x4096x256, .f32⟩
  | 102 => ⟨S4x4096x256, .f32⟩
  | 103 => ⟨S_, .f32⟩
  | 104 => ⟨S4x4096x256, .f32⟩
  | 105 => ⟨S4x4096x256, .f32⟩
  | 106 => ⟨S4x256x256, .f32⟩
  | 107 => ⟨S256x4x256, .f32⟩
  | 108 => ⟨S4x4096x256, .f32⟩
  | 109 => ⟨S4096x4x256, .f32⟩
  | 110 => ⟨S256x1024, .f32⟩
  | 111 => ⟨S256x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S32x128x8x128, .f32⟩
  | 122 => ⟨S_, .f32⟩
  | 123 => ⟨S128x8, .f32⟩
  | 124 => ⟨S1x128x8x1, .f32⟩
  | 125 => ⟨S_, .f32⟩
  | 126 => ⟨S128x8, .f32⟩
  | 127 => ⟨S8x128, .f32⟩
  | _ => ⟨S4096x2048, .f32⟩

abbrev hbmTy0_4 (i : Nat) : BufTy := match i % 128 with
  | 0 => ⟨S8x32x128x128, .f32⟩
  | 1 => ⟨S8x128x128, .f32⟩
  | 2 => ⟨S8x32x128x128, .f32⟩
  | 3 => ⟨S32x128x8x128, .f32⟩
  | 4 => ⟨S_, .f32⟩
  | 5 => ⟨S8x128x128, .f32⟩
  | 6 => ⟨S8x128x128, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S1024, .f32⟩
  | 54 => ⟨S1x1024, .f32⟩
  | 55 => ⟨S4096x1024, .f32⟩
  | 56 => ⟨S4096x1024, .f32⟩
  | 57 => ⟨S4096x4x256, .f32⟩
  | 58 => ⟨S4x256x4096, .f32⟩
  | 59 => ⟨S4x4096x256, .f32⟩
  | 60 => ⟨S4096x4x256, .f32⟩
  | 61 => ⟨S4x256x256, .f32⟩
  | 62 => ⟨S4x256x256, .f32⟩
  | 63 => ⟨S4096x1x256, .f32⟩
  | 64 => ⟨S4096x256, .f32⟩
  | 65 => ⟨S4096x1x256, .f32⟩
  | 66 => ⟨S4096x256, .f32⟩
  | 67 => ⟨S4096x1x256, .f32⟩
  | 68 => ⟨S4096x256, .f32⟩
  | 69 => ⟨S4096x1x256, .f32⟩
  | 70 => ⟨S4096x256, .f32⟩
  | 71 => ⟨S4096x256, .f32⟩
  | 72 => ⟨S4096x1x256, .f32⟩
  | 73 => ⟨S_, .f32⟩
  | 74 => ⟨S4096x4x256, .f32⟩
  | 75 => ⟨S4096x256, .f32⟩
  | 76 => ⟨S4096x256, .f32⟩
  | 77 => ⟨S4096x256, .f32⟩
  | 78 => ⟨S16x256, .f32⟩
  | 79 => ⟨S4080x256, .f32⟩
  | 80 => ⟨S_, .f32⟩
  | 81 => ⟨S4096x256, .f32⟩
  | 82 => ⟨S4096x256, .f32⟩
  | 83 => ⟨S4096x1x256, .f32⟩
  | 84 => ⟨S_, .f32⟩
  | 85 => ⟨S4096x4x256, .f32⟩
  | 86 => ⟨S4096x256, .f32⟩
  | 87 => ⟨S4096x1x256, .f32⟩
  | 88 => ⟨S_, .f32⟩
  | 89 => ⟨S4096x4x256, .f32⟩
  | 90 => ⟨S4096x4x256, .f32⟩
  | 91 => ⟨S4096x256, .f32⟩
  | 92 => ⟨S4096x256, .f32⟩
  | 93 => ⟨S4096x256, .f32⟩
  | 94 => ⟨S8x256, .f32⟩
  | 95 => ⟨S4088x256, .f32⟩
  | 96 => ⟨S_, .f32⟩
  | 97 => ⟨S4096x256, .f32⟩
  | 98 => ⟨S4096x256, .f32⟩
  | 99 => ⟨S4096x1x256, .f32⟩
  | 100 => ⟨S_, .f32⟩
  | 101 => ⟨S4096x4x256, .f32⟩
  | 102 => ⟨S4096x4x256, .f32⟩
  | 103 => ⟨S4096x256, .f32⟩
  | 104 => ⟨S4096x1x256, .f32⟩
  | 105 => ⟨S_, .f32⟩
  | 106 => ⟨S4096x4x256, .f32⟩
  | 107 => ⟨S4096x4x256, .f32⟩
  | 108 => ⟨S4096x256, .f32⟩
  | 109 => ⟨S4096x256, .f32⟩
  | 110 => ⟨S4096x256, .f32⟩
  | 111 => ⟨S4x256, .f32⟩
  | 112 => ⟨S4092x256, .f32⟩
  | 113 => ⟨S_, .f32⟩
  | 114 => ⟨S4096x256, .f32⟩
  | 115 => ⟨S4096x256, .f32⟩
  | 116 => ⟨S4096x1x256, .f32⟩
  | 117 => ⟨S_, .f32⟩
  | 118 => ⟨S4096x4x256, .f32⟩
  | 119 => ⟨S4096x4x256, .f32⟩
  | 120 => ⟨S4096x256, .f32⟩
  | 121 => ⟨S4096x1x256, .f32⟩
  | 122 => ⟨S_, .f32⟩
  | 123 => ⟨S4096x4x256, .f32⟩
  | 124 => ⟨S4096x4x256, .f32⟩
  | 125 => ⟨S4096x256, .f32⟩
  | 126 => ⟨S4096x256, .f32⟩
  | 127 => ⟨S4096x256, .f32⟩
  | _ => ⟨S4096x2048, .f32⟩

abbrev hbmTy0_5 (i : Nat) : BufTy := match i % 128 with
  | 0 => ⟨S2x256, .f32⟩
  | 1 => ⟨S4094x256, .f32⟩
  | 2 => ⟨S_, .f32⟩
  | 3 => ⟨S4096x256, .f32⟩
  | 4 => ⟨S4096x256, .f32⟩
  | 5 => ⟨S4096x1x256, .f32⟩
  | 6 => ⟨S_, .f32⟩
  | 7 => ⟨S4096x4x256, .f32⟩
  | 8 => ⟨S4096x4x256, .f32⟩
  | 9 => ⟨S_, .f32⟩
  | 10 => ⟨S_, .f32⟩
  | 11 => ⟨S4096x4x256, .f32⟩
  | 12 => ⟨S4096x4x256, .f32⟩
  | 13 => ⟨S4096x1024, .f32⟩
  | 14 => ⟨S256x2048, .f32⟩
  | 15 => ⟨S4096x7168, .f32⟩
  | 16 => ⟨S4096x3072, .bf16⟩
  | 17 => ⟨S4096x2048, .bf16⟩
  | 18 => ⟨S4096x7168, .bf16⟩
  | 19 => ⟨S1x128, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_call0_cst : Ref sig .tc := ⟨.hbm, 25, rfl⟩
abbrev main_call0_call0_v0 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_v0 : Ref sig .tc := ⟨.hbm, 114, rfl⟩
abbrev main_call1_v1 : Ref sig .tc := ⟨.hbm, 115, rfl⟩
abbrev main_call1_cst : Ref sig .tc := ⟨.hbm, 116, rfl⟩
abbrev main_call1_v2 : Ref sig .tc := ⟨.hbm, 117, rfl⟩
abbrev main_call1_v3 : Ref sig .tc := ⟨.hbm, 118, rfl⟩
abbrev main_call1_cst_0 : Ref sig .tc := ⟨.hbm, 119, rfl⟩
abbrev main_call1_v4 : Ref sig .tc := ⟨.hbm, 120, rfl⟩
abbrev main_v86_2 : Ref sig .tc := ⟨.hbm, 121, rfl⟩
abbrev main_call1_cst_1 : Ref sig .tc := ⟨.hbm, 122, rfl⟩
abbrev main_call1_v6 : Ref sig .tc := ⟨.hbm, 123, rfl⟩
abbrev main_call1_v7 : Ref sig .tc := ⟨.hbm, 124, rfl⟩
abbrev main_v86_1 : Ref sig .tc := ⟨.hbm, 125, rfl⟩
abbrev main_v86_0 : Ref sig .tc := ⟨.hbm, 126, rfl⟩
abbrev main_v87 : Ref sig .tc := ⟨.hbm, 127, rfl⟩
abbrev main_cst_12 : Ref sig .tc := ⟨.hbm, 128, rfl⟩
abbrev main_v88 : Ref sig .tc := ⟨.hbm, 129, rfl⟩
abbrev main_v89 : Ref sig .tc := ⟨.hbm, 130, rfl⟩
abbrev main_cst_13 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_14 : Ref sig .tc := ⟨.hbm, 137, rfl⟩
abbrev main_v95 : Ref sig .tc := ⟨.hbm, 138, rfl⟩
abbrev main_v96 : Ref sig .tc := ⟨.hbm, 139, rfl⟩
abbrev main_cst_15 : Ref sig .tc := ⟨.hbm, 140, rfl⟩
abbrev main_v97 : Ref sig .tc := ⟨.hbm, 141, rfl⟩
abbrev main_v98 : Ref sig .tc := ⟨.hbm, 142, rfl⟩
abbrev main_cst_16 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_17 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c : Ref sig .tc := ⟨.hbm, 158, rfl⟩
abbrev main_v112 : Ref sig .tc := ⟨.hbm, 159, rfl⟩
abbrev main_call2_v0 : Ref sig .tc := ⟨.hbm, 160, rfl⟩
abbrev main_call2_c : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_c_0 : Ref sig .tc := ⟨.hbm, 166, rfl⟩
abbrev main_call2_v5 : Ref sig .tc := ⟨.hbm, 167, rfl⟩
abbrev main_v113 : Ref sig .tc := ⟨.hbm, 168, rfl⟩
abbrev main_v114 : Ref sig .tc := ⟨.hbm, 169, rfl⟩
abbrev main_cst_18 : Ref sig .tc := ⟨.hbm, 170, rfl⟩
abbrev main_v115 : Ref sig .tc := ⟨.hbm, 171, rfl⟩
abbrev main_v116_1 : Ref sig .tc := ⟨.hbm, 172, rfl⟩
abbrev main_v116_0 : Ref sig .tc := ⟨.hbm, 173, rfl⟩
abbrev main_call3_cst : Ref sig .tc := ⟨.hbm, 174, rfl⟩
abbrev main_v116_2 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_call4_v0 : Ref sig .tc := ⟨.hbm, 184, rfl⟩
abbrev main_call4_v1 : Ref sig .tc := ⟨.hbm, 185, rfl⟩
abbrev main_call4_cst : Ref sig .tc := ⟨.hbm, 186, rfl⟩
abbrev main_call4_v2 : Ref sig .tc := ⟨.hbm, 187, rfl⟩
abbrev main_call4_v3 : Ref sig .tc := ⟨.hbm, 188, rfl⟩
abbrev main_call4_cst_0 : Ref sig .tc := ⟨.hbm, 189, rfl⟩
abbrev main_call4_v4 : Ref sig .tc := ⟨.hbm, 190, rfl⟩
abbrev main_v125_2 : Ref sig .tc := ⟨.hbm, 191, rfl⟩
abbrev main_call4_cst_1 : Ref sig .tc := ⟨.hbm, 192, rfl⟩
abbrev main_call4_v6 : Ref sig .tc := ⟨.hbm, 193, rfl⟩
abbrev main_call4_v7 : Ref sig .tc := ⟨.hbm, 194, rfl⟩
abbrev main_v125_1 : Ref sig .tc := ⟨.hbm, 195, rfl⟩
abbrev main_v125_0 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_19 : Ref sig .tc := ⟨.hbm, 202, rfl⟩
abbrev main_v131 : Ref sig .tc := ⟨.hbm, 203, rfl⟩
abbrev main_v132 : Ref sig .tc := ⟨.hbm, 204, rfl⟩
abbrev main_cst_20 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_21 : Ref sig .tc := ⟨.hbm, 211, rfl⟩
abbrev main_v138 : Ref sig .tc := ⟨.hbm, 212, rfl⟩
abbrev main_cst_22 : Ref sig .tc := ⟨.hbm, 213, rfl⟩
abbrev main_v139 : Ref sig .tc := ⟨.hbm, 214, rfl⟩
abbrev main_v140 : Ref sig .tc := ⟨.hbm, 215, rfl⟩
abbrev main_cst_23 : Ref sig .tc := ⟨.hbm, 216, rfl⟩
abbrev main_v141 : Ref sig .tc := ⟨.hbm, 217, rfl⟩
abbrev main_v142 : Ref sig .tc := ⟨.hbm, 218, rfl⟩
abbrev main_cst_24 : Ref sig .tc := ⟨.hbm, 219, rfl⟩
abbrev main_v143 : Ref sig .tc := ⟨.hbm, 220, rfl⟩
abbrev main_v144 : Ref sig .tc := ⟨.hbm, 221, rfl⟩
abbrev main_cst_25 : Ref sig .tc := ⟨.hbm, 222, rfl⟩
abbrev main_v145 : Ref sig .tc := ⟨.hbm, 223, rfl⟩
abbrev main_cst_26 : Ref sig .tc := ⟨.hbm, 224, rfl⟩
abbrev main_v146 : Ref sig .tc := ⟨.hbm, 225, rfl⟩
abbrev main_cst_27 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_28 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_cst_29 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_call5_v0 : Ref sig .tc := ⟨.hbm, 246, rfl⟩
abbrev main_call5_v1 : Ref sig .tc := ⟨.hbm, 247, rfl⟩
abbrev main_call5_cst : Ref sig .tc := ⟨.hbm, 248, rfl⟩
abbrev main_call5_v2 : Ref sig .tc := ⟨.hbm, 249, rfl⟩
abbrev main_call5_v3 : Ref sig .tc := ⟨.hbm, 250, rfl⟩
abbrev main_call5_cst_0 : Ref sig .tc := ⟨.hbm, 251, rfl⟩
abbrev main_call5_v4 : Ref sig .tc := ⟨.hbm, 252, rfl⟩
abbrev main_v164_2 : Ref sig .tc := ⟨.hbm, 253, rfl⟩
abbrev main_call5_cst_1 : Ref sig .tc := ⟨.hbm, 254, rfl⟩
abbrev main_call5_v6 : Ref sig .tc := ⟨.hbm, 255, rfl⟩
abbrev main_call5_v7 : Ref sig .tc := ⟨.hbm, 256, rfl⟩
abbrev main_v164_1 : Ref sig .tc := ⟨.hbm, 257, rfl⟩
abbrev main_v164_0 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_cst_30 : Ref sig .tc := ⟨.hbm, 264, rfl⟩
abbrev main_v170 : Ref sig .tc := ⟨.hbm, 265, rfl⟩
abbrev main_v171 : Ref sig .tc := ⟨.hbm, 266, rfl⟩
abbrev main_cst_31 : Ref sig .tc := ⟨.hbm, 267, rfl⟩
abbrev main_v172 : Ref sig .tc := ⟨.hbm, 268, rfl⟩
abbrev main_v173 : Ref sig .tc := ⟨.hbm, 269, rfl⟩
abbrev main_cst_32 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_cst_33 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_cst_34 : Ref sig .tc := ⟨.hbm, 283, rfl⟩
abbrev main_v185 : Ref sig .tc := ⟨.hbm, 284, rfl⟩
abbrev main_v186 : Ref sig .tc := ⟨.hbm, 285, rfl⟩
abbrev main_cst_35 : Ref sig .tc := ⟨.hbm, 286, rfl⟩
abbrev main_v187 : Ref sig .tc := ⟨.hbm, 287, rfl⟩
abbrev main_v188 : Ref sig .tc := ⟨.hbm, 288, rfl⟩
abbrev main_cst_36 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_cst_37 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_cst_38 : Ref sig .tc := ⟨.hbm, 302, rfl⟩
abbrev main_v200 : Ref sig .tc := ⟨.hbm, 303, rfl⟩
abbrev main_v201 : Ref sig .tc := ⟨.hbm, 304, rfl⟩
abbrev main_cst_39 : Ref sig .tc := ⟨.hbm, 305, rfl⟩
abbrev main_v202 : Ref sig .tc := ⟨.hbm, 306, rfl⟩
abbrev main_v203 : Ref sig .tc := ⟨.hbm, 307, rfl⟩
abbrev main_cst_40 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_cst_41 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_cst_42 : Ref sig .tc := ⟨.hbm, 323, rfl⟩
abbrev main_v217 : Ref sig .tc := ⟨.hbm, 324, rfl⟩
abbrev main_v218 : Ref sig .tc := ⟨.hbm, 325, rfl⟩
abbrev main_cst_43 : Ref sig .tc := ⟨.hbm, 326, rfl⟩
abbrev main_v219 : Ref sig .tc := ⟨.hbm, 327, rfl⟩
abbrev main_v220 : Ref sig .tc := ⟨.hbm, 328, rfl⟩
abbrev main_cst_44 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_cst_45 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_cst_46 : Ref sig .tc := ⟨.hbm, 344, rfl⟩
abbrev main_v234 : Ref sig .tc := ⟨.hbm, 345, rfl⟩
abbrev main_v235 : Ref sig .tc := ⟨.hbm, 346, rfl⟩
abbrev main_cst_47 : Ref sig .tc := ⟨.hbm, 347, rfl⟩
abbrev main_v236 : Ref sig .tc := ⟨.hbm, 348, rfl⟩
abbrev main_cst_48 : Ref sig .tc := ⟨.hbm, 349, rfl⟩
abbrev main_v237 : Ref sig .tc := ⟨.hbm, 350, rfl⟩
abbrev main_v238 : Ref sig .tc := ⟨.hbm, 351, rfl⟩
abbrev main_cst_49 : Ref sig .tc := ⟨.hbm, 352, rfl⟩
abbrev main_v239 : Ref sig .tc := ⟨.hbm, 353, rfl⟩
abbrev main_cst_50 : Ref sig .tc := ⟨.hbm, 354, rfl⟩
abbrev main_v240 : Ref sig .tc := ⟨.hbm, 355, rfl⟩
abbrev main_cst_51 : Ref sig .tc := ⟨.hbm, 356, rfl⟩
abbrev main_cst_52 : Ref sig .tc := ⟨.hbm, 357, rfl⟩
abbrev main_v241 : Ref sig .tc := ⟨.hbm, 358, rfl⟩
abbrev main_v242 : Ref sig .tc := ⟨.hbm, 359, rfl⟩
abbrev main_cst_53 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_cst_54 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_cst_55 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_cst_56 : Ref sig .tc := ⟨.hbm, 378, rfl⟩
abbrev main_v258 : Ref sig .tc := ⟨.hbm, 379, rfl⟩
abbrev main_v259 : Ref sig .tc := ⟨.hbm, 380, rfl⟩
abbrev main_cst_57 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_v270 : Ref sig .tc := ⟨.hbm, 392, rfl⟩
abbrev main_cst_58 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_cst_59 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_cst_60 : Ref sig .tc := ⟨.hbm, 405, rfl⟩
abbrev main_v281 : Ref sig .tc := ⟨.hbm, 406, rfl⟩
abbrev main_v282 : Ref sig .tc := ⟨.hbm, 407, rfl⟩
abbrev main_cst_61 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_v289 : Ref sig .tc := ⟨.hbm, 415, rfl⟩
abbrev main_cst_62 : Ref sig .tc := ⟨.hbm, 416, rfl⟩
abbrev main_v290 : Ref sig .tc := ⟨.hbm, 417, rfl⟩
abbrev main_v291 : Ref sig .tc := ⟨.hbm, 418, rfl⟩
abbrev main_v292 : Ref sig .tc := ⟨.hbm, 419, rfl⟩
abbrev main_v293 : Ref sig .tc := ⟨.hbm, 420, rfl⟩
abbrev main_v294 : Ref sig .tc := ⟨.hbm, 421, rfl⟩
abbrev main_cst_63 : Ref sig .tc := ⟨.hbm, 422, rfl⟩
abbrev main_v295 : Ref sig .tc := ⟨.hbm, 423, rfl⟩
abbrev main_v296 : Ref sig .tc := ⟨.hbm, 424, rfl⟩
abbrev main_v297 : Ref sig .tc := ⟨.hbm, 425, rfl⟩
abbrev main_v298 : Ref sig .tc := ⟨.hbm, 426, rfl⟩
abbrev main_v299 : Ref sig .tc := ⟨.hbm, 427, rfl⟩
abbrev main_cst_64 : Ref sig .tc := ⟨.hbm, 428, rfl⟩
abbrev main_v300 : Ref sig .tc := ⟨.hbm, 429, rfl⟩
abbrev main_v301 : Ref sig .tc := ⟨.hbm, 430, rfl⟩
abbrev main_cst_65 : Ref sig .tc := ⟨.hbm, 431, rfl⟩
abbrev main_v302 : Ref sig .tc := ⟨.hbm, 432, rfl⟩
abbrev main_v303 : Ref sig .tc := ⟨.hbm, 433, rfl⟩
abbrev main_v304 : Ref sig .tc := ⟨.hbm, 434, rfl⟩
abbrev main_v305 : Ref sig .tc := ⟨.hbm, 435, rfl⟩
abbrev main_v306 : Ref sig .tc := ⟨.hbm, 436, rfl⟩
abbrev main_v307 : Ref sig .tc := ⟨.hbm, 437, rfl⟩
abbrev main_v308 : Ref sig .tc := ⟨.hbm, 438, rfl⟩
abbrev main_cst_66 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_v312 : Ref sig .tc := ⟨.hbm, 443, rfl⟩
abbrev main_v313 : Ref sig .tc := ⟨.hbm, 444, rfl⟩
abbrev main_cst_67 : Ref sig .tc := ⟨.hbm, 445, rfl⟩
abbrev main_v314 : Ref sig .tc := ⟨.hbm, 446, rfl⟩
abbrev main_v315 : Ref sig .tc := ⟨.hbm, 447, rfl⟩
abbrev main_v316 : Ref sig .tc := ⟨.hbm, 448, rfl⟩
abbrev main_v317 : Ref sig .tc := ⟨.hbm, 449, rfl⟩
abbrev main_v318 : Ref sig .tc := ⟨.hbm, 450, rfl⟩
abbrev main_cst_68 : Ref sig .tc := ⟨.hbm, 451, rfl⟩
abbrev main_v319 : Ref sig .tc := ⟨.hbm, 452, rfl⟩
abbrev main_v320 : Ref sig .tc := ⟨.hbm, 453, rfl⟩
abbrev main_cst_69 : Ref sig .tc := ⟨.hbm, 454, rfl⟩
abbrev main_v321 : Ref sig .tc := ⟨.hbm, 455, rfl⟩
abbrev main_v322 : Ref sig .tc := ⟨.hbm, 456, rfl⟩
abbrev main_v323 : Ref sig .tc := ⟨.hbm, 457, rfl⟩
abbrev main_v324 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_v328 : Ref sig .tc := ⟨.hbm, 462, rfl⟩
abbrev main_v329 : Ref sig .tc := ⟨.hbm, 463, rfl⟩
abbrev main_call6_v0 : Ref sig .tc := ⟨.hbm, 464, rfl⟩
abbrev main_call6_v1 : Ref sig .tc := ⟨.hbm, 465, rfl⟩
abbrev main_call6_v2 : Ref sig .tc := ⟨.hbm, 466, rfl⟩
abbrev main_v330 : Ref sig .tc := ⟨.hbm, 467, rfl⟩
abbrev main_v331 : Ref sig .tc := ⟨.hbm, 468, rfl⟩
abbrev main_v332 : Ref sig .tc := ⟨.hbm, 469, rfl⟩
abbrev main_v333 : Ref sig .tc := ⟨.hbm, 470, rfl⟩
abbrev main_v334 : Ref sig .tc := ⟨.hbm, 471, rfl⟩
abbrev main_v335 : Ref sig .tc := ⟨.hbm, 472, rfl⟩
abbrev main_v336 : Ref sig .tc := ⟨.hbm, 473, rfl⟩
abbrev main_v337 : Ref sig .tc := ⟨.hbm, 474, rfl⟩
abbrev main_v338 : Ref sig .tc := ⟨.hbm, 475, rfl⟩
abbrev main_cst_70 : Ref sig .tc := ⟨.hbm, 476, rfl⟩
abbrev main_v339 : Ref sig .tc := ⟨.hbm, 477, rfl⟩
abbrev main_v340 : Ref sig .tc := ⟨.hbm, 478, rfl⟩
abbrev main_v341 : Ref sig .tc := ⟨.hbm, 479, rfl⟩
abbrev main_v342 : Ref sig .tc := ⟨.hbm, 480, rfl⟩
abbrev main_v343 : Ref sig .tc := ⟨.hbm, 481, rfl⟩
abbrev main_cst_71 : Ref sig .tc := ⟨.hbm, 482, rfl⟩
abbrev main_v344 : Ref sig .tc := ⟨.hbm, 483, rfl⟩
abbrev main_v345 : Ref sig .tc := ⟨.hbm, 484, rfl⟩
abbrev main_v346 : Ref sig .tc := ⟨.hbm, 485, rfl⟩
abbrev main_v347 : Ref sig .tc := ⟨.hbm, 486, rfl⟩
abbrev main_cst_72 : Ref sig .tc := ⟨.hbm, 487, rfl⟩
abbrev main_v348 : Ref sig .tc := ⟨.hbm, 488, rfl⟩
abbrev main_v349 : Ref sig .tc := ⟨.hbm, 489, rfl⟩
abbrev main_v350 : Ref sig .tc := ⟨.hbm, 490, rfl⟩
abbrev main_v351 : Ref sig .tc := ⟨.hbm, 491, rfl⟩
abbrev main_v352 : Ref sig .tc := ⟨.hbm, 492, rfl⟩
abbrev main_v353 : Ref sig .tc := ⟨.hbm, 493, rfl⟩
abbrev main_v354 : Ref sig .tc := ⟨.hbm, 494, rfl⟩
abbrev main_v355 : Ref sig .tc := ⟨.hbm, 495, rfl⟩
abbrev main_v356 : Ref sig .tc := ⟨.hbm, 496, rfl⟩
abbrev main_v357 : Ref sig .tc := ⟨.hbm, 497, rfl⟩
abbrev main_v358 : Ref sig .tc := ⟨.hbm, 498, rfl⟩
abbrev main_call7_v0 : Ref sig .tc := ⟨.hbm, 499, rfl⟩
abbrev main_call7_v1 : Ref sig .tc := ⟨.hbm, 500, rfl⟩
abbrev main_call7_v2 : Ref sig .tc := ⟨.hbm, 501, rfl⟩
abbrev main_v359 : Ref sig .tc := ⟨.hbm, 502, rfl⟩
abbrev main_v360 : Ref sig .tc := ⟨.hbm, 503, rfl⟩
abbrev main_v361 : Ref sig .tc := ⟨.hbm, 504, rfl⟩
abbrev main_v362 : Ref sig .tc := ⟨.hbm, 505, rfl⟩
abbrev main_cst_73 : Ref sig .tc := ⟨.hbm, 506, rfl⟩
abbrev main_v363 : Ref sig .tc := ⟨.hbm, 507, rfl⟩
abbrev main_v364 : Ref sig .tc := ⟨.hbm, 508, rfl⟩
abbrev main_cst_74 : Ref sig .tc := ⟨.hbm, 509, rfl⟩
abbrev main_v365 : Ref sig .tc := ⟨.hbm, 510, rfl⟩
abbrev main_v366 : Ref sig .tc := ⟨.hbm, 511, rfl⟩
abbrev main_v367 : Ref sig .tc := ⟨.hbm, 512, rfl⟩
abbrev main_v368 : Ref sig .tc := ⟨.hbm, 513, rfl⟩
abbrev main_v369 : Ref sig .tc := ⟨.hbm, 514, rfl⟩
abbrev main_v370 : Ref sig .tc := ⟨.hbm, 515, rfl⟩
abbrev main_call8_cst : Ref sig .tc := ⟨.hbm, 516, rfl⟩
abbrev main_call8_v0 : Ref sig .tc := ⟨.hbm, 517, rfl⟩
abbrev main_v371 : Ref sig .tc := ⟨.hbm, 518, rfl⟩
abbrev main_v372 : Ref sig .tc := ⟨.hbm, 519, rfl⟩
abbrev main_cst_75 : Ref sig .tc := ⟨.hbm, 520, rfl⟩
abbrev main_v373 : Ref sig .tc := ⟨.hbm, 521, rfl⟩
abbrev main_v374 : Ref sig .tc := ⟨.hbm, 522, rfl⟩
abbrev main_v375 : Ref sig .tc := ⟨.hbm, 523, rfl⟩
abbrev main_cst_76 : Ref sig .tc := ⟨.hbm, 524, rfl⟩
abbrev main_v376 : Ref sig .tc := ⟨.hbm, 525, rfl⟩
abbrev main_v377 : Ref sig .tc := ⟨.hbm, 526, rfl⟩
abbrev main_v378 : Ref sig .tc := ⟨.hbm, 527, rfl⟩
abbrev main_v379 : Ref sig .tc := ⟨.hbm, 528, rfl⟩
abbrev main_v380 : Ref sig .tc := ⟨.hbm, 529, rfl⟩
abbrev main_cst_77 : Ref sig .tc := ⟨.hbm, 530, rfl⟩
abbrev main_v381 : Ref sig .tc := ⟨.hbm, 531, rfl⟩
abbrev main_v382 : Ref sig .tc := ⟨.hbm, 532, rfl⟩
abbrev main_v383 : Ref sig .tc := ⟨.hbm, 533, rfl⟩
abbrev main_v384 : Ref sig .tc := ⟨.hbm, 534, rfl⟩
abbrev main_v385 : Ref sig .tc := ⟨.hbm, 535, rfl⟩
abbrev main_cst_78 : Ref sig .tc := ⟨.hbm, 536, rfl⟩
abbrev main_v386 : Ref sig .tc := ⟨.hbm, 537, rfl⟩
abbrev main_v387 : Ref sig .tc := ⟨.hbm, 538, rfl⟩
abbrev main_cst_79 : Ref sig .tc := ⟨.hbm, 539, rfl⟩
abbrev main_v388 : Ref sig .tc := ⟨.hbm, 540, rfl⟩
abbrev main_v389 : Ref sig .tc := ⟨.hbm, 541, rfl⟩
abbrev main_v390 : Ref sig .tc := ⟨.hbm, 542, rfl⟩
abbrev main_v391 : Ref sig .tc := ⟨.hbm, 543, rfl⟩
abbrev main_v392 : Ref sig .tc := ⟨.hbm, 544, rfl⟩
abbrev main_v393 : Ref sig .tc := ⟨.hbm, 545, rfl⟩
abbrev main_v394 : Ref sig .tc := ⟨.hbm, 546, rfl⟩
abbrev main_cst_80 : Ref sig .tc := ⟨.hbm, 547, rfl⟩
abbrev main_v395 : Ref sig .tc := ⟨.hbm, 548, rfl⟩
abbrev main_v396 : Ref sig .tc := ⟨.hbm, 549, rfl⟩
abbrev main_cst_81 : Ref sig .tc := ⟨.hbm, 550, rfl⟩
abbrev main_v397 : Ref sig .tc := ⟨.hbm, 551, rfl⟩
abbrev main_v398 : Ref sig .tc := ⟨.hbm, 552, rfl⟩
abbrev main_cst_82 : Ref sig .tc := ⟨.hbm, 553, rfl⟩
abbrev main_v399 : Ref sig .tc := ⟨.hbm, 554, rfl⟩
abbrev main_v400 : Ref sig .tc := ⟨.hbm, 555, rfl⟩
abbrev main_v401 : Ref sig .tc := ⟨.hbm, 556, rfl⟩
abbrev main_v402 : Ref sig .tc := ⟨.hbm, 557, rfl⟩
abbrev main_v403 : Ref sig .tc := ⟨.hbm, 558, rfl⟩
abbrev main_call9_v0 : Ref sig .tc := ⟨.hbm, 559, rfl⟩
abbrev main_call9_v1 : Ref sig .tc := ⟨.hbm, 560, rfl⟩
abbrev main_call9_v2 : Ref sig .tc := ⟨.hbm, 561, rfl⟩
abbrev main_v404 : Ref sig .tc := ⟨.hbm, 562, rfl⟩
abbrev main_v405 : Ref sig .tc := ⟨.hbm, 563, rfl⟩
abbrev main_cst_83 : Ref sig .tc := ⟨.hbm, 564, rfl⟩
abbrev main_v406 : Ref sig .tc := ⟨.hbm, 565, rfl⟩
abbrev main_v407 : Ref sig .tc := ⟨.hbm, 566, rfl⟩
abbrev main_v408 : Ref sig .tc := ⟨.hbm, 567, rfl⟩
abbrev main_v409 : Ref sig .tc := ⟨.hbm, 568, rfl⟩
abbrev main_v410 : Ref sig .tc := ⟨.hbm, 569, rfl⟩
abbrev main_v411 : Ref sig .tc := ⟨.hbm, 570, rfl⟩
abbrev main_v412 : Ref sig .tc := ⟨.hbm, 571, rfl⟩
abbrev main_v413 : Ref sig .tc := ⟨.hbm, 572, rfl⟩
abbrev main_v414 : Ref sig .tc := ⟨.hbm, 573, rfl⟩
abbrev main_v415 : Ref sig .tc := ⟨.hbm, 574, rfl⟩
abbrev main_v416 : Ref sig .tc := ⟨.hbm, 575, rfl⟩
abbrev main_v417 : Ref sig .tc := ⟨.hbm, 576, rfl⟩
abbrev main_v418 : Ref sig .tc := ⟨.hbm, 577, rfl⟩
abbrev main_v419 : Ref sig .tc := ⟨.hbm, 578, rfl⟩
abbrev main_v420 : Ref sig .tc := ⟨.hbm, 579, rfl⟩
abbrev main_v421 : Ref sig .tc := ⟨.hbm, 580, rfl⟩
abbrev main_v422 : Ref sig .tc := ⟨.hbm, 581, rfl⟩
abbrev main_v423 : Ref sig .tc := ⟨.hbm, 582, rfl⟩
abbrev main_v424 : Ref sig .tc := ⟨.hbm, 583, rfl⟩
abbrev main_v425 : Ref sig .tc := ⟨.hbm, 584, rfl⟩
abbrev main_cst_84 : Ref sig .tc := ⟨.hbm, 585, rfl⟩
abbrev main_v426 : Ref sig .tc := ⟨.hbm, 586, rfl⟩
abbrev main_v427 : Ref sig .tc := ⟨.hbm, 587, rfl⟩
abbrev main_v428 : Ref sig .tc := ⟨.hbm, 588, rfl⟩
abbrev main_v429 : Ref sig .tc := ⟨.hbm, 589, rfl⟩
abbrev main_v430 : Ref sig .tc := ⟨.hbm, 590, rfl⟩
abbrev main_v431 : Ref sig .tc := ⟨.hbm, 591, rfl⟩
abbrev main_cst_85 : Ref sig .tc := ⟨.hbm, 592, rfl⟩
abbrev main_v432 : Ref sig .tc := ⟨.hbm, 593, rfl⟩
abbrev main_v433 : Ref sig .tc := ⟨.hbm, 594, rfl⟩
abbrev main_v434 : Ref sig .tc := ⟨.hbm, 595, rfl⟩
abbrev main_cst_86 : Ref sig .tc := ⟨.hbm, 596, rfl⟩
abbrev main_v435 : Ref sig .tc := ⟨.hbm, 597, rfl⟩
abbrev main_v436 : Ref sig .tc := ⟨.hbm, 598, rfl⟩
abbrev main_v437 : Ref sig .tc := ⟨.hbm, 599, rfl⟩
abbrev main_cst_87 : Ref sig .tc := ⟨.hbm, 600, rfl⟩
abbrev main_v438 : Ref sig .tc := ⟨.hbm, 601, rfl⟩
abbrev main_v439 : Ref sig .tc := ⟨.hbm, 602, rfl⟩
abbrev main_v440 : Ref sig .tc := ⟨.hbm, 603, rfl⟩
abbrev main_v441 : Ref sig .tc := ⟨.hbm, 604, rfl⟩
abbrev main_v442 : Ref sig .tc := ⟨.hbm, 605, rfl⟩
abbrev main_v443 : Ref sig .tc := ⟨.hbm, 606, rfl⟩
abbrev main_v444 : Ref sig .tc := ⟨.hbm, 607, rfl⟩
abbrev main_cst_88 : Ref sig .tc := ⟨.hbm, 608, rfl⟩
abbrev main_v445 : Ref sig .tc := ⟨.hbm, 609, rfl⟩
abbrev main_v446 : Ref sig .tc := ⟨.hbm, 610, rfl⟩
abbrev main_v447 : Ref sig .tc := ⟨.hbm, 611, rfl⟩
abbrev main_cst_89 : Ref sig .tc := ⟨.hbm, 612, rfl⟩
abbrev main_v448 : Ref sig .tc := ⟨.hbm, 613, rfl⟩
abbrev main_v449 : Ref sig .tc := ⟨.hbm, 614, rfl⟩
abbrev main_v450 : Ref sig .tc := ⟨.hbm, 615, rfl⟩
abbrev main_v451 : Ref sig .tc := ⟨.hbm, 616, rfl⟩
abbrev main_cst_90 : Ref sig .tc := ⟨.hbm, 617, rfl⟩
abbrev main_v452 : Ref sig .tc := ⟨.hbm, 618, rfl⟩
abbrev main_v453 : Ref sig .tc := ⟨.hbm, 619, rfl⟩
abbrev main_v454 : Ref sig .tc := ⟨.hbm, 620, rfl⟩
abbrev main_v455 : Ref sig .tc := ⟨.hbm, 621, rfl⟩
abbrev main_v456 : Ref sig .tc := ⟨.hbm, 622, rfl⟩
abbrev main_v457 : Ref sig .tc := ⟨.hbm, 623, rfl⟩
abbrev main_v458 : Ref sig .tc := ⟨.hbm, 624, rfl⟩
abbrev main_cst_91 : Ref sig .tc := ⟨.hbm, 625, rfl⟩
abbrev main_v459 : Ref sig .tc := ⟨.hbm, 626, rfl⟩
abbrev main_v460 : Ref sig .tc := ⟨.hbm, 627, rfl⟩
abbrev main_v461 : Ref sig .tc := ⟨.hbm, 628, rfl⟩
abbrev main_cst_92 : Ref sig .tc := ⟨.hbm, 629, rfl⟩
abbrev main_v462 : Ref sig .tc := ⟨.hbm, 630, rfl⟩
abbrev main_v463 : Ref sig .tc := ⟨.hbm, 631, rfl⟩
abbrev main_v464 : Ref sig .tc := ⟨.hbm, 632, rfl⟩
abbrev main_v465 : Ref sig .tc := ⟨.hbm, 633, rfl⟩
abbrev main_cst_93 : Ref sig .tc := ⟨.hbm, 634, rfl⟩
abbrev main_v466 : Ref sig .tc := ⟨.hbm, 635, rfl⟩
abbrev main_v467 : Ref sig .tc := ⟨.hbm, 636, rfl⟩
abbrev main_v468 : Ref sig .tc := ⟨.hbm, 637, rfl⟩
abbrev main_v469 : Ref sig .tc := ⟨.hbm, 638, rfl⟩
abbrev main_v470 : Ref sig .tc := ⟨.hbm, 639, rfl⟩
abbrev main_v471 : Ref sig .tc := ⟨.hbm, 640, rfl⟩
abbrev main_v472 : Ref sig .tc := ⟨.hbm, 641, rfl⟩
abbrev main_cst_94 : Ref sig .tc := ⟨.hbm, 642, rfl⟩
abbrev main_v473 : Ref sig .tc := ⟨.hbm, 643, rfl⟩
abbrev main_v474 : Ref sig .tc := ⟨.hbm, 644, rfl⟩
abbrev main_v475 : Ref sig .tc := ⟨.hbm, 645, rfl⟩
abbrev main_cst_95 : Ref sig .tc := ⟨.hbm, 646, rfl⟩
abbrev main_v476 : Ref sig .tc := ⟨.hbm, 647, rfl⟩
abbrev main_v477 : Ref sig .tc := ⟨.hbm, 648, rfl⟩
abbrev main_call10_call0_cst : Ref sig .tc := ⟨.hbm, 649, rfl⟩
abbrev main_call10_call0_v0 : Ref sig .tc := ⟨.hbm, 650, rfl⟩
abbrev main_v478 : Ref sig .tc := ⟨.hbm, 651, rfl⟩
abbrev main_v479 : Ref sig .tc := ⟨.hbm, 652, rfl⟩
abbrev main_v480 : Ref sig .tc := ⟨.hbm, 653, rfl⟩
abbrev main_v481 : Ref sig .tc := ⟨.hbm, 654, rfl⟩
abbrev main_v482 : Ref sig .tc := ⟨.hbm, 655, rfl⟩
abbrev main_v483 : Ref sig .tc := ⟨.hbm, 656, rfl⟩
abbrev main_v484 : Ref sig .tc := ⟨.hbm, 657, rfl⟩
abbrev main_v485 : Ref sig .tc := ⟨.hbm, 658, rfl⟩
abbrev main_v486 : Ref sig .tc := ⟨.hbm, 659, rfl⟩

abbrev nD : Nat := 1
abbrev τ : Topo := Topo.v7x

variable {F : FTy → Type} [FloatOps F]
-- ==== Kernel2.lean ====
abbrev S256x2048 : Shape := ⟨2, ![256, 2048]⟩
abbrev S2048 : Shape := ⟨1, ![2048]⟩
abbrev S2048x2048 : Shape := ⟨2, ![2048, 2048]⟩
abbrev S1x2048 : Shape := ⟨2, ![1, 2048]⟩
abbrev S2048x256 : Shape := ⟨2, ![2048, 256]⟩
abbrev S2048x512 : Shape := ⟨2, ![2048, 512]⟩
abbrev S256x512 : Shape := ⟨2, ![256, 512]⟩
abbrev S512x256 : Shape := ⟨2, ![512, 256]⟩
abbrev S256 : Shape := ⟨1, ![256]⟩
abbrev S256x1 : Shape := ⟨2, ![256, 1]⟩
abbrev S8x256x2048 : Shape := ⟨3, ![8, 256, 2048]⟩

abbrev nBuf : Space → Nat
  | .hbm => 11
  | .vmem => 15
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S256x2048, .bf16⟩
  | .hbm, ⟨7, _⟩ => ⟨S256x2048, .bf16⟩
  | .hbm, ⟨8, _⟩ => ⟨S2048x256, .bf16⟩
  | .hbm, ⟨9, _⟩ => ⟨S8x256x2048, .bf16⟩
  | .hbm, ⟨10, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S256x2048, .bf16⟩
  | .local _ .vmem, ⟨5, _⟩ => ⟨S256x512, .bf16⟩
  | .local _ .vmem, ⟨6, _⟩ => ⟨S256x512, .bf16⟩
  | .local _ .vmem, ⟨7, _⟩ => ⟨S512x256, .bf16⟩
  | .local _ .vmem, ⟨8, _⟩ => ⟨S512x256, .bf16⟩
  | .local _ .vmem, ⟨9, _⟩ => ⟨S256x2048, .f32⟩
  | .local _ .vmem, ⟨10, _⟩ => ⟨S256x2048, .bf16⟩
  | .local _ .vmem, ⟨11, _⟩ => ⟨S2048x2048, .bf16⟩
  | .local _ .vmem, ⟨12, _⟩ => ⟨S256x2048, .f32⟩
  | .local _ .vmem, ⟨13, _⟩ => ⟨S8x256x2048, .bf16⟩
  | .local _ .vmem, ⟨14, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== Reference2Ideal.lean ====
abbrev S256x2048 : Shape := ⟨2, ![256, 2048]⟩
abbrev S2048 : Shape := ⟨1, ![2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S2048x256 : Shape := ⟨2, ![2048, 256]⟩
abbrev S8x256x2048 : Shape := ⟨3, ![8, 256, 2048]⟩

abbrev nBuf : Space → Nat
  | .hbm => 36
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S2048x2048, .f32⟩
  | .hbm, ⟨22, _⟩ => ⟨S2048x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S_, .f32⟩
  | .hbm, ⟨29, _⟩ => ⟨S2048, .f32⟩
  | .hbm, ⟨30, _⟩ => ⟨S256x2048, .bf16⟩
  | .hbm, ⟨31, _⟩ => ⟨S2048x256, .f32⟩
  | .hbm, ⟨32, _⟩ => ⟨S2048x256, .bf16⟩
  | .hbm, ⟨33, _⟩ => ⟨S8x256x2048, .f32⟩
  | .hbm, ⟨34, _⟩ => ⟨S8x256x2048, .bf16⟩
  | .hbm, ⟨35, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel3.lean ====
abbrev S4096x7168 : Shape := ⟨2, ![4096, 7168]⟩
abbrev S4096x2048 : Shape := ⟨2, ![4096, 2048]⟩
abbrev S1x2048 : Shape := ⟨2, ![1, 2048]⟩
abbrev S2048x7168 : Shape := ⟨2, ![2048, 7168]⟩
abbrev S2048x8x896 : Shape := ⟨3, ![2048, 8, 896]⟩
abbrev S8x2048x896 : Shape := ⟨3, ![8, 2048, 896]⟩
abbrev S8x896x2048 : Shape := ⟨3, ![8, 896, 2048]⟩
abbrev S7168x2048 : Shape := ⟨2, ![7168, 2048]⟩
abbrev S1x1x2048 : Shape := ⟨3, ![1, 1, 2048]⟩
abbrev S512x1792 : Shape := ⟨2, ![512, 1792]⟩
abbrev S1792x2048 : Shape := ⟨2, ![1792, 2048]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S2048 : Shape := ⟨1, ![2048]⟩

abbrev nBuf : Space → Nat
  | .hbm => 13
  | .vmem => 13
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048x7168, .f32⟩
  | .hbm, ⟨5, _⟩ => ⟨S2048x8x896, .f32⟩
  | .hbm, ⟨6, _⟩ => ⟨S8x2048x896, .f32⟩
  | .hbm, ⟨7, _⟩ => ⟨S8x2048x896, .bf16⟩
  | .hbm, ⟨8, _⟩ => ⟨S4096x7168, .bf16⟩
  | .hbm, ⟨9, _⟩ => ⟨S8x896x2048, .bf16⟩
  | .hbm, ⟨10, _⟩ => ⟨S7168x2048, .bf16⟩
  | .hbm, ⟨11, _⟩ => ⟨S4096x2048, .f32⟩
  | .hbm, ⟨12, _⟩ => ⟨S1x1x2048, .f32⟩
  | .local _ .vmem, ⟨0, _⟩ => ⟨S512x1792, .bf16⟩
  | .local _ .vmem, ⟨1, _⟩ => ⟨S512x1792, .bf16⟩
  | .local _ .vmem, ⟨2, _⟩ => ⟨S1792x2048, .bf16⟩
  | .local _ .vmem, ⟨3, _⟩ => ⟨S1792x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4096x7168 : Shape := ⟨2, ![4096, 7168]⟩
abbrev S4096x2048 : Shape := ⟨2, ![4096, 2048]⟩
abbrev S1x2048 : Shape := ⟨2, ![1, 2048]⟩
abbrev S2048x7168 : Shape := ⟨2, ![2048, 7168]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048x7168, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x7168, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S1x2048, .f32⟩
  | .hbm, ⟨54, _⟩ => ⟨S4096x2048, .f32⟩
  | .hbm, ⟨55, _⟩ => ⟨S1x1x2048, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel4.lean ====
abbrev S4x2048x896 : Shape := ⟨3, ![4, 2048, 896]⟩
abbrev S2048x896 : Shape := ⟨2, ![2048, 896]⟩
abbrev S4x256x896 : Shape := ⟨3, ![4, 256, 896]⟩
abbrev S256x896 : Shape := ⟨2, ![256, 896]⟩
abbrev S1x256x896 : Shape := ⟨3, ![1, 256, 896]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S4x256x896, .bf16⟩
  | .local _ .vmem, ⟨1, _⟩ => ⟨S4x256x896, .bf16⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S4x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x2048x896 : Shape := ⟨3, ![4, 2048, 896]⟩
abbrev S2048x896 : Shape := ⟨2, ![2048, 896]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S4x2048x896, .f32⟩
  | .hbm, ⟨5, _⟩ => ⟨S_, .f32⟩
  | .hbm, ⟨6, _⟩ => ⟨S2048x896, .f32⟩
  | .hbm, ⟨7, _⟩ => ⟨S_, .f32⟩
  | .hbm, ⟨8, _⟩ => ⟨S2048x896, .f32⟩
  | .hbm, ⟨9, _⟩ => ⟨S2048x896, .f32⟩
  | .hbm, ⟨10, _⟩ => ⟨S_, .f32⟩
  | .hbm, ⟨11, _⟩ => ⟨S2048x896, .f32⟩
  | .hbm, ⟨12, _⟩ => ⟨S2048x896, .f32⟩
  | .hbm, ⟨13, _⟩ => ⟨S2048x896, .f32⟩
  | .hbm, ⟨14, _⟩ => ⟨S_, .f32⟩
  | .hbm, ⟨15, _⟩ => ⟨S2048x896, .f32⟩
  | .hbm, ⟨16, _⟩ => ⟨S2048x896, .f32⟩
  | .hbm, ⟨17, _⟩ => ⟨S2048x896, .f32⟩
  | .hbm, ⟨18, _⟩ => ⟨S_, .f32⟩
  | .hbm, ⟨19, _⟩ => ⟨S2048x896, .f32⟩
  | .hbm, ⟨20, _⟩ => ⟨S2048x896, .f32⟩
  | .hbm, ⟨21, _⟩ => ⟨S2048x896, .f32⟩
  | .hbm, ⟨22, _⟩ => ⟨S_, .f32⟩
  | .hbm, ⟨23, _⟩ => ⟨S2048x896, .f32⟩
  | .hbm, ⟨24, _⟩ => ⟨S2048x896, .f32⟩
  | .hbm, ⟨25, _⟩ => ⟨S_, .f32⟩
  | .hbm, ⟨26, _⟩ => ⟨S2048x896, .f32⟩
  | .hbm, ⟨27, _⟩ => ⟨S2048x896, .f32⟩
  | .hbm, ⟨28, _⟩ => ⟨S2048x896, .f32⟩
  | .hbm, ⟨29, _⟩ => ⟨S_, .f32⟩
  | .hbm, ⟨30, _⟩ => ⟨S2048x896, .f32⟩
  | .hbm, ⟨31, _⟩ => ⟨S2048x896, .f32⟩
  | .hbm, ⟨32, _⟩ => ⟨S2048x896, .f32⟩
  | .hbm, ⟨33, _⟩ => ⟨S_, .f32⟩
  | .hbm, ⟨34, _⟩ => ⟨S2048x896, .f32⟩
  | .hbm, ⟨35, _⟩ => ⟨S2048x896, .f32⟩
  | .hbm, ⟨36, _⟩ => ⟨S2048x896, .f32⟩
  | .hbm, ⟨37, _⟩ => ⟨S_, .f32⟩
  | .hbm, ⟨38, _⟩ => ⟨S2048x896, .f32⟩
  | .hbm, ⟨39, _⟩ => ⟨S2048x896, .f32⟩
  | _, _ => ⟨S4x2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel5.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference5Ideal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel6.lean ====
abbrev S4096x7168 : Shape := ⟨2, ![4096, 7168]⟩
abbrev S4096x2048 : Shape := ⟨2, ![4096, 2048]⟩
abbrev S1x2048 : Shape := ⟨2, ![1, 2048]⟩
abbrev S2048x7168 : Shape := ⟨2, ![2048, 7168]⟩
abbrev S_ : Shape := ⟨0, ![]⟩
abbrev S4096 : Shape := ⟨1, ![4096]⟩
abbrev S4096x1 : Shape := ⟨2, ![4096, 1]⟩
abbrev S8x2048x896 : Shape := ⟨3, ![8, 2048, 896]⟩
abbrev S1024x2048 : Shape := ⟨2, ![1024, 2048]⟩
abbrev S1024x1792 : Shape := ⟨2, ![1024, 1792]⟩
abbrev S2x2048x896 : Shape := ⟨3, ![2, 2048, 896]⟩
abbrev S2048x1792 : Shape := ⟨2, ![2048, 1792]⟩
abbrev S2048x896 : Shape := ⟨2, ![2048, 896]⟩
abbrev S1x2048x896 : Shape := ⟨3, ![1, 2048, 896]⟩

abbrev nBuf : Space → Nat
  | .hbm => 22
  | .vmem => 7
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S1x2048, .f32⟩
  | .hbm, ⟨3, _⟩ => ⟨S2048x7168, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x7168, .bf16⟩
  | .hbm, ⟨21, _⟩ => ⟨S8x2048x896, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1792, .bf16⟩
  | .local _ .vmem, ⟨3, _⟩ => ⟨S1024x1792, .bf16⟩
  | .local _ .vmem, ⟨4, _⟩ => ⟨S2x2048x896, .bf16⟩
  | .local _ .vmem, ⟨5, _⟩ => ⟨S2x2048x896, .bf16⟩
  | .local _ .vmem, ⟨6, _⟩ => ⟨S2048x1792, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x7168 : Shape := ⟨2, ![4096, 7168]⟩
abbrev S4096x2048 : Shape := ⟨2, ![4096, 2048]⟩
abbrev S1x2048 : Shape := ⟨2, ![1, 2048]⟩
abbrev S2048x7168 : Shape := ⟨2, ![2048, 7168]⟩
abbrev S2048 : Shape := ⟨1, ![2048]⟩
abbrev S_ : Shape := ⟨0, ![]⟩
abbrev S4096 : Shape := ⟨1, ![4096]⟩
abbrev S4096x1 : Shape := ⟨2, ![4096, 1]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 27
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S1x2048, .f32⟩
  | .hbm, ⟨3, _⟩ => ⟨S2048x7168, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x7168, .f32⟩
  | .hbm, ⟨22, _⟩ => ⟨S7168x2048, .f32⟩
  | .hbm, ⟨23, _⟩ => ⟨S2048x7168, .f32⟩
  | .hbm, ⟨24, _⟩ => ⟨S2048x8x896, .f32⟩
  | .hbm, ⟨25, _⟩ => ⟨S8x2048x896, .f32⟩
  | .hbm, ⟨26, _⟩ => ⟨S8x2048x896, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel7.lean ====
abbrev S4x2x2048x896 : Shape := ⟨4, ![4, 2, 2048, 896]⟩
abbrev S4x2048x896 : Shape := ⟨3, ![4, 2048, 896]⟩
abbrev S_ : Shape := ⟨0, ![]⟩
abbrev S1 : Shape := ⟨1, ![1]⟩
abbrev S1x1x2048x896 : Shape := ⟨4, ![1, 1, 2048, 896]⟩
abbrev S1x2048x896 : Shape := ⟨3, ![1, 2048, 896]⟩
abbrev S2048x896 : Shape := ⟨2, ![2048, 896]⟩

abbrev nBuf : Space → Nat
  | .hbm => 4
  | .vmem => 6
  | .smem => 1
  | _ => 0

abbrev bufTy : (tb : Table) → Fin (tcTables nBuf tb) → BufTy
  | .hbm, ⟨0, _⟩ => ⟨S4x2x2048x896, .bf16⟩
  | .hbm, ⟨1, _⟩ => ⟨S4x2048x896, .bf16⟩
  | .hbm, ⟨2, _⟩ => ⟨S_, .i32⟩
  | .hbm, ⟨3, _⟩ => ⟨S4x2048x896, .bf16⟩
  | .local _ .vmem, ⟨0, _⟩ => ⟨S1x1x2048x896, .bf16⟩
  | .local _ .vmem, ⟨1, _⟩ => ⟨S1x1x2048x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S1x2048x896, .bf16⟩
  | .local _ .vmem, ⟨5, _⟩ => ⟨S1x2048x896, .bf16⟩
  | .local _ .smem, ⟨0, _⟩ => ⟨S1, .i32⟩
  | _, _ => ⟨S4x2x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x2x2048x896 : Shape := ⟨4, ![4, 2, 2048, 896]⟩
abbrev S4x2048x896 : Shape := ⟨3, ![4, 2048, 896]⟩
abbrev S4x1x2048x896 : Shape := ⟨4, ![4, 1, 2048, 896]⟩

abbrev nBuf : Space → Nat
  | .hbm => 8
  | .vmem => 0
  | .smem => 0
  | _ => 0

abbrev bufTy : (tb : Table) → Fin (tcTables nBuf tb) → BufTy
  | .hbm, ⟨0, _⟩ => ⟨S4x2x2048x896, .bf16⟩
  | .hbm, ⟨1, _⟩ => ⟨S4x2048x896, .bf16⟩
  | .hbm, ⟨2, _⟩ => ⟨S4x1x2048x896, .bf16⟩
  | .hbm, ⟨3, _⟩ => ⟨S4x2048x896, .bf16⟩
  | .hbm, ⟨4, _⟩ => ⟨S4x2048x896, .f32⟩
  | .hbm, ⟨5, _⟩ => ⟨S4x2048x896, .f32⟩
  | .hbm, ⟨6, _⟩ => ⟨S4x2048x896, .f32⟩
  | .hbm, ⟨7, _⟩ => ⟨S4x2048x896, .bf16⟩
  | _, _ => ⟨S4x2x2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.KvRun.lean ====
/- The run of `Kernel2Ideal` (the forward product of the memory and its backward call, one after the other), with every
   buffer of the program named at the end: what the second call leaves, or what it did not touch. The generated frame
   states the arguments alone; the value claim needs the four result arrays as well. -/
module

public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Kv

open Cert.Kernel2Ideal Cert.Kernel2Ideal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- From any launch memory the program ends, every buffer outside the kernels' own at the last boundary's contents. -/
theorem run_boundary : θ_run defs (onTc (τ := τ) (main (F := F))) ⟨m, fun _ => 0, ρ⟩ (fun r =>
    ∀ c : Dev nD, ∀ b ∈ Pipeline.ucRefs τ sig, r.2.mem (((c : Thread nD τ)).1, b) = W3 m ρ c b) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem (((c : Thread nD τ)).1, b) = W3 m ρ c b)
    (hfin := ?_) (hQ := fun s h _ => h)
  · -- the launch hands out the tokens of the two pipelines and nothing else
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- every core starts with its buffers as launched, its generator register, and nothing owed
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · -- at the end the buffers are read off what every core still holds
    intro c s'
    iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

/-- The four results and the four arguments at the end: the forward call's two products, the backward call's two
    gradients (from the forward call's normalised memory), the arguments as launched. -/
theorem run_arrays : θ_run defs (onTc (τ := τ) (main (F := F))) ⟨m, fun _ => 0, ρ⟩ (fun r => ∀ c : Dev nD,
      r.2.mem ((c.tc : Thread nD τ).loc main_v2_1) = (dat0 (V1 m ρ) c).arrAt 4 cfg0.N
      ∧ r.2.mem ((c.tc : Thread nD τ).loc main_v2_2) = (dat0 (V1 m ρ) c).arrAt 5 cfg0.N
      ∧ r.2.mem ((c.tc : Thread nD τ).loc main_v3_0) = (dat1 (V2 m ρ) c).arrAt 4 cfg1.N
      ∧ r.2.mem ((c.tc : Thread nD τ).loc main_v3_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_boundary m ρ)
  refine ⟨(h c _ (mem_uc main_v2_1 (by decide))).trans ?_, (h c _ (mem_uc main_v2_2 (by decide))).trans ?_,
    (h c _ (mem_uc main_v3_0 (by decide))).trans (W3_arr m ρ c 4), (h c _ (mem_uc main_v3_1 (by decide))).trans (W3_arr m ρ c 5),
    (h c _ (mem_uc main_arg0 (by decide))).trans (W3_main_arg0 m ρ c), (h c _ (mem_uc main_arg1 (by decide))).trans (W3_main_arg1 m ρ c),
    (h c _ (mem_uc main_arg2 (by decide))).trans (W3_main_arg2 m ρ c), (h c _ (mem_uc main_arg3 (by decide))).trans (W3_main_arg3 m ρ c)⟩
  · exact (W3_of_ne m ρ c main_v2_1 (by decide +kernel)).trans (W2_arr m ρ c 4)
  · exact (W3_of_ne m ρ c main_v2_2 (by decide +kernel)).trans (W2_arr m ρ c 5)

/-! ## What the two calls find in their operands -/

theorem entry_mem (c : Dev nD) : V1 m ρ c main_arg1 = m ((c.tc : Thread nD τ).loc main_arg1) := W1_args m ρ c _ (by simp [argRefs])
theorem entry_gain (c : Dev nD) : V1 m ρ c main_v1
    = broadcastInDim S1x2048 ![1] Gen.facts.bcast_S2048_S1x2048_1 (m ((c.tc : Thread nD τ).loc main_arg2)) := rfl
theorem entry_w (c : Dev nD) : V1 m ρ c main_v0 = truncf .bf16 (m ((c.tc : Thread nD τ).loc main_arg3)) Gen.facts.bitsLt_bf16_f32 := rfl
theorem entry_dkv (c : Dev nD) : V2 m ρ c main_arg0 = m ((c.tc : Thread nD τ).loc main_arg0) := W2_args m ρ c _ (by simp [argRefs])
theorem entry_mem' (c : Dev nD) : V2 m ρ c main_arg1 = m ((c.tc : Thread nD τ).loc main_arg1) := W2_args m ρ c _ (by simp [argRefs])
theorem entry_w' (c : Dev nD) : V2 m ρ c main_v0 = V1 m ρ c main_v0 := W2_of m ρ c main_v0 (by decide +kernel)
theorem entry_memn (c : Dev nD) : V2 m ρ c main_v2_0 = (dat0 (V1 m ρ) c).arrAt 3 cfg0.N := W2_arr m ρ c 3

end Cert.Kernel2Ideal.Kv

end
-- ==== Proof.KvValue.lean ====
/- What the two calls on the memory leave in their result arrays, at the ideal instance: the blocks put together, over
   whatever the calls find in their operands. -/
module

public import proofs.«01_k».proof.Proof.KvRun
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Kv

open Cert.Kernel2Ideal Cert.Kernel2Ideal.Gen

variable (V : (c : Dev nD) → (b : Ref sig .tc) → Buf (Elt Ideal) ((c : Thread nD τ).loc b))

/-! ## The forward product, four column blocks of 512 -/

/-- Every window's block index: the weights and both products move along the columns, the rest stay. -/
theorem idx0 : ∀ t : Fin cfg0.N, win0_0.index t = ![0, 0] ∧ win0_1.index t = ![0, 0] ∧ win0_2.index t = ![0, t.val]
    ∧ win0_3.index t = ![0, 0] ∧ win0_4.index t = ![0, t.val] ∧ win0_5.index t = ![t.val, 0] :=
  (by decide +kernel : ∀ t : Fin grid0.N, _)

/-- The product of the normalised memory with the weights, at every column. -/
def KV (x : FVec Ideal S256x2048 .f32) (g : FVec Ideal S1x2048 .f32) (w : FVec Ideal S2048x2048 .bf16) : FVec Ideal S256x2048 .bf16 :=
  fun i => ∑ k : Fin 2048, (k0_pay1 (F := Ideal) x g (ix2 (i 0) k) : EReal) * w (ix2 k (i 1))

/-- The same product transposed. -/
def KVT (x : FVec Ideal S256x2048 .f32) (g : FVec Ideal S1x2048 .f32) (w : FVec Ideal S2048x2048 .bf16) : FVec Ideal S2048x256 .bf16 :=
  fun i => ∑ k : Fin 2048, (k0_pay1 (F := Ideal) x g (ix2 (i 1) k) : EReal) * w (ix2 k (i 0))

theorem blk_mem (c : Dev nD) (t : Fin cfg0.N) : iblk0 V c 0 t = V c main_arg1 := by blk_ext! [iblk0, idx0 t]
theorem blk_gain (c : Dev nD) (t : Fin cfg0.N) : iblk0 V c 1 t = V c main_v1 := by blk_ext! [iblk0, idx0 t]

theorem final_memn (c : Dev nD) : (dat0 V c).arrAt 3 cfg0.N = k0_pay1 (V c main_arg1) (V c main_v1) := by
  refine (dat0 V c).arrAt_eq_of_covers 3 _ (by decide +kernel) fun t _ y => ?_
  blk_simp
  rw [after0_3]; frame_out
  rw [blk_mem, blk_gain]
  blk_ext [idx0 t]

theorem final_kv (c : Dev nD) : (dat0 V c).arrAt 4 cfg0.N = KV (V c main_arg1) (V c main_v1) (V c main_v0) := by
  refine (dat0 V c).arrAt_eq_of_covers 4 _ (by decide +kernel) fun t _ y => ?_
  blk_simp
  rw [after0_4]; frame_out
  rw [blk_mem, blk_gain]
  pointwise [k0_pay3, k0_pay2, KV]
  blk_point [iblk0, idx0 t]

theorem final_kvt (c : Dev nD) : (dat0 V c).arrAt 5 cfg0.N = KVT (V c main_arg1) (V c main_v1) (V c main_v0) := by
  refine (dat0 V c).arrAt_eq_of_covers 5 _ (by decide +kernel) fun t _ y => ?_
  blk_simp
  rw [after0_5]; frame_out
  rw [blk_mem, blk_gain]
  pointwise [k0_pay4, k0_pay2, KVT]
  blk_point [iblk0, idx0 t]

/-! ## The backward call, one point -/

theorem idx1 : ∀ t : Fin cfg1.N, win1_0.index t = ![0, 0] ∧ win1_1.index t = ![0, 0] ∧ win1_2.index t = ![0, 0]
    ∧ win1_3.index t = ![0, 0] ∧ win1_4.index t = ![0, 0, 0] ∧ win1_5.index t = ![0, 0] :=
  (by decide +kernel : ∀ t : Fin grid1.N, _)

theorem blk1_dkv (c : Dev nD) (t : Fin cfg1.N) : iblk1 V c 0 t = V c main_arg0 := by blk_ext! [iblk1, idx1 t]
theorem blk1_memn (c : Dev nD) (t : Fin cfg1.N) : iblk1 V c 1 t = V c main_v2_0 := by blk_ext! [iblk1, idx1 t]
theorem blk1_w (c : Dev nD) (t : Fin cfg1.N) : iblk1 V c 2 t = V c main_v0 := by blk_ext! [iblk1, idx1 t]
theorem blk1_mem (c : Dev nD) (t : Fin cfg1.N) : iblk1 V c 3 t = V c main_arg1 := by blk_ext! [iblk1, idx1 t]

theorem final_gw (c : Dev nD) : (dat1 V c).arrAt 4 cfg1.N = k1_pay2 (V c main_arg0) (V c main_v2_0) := by
  refine (dat1 V c).arrAt_eq_of_covers 4 _ (by decide +kernel) fun t _ y => ?_
  blk_simp
  rw [after1_4]; frame_out
  rw [blk1_dkv, blk1_memn]
  blk_ext [idx1 t]

theorem final_dgain (c : Dev nD) : (dat1 V c).arrAt 5 cfg1.N = k1_pay3 (V c main_arg0) (V c main_v0) (V c main_arg1) := by
  refine (dat1 V c).arrAt_eq_of_covers 5 _ (by decide +kernel) fun t _ y => ?_
  blk_simp
  rw [after1_5]; frame_out
  rw [blk1_dkv, blk1_w, blk1_mem]
  blk_ext [idx1 t]

end Cert.Kernel2Ideal.Kv

end
-- ==== Proof.KvClaim.lean ====
/- The four results of the two calls on the memory against the reference's: the same sums and the same elementwise
   expressions, element by element. -/
module

public import proofs.«01_k».proof.Proof.KvValue
public import proofs.«01_k».proof.Proof.Gen.Reference2Ideal.Read

@[expose] public section

set_option maxRecDepth 16384

noncomputable section

open Idealize.ShloMosaic Idealize.ShloMosaic.TcCoe Idealize.SL.Sem

namespace Cert.Kv

open Cert.Reference2Ideal.Read
open Cert.Kernel2Ideal (S256x2048 S2048 S1x2048 S2048x2048)

variable (d x : FVec Ideal S256x2048 .f32) (g : FVec Ideal S2048 .f32) (w : FVec Ideal S2048x2048 .f32)

/-- The gain as the kernel takes it, one row. -/
abbrev row : FVec Ideal S1x2048 .f32 := broadcastInDim S1x2048 ![1] Cert.Kernel2Ideal.Gen.facts.bcast_S2048_S1x2048_1 g
/-- The weights as the kernel takes them. -/
abbrev wts : FVec Ideal S2048x2048 .bf16 := truncf .bf16 w Cert.Kernel2Ideal.Gen.facts.bitsLt_bf16_f32

open Cert.Kernel2Ideal.Gen (k0_pay1 k1_pay2 k1_pay3 k1_pay1)
open Cert.Kernel2Ideal.Kv (KV KVT)

/-- The normalised memory times the gain. -/
theorem memn_eq (i : S256x2048.Idx) : (k0_pay1 (F := Ideal) x (row g) i : EReal) = val_main_v12 (F := Ideal) x g i := by
  pointwise! [k0_pay1, row, val_main_v12, val_main_v11, val_main_v10, val_main_v9, val_main_v8, val_main_v7, val_main_v6, val_main_v5,
    val_main_v4, val_main_v3, val_main_v2, val_main_v1, val_main_v0, val_main_cst, val_main_cst_0, val_main_cst_1]

theorem kv_eq : KV x (row g) (wts w) = val_main_v21 (F := Ideal) x g w := by
  funext i
  unfold KV
  simp only [memn_eq]
  pointwise! [wts, val_main_v21, val_main_v13]

theorem kvt_eq : KVT x (row g) (wts w) = val_main_v23 (F := Ideal) x g w := by
  funext i
  unfold KVT
  simp only [memn_eq]
  pointwise! [wts, val_main_v23, val_main_v22, val_main_v13]

theorem gw_eq : k1_pay2 (F := Ideal) d (k0_pay1 (F := Ideal) x (row g)) = val_main_v25 (F := Ideal) d x g := by
  funext i
  pointwise [k1_pay2, k1_pay1, val_main_v25, val_main_v24, val_main_v15, val_main_v14]
  exact Finset.sum_congr rfl fun k _ => by rw [memn_eq]; exact mul_comm (G := EReal) _ _

theorem dgain_eq : k1_pay3 (F := Ideal) d (wts w) x = val_main_v26 (F := Ideal) d x w := by
  funext i
  pointwise [k1_pay3, k1_pay1, wts, val_main_v26, val_main_v20, val_main_v19, val_main_v18, val_main_v17, val_main_v16, val_main_v9, val_main_v8, val_main_v7, val_main_v6, val_main_v5,
    val_main_v4, val_main_v3, val_main_v2, val_main_v1, val_main_v0, val_main_cst, val_main_cst_0, val_main_cst_1, val_main_cst_2, val_main_cst_3]
  rw [Fin.sum_univ_one]
  exact Finset.sum_congr rfl fun k _ => mul_comm _ _

/-! ## From the launch memory -/

section
open Cert.Kernel2Ideal Cert.Kernel2Ideal.Gen Cert.Kernel2Ideal.Kv

variable (m : (ℓ : Loc nD τ sig) → Buf (Elt Ideal) ℓ) (ρ : Dev nD → PrngReg) (c : Dev nD)

/-- The memory normalised, as the forward call leaves it for the backward call. -/
theorem entry_memn_eq : V2 m ρ c main_v2_0
    = k0_pay1 (F := Ideal) (m ((c.tc : Thread nD τ).loc main_arg1)) (row (m ((c.tc : Thread nD τ).loc main_arg2))) := by
  rw [entry_memn, final_memn, entry_mem, entry_gain]

theorem final_1 : (dat0 (V1 m ρ) c).arrAt 4 cfg0.N = val_main_v21 (F := Ideal) (m ((c.tc : Thread nD τ).loc main_arg1))
    (m ((c.tc : Thread nD τ).loc main_arg2)) (m ((c.tc : Thread nD τ).loc main_arg3)) := by
  rw [final_kv, entry_mem, entry_gain, entry_w]; exact kv_eq _ _ _

theorem final_2 : (dat0 (V1 m ρ) c).arrAt 5 cfg0.N = val_main_v23 (F := Ideal) (m ((c.tc : Thread nD τ).loc main_arg1))
    (m ((c.tc : Thread nD τ).loc main_arg2)) (m ((c.tc : Thread nD τ).loc main_arg3)) := by
  rw [final_kvt, entry_mem, entry_gain, entry_w]; exact kvt_eq _ _ _

theorem final_3 : (dat1 (V2 m ρ) c).arrAt 4 cfg1.N = val_main_v25 (F := Ideal) (m ((c.tc : Thread nD τ).loc main_arg0))
    (m ((c.tc : Thread nD τ).loc main_arg1)) (m ((c.tc : Thread nD τ).loc main_arg2)) := by
  rw [final_gw, entry_dkv, entry_memn_eq]; exact gw_eq _ _ _

theorem final_4 : (dat1 (V2 m ρ) c).arrAt 5 cfg1.N = val_main_v26 (F := Ideal) (m ((c.tc : Thread nD τ).loc main_arg0))
    (m ((c.tc : Thread nD τ).loc main_arg1)) (m ((c.tc : Thread nD τ).loc main_arg3)) := by
  rw [final_dgain, entry_dkv, entry_mem', entry_w', entry_w]; exact dgain_eq _ _ _

end

end Cert.Kv

end
-- ==== Proof.IgSteps.lean ====
/- What each grid point of the input-gradient call leaves: the accumulated product, the running sum of the gain's
   gradient, the written block and, at the last point, the copied sum. -/
module

public import proofs.«01_k».proof.Proof.Gen.Kernel3Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Ig

open Cert.Kernel3Ideal Cert.Kernel3Ideal.Gen

variable {F : FTy → Type} [FloatOps F]
variable (m : (ℓ : Loc nD τ sig) → Buf (Elt F) ℓ) (c : Dev nD)

theorem held0 (x : Vec F S512x2048 .f32) : View.read (Elt F) (View.whole cc0_scratch0) ((Memref.isWhole_whole cc0_scratch0).unread x) = x :=
  (Memref.isWhole_whole cc0_scratch0).read_unread x

theorem held1 (x : Vec F S1x2048 .f32) : View.read (Elt F) (View.whole cc0_scratch1) ((Memref.isWhole_whole cc0_scratch1).unread x) = x :=
  (Memref.isWhole_whole cc0_scratch1).read_unread x

/-- The four contents after grid point `t`. -/
abbrev prev (t : Fin cfg0.N) := outsAt0 m c (t.val - 1) (Nat.lt_of_le_of_lt (Nat.sub_le _ _) t.isLt)

theorem acc_first (t : Fin cfg0.N) (h : t.val % 4 = 0) :
    (outsAt0 m c t.val t.isLt).2.1 = k0_pay3 k0_pay2 (iblk m c 0 t) (iblk m c 1 t) := by
  by_cases h0 : t.val % 32 = 0
  · rw [outsAt0_A m c t h0 h (by omega) (by omega)]; dsimp only; frame_out
  · rw [outsAt0_D m c t h0 h (by omega) (by omega)]; dsimp only; frame_out

theorem acc_next (t : Fin cfg0.N) (h : ¬t.val % 4 = 0) :
    (outsAt0 m c t.val t.isLt).2.1 = k0_pay3 (prev m c t).2.1 (iblk m c 0 t) (iblk m c 1 t) := by
  have h0 : ¬t.val % 32 = 0 := by omega
  by_cases h3 : t.val % 32 = 31
  · rw [outsAt0_E m c t h0 h (by omega) h3]; dsimp only; frame_out; rw [held0]
  by_cases h2 : t.val % 4 = 3
  · rw [outsAt0_C m c t h0 h h2 h3]; dsimp only; frame_out; rw [held0]
  · rw [outsAt0_B m c t h0 h h2 h3]; dsimp only; frame_out; rw [held0]

theorem sum_first (t : Fin cfg0.N) (h : t.val % 32 = 0) : (outsAt0 m c t.val t.isLt).2.2.1 = k0_pay1 := by
  rw [outsAt0_A m c t h (by omega) (by omega) (by omega)]; dsimp only; frame_out

theorem sum_kept (t : Fin cfg0.N) (h0 : ¬t.val % 32 = 0) (h : ¬t.val % 4 = 3) : (outsAt0 m c t.val t.isLt).2.2.1 = (prev m c t).2.2.1 := by
  by_cases h1 : t.val % 4 = 0
  · rw [outsAt0_D m c t h0 h1 h (by omega)]; rfl
  · rw [outsAt0_B m c t h0 h1 h (by omega)]; rfl

theorem sum_next (t : Fin cfg0.N) (h : t.val % 4 = 3) :
    (outsAt0 m c t.val t.isLt).2.2.1 = k0_pay6 (iblk m c 2 t) (outsAt0 m c t.val t.isLt).2.1 (prev m c t).2.2.1 := by
  rw [acc_next m c t (by omega)]
  by_cases h3 : t.val % 32 = 31
  · rw [outsAt0_E m c t (by omega) (by omega) h h3]; dsimp only; frame_out; rw [held0, held1]
  · rw [outsAt0_C m c t (by omega) (by omega) h h3]; dsimp only; frame_out; rw [held0, held1]

theorem block (t : Fin cfg0.N) (h : t.val % 4 = 3) :
    (outsAt0 m c t.val t.isLt).1 = k0_pay7 (iblk m c 2 t) (iblk m c 4 t) (outsAt0 m c t.val t.isLt).2.1 (iblk m c 3 t) := by
  rw [acc_next m c t (by omega)]
  by_cases h3 : t.val % 32 = 31
  · rw [outsAt0_E m c t (by omega) (by omega) h h3]; dsimp only; frame_out; rw [held0]
  · rw [outsAt0_C m c t (by omega) (by omega) h h3]; dsimp only; frame_out; rw [held0]

/-- The copied row, where it lies in the result. -/
theorem row_at (h : S1x2048.numel = (Rect.unit (s := S1x1x2048) ![0, 0, 0] ![1, 1, 2048] inb_S1x1x2048_S1x1x2048_0_0_0).shape.numel) (k : Fin 2048) :
    (((View.whole main_v6_1).slice (Rect.unit ![0, 0, 0] ![1, 1, 2048] inb_S1x1x2048_S1x1x2048_0_0_0)).reshape S1x2048 h).emb (ix2 0 k) = ix3 0 0 k := by
  have e : Shape.reshapeEquiv (s := S1x1x2048) (s' := S1x2048) h (ix2 0 k) = ix3 0 0 k := by pointwise
  show (Rect.unit (s := S1x1x2048) ![0, 0, 0] ![1, 1, 2048] inb_S1x1x2048_S1x1x2048_0_0_0).emb (Shape.reshapeEquiv (s := S1x1x2048) (s' := S1x2048) h (ix2 0 k)) = _
  rw [e]
  funext a
  refine Fin.ext ?_
  rw [Rect.emb_apply]
  fin_cases a <;> simp

theorem copied (t : Fin cfg0.N) (h : t.val % 32 = 31) (k : Fin 2048) :
    (outsAt0 m c t.val t.isLt).2.2.2 (ix3 0 0 k) = (outsAt0 m c t.val t.isLt).2.2.1 (ix2 0 k) := by
  rw [sum_next m c t (by omega), acc_next m c t (by omega)]
  rw [outsAt0_E m c t (by omega) (by omega) (by omega) h]; dsimp only
  unfold hbw0_E_0 kernelRun0_E
  dsimp only
  rw [← row_at (by decide) k, View.write_emb_of_mem _ _ (Finset.mem_univ _)]
  frame_out; rw [held0, held1]
  refine (cast_eq _ _).trans ?_
  dsimp only [ReadAs.apply]
  rw [View.read_writes_eq_canon _ _ _ (fun y => ⟨_, List.mem_singleton_self _, View.mem_set_unit_zero (by funext a; fin_cases a <;> rfl) inb_S1x2048_S1x2048_0_0 y⟩),
    View.canon_unit_zero (by funext a; fin_cases a <;> rfl) inb_S1x2048_S1x2048_0_0]

end Cert.Kernel3Ideal.Ig

end
-- ==== Proof.IgValue.lean ====
/- What the input-gradient call leaves in its two results, at the ideal instance: the blocks put together over the
   arguments. -/
module

public import proofs.«01_k».proof.Proof.IgSteps

@[expose] public section

set_option maxRecDepth 16384

noncomputable section

open Idealize.ShloMosaic Idealize.ShloMosaic.TcCoe Idealize.SL.Sem
open Idealize.ShloMosaic.Pipeline (Dat)

namespace Cert.Kernel3Ideal.Ig

open Cert.Kernel3Ideal Cert.Kernel3Ideal.Gen

variable (m : (ℓ : Loc nD τ sig) → Buf (Elt Ideal) ℓ) (c : Dev nD)

/-! ## The arguments and the blocks -/

abbrev DP : FVec Ideal S4096x7168 .f32 := m ((c : Thread nD τ).loc main_arg0)
abbrev X : FVec Ideal S4096x2048 .f32 := m ((c : Thread nD τ).loc main_arg1)
abbrev DXO : FVec Ideal S4096x2048 .f32 := m ((c : Thread nD τ).loc main_arg2)
abbrev GN : FVec Ideal S1x2048 .f32 := m ((c : Thread nD τ).loc main_arg3)
abbrev W : FVec Ideal S2048x7168 .f32 := m ((c : Thread nD τ).loc main_arg4)

theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![0, 0]
    ∧ win0_5.index t = ![t.val / 4, 0] :=
  (by decide +kernel : ∀ t : Fin grid0.N, _)

theorem lt32 (t : Fin cfg0.N) : t.val < 32 := lt_of_lt_of_eq t.isLt (show cfg0.N = 32 from N_0)

/-- The row of the arrays that row `r` of a block is. -/
def row (t : Fin cfg0.N) (r : Fin 512) : Fin 4096 := ⟨t.val / 4 * 512 + r, by have := lt32 t; omega⟩
/-- The column of the projection that column `e` of a block is. -/
def col (t : Fin cfg0.N) (e : Fin 1792) : Fin 7168 := ⟨t.val % 4 * 1792 + e, by omega⟩

theorem entry_dp : V m c main_v3 = truncf .bf16 (DP m c) facts.bitsLt_bf16_f32 := rfl
theorem entry_w : V m c main_v5 = shapeCast S7168x2048 (transpose S8x896x2048 [0, 2, 1] (truncf .bf16 (transpose S8x2048x896 [1, 0, 2]
    (shapeCast S2048x8x896 (W m c) facts.shapeCasts_S2048x7168_S2048x8x896) facts.transposes_S2048x8x896_S8x2048x896_1_0_2) facts.bitsLt_bf16_f32)
    facts.transposes_S8x2048x896_S8x896x2048_0_2_1) facts.shapeCasts_S8x896x2048_S7168x2048 := rfl

theorem blk_dp (t : Fin cfg0.N) (r : Fin 512) (e : Fin 1792) : iblk m c 0 t (ix2 r e) = DP m c (ix2 (row t r) (col t e)) := by
  blk_point [iblk, idx t, entry_dp, row, col]

theorem weights (e : Fin 7168) (k : Fin 2048) : V m c main_v5 (ix2 e k) = W m c (ix2 k e) := by
  rw [entry_w]; pointwise

theorem blk_w (t : Fin cfg0.N) (e : Fin 1792) (k : Fin 2048) : iblk m c 1 t (ix2 e k) = W m c (ix2 k (col t e)) := by
  rw [← weights]
  blk_point [iblk, idx t, col]

theorem blk_x (t : Fin cfg0.N) (r : Fin 512) (k : Fin 2048) : iblk m c 2 t (ix2 r k) = X m c (ix2 (row t r) k) := by
  blk_point [iblk, idx t, row]

theorem blk_dxo (t : Fin cfg0.N) (r : Fin 512) (k : Fin 2048) : iblk m c 3 t (ix2 r k) = DXO m c (ix2 (row t r) k) := by
  blk_point [iblk, idx t, row]

theorem blk_gain (t : Fin cfg0.N) : iblk m c 4 t = GN m c := by blk_ext! [iblk, idx t]

/-! ## The accumulated product -/

/-- The gradient of the normalised input: the projection's gradient times the transposed weights. -/
def DH (i : Fin 4096) (k : Fin 2048) : EReal := ∑ e : Fin 7168, DP m c (ix2 i e) * W m c (ix2 k e)

theorem acc_full (t : Fin cfg0.N) (h : t.val % 4 = 3) (r : Fin 512) (k : Fin 2048) :
    (outsAt0 m c t.val t.isLt).2.1 (ix2 r k) = DH m c (row t r) k := by
  refine (Pipeline.eq_sum_fin_of_reset_step_apply_of_flush (fun n hn => (outsAt0 m c n hn).2.1) 4 (fun _ => (0 : EReal))
    (fun t i => ∑ e : Fin 1792, DP m c (ix2 (row t (i 0)) (col t e)) * W m c (ix2 (i 1) (col t e))) ?_ ?_ t h (ix2 r k)).trans ?_
  · intro t h i
    idx_vars i
    rw [acc_first m c t h]
    pointwise [k0_pay3, k0_pay2]
    simp only [blk_dp, blk_w]
  · intro t h i
    idx_vars i
    rw [acc_next m c t h]
    pointwise [k0_pay3]
    simp only [blk_dp, blk_w]
  · rw [zero_add, DH]
    refine Fin.sum_mul_add_congr (M := EReal) fun s e hl => ?_
    have e0 : row ⟨4 * (t.val / 4) + s.val, Pipeline.run_point_lt_of_flush t h s⟩ r = row t r := Fin.ext (by simp only [row]; omega)
    have e1 : col ⟨4 * (t.val / 4) + s.val, Pipeline.run_point_lt_of_flush t h s⟩ e = ⟨s.val * 1792 + e.val, hl⟩ := Fin.ext (by simp only [col]; omega)
    show DP m c (ix2 (row _ r) (col _ e)) * W m c (ix2 k (col _ e)) = _
    rw [e0, e1]

/-! ## The two results -/

/-- The row scale of the norm. -/
def RS (i : Fin 4096) : EReal :=
  Ideal.rsqrt (Ideal.div (∑ x, X m c (ix2 i x) * X m c (ix2 i x)) (Ideal.ofBits .f32 1157627904#32) + Ideal.ofBits .f32 897988541#32)

/-- The gradient of the input, as the call computes it. -/
def GX : FVec Ideal S4096x2048 .f32 := fun i =>
  DXO m c i + RS m c (i 0) * (DH m c (i 0) (i 1) * GN m c (ix2 0 (i 1)) -
    X m c i * RS m c (i 0) * Ideal.div (∑ x : Fin 2048, DH m c (i 0) x * GN m c (ix2 0 x) * (X m c (ix2 (i 0) x) * RS m c (i 0)))
      (Ideal.ofBits .f32 1157627904#32))

/-- The gradient of the gain, as the call computes it. -/
def DG (k : Fin 2048) : EReal := ∑ i : Fin 4096, DH m c i k * (X m c (ix2 i k) * RS m c i)

theorem block_at (t : Fin cfg0.N) (h : t.val % 4 = 3) (r : Fin 512) (k : Fin 2048) :
    (outsAt0 m c t.val t.isLt).1 (ix2 r k) = GX m c (ix2 (row t r) k) := by
  rw [block m c t h]
  pointwise [k0_pay7, k0_pay5, k0_pay4, GX, RS]
  simp only [acc_full m c t h, blk_x, blk_dxo, blk_gain]

theorem final_gx : (dats m 0 c).arrAt 5 cfg0.N = GX m c := by
  refine (dats m 0 c).arrAt_eq_of_covers 5 _ (by decide +kernel) fun t hf y => ?_
  blk_simp
  rw [after0_5]
  refine (congrArg (outsAt0 m c t.val t.isLt).1 (eq_ix2 y)).trans ((block_at m c t ((flush0_5 t).mp hf) _ _).trans ?_)
  blk_point [idx t, row]

theorem sum_full (t : Fin cfg0.N) (h : t.val % 32 = 31) (k : Fin 2048) : (outsAt0 m c t.val t.isLt).2.2.1 (ix2 0 k) = DG m c k := by
  refine (Pipeline.eq_sum_fin_of_reset_step_apply_last (fun n hn => (outsAt0 m c n hn).2.2.1) 32 (fun _ => (0 : EReal))
    (fun t i => if t.val % 4 = 3 then ∑ r : Fin 512, DH m c (row t r) (i 1) * (X m c (ix2 (row t r) (i 1)) * RS m c (row t r)) else 0)
    ?_ ?_ (le_of_eq N_0) t ((show t.val + 1 = 32 by have := lt32 t; omega).trans N_0.symm) (ix2 0 k)).trans ?_
  · intro t h i
    rw [sum_first m c t h, if_neg (by omega)]
    idx_vars i
    pointwise [k0_pay1]
  · intro t h i
    by_cases h3 : t.val % 4 = 3
    · rw [sum_next m c t h3, if_pos h3]
      idx_vars i
      pointwise [k0_pay6, k0_pay5, k0_pay4, RS]
      simp only [acc_full m c t h3, blk_x]
    · rw [sum_kept m c t h h3, if_neg h3, add_zero]
  · rw [zero_add, DG]
    refine (Fin.sum_divmod_congr (M := EReal) (S := 4) (A := 8)
      (f := fun a s => if s.val = 3 then ∑ r : Fin 512, DH m c ⟨a.val * 512 + r.val, by omega⟩ k
        * (X m c (ix2 ⟨a.val * 512 + r.val, by omega⟩ k) * RS m c ⟨a.val * 512 + r.val, by omega⟩) else 0) ?_).trans ?_
    · intro t ha hs; rfl
    · simp only [Fin.sum_univ_four, Fin.isValue, Fin.val_zero, Fin.val_one, Fin.val_two, show ((3 : Fin 4) : ℕ) = 3 from rfl,
        OfNat.zero_ne_ofNat, OfNat.one_ne_ofNat, if_false, if_true, zero_add, show ¬(2 = 3) by omega]
      exact Fin.sum_mul_add_congr (M := EReal) fun a r hl => rfl

theorem final_dg (t : Fin cfg0.N) (h : t.val % 32 = 31) : (outsAt0 m c t.val t.isLt).2.2.2 = fun i => DG m c (i 2) := by
  funext i
  idx_vars i
  obtain rfl : i0 = 0 := Subsingleton.elim _ _
  obtain rfl : i1 = 0 := Subsingleton.elim _ _
  rw [copied m c t h, sum_full m c t h]

end Cert.Kernel3Ideal.Ig

end
-- ==== Proof.NormGrad.lean ====
/- The gradient of the root-mean-square norm, over the extended reals: the row scale is always a real number, and with it
   the kernel's form of the gradient and the one differentiated from the formula agree, infinite arguments included. -/
module

public import Idealize.ShloMosaic.PureOps.Ideal
public import Idealize.ShloMosaic.Lib.Pointwise

@[expose] public section

noncomputable section

open Idealize.ShloMosaic

namespace Cert.Norm

theorem coe_mul_add {ρ : ℝ} (h : 0 ≤ ρ) (a b : EReal) : (ρ : EReal) * (a + b) = ρ * a + ρ * b :=
  EReal.left_distrib_of_nonneg_of_ne_top (EReal.coe_nonneg.mpr h) (EReal.coe_ne_top ρ) a b

theorem coe_mul_sum {ρ : ℝ} (h : 0 ≤ ρ) {ι : Type} (s : Finset ι) (f : ι → EReal) : (ρ : EReal) * ∑ i ∈ s, f i = ∑ i ∈ s, ρ * f i := by
  classical
  induction s using Finset.induction_on with
  | empty => simp
  | insert i s hi ih => rw [Finset.sum_insert hi, Finset.sum_insert hi, coe_mul_add h, ih]

theorem add_self (a : EReal) : a + a = ((2 : ℝ) : EReal) * a := by
  rw [show (2 : ℝ) = 1 + 1 by norm_num, EReal.coe_add, EReal.right_distrib_of_nonneg (by simp) (by simp), EReal.coe_one, one_mul]

theorem neg_eq (a : EReal) : -a = ((-1 : ℝ) : EReal) * a := by
  rw [EReal.coe_neg, EReal.coe_one, EReal.neg_mul, one_mul]

theorem mul_self_nonneg (a : EReal) : 0 ≤ a * a := by
  induction a using EReal.rec with
  | bot => simp
  | coe a => rw [← EReal.coe_mul]; exact EReal.coe_nonneg.mpr (_root_.mul_self_nonneg a)
  | top => simp

/-- The row scale of a mean square `ms` and its derivative's factor are real. -/
theorem scale {ms : EReal} (h : 0 ≤ ms) {e : ℝ} (he : 0 < e) :
    ∃ ρ : ℝ, 0 ≤ ρ ∧ Ideal.rsqrt (ms + e) = ρ ∧ Ideal.div (Ideal.rsqrt (ms + e)) (ms + e) = ((ρ * ρ * ρ : ℝ) : EReal) := by
  induction ms using EReal.rec with
  | bot => simp at h
  | top => exact ⟨0, le_rfl, by simp, by simp [Ideal.div]⟩
  | coe a =>
    have ha : 0 < a + e := by have := EReal.coe_nonneg.mp h; linarith
    have hr : Ideal.rsqrt ((a : EReal) + e) = (((Real.sqrt (a + e))⁻¹ : ℝ) : EReal) := by
      rw [← EReal.coe_add, Ideal.rsqrt_coe, if_neg ha.not_gt, if_neg ha.ne']
    refine ⟨(Real.sqrt (a + e))⁻¹, by positivity, hr, ?_⟩
    rw [hr, ← EReal.coe_add, Ideal.div_coe ha.ne', ← EReal.coe_mul]
    congr 1
    have := Real.mul_self_sqrt ha.le
    have hs : Real.sqrt (a + e) ≠ 0 := (Real.sqrt_pos.mpr ha).ne'
    field_simp
    rw [sq, this]

/-- The two forms of the gradient of one entry of a row: `x`, `dn` the row and the gradient of its normalised entries, `ρ`
    the row scale, `N` the number of entries. -/
theorem back {ρ N : ℝ} (hρ : 0 ≤ ρ) (hN : 0 < N) {n : ℕ} (x dn : Fin n → EReal) (xk dk : EReal) :
    (ρ : EReal) * (dk - xk * ρ * Ideal.div (∑ j, dn j * (x j * ρ)) N)
      = dk * ρ + xk * Ideal.div ((∑ j, x j * dn j) * (((-1 / 2 : ℝ) : EReal) * ((ρ * ρ * ρ : ℝ) : EReal))) N
        + Ideal.div ((∑ j, x j * dn j) * (((-1 / 2 : ℝ) : EReal) * ((ρ * ρ * ρ : ℝ) : EReal))) N * xk := by
  have hs : ∑ j, dn j * (x j * ρ) = (ρ : EReal) * ∑ j, x j * dn j := by
    rw [coe_mul_sum hρ]; exact Finset.sum_congr rfl fun j _ => by ac_rfl
  rw [hs, Ideal.div_coe hN.ne', Ideal.div_coe hN.ne']
  generalize (∑ j, x j * dn j) = T
  generalize 1 / N = q
  rw [mul_comm _ xk, add_assoc, add_self, sub_eq_add_neg, coe_mul_add hρ, neg_eq, mul_comm dk]
  congr 1
  have e : (-1 : ℝ) * (ρ * ρ * ρ) = 2 * (-1 / 2 * (ρ * ρ * ρ)) := by ring
  calc _ = (((-1 : ℝ) * (ρ * ρ * ρ) : ℝ) : EReal) * (xk * (T * q)) := by simp only [EReal.coe_mul]; ac_rfl
    _ = _ := by rw [e]; simp only [EReal.coe_mul]; ac_rfl

end Cert.Norm

end
-- ==== Proof.IgClaim.lean ====
/- The input-gradient call agrees with the gradient differentiated from the formula. -/
module

public import proofs.«01_k».proof.Proof.IgValue
public import proofs.«01_k».proof.Proof.NormGrad
public import proofs.«01_k».proof.Proof.Gen.Reference3Ideal.Read

@[expose] public section

set_option maxRecDepth 16384

noncomputable section

open Idealize.ShloMosaic Idealize.ShloMosaic.TcCoe Idealize.SL.Sem

namespace Cert.Ig

open Cert.Reference3Ideal.Read

theorem half_eq : Ideal.ofBits .f32 3204448256#32 = ((-1 / 2 : ℝ) : EReal) := by
  simp [Ideal.ofBits, Ideal.ieee, -EReal.coe_mul]; norm_num
theorem width_eq : Ideal.ofBits .f32 1157627904#32 = ((2048 : ℝ) : EReal) := by
  simp [Ideal.ofBits, Ideal.ieee, -EReal.coe_mul]; norm_num
theorem eps_pos : ∃ e : ℝ, 0 < e ∧ Ideal.ofBits .f32 897988541#32 = (e : EReal) := by
  refine ⟨_, ?_, by simp [Ideal.ofBits, Ideal.ieee, -EReal.coe_mul]; rfl⟩
  norm_num

theorem zero_eq : Ideal.ofBits .f32 0#32 = (0 : EReal) := by simp [Ideal.ofBits, Ideal.ieee]

section Reference

open Cert.Reference3Ideal

variable (dp : FVec Ideal S4096x7168 .f32) (x dxo : FVec Ideal S4096x2048 .f32) (g : FVec Ideal S1x2048 .f32) (w : FVec Ideal S2048x7168 .f32)

/-- The mean square of a row, with the norm's constant. -/
def ms (i : Fin 4096) : EReal :=
  Ideal.div (∑ j, x (ix2 i j) * x (ix2 i j)) (Ideal.ofBits .f32 1157627904#32) + Ideal.ofBits .f32 897988541#32

/-- The gradient of the normalised input. -/
def dh (i : Fin 4096) (k : Fin 2048) : EReal := ∑ e, dp (ix2 i e) * w (ix2 k e)

/-- The factor the row's mean square sends back to its entries. -/
def Q (i : Fin 4096) : EReal :=
  Ideal.div ((∑ j, x (ix2 i j) * (dh dp w i j * g (ix2 0 j))) * (Ideal.ofBits .f32 3204448256#32 * Ideal.div (Ideal.rsqrt (ms x i)) (ms x i)))
    (Ideal.ofBits .f32 1157627904#32)

theorem ref_dg (k : Fin 2048) :
    val_main_v41 (F := Ideal) dp x w (ix3 0 0 k) = ∑ i, dh dp w i k * (x (ix2 i k) * Ideal.rsqrt (ms x i)) := by
  pointwise! [val_main_v41, val_main_v39, val_main_v21, val_main_v20, val_main_v24, val_main_v19, val_main_v18, val_main_v13, val_main_v12, val_main_v9,
    val_main_v8, val_main_v7, val_main_v6, val_main_v5, val_main_v4, val_main_v3, val_main_v2, val_main_v1, val_main_cst, val_main_cst_0,
    val_main_cst_1, val_main_cst_2, val_main_cst_3, val_main_cst_4, ms, dh]
  rw [Fin.sum_univ_one]
  exact Finset.sum_congr rfl fun i _ => mul_comm (G := EReal) _ _

set_option maxHeartbeats 1000000 in
theorem ref_gx (i : Fin 4096) (k : Fin 2048) :
    val_main_v40 (F := Ideal) dp x dxo g w (ix2 i k)
      = dxo (ix2 i k) + (dh dp w i k * g (ix2 0 k) * Ideal.rsqrt (ms x i) + x (ix2 i k) * Q dp x g w i + Q dp x g w i * x (ix2 i k)) := by
  pointwise! [val_main_v40, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v14, val_main_v0,
    val_main_v11, val_main_v10, val_main_v18, val_main_v13, val_main_v12, val_main_v9, val_main_v8, val_main_v7, val_main_v6, val_main_v5,
    val_main_v4, val_main_v3, val_main_v2, val_main_v1, val_main_cst, val_main_cst_0, val_main_cst_1, val_main_cst_2, val_main_cst_3,
    val_main_cst_4, val_main_cst_5, val_main_cst_6, val_main_cst_7, ms, dh, Q]
  simp only [Fin.sum_univ_one]

theorem scale_at (i : Fin 4096) : ∃ ρ : ℝ, 0 ≤ ρ ∧ Ideal.rsqrt (ms x i) = ρ ∧ Ideal.div (Ideal.rsqrt (ms x i)) (ms x i) = ((ρ * ρ * ρ : ℝ) : EReal) := by
  obtain ⟨e, he, h⟩ := eps_pos
  rw [ms, h, width_eq, Ideal.div_coe (by norm_num)]
  refine Norm.scale ?_ he
  exact mul_nonneg (Finset.sum_nonneg fun j _ => Norm.mul_self_nonneg _) (EReal.coe_nonneg.mpr (by norm_num))

/-- The gradient of the input as the kernel computes it, from the arrays. -/
theorem gx_eq (i : Fin 4096) (k : Fin 2048) :
    dxo (ix2 i k) + Ideal.rsqrt (ms x i) * (dh dp w i k * g (ix2 0 k) - x (ix2 i k) * Ideal.rsqrt (ms x i)
        * Ideal.div (∑ j, dh dp w i j * g (ix2 0 j) * (x (ix2 i j) * Ideal.rsqrt (ms x i))) (Ideal.ofBits .f32 1157627904#32))
      = val_main_v40 (F := Ideal) dp x dxo g w (ix2 i k) := by
  obtain ⟨ρ, hρ, h1, h2⟩ := scale_at x i
  rw [ref_gx, Q, h2, h1, half_eq, width_eq]
  congr 1
  exact Norm.back hρ (by norm_num) (fun j => x (ix2 i j)) (fun j => dh dp w i j * g (ix2 0 j)) _ _

end Reference

variable (m : (ℓ : Loc Cert.Kernel3Ideal.nD Cert.Kernel3Ideal.τ Cert.Kernel3Ideal.sig) → Buf (Elt Ideal) ℓ) (c : Dev Cert.Kernel3Ideal.nD)

open Cert.Kernel3Ideal.Ig

theorem kernel_gx : GX m c = val_main_v40 (F := Ideal) (DP m c) (X m c) (DXO m c) (GN m c) (W m c) := by
  funext i
  idx_vars i
  exact gx_eq (DP m c) (X m c) (DXO m c) (GN m c) (W m c) i0 i1

theorem kernel_dg : (fun i => DG m c (i 2)) = val_main_v41 (F := Ideal) (DP m c) (X m c) (W m c) := by
  funext i
  idx_vars i
  obtain rfl : i0 = 0 := Subsingleton.elim _ _
  obtain rfl : i1 = 0 := Subsingleton.elim _ _
  exact (ref_dg (DP m c) (X m c) (W m c) i2).symm

end Cert.Ig

end
-- ==== Proof.MixBase.lean ====
module

public import proofs.«01_k».proof.Proof.Gen.KernelIdeal.Frame.Runs

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The buffers one grid point of the call works on: the sixteen inputs' blocks, the eleven outputs' blocks and
    the seven scratch buffers, each a whole buffer. -/
structure Mems where
  i0 : Memref sig .tc .vmem S128x7168 .bf16
  i1 : Memref sig .tc .vmem S16x1024 .bf16
  i2 : Memref sig .tc .vmem S128x2048 .f32
  i3 : Memref sig .tc .vmem S128x2048 .f32
  i4 : Memref sig .tc .vmem S256x2048 .bf16
  i5 : Memref sig .tc .vmem S2048x256 .bf16
  i6 : Memref sig .tc .vmem S4x256x256 .bf16
  i7 : Memref sig .tc .vmem S4x256x256 .bf16
  i8 : Memref sig .tc .vmem S1x1024 .f32
  i9 : Memref sig .tc .vmem S1x1024 .f32
  i10 : Memref sig .tc .vmem S1x1024 .f32
  i11 : Memref sig .tc .vmem S128x1024 .f32
  i12 : Memref sig .tc .vmem S8x128x128 .bf16
  i13 : Memref sig .tc .vmem S8x128x128 .bf16
  i14 : Memref sig .tc .vmem S1x3072 .f32
  i15 : Memref sig .tc .vmem S1x2048 .f32
  o16 : Memref sig .tc .vmem S128x3072 .bf16
  o17 : Memref sig .tc .vmem S128x2048 .bf16
  o18 : Memref sig .tc .vmem S128x2048 .f32
  o19 : Memref sig .tc .vmem S128x7168 .bf16
  o20 : Memref sig .tc .vmem S1x128 .f32
  o21 : Memref sig .tc .vmem S1x2048 .f32
  o22 : Memref sig .tc .vmem S1x3072 .f32
  o23 : Memref sig .tc .vmem S1x1024 .f32
  o24 : Memref sig .tc .vmem S1x1024 .f32
  o25 : Memref sig .tc .vmem S1x1024 .f32
  o26 : Memref sig .tc .vmem S8x128 .f32
  s0 : Memref sig .tc .vmem S16x1024 .f32
  s1 : Memref sig .tc .vmem S128x1024 .f32
  s2 : Memref sig .tc .vmem S4x256x256 .f32
  s3 : Memref sig .tc .vmem S8x128x128 .f32
  s4 : Memref sig .tc .vmem S256x2048 .f32
  s5 : Memref sig .tc .vmem S3072x2048 .bf16
  s6 : Memref sig .tc .vmem S2048x3072 .bf16
  hi0 : i0.IsWhole
  hi1 : i1.IsWhole
  hi2 : i2.IsWhole
  hi3 : i3.IsWhole
  hi4 : i4.IsWhole
  hi5 : i5.IsWhole
  hi6 : i6.IsWhole
  hi7 : i7.IsWhole
  hi8 : i8.IsWhole
  hi9 : i9.IsWhole
  hi10 : i10.IsWhole
  hi11 : i11.IsWhole
  hi12 : i12.IsWhole
  hi13 : i13.IsWhole
  hi14 : i14.IsWhole
  hi15 : i15.IsWhole
  ho16 : o16.IsWhole
  ho17 : o17.IsWhole
  ho18 : o18.IsWhole
  ho19 : o19.IsWhole
  ho20 : o20.IsWhole
  ho21 : o21.IsWhole
  ho22 : o22.IsWhole
  ho23 : o23.IsWhole
  ho24 : o24.IsWhole
  ho25 : o25.IsWhole
  ho26 : o26.IsWhole
  hs0 : s0.IsWhole
  hs1 : s1.IsWhole
  hs2 : s2.IsWhole
  hs3 : s3.IsWhole
  hs4 : s4.IsWhole
  hs5 : s5.IsWhole
  hs6 : s6.IsWhole

/-- The sixteen input blocks of a grid point. -/
structure Ins (F : FTy → Type) where
  i0 : Vec F S128x7168 .bf16
  i1 : Vec F S16x1024 .bf16
  i2 : Vec F S128x2048 .f32
  i3 : Vec F S128x2048 .f32
  i4 : Vec F S256x2048 .bf16
  i5 : Vec F S2048x256 .bf16
  i6 : Vec F S4x256x256 .bf16
  i7 : Vec F S4x256x256 .bf16
  i8 : Vec F S1x1024 .f32
  i9 : Vec F S1x1024 .f32
  i10 : Vec F S1x1024 .f32
  i11 : Vec F S128x1024 .f32
  i12 : Vec F S8x128x128 .bf16
  i13 : Vec F S8x128x128 .bf16
  i14 : Vec F S1x3072 .f32
  i15 : Vec F S1x2048 .f32

/-- What the output blocks, the scratch buffers and the three results written by copies hold at a grid point. -/
structure State (F : FTy → Type) [FloatOps F] (c : Dev nD) where
  o16 : Vec F S128x3072 .bf16
  o17 : Vec F S128x2048 .bf16
  o18 : Vec F S128x2048 .f32
  o19 : Vec F S128x7168 .bf16
  o20 : Vec F S1x128 .f32
  o21 : Vec F S1x2048 .f32
  o22 : Vec F S1x3072 .f32
  o23 : Vec F S1x1024 .f32
  o24 : Vec F S1x1024 .f32
  o25 : Vec F S1x1024 .f32
  o26 : Vec F S8x128 .f32
  s0 : Vec F S16x1024 .f32
  s1 : Vec F S128x1024 .f32
  s2 : Vec F S4x256x256 .f32
  s3 : Vec F S8x128x128 .f32
  s4 : Vec F S256x2048 .f32
  s5 : Vec F S3072x2048 .bf16
  s6 : Vec F S2048x3072 .bf16
  g2 : HbBuf0 (F := F) c hbM0_2
  g3 : HbBuf0 (F := F) c hbM0_3
  g4 : HbBuf0 (F := F) c hbM0_4

/-- What a grid point leaves: for each buffer the body overwrites wholly the pieces it stores, last first, and
    for the others their contents. -/
structure Pieces (F : FTy → Type) [FloatOps F] (c : Dev nD) (M : Mems) where
  o16 : List (View.Piece (Elt F) S128x3072 .bf16)
  o17 : List (View.Piece (Elt F) S128x2048 .bf16)
  o18 : List (View.Piece (Elt F) S128x2048 .f32)
  o19 : List (View.Piece (Elt F) S128x7168 .bf16)
  o20 : List (View.Piece (Elt F) S1x128 .f32)
  o21 : List (View.Piece (Elt F) S1x2048 .f32)
  o22 : List (View.Piece (Elt F) S1x3072 .f32)
  o23 : List (View.Piece (Elt F) S1x1024 .f32)
  o24 : List (View.Piece (Elt F) S1x1024 .f32)
  o25 : List (View.Piece (Elt F) S1x1024 .f32)
  s0 : List (View.Piece (Elt F) S16x1024 .f32)
  s1 : List (View.Piece (Elt F) S128x1024 .f32)
  s2 : List (View.Piece (Elt F) S4x256x256 .f32)
  s3 : List (View.Piece (Elt F) S8x128x128 .f32)
  s4 : List (View.Piece (Elt F) S256x2048 .f32)
  o26 : Buf (Elt F) (M.o26.view.loc (c : Thread nD τ))
  s5 : Buf (Elt F) (M.s5.view.loc (c : Thread nD τ))
  s6 : Buf (Elt F) (M.s6.view.loc (c : Thread nD τ))
  g2 : HbBuf0 (F := F) c hbM0_2
  g3 : HbBuf0 (F := F) c hbM0_3
  g4 : HbBuf0 (F := F) c hbM0_4

/-- The input blocks at their contents. -/
def InsAt (c : Dev nD) (M : Mems) (X : Ins F) : sProp 𝕄 :=
  iprop(owns (c : Thread nD τ) M.i0 fullShare X.i0
    ∗ owns (c : Thread nD τ) M.i1 fullShare X.i1
    ∗ owns (c : Thread nD τ) M.i2 fullShare X.i2
    ∗ owns (c : Thread nD τ) M.i3 fullShare X.i3
    ∗ owns (c : Thread nD τ) M.i4 fullShare X.i4
    ∗ owns (c : Thread nD τ) M.i5 fullShare X.i5
    ∗ owns (c : Thread nD τ) M.i6 fullShare X.i6
    ∗ owns (c : Thread nD τ) M.i7 fullShare X.i7
    ∗ owns (c : Thread nD τ) M.i8 fullShare X.i8
    ∗ owns (c : Thread nD τ) M.i9 fullShare X.i9
    ∗ owns (c : Thread nD τ) M.i10 fullShare X.i10
    ∗ owns (c : Thread nD τ) M.i11 fullShare X.i11
    ∗ owns (c : Thread nD τ) M.i12 fullShare X.i12
    ∗ owns (c : Thread nD τ) M.i13 fullShare X.i13
    ∗ owns (c : Thread nD τ) M.i14 fullShare X.i14
    ∗ owns (c : Thread nD τ) M.i15 fullShare X.i15)

/-- The copies' counters at zero and the two weights the body copies in. -/
def Still (c : Dev nD) (w0 : HbBuf0 (F := F) c hbM0_0) (w1 : HbBuf0 (F := F) c hbM0_1) : sProp 𝕄 :=
  iprop(semVal ((c : Thread nD τ), SemLoc.dma 35) 0
    ∗ semVal ((c : Thread nD τ), SemLoc.dma 36) 0
    ∗ semVal ((c : Thread nD τ), SemLoc.dma 37) 0
    ∗ semVal ((c : Thread nD τ), SemLoc.dma 38) 0
    ∗ semVal ((c : Thread nD τ), SemLoc.dma 39) 0
    ∗ hbPt0 c hbM0_0 w0
    ∗ hbPt0 c hbM0_1 w1)

/-- The output blocks, the scratch and the results written by copies, at given contents. -/
def Held (c : Dev nD) (M : Mems) (S : State F c) : sProp 𝕄 :=
  iprop(owns (c : Thread nD τ) M.o16 fullShare S.o16
    ∗ owns (c : Thread nD τ) M.o17 fullShare S.o17
    ∗ owns (c : Thread nD τ) M.o18 fullShare S.o18
    ∗ owns (c : Thread nD τ) M.o19 fullShare S.o19
    ∗ owns (c : Thread nD τ) M.o20 fullShare S.o20
    ∗ owns (c : Thread nD τ) M.o21 fullShare S.o21
    ∗ owns (c : Thread nD τ) M.o22 fullShare S.o22
    ∗ owns (c : Thread nD τ) M.o23 fullShare S.o23
    ∗ owns (c : Thread nD τ) M.o24 fullShare S.o24
    ∗ owns (c : Thread nD τ) M.o25 fullShare S.o25
    ∗ owns (c : Thread nD τ) M.o26 fullShare S.o26
    ∗ owns (c : Thread nD τ) M.s0 fullShare S.s0
    ∗ owns (c : Thread nD τ) M.s1 fullShare S.s1
    ∗ owns (c : Thread nD τ) M.s2 fullShare S.s2
    ∗ owns (c : Thread nD τ) M.s3 fullShare S.s3
    ∗ owns (c : Thread nD τ) M.s4 fullShare S.s4
    ∗ owns (c : Thread nD τ) M.s5 fullShare S.s5
    ∗ owns (c : Thread nD τ) M.s6 fullShare S.s6
    ∗ hbPt0 c hbM0_2 S.g2
    ∗ hbPt0 c hbM0_3 S.g3
    ∗ hbPt0 c hbM0_4 S.g4)

/-- The same buffers as a grid point leaves them. -/
def Left (c : Dev nD) (M : Mems) (P : Pieces F c M) : sProp 𝕄 :=
  iprop((∃ f, M.o16.view.loc (c : Thread nD τ) ↦[M.o16.view.set]{fullShare} M.o16.view.writes (Elt F) f P.o16)
    ∗ (∃ f, M.o17.view.loc (c : Thread nD τ) ↦[M.o17.view.set]{fullShare} M.o17.view.writes (Elt F) f P.o17)
    ∗ (∃ f, M.o18.view.loc (c : Thread nD τ) ↦[M.o18.view.set]{fullShare} M.o18.view.writes (Elt F) f P.o18)
    ∗ (∃ f, M.o19.view.loc (c : Thread nD τ) ↦[M.o19.view.set]{fullShare} M.o19.view.writes (Elt F) f P.o19)
    ∗ (∃ f, M.o20.view.loc (c : Thread nD τ) ↦[M.o20.view.set]{fullShare} M.o20.view.writes (Elt F) f P.o20)
    ∗ (∃ f, M.o21.view.loc (c : Thread nD τ) ↦[M.o21.view.set]{fullShare} M.o21.view.writes (Elt F) f P.o21)
    ∗ (∃ f, M.o22.view.loc (c : Thread nD τ) ↦[M.o22.view.set]{fullShare} M.o22.view.writes (Elt F) f P.o22)
    ∗ (∃ f, M.o23.view.loc (c : Thread nD τ) ↦[M.o23.view.set]{fullShare} M.o23.view.writes (Elt F) f P.o23)
    ∗ (∃ f, M.o24.view.loc (c : Thread nD τ) ↦[M.o24.view.set]{fullShare} M.o24.view.writes (Elt F) f P.o24)
    ∗ (∃ f, M.o25.view.loc (c : Thread nD τ) ↦[M.o25.view.set]{fullShare} M.o25.view.writes (Elt F) f P.o25)
    ∗ (M.o26.view.loc (c : Thread nD τ) ↦[M.o26.view.set]{fullShare} P.o26)
    ∗ (∃ f, M.s0.view.loc (c : Thread nD τ) ↦[M.s0.view.set]{fullShare} M.s0.view.writes (Elt F) f P.s0)
    ∗ (∃ f, M.s1.view.loc (c : Thread nD τ) ↦[M.s1.view.set]{fullShare} M.s1.view.writes (Elt F) f P.s1)
    ∗ (∃ f, M.s2.view.loc (c : Thread nD τ) ↦[M.s2.view.set]{fullShare} M.s2.view.writes (Elt F) f P.s2)
    ∗ (∃ f, M.s3.view.loc (c : Thread nD τ) ↦[M.s3.view.set]{fullShare} M.s3.view.writes (Elt F) f P.s3)
    ∗ (∃ f, M.s4.view.loc (c : Thread nD τ) ↦[M.s4.view.set]{fullShare} M.s4.view.writes (Elt F) f P.s4)
    ∗ (M.s5.view.loc (c : Thread nD τ) ↦[M.s5.view.set]{fullShare} P.s5)
    ∗ (M.s6.view.loc (c : Thread nD τ) ↦[M.s6.view.set]{fullShare} P.s6)
    ∗ hbPt0 c hbM0_2 P.g2
    ∗ hbPt0 c hbM0_3 P.g3
    ∗ hbPt0 c hbM0_4 P.g4)

/-- The body written out through the restated parts. -/
theorem body_parts (i : grid0.Coords) (M : Mems) : ∃ e, (cc0_mix (F := F) i M.i0 M.hi0 M.i1 M.hi1 M.i2 M.hi2 M.i3 M.hi3 M.i4 M.hi4 M.i5 M.hi5 (Memref.whole main_v8) (Memref.isWhole_whole _) (Memref.whole main_v11) (Memref.isWhole_whole _) M.i6 M.hi6 M.i7 M.hi7 M.i8 M.hi8 M.i9 M.hi9 M.i10 M.hi10 M.i11 M.hi11 M.i12 M.hi12 M.i13 M.hi13 M.i14 M.hi14 M.i15 M.hi15 M.o16 M.ho16 M.o17 M.ho17 M.o18 M.ho18 M.o19 M.ho19 M.o20 M.ho20 M.o21 M.ho21 M.o22 M.ho22 M.o23 M.ho23 M.o24 M.ho24 M.o25 M.ho25
    (Memref.whole main_v14_10) (Memref.isWhole_whole _) (Memref.whole main_v14_11) (Memref.isWhole_whole _) M.o26 M.ho26 (Memref.whole main_v14_13) (Memref.isWhole_whole _)
    M.s0 M.hs0 M.s1 M.hs1 M.s2 M.hs2 M.s3 M.hs3 M.s4 M.hs4 M.s5 M.hs5 M.s6 M.hs6 cc0_scratch7 cc0_scoped0 cc0_scoped1 cc0_scoped2) = e := by
  simp only [cc0_mix_eq_skeleton]; unfold cc0_mix_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  exact ⟨_, rfl⟩

end Cert.KernelIdeal.Mix

end

end
-- ==== Proof.MixRunA.lean ====
module

public import proofs.«01_k».proof.Proof.MixBase

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body at the first grid point: from the input blocks `X` and the other buffers at `S` it runs to its end, leaving
    the inputs as they were and the other buffers with the pieces found here. -/
def runA (c : Dev nD) (i : grid0.Coords) (M : Mems) (hc0 : cond0_0 i) (hc1 : cond0_1 i) (hc2 : cond0_2 i) (hc3 : ¬cond0_3 i)
    (X : Ins F) (S : State F c) (w0 : HbBuf0 (F := F) c hbM0_0) (w1 : HbBuf0 (F := F) c hbM0_1) :
    { P : Pieces F c M // ∀ (W : Waits sig Unit) (K : PUnit → sProp 𝕄),
      iprop(InsAt c M X ∗ Held c M S ∗ Still c w0 w1 ∗ owes (c : Thread nD τ) 0 W
        ∗ (iprop(InsAt c M X ∗ Left c M P ∗ Still c w0 w1 ∗ (∃ W', owes (c : Thread nD τ) 0 W')) -∗ K ⟨⟩))
      ⊢ wp frame (wpE (defs₀ (F := F)) Variants.none c none) Set.univ
        (cc0_mix i M.i0 M.hi0 M.i1 M.hi1 M.i2 M.hi2 M.i3 M.hi3 M.i4 M.hi4 M.i5 M.hi5 (Memref.whole main_v8) (Memref.isWhole_whole _) (Memref.whole main_v11) (Memref.isWhole_whole _) M.i6 M.hi6 M.i7 M.hi7 M.i8 M.hi8 M.i9 M.hi9 M.i10 M.hi10 M.i11 M.hi11 M.i12 M.hi12 M.i13 M.hi13 M.i14 M.hi14 M.i15 M.hi15 M.o16 M.ho16 M.o17 M.ho17 M.o18 M.ho18 M.o19 M.ho19 M.o20 M.ho20 M.o21 M.ho21 M.o22 M.ho22 M.o23 M.ho23 M.o24 M.ho24 M.o25 M.ho25
    (Memref.whole main_v14_10) (Memref.isWhole_whole _) (Memref.whole main_v14_11) (Memref.isWhole_whole _) M.o26 M.ho26 (Memref.whole main_v14_13) (Memref.isWhole_whole _)
    M.s0 M.hs0 M.s1 M.hs1 M.s2 M.hs2 M.s3 M.hs3 M.s4 M.hs4 M.s5 M.hs5 M.s6 M.hs6 cc0_scratch7 cc0_scoped0 cc0_scoped1 cc0_scoped2) K } := by
  refine ⟨⟨?_, ?_, ?_, ?_, ?_, ?_, ?_, ?_, ?_, ?_, ?_, ?_, ?_, ?_, ?_, ?_, ?_, ?_, ?_, ?_, ?_⟩, fun W K => ?run⟩
  case run =>
    simp only [cc0_mix_eq_skeleton]; unfold cc0_mix_skel
    simp only [k0_part27_eq_skeleton, k0_part5_eq_skeleton, k0_part1_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold InsAt Held Still Left owns
    dsimp only
    iintro ⟨⟨⟨%fi0, %ei0, Hi0⟩, ⟨%fi1, %ei1, Hi1⟩, ⟨%fi2, %ei2, Hi2⟩, ⟨%fi3, %ei3, Hi3⟩, ⟨%fi4, %ei4, Hi4⟩, ⟨%fi5, %ei5, Hi5⟩, ⟨%fi6, %ei6, Hi6⟩, ⟨%fi7, %ei7, Hi7⟩, ⟨%fi8, %ei8, Hi8⟩, ⟨%fi9, %ei9, Hi9⟩, ⟨%fi10, %ei10, Hi10⟩, ⟨%fi11, %ei11, Hi11⟩, ⟨%fi12, %ei12, Hi12⟩, ⟨%fi13, %ei13, Hi13⟩, ⟨%fi14, %ei14, Hi14⟩, ⟨%fi15, %ei15, Hi15⟩⟩, ⟨⟨%fo16, %eo16, Ho16⟩, ⟨%fo17, %eo17, Ho17⟩, ⟨%fo18, %eo18, Ho18⟩, ⟨%fo19, %eo19, Ho19⟩, ⟨%fo20, %eo20, Ho20⟩, ⟨%fo21, %eo21, Ho21⟩, ⟨%fo22, %eo22, Ho22⟩, ⟨%fo23, %eo23, Ho23⟩, ⟨%fo24, %eo24, Ho24⟩, ⟨%fo25, %eo25, Ho25⟩, ⟨%fo26, %eo26, Ho26⟩, ⟨%fs0, %es0, Hs0⟩, ⟨%fs1, %es1, Hs1⟩, ⟨%fs2, %es2, Hs2⟩, ⟨%fs3, %es3, Hs3⟩, ⟨%fs4, %es4, Hs4⟩, ⟨%fs5, %es5, Hs5⟩, ⟨%fs6, %es6, Hs6⟩, Hg2, Hg3, Hg4⟩, ⟨Hq0, Hq1, Hq2, Hq3, Hq4, Hw0, Hw1⟩, HW, Hk⟩
    obtain rfl := M.hi0.eq_unread ei0; obtain rfl := M.hi1.eq_unread ei1; obtain rfl := M.hi2.eq_unread ei2; obtain rfl := M.hi3.eq_unread ei3; obtain rfl := M.hi4.eq_unread ei4; obtain rfl := M.hi5.eq_unread ei5; obtain rfl := M.hi6.eq_unread ei6; obtain rfl := M.hi7.eq_unread ei7; obtain rfl := M.hi8.eq_unread ei8; obtain rfl := M.hi9.eq_unread ei9; obtain rfl := M.hi10.eq_unread ei10; obtain rfl := M.hi11.eq_unread ei11; obtain rfl := M.hi12.eq_unread ei12; obtain rfl := M.hi13.eq_unread ei13; obtain rfl := M.hi14.eq_unread ei14; obtain rfl := M.hi15.eq_unread ei15; obtain rfl := M.ho16.eq_unread eo16; obtain rfl := M.ho17.eq_unread eo17; obtain rfl := M.ho18.eq_unread eo18; obtain rfl := M.ho19.eq_unread eo19; obtain rfl := M.ho20.eq_unread eo20; obtain rfl := M.ho21.eq_unread eo21; obtain rfl := M.ho22.eq_unread eo22; obtain rfl := M.ho23.eq_unread eo23; obtain rfl := M.ho24.eq_unread eo24; obtain rfl := M.ho25.eq_unread eo25; obtain rfl := M.ho26.eq_unread eo26; obtain rfl := M.hs0.eq_unread es0; obtain rfl := M.hs1.eq_unread es1; obtain rfl := M.hs2.eq_unread es2; obtain rfl := M.hs3.eq_unread es3; obtain rfl := M.hs4.eq_unread es4; obtain rfl := M.hs5.eq_unread es5; obtain rfl := M.hs6.eq_unread es6
    sl_exec (disch := first | sl_exact hc0 | sl_exact hc1 | sl_exact hc2 | sl_exact hc3)
    sl_step
    iapply Hk
    isplitl [Hi0 Hi1 Hi2 Hi3 Hi4 Hi5 Hi6 Hi7 Hi8 Hi9 Hi10 Hi11 Hi12 Hi13 Hi14 Hi15]
    · isplitl [Hi0]
      · iexists _; isplitr; · ipureintro; exact M.hi0.read_unread _
        iexact Hi0
      isplitl [Hi1]
      · iexists _; isplitr; · ipureintro; exact M.hi1.read_unread _
        iexact Hi1
      isplitl [Hi2]
      · iexists _; isplitr; · ipureintro; exact M.hi2.read_unread _
        iexact Hi2
      isplitl [Hi3]
      · iexists _; isplitr; · ipureintro; exact M.hi3.read_unread _
        iexact Hi3
      isplitl [Hi4]
      · iexists _; isplitr; · ipureintro; exact M.hi4.read_unread _
        iexact Hi4
      isplitl [Hi5]
      · iexists _; isplitr; · ipureintro; exact M.hi5.read_unread _
        iexact Hi5
      isplitl [Hi6]
      · iexists _; isplitr; · ipureintro; exact M.hi6.read_unread _
        iexact Hi6
      isplitl [Hi7]
      · iexists _; isplitr; · ipureintro; exact M.hi7.read_unread _
        iexact Hi7
      isplitl [Hi8]
      · iexists _; isplitr; · ipureintro; exact M.hi8.read_unread _
        iexact Hi8
      isplitl [Hi9]
      · iexists _; isplitr; · ipureintro; exact M.hi9.read_unread _
        iexact Hi9
      isplitl [Hi10]
      · iexists _; isplitr; · ipureintro; exact M.hi10.read_unread _
        iexact Hi10
      isplitl [Hi11]
      · iexists _; isplitr; · ipureintro; exact M.hi11.read_unread _
        iexact Hi11
      isplitl [Hi12]
      · iexists _; isplitr; · ipureintro; exact M.hi12.read_unread _
        iexact Hi12
      isplitl [Hi13]
      · iexists _; isplitr; · ipureintro; exact M.hi13.read_unread _
        iexact Hi13
      isplitl [Hi14]
      · iexists _; isplitr; · ipureintro; exact M.hi14.read_unread _
        iexact Hi14
      iexists _; isplitr; · ipureintro; exact M.hi15.read_unread _
      iexact Hi15
    isplitl [Ho16 Ho17 Ho18 Ho19 Ho20 Ho21 Ho22 Ho23 Ho24 Ho25 Ho26 Hs0 Hs1 Hs2 Hs3 Hs4 Hs5 Hs6 Hg2 Hg3 Hg4]
    · isplitl [Ho16]; · iexists _; iexact Ho16
      isplitl [Ho17]; · iexists _; iexact Ho17
      isplitl [Ho18]; · iexists _; iexact Ho18
      isplitl [Ho19]; · iexists _; iexact Ho19
      isplitl [Ho20]; · iexists _; iexact Ho20
      isplitl [Ho21]; · iexists _; iexact Ho21
      isplitl [Ho22]; · iexists _; iexact Ho22
      isplitl [Ho23]; · iexists _; iexact Ho23
      isplitl [Ho24]; · iexists _; iexact Ho24
      isplitl [Ho25]; · iexists _; iexact Ho25
      isplitl [Ho26]; · iexact Ho26
      isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexact Hs5
      isplitl [Hs6]; · iexact Hs6
      isplitl [Hg2]; · iexact Hg2
      isplitl [Hg3]; · iexact Hg3
      iexact Hg4
    isplitl [Hq0 Hq1 Hq2 Hq3 Hq4 Hw0 Hw1]
    · isplitl [Hq0]; · iexact Hq0
      isplitl [Hq1]; · iexact Hq1
      isplitl [Hq2]; · iexact Hq2
      isplitl [Hq3]; · iexact Hq3
      isplitl [Hq4]; · iexact Hq4
      isplitl [Hw0]; · iexact Hw0
      iexact Hw1
    iexists _; iexact HW

end Cert.KernelIdeal.Mix

end

end
-- ==== Proof.MixRunB.lean ====
module

public import proofs.«01_k».proof.Proof.MixBase

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body at the middle grid points: from the input blocks `X` and the other buffers at `S` it runs to its end, leaving
    the inputs as they were and the other buffers with the pieces found here. -/
def runB (c : Dev nD) (i : grid0.Coords) (M : Mems) (hc0 : ¬cond0_0 i) (hc1 : ¬cond0_1 i) (hc2 : ¬cond0_2 i) (hc3 : ¬cond0_3 i)
    (X : Ins F) (S : State F c) (w0 : HbBuf0 (F := F) c hbM0_0) (w1 : HbBuf0 (F := F) c hbM0_1) :
    { P : Pieces F c M // ∀ (W : Waits sig Unit) (K : PUnit → sProp 𝕄),
      iprop(InsAt c M X ∗ Held c M S ∗ Still c w0 w1 ∗ owes (c : Thread nD τ) 0 W
        ∗ (iprop(InsAt c M X ∗ Left c M P ∗ Still c w0 w1 ∗ (∃ W', owes (c : Thread nD τ) 0 W')) -∗ K ⟨⟩))
      ⊢ wp frame (wpE (defs₀ (F := F)) Variants.none c none) Set.univ
        (cc0_mix i M.i0 M.hi0 M.i1 M.hi1 M.i2 M.hi2 M.i3 M.hi3 M.i4 M.hi4 M.i5 M.hi5 (Memref.whole main_v8) (Memref.isWhole_whole _) (Memref.whole main_v11) (Memref.isWhole_whole _) M.i6 M.hi6 M.i7 M.hi7 M.i8 M.hi8 M.i9 M.hi9 M.i10 M.hi10 M.i11 M.hi11 M.i12 M.hi12 M.i13 M.hi13 M.i14 M.hi14 M.i15 M.hi15 M.o16 M.ho16 M.o17 M.ho17 M.o18 M.ho18 M.o19 M.ho19 M.o20 M.ho20 M.o21 M.ho21 M.o22 M.ho22 M.o23 M.ho23 M.o24 M.ho24 M.o25 M.ho25
    (Memref.whole main_v14_10) (Memref.isWhole_whole _) (Memref.whole main_v14_11) (Memref.isWhole_whole _) M.o26 M.ho26 (Memref.whole main_v14_13) (Memref.isWhole_whole _)
    M.s0 M.hs0 M.s1 M.hs1 M.s2 M.hs2 M.s3 M.hs3 M.s4 M.hs4 M.s5 M.hs5 M.s6 M.hs6 cc0_scratch7 cc0_scoped0 cc0_scoped1 cc0_scoped2) K } := by
  refine ⟨⟨?_, ?_, ?_, ?_, ?_, ?_, ?_, ?_, ?_, ?_, ?_, ?_, ?_, ?_, ?_, ?_, ?_, ?_, ?_, ?_, ?_⟩, fun W K => ?run⟩
  case run =>
    simp only [cc0_mix_eq_skeleton]; unfold cc0_mix_skel
    simp only [k0_part27_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold InsAt Held Still Left owns
    dsimp only
    iintro ⟨⟨⟨%fi0, %ei0, Hi0⟩, ⟨%fi1, %ei1, Hi1⟩, ⟨%fi2, %ei2, Hi2⟩, ⟨%fi3, %ei3, Hi3⟩, ⟨%fi4, %ei4, Hi4⟩, ⟨%fi5, %ei5, Hi5⟩, ⟨%fi6, %ei6, Hi6⟩, ⟨%fi7, %ei7, Hi7⟩, ⟨%fi8, %ei8, Hi8⟩, ⟨%fi9, %ei9, Hi9⟩, ⟨%fi10, %ei10, Hi10⟩, ⟨%fi11, %ei11, Hi11⟩, ⟨%fi12, %ei12, Hi12⟩, ⟨%fi13, %ei13, Hi13⟩, ⟨%fi14, %ei14, Hi14⟩, ⟨%fi15, %ei15, Hi15⟩⟩, ⟨⟨%fo16, %eo16, Ho16⟩, ⟨%fo17, %eo17, Ho17⟩, ⟨%fo18, %eo18, Ho18⟩, ⟨%fo19, %eo19, Ho19⟩, ⟨%fo20, %eo20, Ho20⟩, ⟨%fo21, %eo21, Ho21⟩, ⟨%fo22, %eo22, Ho22⟩, ⟨%fo23, %eo23, Ho23⟩, ⟨%fo24, %eo24, Ho24⟩, ⟨%fo25, %eo25, Ho25⟩, ⟨%fo26, %eo26, Ho26⟩, ⟨%fs0, %es0, Hs0⟩, ⟨%fs1, %es1, Hs1⟩, ⟨%fs2, %es2, Hs2⟩, ⟨%fs3, %es3, Hs3⟩, ⟨%fs4, %es4, Hs4⟩, ⟨%fs5, %es5, Hs5⟩, ⟨%fs6, %es6, Hs6⟩, Hg2, Hg3, Hg4⟩, ⟨Hq0, Hq1, Hq2, Hq3, Hq4, Hw0, Hw1⟩, HW, Hk⟩
    obtain rfl := M.hi0.eq_unread ei0; obtain rfl := M.hi1.eq_unread ei1; obtain rfl := M.hi2.eq_unread ei2; obtain rfl := M.hi3.eq_unread ei3; obtain rfl := M.hi4.eq_unread ei4; obtain rfl := M.hi5.eq_unread ei5; obtain rfl := M.hi6.eq_unread ei6; obtain rfl := M.hi7.eq_unread ei7; obtain rfl := M.hi8.eq_unread ei8; obtain rfl := M.hi9.eq_unread ei9; obtain rfl := M.hi10.eq_unread ei10; obtain rfl := M.hi11.eq_unread ei11; obtain rfl := M.hi12.eq_unread ei12; obtain rfl := M.hi13.eq_unread ei13; obtain rfl := M.hi14.eq_unread ei14; obtain rfl := M.hi15.eq_unread ei15; obtain rfl := M.ho16.eq_unread eo16; obtain rfl := M.ho17.eq_unread eo17; obtain rfl := M.ho18.eq_unread eo18; obtain rfl := M.ho19.eq_unread eo19; obtain rfl := M.ho20.eq_unread eo20; obtain rfl := M.ho21.eq_unread eo21; obtain rfl := M.ho22.eq_unread eo22; obtain rfl := M.ho23.eq_unread eo23; obtain rfl := M.ho24.eq_unread eo24; obtain rfl := M.ho25.eq_unread eo25; obtain rfl := M.ho26.eq_unread eo26; obtain rfl := M.hs0.eq_unread es0; obtain rfl := M.hs1.eq_unread es1; obtain rfl := M.hs2.eq_unread es2; obtain rfl := M.hs3.eq_unread es3; obtain rfl := M.hs4.eq_unread es4; obtain rfl := M.hs5.eq_unread es5; obtain rfl := M.hs6.eq_unread es6
    sl_exec (disch := first | sl_exact hc0 | sl_exact hc1 | sl_exact hc2 | sl_exact hc3)
    sl_step
    iapply Hk
    isplitl [Hi0 Hi1 Hi2 Hi3 Hi4 Hi5 Hi6 Hi7 Hi8 Hi9 Hi10 Hi11 Hi12 Hi13 Hi14 Hi15]
    · isplitl [Hi0]
      · iexists _; isplitr; · ipureintro; exact M.hi0.read_unread _
        iexact Hi0
      isplitl [Hi1]
      · iexists _; isplitr; · ipureintro; exact M.hi1.read_unread _
        iexact Hi1
      isplitl [Hi2]
      · iexists _; isplitr; · ipureintro; exact M.hi2.read_unread _
        iexact Hi2
      isplitl [Hi3]
      · iexists _; isplitr; · ipureintro; exact M.hi3.read_unread _
        iexact Hi3
      isplitl [Hi4]
      · iexists _; isplitr; · ipureintro; exact M.hi4.read_unread _
        iexact Hi4
      isplitl [Hi5]
      · iexists _; isplitr; · ipureintro; exact M.hi5.read_unread _
        iexact Hi5
      isplitl [Hi6]
      · iexists _; isplitr; · ipureintro; exact M.hi6.read_unread _
        iexact Hi6
      isplitl [Hi7]
      · iexists _; isplitr; · ipureintro; exact M.hi7.read_unread _
        iexact Hi7
      isplitl [Hi8]
      · iexists _; isplitr; · ipureintro; exact M.hi8.read_unread _
        iexact Hi8
      isplitl [Hi9]
      · iexists _; isplitr; · ipureintro; exact M.hi9.read_unread _
        iexact Hi9
      isplitl [Hi10]
      · iexists _; isplitr; · ipureintro; exact M.hi10.read_unread _
        iexact Hi10
      isplitl [Hi11]
      · iexists _; isplitr; · ipureintro; exact M.hi11.read_unread _
        iexact Hi11
      isplitl [Hi12]
      · iexists _; isplitr; · ipureintro; exact M.hi12.read_unread _
        iexact Hi12
      isplitl [Hi13]
      · iexists _; isplitr; · ipureintro; exact M.hi13.read_unread _
        iexact Hi13
      isplitl [Hi14]
      · iexists _; isplitr; · ipureintro; exact M.hi14.read_unread _
        iexact Hi14
      iexists _; isplitr; · ipureintro; exact M.hi15.read_unread _
      iexact Hi15
    isplitl [Ho16 Ho17 Ho18 Ho19 Ho20 Ho21 Ho22 Ho23 Ho24 Ho25 Ho26 Hs0 Hs1 Hs2 Hs3 Hs4 Hs5 Hs6 Hg2 Hg3 Hg4]
    · isplitl [Ho16]; · iexists _; iexact Ho16
      isplitl [Ho17]; · iexists _; iexact Ho17
      isplitl [Ho18]; · iexists _; iexact Ho18
      isplitl [Ho19]; · iexists _; iexact Ho19
      isplitl [Ho20]; · iexists _; iexact Ho20
      isplitl [Ho21]; · iexists _; iexact Ho21
      isplitl [Ho22]; · iexists _; iexact Ho22
      isplitl [Ho23]; · iexists _; iexact Ho23
      isplitl [Ho24]; · iexists _; iexact Ho24
      isplitl [Ho25]; · iexists _; iexact Ho25
      isplitl [Ho26]; · iexact Ho26
      isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexact Hs5
      isplitl [Hs6]; · iexact Hs6
      isplitl [Hg2]; · iexact Hg2
      isplitl [Hg3]; · iexact Hg3
      iexact Hg4
    isplitl [Hq0 Hq1 Hq2 Hq3 Hq4 Hw0 Hw1]
    · isplitl [Hq0]; · iexact Hq0
      isplitl [Hq1]; · iexact Hq1
      isplitl [Hq2]; · iexact Hq2
      isplitl [Hq3]; · iexact Hq3
      isplitl [Hq4]; · iexact Hq4
      isplitl [Hw0]; · iexact Hw0
      iexact Hw1
    iexists _; iexact HW

end Cert.KernelIdeal.Mix

end

end
-- ==== Proof.MixRunC.lean ====
module

public import proofs.«01_k».proof.Proof.MixBase

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body at the last grid point: from the input blocks `X` and the other buffers at `S` it runs to its end, leaving
    the inputs as they were and the other buffers with the pieces found here. -/
def runC (c : Dev nD) (i : grid0.Coords) (M : Mems) (hc0 : ¬cond0_0 i) (hc1 : ¬cond0_1 i) (hc2 : ¬cond0_2 i) (hc3 : cond0_3 i)
    (X : Ins F) (S : State F c) (w0 : HbBuf0 (F := F) c hbM0_0) (w1 : HbBuf0 (F := F) c hbM0_1) :
    { P : Pieces F c M // ∀ (W : Waits sig Unit) (K : PUnit → sProp 𝕄),
      iprop(InsAt c M X ∗ Held c M S ∗ Still c w0 w1 ∗ owes (c : Thread nD τ) 0 W
        ∗ (iprop(InsAt c M X ∗ Left c M P ∗ Still c w0 w1 ∗ (∃ W', owes (c : Thread nD τ) 0 W')) -∗ K ⟨⟩))
      ⊢ wp frame (wpE (defs₀ (F := F)) Variants.none c none) Set.univ
        (cc0_mix i M.i0 M.hi0 M.i1 M.hi1 M.i2 M.hi2 M.i3 M.hi3 M.i4 M.hi4 M.i5 M.hi5 (Memref.whole main_v8) (Memref.isWhole_whole _) (Memref.whole main_v11) (Memref.isWhole_whole _) M.i6 M.hi6 M.i7 M.hi7 M.i8 M.hi8 M.i9 M.hi9 M.i10 M.hi10 M.i11 M.hi11 M.i12 M.hi12 M.i13 M.hi13 M.i14 M.hi14 M.i15 M.hi15 M.o16 M.ho16 M.o17 M.ho17 M.o18 M.ho18 M.o19 M.ho19 M.o20 M.ho20 M.o21 M.ho21 M.o22 M.ho22 M.o23 M.ho23 M.o24 M.ho24 M.o25 M.ho25
    (Memref.whole main_v14_10) (Memref.isWhole_whole _) (Memref.whole main_v14_11) (Memref.isWhole_whole _) M.o26 M.ho26 (Memref.whole main_v14_13) (Memref.isWhole_whole _)
    M.s0 M.hs0 M.s1 M.hs1 M.s2 M.hs2 M.s3 M.hs3 M.s4 M.hs4 M.s5 M.hs5 M.s6 M.hs6 cc0_scratch7 cc0_scoped0 cc0_scoped1 cc0_scoped2) K } := by
  refine ⟨⟨?_, ?_, ?_, ?_, ?_, ?_, ?_, ?_, ?_, ?_, ?_, ?_, ?_, ?_, ?_, ?_, ?_, ?_, ?_, ?_, ?_⟩, fun W K => ?run⟩
  case run =>
    simp only [cc0_mix_eq_skeleton]; unfold cc0_mix_skel
    simp only [k0_part27_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part2_eq_skeleton, k0_part3_eq_skeleton, k0_part4_eq_skeleton]
    unfold InsAt Held Still Left owns
    dsimp only
    iintro ⟨⟨⟨%fi0, %ei0, Hi0⟩, ⟨%fi1, %ei1, Hi1⟩, ⟨%fi2, %ei2, Hi2⟩, ⟨%fi3, %ei3, Hi3⟩, ⟨%fi4, %ei4, Hi4⟩, ⟨%fi5, %ei5, Hi5⟩, ⟨%fi6, %ei6, Hi6⟩, ⟨%fi7, %ei7, Hi7⟩, ⟨%fi8, %ei8, Hi8⟩, ⟨%fi9, %ei9, Hi9⟩, ⟨%fi10, %ei10, Hi10⟩, ⟨%fi11, %ei11, Hi11⟩, ⟨%fi12, %ei12, Hi12⟩, ⟨%fi13, %ei13, Hi13⟩, ⟨%fi14, %ei14, Hi14⟩, ⟨%fi15, %ei15, Hi15⟩⟩, ⟨⟨%fo16, %eo16, Ho16⟩, ⟨%fo17, %eo17, Ho17⟩, ⟨%fo18, %eo18, Ho18⟩, ⟨%fo19, %eo19, Ho19⟩, ⟨%fo20, %eo20, Ho20⟩, ⟨%fo21, %eo21, Ho21⟩, ⟨%fo22, %eo22, Ho22⟩, ⟨%fo23, %eo23, Ho23⟩, ⟨%fo24, %eo24, Ho24⟩, ⟨%fo25, %eo25, Ho25⟩, ⟨%fo26, %eo26, Ho26⟩, ⟨%fs0, %es0, Hs0⟩, ⟨%fs1, %es1, Hs1⟩, ⟨%fs2, %es2, Hs2⟩, ⟨%fs3, %es3, Hs3⟩, ⟨%fs4, %es4, Hs4⟩, ⟨%fs5, %es5, Hs5⟩, ⟨%fs6, %es6, Hs6⟩, Hg2, Hg3, Hg4⟩, ⟨Hq0, Hq1, Hq2, Hq3, Hq4, Hw0, Hw1⟩, HW, Hk⟩
    obtain rfl := M.hi0.eq_unread ei0; obtain rfl := M.hi1.eq_unread ei1; obtain rfl := M.hi2.eq_unread ei2; obtain rfl := M.hi3.eq_unread ei3; obtain rfl := M.hi4.eq_unread ei4; obtain rfl := M.hi5.eq_unread ei5; obtain rfl := M.hi6.eq_unread ei6; obtain rfl := M.hi7.eq_unread ei7; obtain rfl := M.hi8.eq_unread ei8; obtain rfl := M.hi9.eq_unread ei9; obtain rfl := M.hi10.eq_unread ei10; obtain rfl := M.hi11.eq_unread ei11; obtain rfl := M.hi12.eq_unread ei12; obtain rfl := M.hi13.eq_unread ei13; obtain rfl := M.hi14.eq_unread ei14; obtain rfl := M.hi15.eq_unread ei15; obtain rfl := M.ho16.eq_unread eo16; obtain rfl := M.ho17.eq_unread eo17; obtain rfl := M.ho18.eq_unread eo18; obtain rfl := M.ho19.eq_unread eo19; obtain rfl := M.ho20.eq_unread eo20; obtain rfl := M.ho21.eq_unread eo21; obtain rfl := M.ho22.eq_unread eo22; obtain rfl := M.ho23.eq_unread eo23; obtain rfl := M.ho24.eq_unread eo24; obtain rfl := M.ho25.eq_unread eo25; obtain rfl := M.ho26.eq_unread eo26; obtain rfl := M.hs0.eq_unread es0; obtain rfl := M.hs1.eq_unread es1; obtain rfl := M.hs2.eq_unread es2; obtain rfl := M.hs3.eq_unread es3; obtain rfl := M.hs4.eq_unread es4; obtain rfl := M.hs5.eq_unread es5; obtain rfl := M.hs6.eq_unread es6
    sl_exec (disch := first | sl_exact hc0 | sl_exact hc1 | sl_exact hc2 | sl_exact hc3)
    sl_step
    iapply Hk
    isplitl [Hi0 Hi1 Hi2 Hi3 Hi4 Hi5 Hi6 Hi7 Hi8 Hi9 Hi10 Hi11 Hi12 Hi13 Hi14 Hi15]
    · isplitl [Hi0]
      · iexists _; isplitr; · ipureintro; exact M.hi0.read_unread _
        iexact Hi0
      isplitl [Hi1]
      · iexists _; isplitr; · ipureintro; exact M.hi1.read_unread _
        iexact Hi1
      isplitl [Hi2]
      · iexists _; isplitr; · ipureintro; exact M.hi2.read_unread _
        iexact Hi2
      isplitl [Hi3]
      · iexists _; isplitr; · ipureintro; exact M.hi3.read_unread _
        iexact Hi3
      isplitl [Hi4]
      · iexists _; isplitr; · ipureintro; exact M.hi4.read_unread _
        iexact Hi4
      isplitl [Hi5]
      · iexists _; isplitr; · ipureintro; exact M.hi5.read_unread _
        iexact Hi5
      isplitl [Hi6]
      · iexists _; isplitr; · ipureintro; exact M.hi6.read_unread _
        iexact Hi6
      isplitl [Hi7]
      · iexists _; isplitr; · ipureintro; exact M.hi7.read_unread _
        iexact Hi7
      isplitl [Hi8]
      · iexists _; isplitr; · ipureintro; exact M.hi8.read_unread _
        iexact Hi8
      isplitl [Hi9]
      · iexists _; isplitr; · ipureintro; exact M.hi9.read_unread _
        iexact Hi9
      isplitl [Hi10]
      · iexists _; isplitr; · ipureintro; exact M.hi10.read_unread _
        iexact Hi10
      isplitl [Hi11]
      · iexists _; isplitr; · ipureintro; exact M.hi11.read_unread _
        iexact Hi11
      isplitl [Hi12]
      · iexists _; isplitr; · ipureintro; exact M.hi12.read_unread _
        iexact Hi12
      isplitl [Hi13]
      · iexists _; isplitr; · ipureintro; exact M.hi13.read_unread _
        iexact Hi13
      isplitl [Hi14]
      · iexists _; isplitr; · ipureintro; exact M.hi14.read_unread _
        iexact Hi14
      iexists _; isplitr; · ipureintro; exact M.hi15.read_unread _
      iexact Hi15
    isplitl [Ho16 Ho17 Ho18 Ho19 Ho20 Ho21 Ho22 Ho23 Ho24 Ho25 Ho26 Hs0 Hs1 Hs2 Hs3 Hs4 Hs5 Hs6 Hg2 Hg3 Hg4]
    · isplitl [Ho16]; · iexists _; iexact Ho16
      isplitl [Ho17]; · iexists _; iexact Ho17
      isplitl [Ho18]; · iexists _; iexact Ho18
      isplitl [Ho19]; · iexists _; iexact Ho19
      isplitl [Ho20]; · iexists _; iexact Ho20
      isplitl [Ho21]; · iexists _; iexact Ho21
      isplitl [Ho22]; · iexists _; iexact Ho22
      isplitl [Ho23]; · iexists _; iexact Ho23
      isplitl [Ho24]; · iexists _; iexact Ho24
      isplitl [Ho25]; · iexists _; iexact Ho25
      isplitl [Ho26]; · iexact Ho26
      isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexact Hs5
      isplitl [Hs6]; · iexact Hs6
      isplitl [Hg2]; · iexact Hg2
      isplitl [Hg3]; · iexact Hg3
      iexact Hg4
    isplitl [Hq0 Hq1 Hq2 Hq3 Hq4 Hw0 Hw1]
    · isplitl [Hq0]; · iexact Hq0
      isplitl [Hq1]; · iexact Hq1
      isplitl [Hq2]; · iexact Hq2
      isplitl [Hq3]; · iexact Hq3
      isplitl [Hq4]; · iexact Hq4
      isplitl [Hw0]; · iexact Hw0
      iexact Hw1
    iexists _; iexact HW

end Cert.KernelIdeal.Mix

end

end
-- ==== Proof.MixStep.lean ====
module

public import proofs.«01_k».proof.Proof.MixRunA
public import proofs.«01_k».proof.Proof.MixRunB
public import proofs.«01_k».proof.Proof.MixRunC

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The pieces cover the buffers they are stored into. -/
structure Pieces.Full {c : Dev nD} {M : Mems} (P : Pieces F c M) : Prop where
  o16 : ∀ y, ∃ p ∈ P.o16, y ∈ p.1.set
  o17 : ∀ y, ∃ p ∈ P.o17, y ∈ p.1.set
  o18 : ∀ y, ∃ p ∈ P.o18, y ∈ p.1.set
  o19 : ∀ y, ∃ p ∈ P.o19, y ∈ p.1.set
  o20 : ∀ y, ∃ p ∈ P.o20, y ∈ p.1.set
  o21 : ∀ y, ∃ p ∈ P.o21, y ∈ p.1.set
  o22 : ∀ y, ∃ p ∈ P.o22, y ∈ p.1.set
  o23 : ∀ y, ∃ p ∈ P.o23, y ∈ p.1.set
  o24 : ∀ y, ∃ p ∈ P.o24, y ∈ p.1.set
  o25 : ∀ y, ∃ p ∈ P.o25, y ∈ p.1.set
  s0 : ∀ y, ∃ p ∈ P.s0, y ∈ p.1.set
  s1 : ∀ y, ∃ p ∈ P.s1, y ∈ p.1.set
  s2 : ∀ y, ∃ p ∈ P.s2, y ∈ p.1.set
  s3 : ∀ y, ∃ p ∈ P.s3, y ∈ p.1.set
  s4 : ∀ y, ∃ p ∈ P.s4, y ∈ p.1.set

/-- The contents the pieces amount to. -/
def Pieces.state {c : Dev nD} {M : Mems} (P : Pieces F c M) : State F c where
  o16 := VO0_16.read (Elt F) (VO0_16.writes (Elt F) VO0_16.junk P.o16)
  o17 := VO0_17.read (Elt F) (VO0_17.writes (Elt F) VO0_17.junk P.o17)
  o18 := VO0_18.read (Elt F) (VO0_18.writes (Elt F) VO0_18.junk P.o18)
  o19 := VO0_19.read (Elt F) (VO0_19.writes (Elt F) VO0_19.junk P.o19)
  o20 := VO0_20.read (Elt F) (VO0_20.writes (Elt F) VO0_20.junk P.o20)
  o21 := VO0_21.read (Elt F) (VO0_21.writes (Elt F) VO0_21.junk P.o21)
  o22 := VO0_22.read (Elt F) (VO0_22.writes (Elt F) VO0_22.junk P.o22)
  o23 := VO0_23.read (Elt F) (VO0_23.writes (Elt F) VO0_23.junk P.o23)
  o24 := VO0_24.read (Elt F) (VO0_24.writes (Elt F) VO0_24.junk P.o24)
  o25 := VO0_25.read (Elt F) (VO0_25.writes (Elt F) VO0_25.junk P.o25)
  o26 := M.o26.view.read (Elt F) P.o26
  s0 := VS0_0.read (Elt F) (VS0_0.writes (Elt F) VS0_0.junk P.s0)
  s1 := VS0_1.read (Elt F) (VS0_1.writes (Elt F) VS0_1.junk P.s1)
  s2 := VS0_2.read (Elt F) (VS0_2.writes (Elt F) VS0_2.junk P.s2)
  s3 := VS0_3.read (Elt F) (VS0_3.writes (Elt F) VS0_3.junk P.s3)
  s4 := VS0_4.read (Elt F) (VS0_4.writes (Elt F) VS0_4.junk P.s4)
  s5 := M.s5.view.read (Elt F) P.s5
  s6 := M.s6.view.read (Elt F) P.s6
  g2 := P.g2
  g3 := P.g3
  g4 := P.g4

/-- Pieces that cover their buffers leave them at the contents they amount to. -/
theorem left_held (c : Dev nD) (M : Mems) (P : Pieces F c M) (h : P.Full) : Left c M P ⊢ Held c M P.state := by
  unfold Left Held owns Pieces.state
  dsimp only
  iintro ⟨⟨%fo16, Ho16⟩, ⟨%fo17, Ho17⟩, ⟨%fo18, Ho18⟩, ⟨%fo19, Ho19⟩, ⟨%fo20, Ho20⟩, ⟨%fo21, Ho21⟩, ⟨%fo22, Ho22⟩, ⟨%fo23, Ho23⟩, ⟨%fo24, Ho24⟩, ⟨%fo25, Ho25⟩, Ho26, ⟨%fs0, Hs0⟩, ⟨%fs1, Hs1⟩, ⟨%fs2, Hs2⟩, ⟨%fs3, Hs3⟩, ⟨%fs4, Hs4⟩, Hs5, Hs6, Hg2, Hg3, Hg4⟩
  isplitl [Ho16]
  · iexists _; isplitr [Ho16]; rotate_left; · iexact Ho16
    ipureintro; exact View.read_writes_of_cover _ _ _ _ _ h.o16
  isplitl [Ho17]
  · iexists _; isplitr [Ho17]; rotate_left; · iexact Ho17
    ipureintro; exact View.read_writes_of_cover _ _ _ _ _ h.o17
  isplitl [Ho18]
  · iexists _; isplitr [Ho18]; rotate_left; · iexact Ho18
    ipureintro; exact View.read_writes_of_cover _ _ _ _ _ h.o18
  isplitl [Ho19]
  · iexists _; isplitr [Ho19]; rotate_left; · iexact Ho19
    ipureintro; exact View.read_writes_of_cover _ _ _ _ _ h.o19
  isplitl [Ho20]
  · iexists _; isplitr [Ho20]; rotate_left; · iexact Ho20
    ipureintro; exact View.read_writes_of_cover _ _ _ _ _ h.o20
  isplitl [Ho21]
  · iexists _; isplitr [Ho21]; rotate_left; · iexact Ho21
    ipureintro; exact View.read_writes_of_cover _ _ _ _ _ h.o21
  isplitl [Ho22]
  · iexists _; isplitr [Ho22]; rotate_left; · iexact Ho22
    ipureintro; exact View.read_writes_of_cover _ _ _ _ _ h.o22
  isplitl [Ho23]
  · iexists _; isplitr [Ho23]; rotate_left; · iexact Ho23
    ipureintro; exact View.read_writes_of_cover _ _ _ _ _ h.o23
  isplitl [Ho24]
  · iexists _; isplitr [Ho24]; rotate_left; · iexact Ho24
    ipureintro; exact View.read_writes_of_cover _ _ _ _ _ h.o24
  isplitl [Ho25]
  · iexists _; isplitr [Ho25]; rotate_left; · iexact Ho25
    ipureintro; exact View.read_writes_of_cover _ _ _ _ _ h.o25
  isplitl [Ho26]
  · iexists _; isplitr [Ho26]; rotate_left; · iexact Ho26
    ipureintro; rfl
  isplitl [Hs0]
  · iexists _; isplitr [Hs0]; rotate_left; · iexact Hs0
    ipureintro; exact View.read_writes_of_cover _ _ _ _ _ h.s0
  isplitl [Hs1]
  · iexists _; isplitr [Hs1]; rotate_left; · iexact Hs1
    ipureintro; exact View.read_writes_of_cover _ _ _ _ _ h.s1
  isplitl [Hs2]
  · iexists _; isplitr [Hs2]; rotate_left; · iexact Hs2
    ipureintro; exact View.read_writes_of_cover _ _ _ _ _ h.s2
  isplitl [Hs3]
  · iexists _; isplitr [Hs3]; rotate_left; · iexact Hs3
    ipureintro; exact View.read_writes_of_cover _ _ _ _ _ h.s3
  isplitl [Hs4]
  · iexists _; isplitr [Hs4]; rotate_left; · iexact Hs4
    ipureintro; exact View.read_writes_of_cover _ _ _ _ _ h.s4
  isplitl [Hs5]
  · iexists _; isplitr [Hs5]; rotate_left; · iexact Hs5
    ipureintro; rfl
  isplitl [Hs6]
  · iexists _; isplitr [Hs6]; rotate_left; · iexact Hs6
    ipureintro; rfl
  isplitl [Hg2]; · iexact Hg2
  isplitl [Hg3]; · iexact Hg3
  iexact Hg4

/-- A state of which only the three copied results matter. -/
def State.blank (c : Dev nD) (g2 : HbBuf0 (F := F) c hbM0_2) (g3 : HbBuf0 (F := F) c hbM0_3) (g4 : HbBuf0 (F := F) c hbM0_4) : State F c where
  o16 := VO0_16.read (Elt F) VO0_16.junk
  o17 := VO0_17.read (Elt F) VO0_17.junk
  o18 := VO0_18.read (Elt F) VO0_18.junk
  o19 := VO0_19.read (Elt F) VO0_19.junk
  o20 := VO0_20.read (Elt F) VO0_20.junk
  o21 := VO0_21.read (Elt F) VO0_21.junk
  o22 := VO0_22.read (Elt F) VO0_22.junk
  o23 := VO0_23.read (Elt F) VO0_23.junk
  o24 := VO0_24.read (Elt F) VO0_24.junk
  o25 := VO0_25.read (Elt F) VO0_25.junk
  o26 := VO0_26.read (Elt F) VO0_26.junk
  s0 := VS0_0.read (Elt F) VS0_0.junk
  s1 := VS0_1.read (Elt F) VS0_1.junk
  s2 := VS0_2.read (Elt F) VS0_2.junk
  s3 := VS0_3.read (Elt F) VS0_3.junk
  s4 := VS0_4.read (Elt F) VS0_4.junk
  s5 := VS0_5.read (Elt F) VS0_5.junk
  s6 := VS0_6.read (Elt F) VS0_6.junk
  g2 := g2
  g3 := g3
  g4 := g4

section Steps
variable (c : Dev nD) (i : grid0.Coords) (M : Mems) (X : Ins F) (S : State F c)
  (w0 : HbBuf0 (F := F) c hbM0_0) (w1 : HbBuf0 (F := F) c hbM0_1)

theorem fullA (hc0 : cond0_0 i) (hc1 : cond0_1 i) (hc2 : cond0_2 i) (hc3 : ¬cond0_3 i) : (runA c i M hc0 hc1 hc2 hc3 X S w0 w1).1.Full where
  o16 := View.cover_of_tiledL _ S128x1024.size (by sl_kernel_rfl)
  o17 := View.cover_of_tiledL _ S128x2048.size (by sl_kernel_rfl)
  o18 := View.cover_of_tiledL _ S128x2048.size (by sl_kernel_rfl)
  o19 := View.cover_of_tiledL _ S128x7168.size (by sl_kernel_rfl)
  o20 := View.cover_of_tiledL _ S1x128.size (by sl_kernel_rfl)
  o21 := View.cover_of_tiledL _ S1x2048.size (by sl_kernel_rfl)
  o22 := View.cover_of_tiledL _ S1x3072.size (by sl_kernel_rfl)
  o23 := View.cover_of_tiledL _ S1x1024.size (by sl_kernel_rfl)
  o24 := View.cover_of_tiledL _ S1x1024.size (by sl_kernel_rfl)
  o25 := View.cover_of_tiledL _ S1x1024.size (by sl_kernel_rfl)
  s0 := View.cover_of_tiledL _ S16x1024.size (by sl_kernel_rfl)
  s1 := View.cover_of_tiledL _ S128x1024.size (by sl_kernel_rfl)
  s2 := View.cover_of_wholeMem _ (by sl_whole_mem)
  s3 := View.cover_of_wholeMem _ (by sl_whole_mem)
  s4 := View.cover_of_wholeMem _ (by sl_whole_mem)

theorem s5_A (hc0 : cond0_0 i) (hc1 : cond0_1 i) (hc2 : cond0_2 i) (hc3 : ¬cond0_3 i) : M.s5.view.read (Elt F) (runA c i M hc0 hc1 hc2 hc3 X S w0 w1).1.s5 = VS0_5.read (Elt F) (VS0_5.writes (Elt F) VS0_5.junk [⟨Rect.whole S3072x2048, runA.sl.dma0 c w0⟩]) := by
  unfold runA
  dsimp only
  exact View.read_writes_of_cover _ _ _ _ _ (View.cover_of_tiledL _ S3072x2048.size (by sl_kernel_rfl))

theorem s6_A (hc0 : cond0_0 i) (hc1 : cond0_1 i) (hc2 : cond0_2 i) (hc3 : ¬cond0_3 i) : M.s6.view.read (Elt F) (runA c i M hc0 hc1 hc2 hc3 X S w0 w1).1.s6 = VS0_6.read (Elt F) (VS0_6.writes (Elt F) VS0_6.junk [⟨Rect.whole S2048x3072, runA.sl.dma0_1 c w1⟩]) := by
  unfold runA
  dsimp only
  exact View.read_writes_of_cover _ _ _ _ _ (View.cover_of_tiledL _ S2048x3072.size (by sl_kernel_rfl))

theorem o26_A (hc0 : cond0_0 i) (hc1 : cond0_1 i) (hc2 : cond0_2 i) (hc3 : ¬cond0_3 i) : M.o26.view.read (Elt F) (runA c i M hc0 hc1 hc2 hc3 X S w0 w1).1.o26 = S.o26 := by
  unfold runA
  dsimp only
  exact M.ho26.read_unread _

theorem fullB (hc0 : ¬cond0_0 i) (hc1 : ¬cond0_1 i) (hc2 : ¬cond0_2 i) (hc3 : ¬cond0_3 i) : (runB c i M hc0 hc1 hc2 hc3 X S w0 w1).1.Full where
  o16 := View.cover_of_tiledL _ S128x1024.size (by sl_kernel_rfl)
  o17 := View.cover_of_tiledL _ S128x2048.size (by sl_kernel_rfl)
  o18 := View.cover_of_tiledL _ S128x2048.size (by sl_kernel_rfl)
  o19 := View.cover_of_tiledL _ S128x7168.size (by sl_kernel_rfl)
  o20 := View.cover_of_tiledL _ S1x128.size (by sl_kernel_rfl)
  o21 := View.cover_of_tiledL _ S1x2048.size (by sl_kernel_rfl)
  o22 := View.cover_of_tiledL _ S1x3072.size (by sl_kernel_rfl)
  o23 := View.cover_of_tiledL _ S1x1024.size (by sl_kernel_rfl)
  o24 := View.cover_of_tiledL _ S1x1024.size (by sl_kernel_rfl)
  o25 := View.cover_of_tiledL _ S1x1024.size (by sl_kernel_rfl)
  s0 := View.cover_of_tiledL _ S16x1024.size (by sl_kernel_rfl)
  s1 := View.cover_of_tiledL _ S128x1024.size (by sl_kernel_rfl)
  s2 := View.cover_of_tiledL _ S1x256x256.size (by sl_kernel_rfl)
  s3 := View.cover_of_tiledL _ S1x128x128.size (by sl_kernel_rfl)
  s4 := View.cover_of_tiledL _ S256x256.size (by sl_kernel_rfl)

theorem o26_B (hc0 : ¬cond0_0 i) (hc1 : ¬cond0_1 i) (hc2 : ¬cond0_2 i) (hc3 : ¬cond0_3 i) : M.o26.view.read (Elt F) (runB c i M hc0 hc1 hc2 hc3 X S w0 w1).1.o26 = S.o26 := by
  unfold runB
  dsimp only
  exact M.ho26.read_unread _

theorem s5_B (hc0 : ¬cond0_0 i) (hc1 : ¬cond0_1 i) (hc2 : ¬cond0_2 i) (hc3 : ¬cond0_3 i) : M.s5.view.read (Elt F) (runB c i M hc0 hc1 hc2 hc3 X S w0 w1).1.s5 = S.s5 := by
  unfold runB
  dsimp only
  exact M.hs5.read_unread _

theorem s6_B (hc0 : ¬cond0_0 i) (hc1 : ¬cond0_1 i) (hc2 : ¬cond0_2 i) (hc3 : ¬cond0_3 i) : M.s6.view.read (Elt F) (runB c i M hc0 hc1 hc2 hc3 X S w0 w1).1.s6 = S.s6 := by
  unfold runB
  dsimp only
  exact M.hs6.read_unread _

theorem fullC (hc0 : ¬cond0_0 i) (hc1 : ¬cond0_1 i) (hc2 : ¬cond0_2 i) (hc3 : cond0_3 i) : (runC c i M hc0 hc1 hc2 hc3 X S w0 w1).1.Full where
  o16 := View.cover_of_tiledL _ S128x1024.size (by sl_kernel_rfl)
  o17 := View.cover_of_tiledL _ S128x2048.size (by sl_kernel_rfl)
  o18 := View.cover_of_tiledL _ S128x2048.size (by sl_kernel_rfl)
  o19 := View.cover_of_tiledL _ S128x7168.size (by sl_kernel_rfl)
  o20 := View.cover_of_tiledL _ S1x128.size (by sl_kernel_rfl)
  o21 := View.cover_of_tiledL _ S1x2048.size (by sl_kernel_rfl)
  o22 := View.cover_of_tiledL _ S1x3072.size (by sl_kernel_rfl)
  o23 := View.cover_of_tiledL _ S1x1024.size (by sl_kernel_rfl)
  o24 := View.cover_of_tiledL _ S1x1024.size (by sl_kernel_rfl)
  o25 := View.cover_of_tiledL _ S1x1024.size (by sl_kernel_rfl)
  s0 := View.cover_of_tiledL _ S16x1024.size (by sl_kernel_rfl)
  s1 := View.cover_of_tiledL _ S128x1024.size (by sl_kernel_rfl)
  s2 := View.cover_of_tiledL _ S1x256x256.size (by sl_kernel_rfl)
  s3 := View.cover_of_tiledL _ S1x128x128.size (by sl_kernel_rfl)
  s4 := View.cover_of_tiledL _ S256x256.size (by sl_kernel_rfl)

theorem s5_C (hc0 : ¬cond0_0 i) (hc1 : ¬cond0_1 i) (hc2 : ¬cond0_2 i) (hc3 : cond0_3 i) : M.s5.view.read (Elt F) (runC c i M hc0 hc1 hc2 hc3 X S w0 w1).1.s5 = S.s5 := by
  unfold runC
  dsimp only
  exact M.hs5.read_unread _

theorem s6_C (hc0 : ¬cond0_0 i) (hc1 : ¬cond0_1 i) (hc2 : ¬cond0_2 i) (hc3 : cond0_3 i) : M.s6.view.read (Elt F) (runC c i M hc0 hc1 hc2 hc3 X S w0 w1).1.s6 = S.s6 := by
  unfold runC
  dsimp only
  exact M.hs6.read_unread _

/-- The first point's result does not depend on what the buffers held before. -/
theorem state_A (hc0 : cond0_0 i) (hc1 : cond0_1 i) (hc2 : cond0_2 i) (hc3 : ¬cond0_3 i) :
    (runA c i M hc0 hc1 hc2 hc3 X S w0 w1).1.state
      = { (runA c i M hc0 hc1 hc2 hc3 X (State.blank c S.g2 S.g3 S.g4) w0 w1).1.state with o26 := S.o26 } := by
  unfold Pieces.state
  rw [s5_A, s6_A, s5_A, s6_A, o26_A]
  sl_kernel_rfl

/-- A middle point's result depends on the state before it only through what the body carries. -/
theorem state_B (hc0 : ¬cond0_0 i) (hc1 : ¬cond0_1 i) (hc2 : ¬cond0_2 i) (hc3 : ¬cond0_3 i)
    (a : Vec F S128x3072 .bf16) (b : Vec F S128x2048 .bf16) (d : Vec F S128x2048 .f32) (e : Vec F S128x7168 .bf16) (f : Vec F S8x128 .f32) :
    (runB c i M hc0 hc1 hc2 hc3 X { S with o16 := a, o17 := b, o18 := d, o19 := e, o26 := f } w0 w1).1.state
      = { (runB c i M hc0 hc1 hc2 hc3 X S w0 w1).1.state with o26 := f } := by
  unfold Pieces.state
  rw [s5_B, s6_B, s5_B, s6_B, o26_B]
  sl_kernel_rfl

theorem o26_C (hc0 : ¬cond0_0 i) (hc1 : ¬cond0_1 i) (hc2 : ¬cond0_2 i) (hc3 : cond0_3 i)
    (a : Vec F S128x3072 .bf16) (b : Vec F S128x2048 .bf16) (d : Vec F S128x2048 .f32) (e : Vec F S128x7168 .bf16) (f : Vec F S8x128 .f32) :
    M.o26.view.read (Elt F) (runC c i M hc0 hc1 hc2 hc3 X { S with o16 := a, o17 := b, o18 := d, o19 := e, o26 := f } w0 w1).1.o26
      = M.o26.view.read (Elt F) (runC c i M hc0 hc1 hc2 hc3 X S w0 w1).1.o26 := by
  unfold runC
  dsimp only
  refine (View.read_writes_eq_canon _ _ _ ?_).trans (Eq.trans ?_ (View.read_writes_eq_canon _ _ _ ?_).symm)
  · exact View.cover_of_tiledL _ S1x128.size (by sl_kernel_rfl)
  · sl_kernel_rfl
  · exact View.cover_of_tiledL _ S1x128.size (by sl_kernel_rfl)

theorem state_C (hc0 : ¬cond0_0 i) (hc1 : ¬cond0_1 i) (hc2 : ¬cond0_2 i) (hc3 : cond0_3 i)
    (a : Vec F S128x3072 .bf16) (b : Vec F S128x2048 .bf16) (d : Vec F S128x2048 .f32) (e : Vec F S128x7168 .bf16) (f : Vec F S8x128 .f32) :
    (runC c i M hc0 hc1 hc2 hc3 X { S with o16 := a, o17 := b, o18 := d, o19 := e, o26 := f } w0 w1).1.state
      = (runC c i M hc0 hc1 hc2 hc3 X S w0 w1).1.state := by
  unfold Pieces.state
  rw [s5_C, s6_C, s5_C, s6_C, o26_C]
  sl_kernel_rfl

end Steps

end Cert.KernelIdeal.Mix

end

end
-- ==== Proof.MixFrame.lean ====
module

public import Idealize.ShloMosaic.Lib.Claim
public import proofs.«01_k».proof.Proof.MixStep

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers of grid point `t`. -/
abbrev mems (t : Fin cfg0.N) : Mems where
  i0 := ms0_0 t
  hi0 := hs0_0 t
  i1 := ms0_1 t
  hi1 := hs0_1 t
  i2 := ms0_2 t
  hi2 := hs0_2 t
  i3 := ms0_3 t
  hi3 := hs0_3 t
  i4 := ms0_4 t
  hi4 := hs0_4 t
  i5 := ms0_5 t
  hi5 := hs0_5 t
  i6 := ms0_6 t
  hi6 := hs0_6 t
  i7 := ms0_7 t
  hi7 := hs0_7 t
  i8 := ms0_8 t
  hi8 := hs0_8 t
  i9 := ms0_9 t
  hi9 := hs0_9 t
  i10 := ms0_10 t
  hi10 := hs0_10 t
  i11 := ms0_11 t
  hi11 := hs0_11 t
  i12 := ms0_12 t
  hi12 := hs0_12 t
  i13 := ms0_13 t
  hi13 := hs0_13 t
  i14 := ms0_14 t
  hi14 := hs0_14 t
  i15 := ms0_15 t
  hi15 := hs0_15 t
  o16 := ms0_16 t
  ho16 := hs0_16 t
  o17 := ms0_17 t
  ho17 := hs0_17 t
  o18 := ms0_18 t
  ho18 := hs0_18 t
  o19 := ms0_19 t
  ho19 := hs0_19 t
  o20 := ms0_20 t
  ho20 := hs0_20 t
  o21 := ms0_21 t
  ho21 := hs0_21 t
  o22 := ms0_22 t
  ho22 := hs0_22 t
  o23 := ms0_23 t
  ho23 := hs0_23 t
  o24 := ms0_24 t
  ho24 := hs0_24 t
  o25 := ms0_25 t
  ho25 := hs0_25 t
  o26 := ms0_26 t
  ho26 := hs0_26 t
  s0 := scM0_0
  hs0 := Memref.isWhole_whole _
  s1 := scM0_1
  hs1 := Memref.isWhole_whole _
  s2 := scM0_2
  hs2 := Memref.isWhole_whole _
  s3 := scM0_3
  hs3 := Memref.isWhole_whole _
  s4 := scM0_4
  hs4 := Memref.isWhole_whole _
  s5 := scM0_5
  hs5 := Memref.isWhole_whole _
  s6 := scM0_6
  hs6 := Memref.isWhole_whole _

/-- The input blocks of grid point `t`. -/
abbrev inAt (c : Dev nD) (t : Fin cfg0.N) : Ins F where
  i0 := iblk m c 0 t
  i1 := iblk m c 1 t
  i2 := iblk m c 2 t
  i3 := iblk m c 3 t
  i4 := iblk m c 4 t
  i5 := iblk m c 5 t
  i6 := iblk m c 6 t
  i7 := iblk m c 7 t
  i8 := iblk m c 8 t
  i9 := iblk m c 9 t
  i10 := iblk m c 10 t
  i11 := iblk m c 11 t
  i12 := iblk m c 12 t
  i13 := iblk m c 13 t
  i14 := iblk m c 14 t
  i15 := iblk m c 15 t

/-- One grid point: the state it leaves, from the state the point before left. -/
def stepAt (c : Dev nD) (t : Fin cfg0.N) (S : State F c) : State F c :=
  if h0 : t.val % 32 = 0 then
    (runA c (grid0.coords t) (mems t) ((hcond0_0 t).mpr h0) ((hcond0_1 t).mpr h0) ((hcond0_2 t).mpr h0)
      (fun h => by have := (hcond0_3 t).mp h; omega) (inAt m c t) (State.blank c S.g2 S.g3 S.g4) (V m c main_v8) (V m c main_v11)).1.state
  else if h3 : t.val % 32 = 31 then
    (runC c (grid0.coords t) (mems t) (fun h => h0 ((hcond0_0 t).mp h)) (fun h => h0 ((hcond0_1 t).mp h)) (fun h => h0 ((hcond0_2 t).mp h))
      ((hcond0_3 t).mpr h3) (inAt m c t) S (V m c main_v8) (V m c main_v11)).1.state
  else
    (runB c (grid0.coords t) (mems t) (fun h => h0 ((hcond0_0 t).mp h)) (fun h => h0 ((hcond0_1 t).mp h)) (fun h => h0 ((hcond0_2 t).mp h))
      (fun h => h3 ((hcond0_3 t).mp h)) (inAt m c t) S (V m c main_v8) (V m c main_v11)).1.state

/-- The state after grid point `n`. -/
def st (c : Dev nD) : (n : ℕ) → n < cfg0.N → State F c
  | 0, h => stepAt m c ⟨0, h⟩ (State.blank c (V m c main_v14_10) (V m c main_v14_11) (V m c main_v14_13))
  | n + 1, h => stepAt m c ⟨n + 1, h⟩ (st c n (Nat.lt_of_succ_lt h))

theorem st_first (c : Dev nD) (t : Fin cfg0.N) (hz : t.val = 0) :
    st m c t.val t.isLt = stepAt m c t (State.blank c (V m c main_v14_10) (V m c main_v14_11) (V m c main_v14_13)) := by
  obtain ⟨n, h⟩ := t
  cases n with
  | zero => rfl
  | succ n => exact absurd hz (Nat.succ_ne_zero n)

theorem st_later (c : Dev nD) (t : Fin cfg0.N) (hz : t.val ≠ 0) :
    st m c t.val t.isLt = stepAt m c t (st m c (t.val - 1) (Nat.lt_of_le_of_lt (Nat.sub_le _ _) t.isLt)) := by
  obtain ⟨n, h⟩ := t
  cases n with
  | zero => exact absurd rfl hz
  | succ n => rfl

/-- From the state `S` the body of point `t` runs to `S'`, up to the last output, which only the last point writes. -/
def Good (c : Dev nD) (t : Fin cfg0.N) (S S' : State F c) : Prop :=
  ∃ P : Pieces F c (mems t), P.Full ∧ (∃ x, (t.val % 32 = 31 → x = S'.o26) ∧ (t.val % 32 ≠ 31 → x = S.o26) ∧ P.state = { S' with o26 := x }) ∧
    ∀ (W : Waits sig Unit) (K : PUnit → sProp 𝕄),
      iprop(InsAt c (mems t) (inAt m c t) ∗ Held c (mems t) S ∗ Still c (V m c main_v8) (V m c main_v11) ∗ owes (c : Thread nD τ) 0 W
        ∗ (iprop(InsAt c (mems t) (inAt m c t) ∗ Left c (mems t) P ∗ Still c (V m c main_v8) (V m c main_v11) ∗ (∃ W', owes (c : Thread nD τ) 0 W')) -∗ K ⟨⟩))
      ⊢ wp frame (wpE (defs₀ (F := F)) Variants.none c none) Set.univ (bodyAt0 t) K

theorem good_first (c : Dev nD) (t : Fin cfg0.N) (h0 : t.val % 32 = 0) (S : State F c) :
    Good m c t S (stepAt m c t (State.blank c S.g2 S.g3 S.g4)) := by
  have h3 : ¬cond0_3 (grid0.coords t) := fun h => by have := (hcond0_3 t).mp h; omega
  refine ⟨(runA c (grid0.coords t) (mems t) ((hcond0_0 t).mpr h0) ((hcond0_1 t).mpr h0) ((hcond0_2 t).mpr h0) h3
    (inAt m c t) S (V m c main_v8) (V m c main_v11)).1, fullA _ _ _ _ _ _ _ _ _ _ _, ⟨S.o26, fun h => by omega, fun _ => rfl, ?_⟩,
    (runA c (grid0.coords t) (mems t) ((hcond0_0 t).mpr h0) ((hcond0_1 t).mpr h0) ((hcond0_2 t).mpr h0) h3
    (inAt m c t) S (V m c main_v8) (V m c main_v11)).2⟩
  rw [state_A, stepAt, dif_pos h0]
  rfl

theorem good_later (c : Dev nD) (t : Fin cfg0.N) (h0 : ¬t.val % 32 = 0) (S : State F c)
    (a : Vec F S128x3072 .bf16) (b : Vec F S128x2048 .bf16) (d : Vec F S128x2048 .f32) (e : Vec F S128x7168 .bf16) (f : Vec F S8x128 .f32) :
    Good m c t { S with o16 := a, o17 := b, o18 := d, o19 := e, o26 := f } (stepAt m c t S) := by
  have c0 : ¬cond0_0 (grid0.coords t) := fun h => h0 ((hcond0_0 t).mp h)
  have c1 : ¬cond0_1 (grid0.coords t) := fun h => h0 ((hcond0_1 t).mp h)
  have c2 : ¬cond0_2 (grid0.coords t) := fun h => h0 ((hcond0_2 t).mp h)
  by_cases h3 : t.val % 32 = 31
  · refine ⟨(runC c (grid0.coords t) (mems t) c0 c1 c2 ((hcond0_3 t).mpr h3) (inAt m c t) _ (V m c main_v8) (V m c main_v11)).1,
      fullC _ _ _ _ _ _ _ _ _ _ _, ⟨(stepAt m c t S).o26, fun _ => rfl, fun h => absurd h3 h, ?_⟩,
      (runC c (grid0.coords t) (mems t) c0 c1 c2 ((hcond0_3 t).mpr h3) (inAt m c t) _ (V m c main_v8) (V m c main_v11)).2⟩
    rw [state_C, stepAt, dif_neg h0, dif_pos h3]
  · refine ⟨(runB c (grid0.coords t) (mems t) c0 c1 c2 (fun h => h3 ((hcond0_3 t).mp h)) (inAt m c t) _ (V m c main_v8) (V m c main_v11)).1,
      fullB _ _ _ _ _ _ _ _ _ _ _, ⟨f, fun h => absurd h h3, fun _ => rfl, ?_⟩,
      (runB c (grid0.coords t) (mems t) c0 c1 c2 (fun h => h3 ((hcond0_3 t).mp h)) (inAt m c t) _ (V m c main_v8) (V m c main_v11)).2⟩
    rw [state_B, stepAt, dif_neg h0, dif_neg h3]

/-- What a grid point hands to the next: the scratch and the copied results at the state `S`, the generator register,
    the copies' counters at zero and the two weights the first point copies in. -/
def PhiAt (c : Dev nD) (S : State F c) : sProp 𝕄 :=
  iprop(iprop(owns (c : Thread nD τ) scM0_0 fullShare S.s0 ∗ owns (c : Thread nD τ) scM0_1 fullShare S.s1 ∗ owns (c : Thread nD τ) scM0_2 fullShare S.s2 ∗ owns (c : Thread nD τ) scM0_3 fullShare S.s3 ∗ owns (c : Thread nD τ) scM0_4 fullShare S.s4 ∗ owns (c : Thread nD τ) scM0_5 fullShare S.s5 ∗ owns (c : Thread nD τ) scM0_6 fullShare S.s6)
    ∗ (∃ r, prngReg c r)
    ∗ iprop(semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0)
    ∗ iprop(hbPt0 c hbM0_0 (V m c main_v8) ∗ hbPt0 c hbM0_1 (V m c main_v11))
    ∗ iprop(hbPt0 c hbM0_2 S.g2 ∗ hbPt0 c hbM0_3 S.g3 ∗ hbPt0 c hbM0_4 S.g4))

/-- The invariant before grid point `n`. -/
def Phi (c : Dev nD) : (n : ℕ) → n ≤ cfg0.N → sProp 𝕄
  | 0, _ => Pipeline.ΦDRG osem0 spec0 H0 R0 (V m) (V m) c
  | n + 1, hn => PhiAt m c (st m c n hn)

theorem Phi_zero (c : Dev nD) (n : ℕ) (h : n ≤ cfg0.N) (hz : n = 0) : Phi m c n h = Pipeline.ΦDRG osem0 spec0 H0 R0 (V m) (V m) c := by
  subst hz; rfl

theorem Phi_pos (c : Dev nD) (n : ℕ) (h : n ≤ cfg0.N) (hz : n ≠ 0) : Phi m c n h = PhiAt m c (st m c (n - 1) (by omega)) := by
  cases n with
  | zero => exact absurd rfl hz
  | succ n => rfl

/-- The pipeline's proof data: each input's block stays, each output's block holds what the state says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (st m c t.val t.isLt).o16
    | ⟨17, _⟩ => (st m c t.val t.isLt).o17
    | ⟨18, _⟩ => (st m c t.val t.isLt).o18
    | ⟨19, _⟩ => (st m c t.val t.isLt).o19
    | ⟨20, _⟩ => (st m c t.val t.isLt).o20
    | ⟨21, _⟩ => (st m c t.val t.isLt).o21
    | ⟨22, _⟩ => (st m c t.val t.isLt).o22
    | ⟨23, _⟩ => (st m c t.val t.isLt).o23
    | ⟨24, _⟩ => (st m c t.val t.isLt).o24
    | ⟨25, _⟩ => (st m c t.val t.isLt).o25
    | ⟨26, _⟩ => (st m c t.val t.isLt).o26
    | ⟨_ + 27, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = (st m c t.val t.isLt).o16 := by dsimp only [dats]
theorem after_17 (c : Dev nD) (t : Fin cfg0.N) : (dats m 0 c).after 17 t = (st m c t.val t.isLt).o17 := by dsimp only [dats]
theorem after_18 (c : Dev nD) (t : Fin cfg0.N) : (dats m 0 c).after 18 t = (st m c t.val t.isLt).o18 := by dsimp only [dats]
theorem after_19 (c : Dev nD) (t : Fin cfg0.N) : (dats m 0 c).after 19 t = (st m c t.val t.isLt).o19 := by dsimp only [dats]
theorem after_20 (c : Dev nD) (t : Fin cfg0.N) : (dats m 0 c).after 20 t = (st m c t.val t.isLt).o20 := by dsimp only [dats]
theorem after_21 (c : Dev nD) (t : Fin cfg0.N) : (dats m 0 c).after 21 t = (st m c t.val t.isLt).o21 := by dsimp only [dats]
theorem after_22 (c : Dev nD) (t : Fin cfg0.N) : (dats m 0 c).after 22 t = (st m c t.val t.isLt).o22 := by dsimp only [dats]
theorem after_23 (c : Dev nD) (t : Fin cfg0.N) : (dats m 0 c).after 23 t = (st m c t.val t.isLt).o23 := by dsimp only [dats]
theorem after_24 (c : Dev nD) (t : Fin cfg0.N) : (dats m 0 c).after 24 t = (st m c t.val t.isLt).o24 := by dsimp only [dats]
theorem after_25 (c : Dev nD) (t : Fin cfg0.N) : (dats m 0 c).after 25 t = (st m c t.val t.isLt).o25 := by dsimp only [dats]
theorem after_26 (c : Dev nD) (t : Fin cfg0.N) : (dats m 0 c).after 26 t = (st m c t.val t.isLt).o26 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_20 (c : Dev nD) (t : Fin cfg0.N) (h0 : ¬t.val % 32 = 0) (d) :
    (dats m 0 c).before 20 t d = (st m c (t.val - 1) (Nat.lt_of_le_of_lt (Nat.sub_le _ _) t.isLt)).o20 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]
theorem before_21 (c : Dev nD) (t : Fin cfg0.N) (h0 : ¬t.val % 32 = 0) (d) :
    (dats m 0 c).before 21 t d = (st m c (t.val - 1) (Nat.lt_of_le_of_lt (Nat.sub_le _ _) t.isLt)).o21 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]
theorem before_22 (c : Dev nD) (t : Fin cfg0.N) (h0 : ¬t.val % 32 = 0) (d) :
    (dats m 0 c).before 22 t d = (st m c (t.val - 1) (Nat.lt_of_le_of_lt (Nat.sub_le _ _) t.isLt)).o22 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
theorem before_23 (c : Dev nD) (t : Fin cfg0.N) (h0 : ¬t.val % 32 = 0) (d) :
    (dats m 0 c).before 23 t d = (st m c (t.val - 1) (Nat.lt_of_le_of_lt (Nat.sub_le _ _) t.isLt)).o23 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
theorem before_24 (c : Dev nD) (t : Fin cfg0.N) (h0 : ¬t.val % 32 = 0) (d) :
    (dats m 0 c).before 24 t d = (st m c (t.val - 1) (Nat.lt_of_le_of_lt (Nat.sub_le _ _) t.isLt)).o24 := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]
theorem before_25 (c : Dev nD) (t : Fin cfg0.N) (h0 : ¬t.val % 32 = 0) (d) :
    (dats m 0 c).before 25 t d = (st m c (t.val - 1) (Nat.lt_of_le_of_lt (Nat.sub_le _ _) t.isLt)).o25 := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl)]
  dsimp only [dats]

/-- A window that is live at a point is left at what the proof data says. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- What the body of point `t` is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

set_option maxHeartbeats 2000000 in
/-- The buffers at the state of point `t` are what the body is to return. -/
theorem finish (c : Dev nD) (t : Fin cfg0.N) (x : Vec F S8x128 .f32) (hx : t.val % 32 = 31 → x = (st m c t.val t.isLt).o26)
    (hb : t.val % 32 ≠ 31 → ∃ d, x = (dats m 0 c).before 26 t d) :
    iprop(InsAt c (mems t) (inAt m c t) ∗ Held c (mems t) { st m c t.val t.isLt with o26 := x } ∗ Still c (V m c main_v8) (V m c main_v11)
      ∗ (∃ W', owes (c : Thread nD τ) 0 W') ∗ (∃ r, prngReg c r)) ⊢ bodyPost m c t := by
  have hN : t.val < 32 := lt_of_lt_of_eq t.isLt (show cfg0.N = 32 from N_0)
  have hl : iprop(owns (c : Thread nD τ) (ms0_26 t) fullShare x) ⊢ ((dats m 0 c).leavesExact 26 t : sProp 𝕄) := by
    by_cases h3 : t.val % 32 = 31
    · have h0 : ¬t.val % 32 = 0 := by omega
      rw [leaves m c t 26 (liveAt0_26_C t (fun h => h0 ((hcond0_0 t).mp h)) (fun h => h0 ((hcond0_1 t).mp h)) (fun h => h0 ((hcond0_2 t).mp h))
        ((hcond0_3 t).mpr h3)), after_26, hx h3]
    · have h3' : ¬cond0_3 (grid0.coords t) := fun h => h3 ((hcond0_3 t).mp h)
      have hi : cfg0.idle 26 (grid0.coords t) = true ∧ (cfg0.win 26).flush t = false := by
        by_cases h0 : t.val % 32 = 0
        · exact ⟨idleAt0_26_A t ((hcond0_0 t).mpr h0) ((hcond0_1 t).mpr h0) ((hcond0_2 t).mpr h0) h3',
            noFlush0_26_A t ((hcond0_0 t).mpr h0) ((hcond0_1 t).mpr h0) ((hcond0_2 t).mpr h0) h3'⟩
        · exact ⟨idleAt0_26_B t (fun h => h0 ((hcond0_0 t).mp h)) (fun h => h0 ((hcond0_1 t).mp h)) (fun h => h0 ((hcond0_2 t).mp h)) h3',
            noFlush0_26_B t (fun h => h0 ((hcond0_0 t).mp h)) (fun h => h0 ((hcond0_1 t).mp h)) (fun h => h0 ((hcond0_2 t).mp h)) h3'⟩
      unfold Dat.leavesExact; rw [show cfg0.idle 26 (cfg0.grid.coords t) = true from hi.1, hi.2]
      obtain ⟨d, rfl⟩ := hb h3
      iintro H; iexists d; iexact H
  unfold bodyPost Dat.owesAt Pipeline.owesWithin InsAt Held Still
  rw [show (dats m 0 c).Φ t.succ = PhiAt m c (st m c t.val t.isLt) from rfl, show (dats m 0 c).owed t.succ = 0 from rfl]
  rw [leaves m c t 0 (liveAt0_0 t), leaves m c t 1 (liveAt0_1 t), leaves m c t 2 (liveAt0_2 t), leaves m c t 3 (liveAt0_3 t), leaves m c t 4 (liveAt0_4 t), leaves m c t 5 (liveAt0_5 t), leaves m c t 6 (liveAt0_6 t), leaves m c t 7 (liveAt0_7 t), leaves m c t 8 (liveAt0_8 t), leaves m c t 9 (liveAt0_9 t), leaves m c t 10 (liveAt0_10 t), leaves m c t 11 (liveAt0_11 t), leaves m c t 12 (liveAt0_12 t), leaves m c t 13 (liveAt0_13 t), leaves m c t 14 (liveAt0_14 t), leaves m c t 15 (liveAt0_15 t), leaves m c t 16 (liveAt0_16 t), leaves m c t 17 (liveAt0_17 t), leaves m c t 18 (liveAt0_18 t), leaves m c t 19 (liveAt0_19 t), leaves m c t 20 (liveAt0_20 t), leaves m c t 21 (liveAt0_21 t), leaves m c t 22 (liveAt0_22 t), leaves m c t 23 (liveAt0_23 t), leaves m c t 24 (liveAt0_24 t), leaves m c t 25 (liveAt0_25 t)]
  rw [after_0, after_1, after_2, after_3, after_4, after_5, after_6, after_7, after_8, after_9, after_10, after_11, after_12, after_13, after_14, after_15, after_16, after_17, after_18, after_19, after_20, after_21, after_22, after_23, after_24, after_25]
  unfold PhiAt
  dsimp only
  iintro ⟨⟨Hi0, Hi1, Hi2, Hi3, Hi4, Hi5, Hi6, Hi7, Hi8, Hi9, Hi10, Hi11, Hi12, Hi13, Hi14, Hi15⟩, ⟨Ho16, Ho17, Ho18, Ho19, Ho20, Ho21, Ho22, Ho23, Ho24, Ho25, Ho26, Hs0, Hs1, Hs2, Hs3, Hs4, Hs5, Hs6, Hg2, Hg3, Hg4⟩, ⟨Hq0, Hq1, Hq2, Hq3, Hq4, Hw0, Hw1⟩, ⟨%W', HW⟩, Hp⟩
  isplitl [Hs0 Hs1 Hs2 Hs3 Hs4 Hs5 Hs6 Hp Hq0 Hq1 Hq2 Hq3 Hq4 Hw0 Hw1 Hg2 Hg3 Hg4]
  · isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hp]; · iexact Hp
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hw0 Hw1]
    · isplitl [Hw0]; · iexact Hw0
      iexact Hw1
    isplitl [Hg2]; · iexact Hg2
    isplitl [Hg3]; · iexact Hg3
    iexact Hg4
  isplitl [HW]
  · iexists W'; isplitr; · ipureintro; exact fun _ _ => Or.inl trivial
    iexact HW
  isplitl [Hi0]; · iexact Hi0
  isplitl [Hi1]; · iexact Hi1
  isplitl [Hi2]; · iexact Hi2
  isplitl [Hi3]; · iexact Hi3
  isplitl [Hi4]; · iexact Hi4
  isplitl [Hi5]; · iexact Hi5
  isplitl [Hi6]; · iexact Hi6
  isplitl [Hi7]; · iexact Hi7
  isplitl [Hi8]; · iexact Hi8
  isplitl [Hi9]; · iexact Hi9
  isplitl [Hi10]; · iexact Hi10
  isplitl [Hi11]; · iexact Hi11
  isplitl [Hi12]; · iexact Hi12
  isplitl [Hi13]; · iexact Hi13
  isplitl [Hi14]; · iexact Hi14
  isplitl [Hi15]; · iexact Hi15
  isplitl [Ho16]; · iexact Ho16
  isplitl [Ho17]; · iexact Ho17
  isplitl [Ho18]; · iexact Ho18
  isplitl [Ho19]; · iexact Ho19
  isplitl [Ho20]; · iexact Ho20
  isplitl [Ho21]; · iexact Ho21
  isplitl [Ho22]; · iexact Ho22
  isplitl [Ho23]; · iexact Ho23
  isplitl [Ho24]; · iexact Ho24
  isplitl [Ho25]; · iexact Ho25
  iapply hl; iexact Ho26

/-- A good step, with what its buffers hold in between. -/
theorem Good.run {c : Dev nD} {t : Fin cfg0.N} {S : State F c} (h : Good m c t S (st m c t.val t.isLt))
    (hS : ∃ d, S.o26 = (dats m 0 c).before 26 t d) (W : Waits sig Unit) :
    iprop(InsAt c (mems t) (inAt m c t) ∗ Held c (mems t) S ∗ Still c (V m c main_v8) (V m c main_v11) ∗ owes (c : Thread nD τ) 0 W ∗ (∃ r, prngReg c r))
      ⊢ wp frame (wpE (defs₀ (F := F)) Variants.none c none) Set.univ (bodyAt0 t) (fun _ => bodyPost m c t) := by
  obtain ⟨P, hF, ⟨x, hx, hb, hP⟩, hrun⟩ := h
  iintro ⟨HI, HH, HC, HO, Hp⟩
  iapply (hrun W _)
  isplitl [HI]; · iexact HI
  isplitl [HH]; · iexact HH
  isplitl [HC]; · iexact HC
  isplitl [HO]; · iexact HO
  iintro ⟨HI, HL, HC, HO⟩
  iapply (finish m c t x hx fun h => (hb h).symm ▸ hS)
  isplitl [HI]; · iexact HI
  isplitl [HL]
  · rw [← hP]; iapply (left_held c (mems t) P hF); iexact HL
  isplitl [HC]; · iexact HC
  isplitl [HO]; · iexact HO
  iexact Hp

/-- The body at any grid point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre
  simp only [before_0, before_1, before_2, before_3, before_4, before_5, before_6, before_7, before_8, before_9, before_10, before_11, before_12, before_13, before_14, before_15]
  unfold Dat.owesAt Pipeline.owesWithin
  rw [show (dats m 0 c).owed t.castSucc = 0 from rfl, Phi_castSucc m c t]
  by_cases h0 : t.val % 32 = 0
  · have hz : t.val = 0 := by omega
    rw [Phi_zero m c _ _ hz, PhiDRG0_in_eq]
    iintro ⟨⟨⟨⟨%a0, Hs0⟩, ⟨%a1, Hs1⟩, ⟨%a2, Hs2⟩, ⟨%a3, Hs3⟩, ⟨%a4, Hs4⟩, ⟨%a5, Hs5⟩, ⟨%a6, Hs6⟩⟩, Hp, ⟨Hq0, Hq1, Hq2, Hq3, Hq4⟩, ⟨Hw0, Hw1⟩, ⟨Hg2, Hg3, Hg4⟩⟩, ⟨%W, -, HW⟩, ⟨%d0, Hi0⟩, ⟨%d1, Hi1⟩, ⟨%d2, Hi2⟩, ⟨%d3, Hi3⟩, ⟨%d4, Hi4⟩, ⟨%d5, Hi5⟩, ⟨%d6, Hi6⟩, ⟨%d7, Hi7⟩, ⟨%d8, Hi8⟩, ⟨%d9, Hi9⟩, ⟨%d10, Hi10⟩, ⟨%d11, Hi11⟩, ⟨%d12, Hi12⟩, ⟨%d13, Hi13⟩, ⟨%d14, Hi14⟩, ⟨%d15, Hi15⟩, ⟨%d16, Ho16⟩, ⟨%d17, Ho17⟩, ⟨%d18, Ho18⟩, ⟨%d19, Ho19⟩, ⟨%d20, Ho20⟩, ⟨%d21, Ho21⟩, ⟨%d22, Ho22⟩, ⟨%d23, Ho23⟩, ⟨%d24, Ho24⟩, ⟨%d25, Ho25⟩, ⟨%d26, Ho26⟩⟩
    have hg := good_first m c t h0 (S := ⟨(dats m 0 c).before 16 t d16, (dats m 0 c).before 17 t d17, (dats m 0 c).before 18 t d18, (dats m 0 c).before 19 t d19, (dats m 0 c).before 20 t d20, (dats m 0 c).before 21 t d21, (dats m 0 c).before 22 t d22, (dats m 0 c).before 23 t d23, (dats m 0 c).before 24 t d24, (dats m 0 c).before 25 t d25, (dats m 0 c).before 26 t d26, a0, a1, a2, a3, a4, a5, a6,
      V m c main_v14_10, V m c main_v14_11, V m c main_v14_13⟩)
    dsimp only at hg
    rw [← st_first m c t hz] at hg
    iapply (hg.run m ⟨d26, rfl⟩ W)
    unfold InsAt Held Still
    dsimp only
    isplitl [Hi0 Hi1 Hi2 Hi3 Hi4 Hi5 Hi6 Hi7 Hi8 Hi9 Hi10 Hi11 Hi12 Hi13 Hi14 Hi15]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      isplitl [Hi13]; · iexact Hi13
      isplitl [Hi14]; · iexact Hi14
      iexact Hi15
    isplitl [Ho16 Ho17 Ho18 Ho19 Ho20 Ho21 Ho22 Ho23 Ho24 Ho25 Ho26 Hs0 Hs1 Hs2 Hs3 Hs4 Hs5 Hs6 Hg2 Hg3 Hg4]
    · isplitl [Ho16]; · iexact Ho16
      isplitl [Ho17]; · iexact Ho17
      isplitl [Ho18]; · iexact Ho18
      isplitl [Ho19]; · iexact Ho19
      isplitl [Ho20]; · iexact Ho20
      isplitl [Ho21]; · iexact Ho21
      isplitl [Ho22]; · iexact Ho22
      isplitl [Ho23]; · iexact Ho23
      isplitl [Ho24]; · iexact Ho24
      isplitl [Ho25]; · iexact Ho25
      isplitl [Ho26]; · iexact Ho26
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hg2]; · iexact Hg2
      isplitl [Hg3]; · iexact Hg3
      iexact Hg4
    isplitl [Hq0 Hq1 Hq2 Hq3 Hq4 Hw0 Hw1]
    · isplitl [Hq0]; · iexact Hq0
      isplitl [Hq1]; · iexact Hq1
      isplitl [Hq2]; · iexact Hq2
      isplitl [Hq3]; · iexact Hq3
      isplitl [Hq4]; · iexact Hq4
      isplitl [Hw0]; · iexact Hw0
      iexact Hw1
    isplitl [HW]; · iexact HW
    iexact Hp
  · rw [Phi_pos m c _ _ (by omega)]
    simp only [before_20 m c t h0, before_21 m c t h0, before_22 m c t h0, before_23 m c t h0, before_24 m c t h0, before_25 m c t h0]
    unfold PhiAt
    iintro ⟨⟨⟨Hs0, Hs1, Hs2, Hs3, Hs4, Hs5, Hs6⟩, Hp, ⟨Hq0, Hq1, Hq2, Hq3, Hq4⟩, ⟨Hw0, Hw1⟩, ⟨Hg2, Hg3, Hg4⟩⟩, ⟨%W, -, HW⟩, ⟨%d0, Hi0⟩, ⟨%d1, Hi1⟩, ⟨%d2, Hi2⟩, ⟨%d3, Hi3⟩, ⟨%d4, Hi4⟩, ⟨%d5, Hi5⟩, ⟨%d6, Hi6⟩, ⟨%d7, Hi7⟩, ⟨%d8, Hi8⟩, ⟨%d9, Hi9⟩, ⟨%d10, Hi10⟩, ⟨%d11, Hi11⟩, ⟨%d12, Hi12⟩, ⟨%d13, Hi13⟩, ⟨%d14, Hi14⟩, ⟨%d15, Hi15⟩, ⟨%d16, Ho16⟩, ⟨%d17, Ho17⟩, ⟨%d18, Ho18⟩, ⟨%d19, Ho19⟩, ⟨%d20, Ho20⟩, ⟨%d21, Ho21⟩, ⟨%d22, Ho22⟩, ⟨%d23, Ho23⟩, ⟨%d24, Ho24⟩, ⟨%d25, Ho25⟩, ⟨%d26, Ho26⟩⟩
    have hg := good_later m c t h0 (st m c (t.val - 1) (Nat.lt_of_le_of_lt (Nat.sub_le _ _) t.isLt)) ((dats m 0 c).before 16 t d16)
      ((dats m 0 c).before 17 t d17) ((dats m 0 c).before 18 t d18) ((dats m 0 c).before 19 t d19) ((dats m 0 c).before 26 t d26)
    rw [← st_later m c t (by omega)] at hg
    iapply (hg.run m ⟨d26, rfl⟩ W)
    unfold InsAt Held Still
    dsimp only
    isplitl [Hi0 Hi1 Hi2 Hi3 Hi4 Hi5 Hi6 Hi7 Hi8 Hi9 Hi10 Hi11 Hi12 Hi13 Hi14 Hi15]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      isplitl [Hi13]; · iexact Hi13
      isplitl [Hi14]; · iexact Hi14
      iexact Hi15
    isplitl [Ho16 Ho17 Ho18 Ho19 Ho20 Ho21 Ho22 Ho23 Ho24 Ho25 Ho26 Hs0 Hs1 Hs2 Hs3 Hs4 Hs5 Hs6 Hg2 Hg3 Hg4]
    · isplitl [Ho16]; · iexact Ho16
      isplitl [Ho17]; · iexact Ho17
      isplitl [Ho18]; · iexact Ho18
      isplitl [Ho19]; · iexact Ho19
      isplitl [Ho20]; · iexact Ho20
      isplitl [Ho21]; · iexact Ho21
      isplitl [Ho22]; · iexact Ho22
      isplitl [Ho23]; · iexact Ho23
      isplitl [Ho24]; · iexact Ho24
      isplitl [Ho25]; · iexact Ho25
      isplitl [Ho26]; · iexact Ho26
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hg2]; · iexact Hg2
      isplitl [Hg3]; · iexact Hg3
      iexact Hg4
    isplitl [Hq0 Hq1 Hq2 Hq3 Hq4 Hw0 Hw1]
    · isplitl [Hq0]; · iexact Hq0
      isplitl [Hq1]; · iexact Hq1
      isplitl [Hq2]; · iexact Hq2
      isplitl [Hq3]; · iexact Hq3
      isplitl [Hq4]; · iexact Hq4
      isplitl [Hw0]; · iexact Hw0
      iexact Hw1
    isplitl [HW]; · iexact HW
    iexact Hp

theorem body_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The state after the last grid point. -/
def stLast (c : Dev nD) : State F c := st m c 31 (by have : cfg0.N = 32 := N_0; omega)

/-- The launch contents with the three copied results at what the last point left. -/
def ends (c : Dev nD) : (b : Ref sig .tc) → Buf (Elt F) ((c : Thread nD τ).loc b) :=
  Function.update (Function.update (Function.update ((V m) c) main_v14_10 (stLast m c).g2) main_v14_11 (stLast m c).g3) main_v14_13 (stLast m c).g4

theorem ends_2 (c : Dev nD) : ends m c main_v14_10 = (stLast m c).g2 := by
  unfold ends
  simp only [Function.update_of_ne (show (main_v14_10 : Ref sig .tc) ≠ main_v14_11 by decide), Function.update_of_ne (show (main_v14_10 : Ref sig .tc) ≠ main_v14_13 by decide), Function.update_self]
theorem ends_3 (c : Dev nD) : ends m c main_v14_11 = (stLast m c).g3 := by
  unfold ends; simp only [Function.update_of_ne (show (main_v14_11 : Ref sig .tc) ≠ main_v14_13 by decide), Function.update_self]
theorem ends_4 (c : Dev nD) : ends m c main_v14_13 = (stLast m c).g4 := by
  unfold ends; simp only [Function.update_self]

theorem ends_held (c : Dev nD) :
    (Pipeline.routed R0 c (ends m c) : sProp 𝕄) = iprop(hbPt0 c hbM0_2 (stLast m c).g2 ∗ hbPt0 c hbM0_3 (stLast m c).g3 ∗ hbPt0 c hbM0_4 (stLast m c).g4) := by
  unfold Pipeline.routed; rw [BI.bigSep_eq_bigSepL_of_eq [main_v14_10, main_v14_11, main_v14_13] (by decide) (by decide)]
  simp only [BI.bigSepL_cons_cons, BI.bigSepL_singleton, ends_2, ends_3, ends_4]; try rfl

theorem hin (c : Dev nD) : Pipeline.ΦDRG osem0 spec0 H0 R0 (V m) (V m) c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦDRG osem0 spec0 H0 R0 (V m) (ends m) c := by
  have hl : (dats m 0 c).Φ (Fin.last cfg0.N) = PhiAt m c (stLast m c) := rfl
  rw [hl, Pipeline.ΦDRG_eq, scopedRest0_eq, ownSems00_eq, hbmPts0_eq, ends_held]
  unfold PhiAt
  simp only [scM0_0, scM0_1, scM0_2, scM0_3, scM0_4, scM0_5, scM0_6, owns_whole]
  iintro ⟨⟨Hs0, Hs1, Hs2, Hs3, Hs4, Hs5, Hs6⟩, Hp, Hq, Hw, Hg⟩
  isplitl [Hs0 Hs1 Hs2 Hs3 Hs4 Hs5 Hs6]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexists _; iexact Hs6
  isplitl [Hp]; · iexact Hp
  isplitl [Hq]; · iexact Hq
  isplitl [Hw]; · iexact Hw
  iexact Hg

set_option backward.isDefEq.respectTransparency.types false in
/-- The whole program runs to its end: the outputs' arrays hold what the proof data says, the three copied results what
    the last grid point left, and every counter is zero. -/
theorem run_all : θ_run defs (onTc (τ := τ) (main (F := F))) (s₀ m ρ)
    (fun r => (Pipeline.FramePostRG cfgs (dats m) 0 R0 (V m) (ends m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := ends m)
    (hin := hin m) (hout := hout m)

/-- The program leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  θ_run_and (frame_of m ρ (dats m) (A_eq m) ((θ_run defs _ _).mono (fun _ h => h.1.toR) (run_all m ρ)))
    ((θ_run defs _ _).mono (fun _ h => h.2) (run_all m ρ))

end Cert.KernelIdeal.Mix

end

end
-- ==== Proof.MixTile.lean ====
/- The values one tile of the mixing kernel computes, named in the order the body computes them: from the grid point, the
   input blocks, and the two copies of the output weights. -/
module

public import proofs.«01_k».proof.Proof.MixBase
public import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen

namespace Tile

def xa (X : Ins Ideal) : FVec Ideal S128x1024 .f32 :=
  k0_pay38 ((View.ld X.i0 (Rect.unit (s := S128x7168) ![0, 0] S128x1024.size inb_S128x7168_S128x1024_0_0)))
def ga (X : Ins Ideal) : FVec Ideal S128x1024 .f32 :=
  k0_pay39 ((View.ld X.i0 (Rect.unit (s := S128x7168) ![0, 1024] S128x1024.size inb_S128x7168_S128x1024_0_1024)))
def halo (i : grid0.Coords) (X : Ins Ideal) : FVec Ideal S16x1024 .f32 :=
  k0_pay40 (Scalar.subi 31#32 (BitVec.ofNat 32 (i 0).val)) X.i1
def d0 (i : grid0.Coords) (X : Ins Ideal) : FVec Ideal S128x256 .bf16 :=
  k0_pay41 (Scalar.subi 31#32 (BitVec.ofNat 32 (i 0).val)) (k0_pay34 i) (xa X) X.i1
def e0 (i : grid0.Coords) (X : Ins Ideal) : FVec Ideal S128x256 .f32 :=
  k0_pay42 (Scalar.subi 31#32 (BitVec.ofNat 32 (i 0).val)) (k0_pay34 i) (xa X) X.i1 ((View.ld X.i6 (Rect.unit (s := S4x256x256) ![0, 0, 0] S1x256x256.size inb_S4x256x256_S1x256x256_0_0_0)))
def d1 (i : grid0.Coords) (X : Ins Ideal) : FVec Ideal S128x256 .bf16 :=
  k0_pay43 (Scalar.subi 31#32 (BitVec.ofNat 32 (i 0).val)) (k0_pay35 i) (xa X) X.i1
def e1 (i : grid0.Coords) (X : Ins Ideal) : FVec Ideal S128x256 .f32 :=
  k0_pay44 (Scalar.subi 31#32 (BitVec.ofNat 32 (i 0).val)) (k0_pay35 i) (xa X) X.i1 ((View.ld X.i6 (Rect.unit (s := S4x256x256) ![1, 0, 0] S1x256x256.size inb_S4x256x256_S1x256x256_1_0_0)))
def part (i : grid0.Coords) (X : Ins Ideal) : FVec Ideal S144x256 .f32 :=
  k0_pay45 (Scalar.subi 31#32 (BitVec.ofNat 32 (i 0).val)) (xa X) X.i1
def d2 (i : grid0.Coords) (X : Ins Ideal) : FVec Ideal S128x256 .bf16 :=
  k0_pay46 (k0_pay36 i) (xa X) (part i X)
def d3 (i : grid0.Coords) (X : Ins Ideal) : FVec Ideal S128x256 .bf16 :=
  k0_pay47 (k0_pay37 i) (xa X) (halo i X)
def mixed (i : grid0.Coords) (X : Ins Ideal) : FVec Ideal S128x1024 .f32 :=
  k0_pay48 (k0_pay36 i) (k0_pay37 i) (xa X) (halo i X) (e0 i X) (e1 i X) (part i X) ((View.ld X.i6 (Rect.unit (s := S4x256x256) ![2, 0, 0] S1x256x256.size inb_S4x256x256_S1x256x256_2_0_0))) ((View.ld X.i6 (Rect.unit (s := S4x256x256) ![3, 0, 0] S1x256x256.size inb_S4x256x256_S1x256x256_3_0_0)))
def scaled (i : grid0.Coords) (X : Ins Ideal) : FVec Ideal S128x1024 .f32 :=
  k0_pay49 (k0_pay36 i) (k0_pay37 i) (xa X) (halo i X) (e0 i X) (e1 i X) (part i X) ((View.ld X.i6 (Rect.unit (s := S4x256x256) ![2, 0, 0] S1x256x256.size inb_S4x256x256_S1x256x256_2_0_0))) ((View.ld X.i6 (Rect.unit (s := S4x256x256) ![3, 0, 0] S1x256x256.size inb_S4x256x256_S1x256x256_3_0_0))) X.i8
def sigA (X : Ins Ideal) : FVec Ideal S128x1024 .f32 :=
  k0_pay50 (ga X)
def siluA (X : Ins Ideal) : FVec Ideal S128x1024 .f32 :=
  k0_pay51 (ga X)
def brA (i : grid0.Coords) (X : Ins Ideal) : FVec Ideal S128x1024 .f32 :=
  k0_pay52 (k0_pay36 i) (k0_pay37 i) (xa X) (ga X) (halo i X) (e0 i X) (e1 i X) (part i X) ((View.ld X.i6 (Rect.unit (s := S4x256x256) ![2, 0, 0] S1x256x256.size inb_S4x256x256_S1x256x256_2_0_0))) ((View.ld X.i6 (Rect.unit (s := S4x256x256) ![3, 0, 0] S1x256x256.size inb_S4x256x256_S1x256x256_3_0_0))) X.i8
def gainA (X : Ins Ideal) : FVec Ideal S1x1024 .f32 :=
  View.ld X.i14 (Rect.unit (s := S1x3072) ![0, 0] S1x1024.size inb_S1x3072_S1x1024_0_0)
def sqA (i : grid0.Coords) (X : Ins Ideal) : FVec Ideal S128x1024 .f32 :=
  k0_pay53 (k0_pay36 i) (k0_pay37 i) (xa X) (ga X) (halo i X) (e0 i X) (e1 i X) (part i X) ((View.ld X.i6 (Rect.unit (s := S4x256x256) ![2, 0, 0] S1x256x256.size inb_S4x256x256_S1x256x256_2_0_0))) ((View.ld X.i6 (Rect.unit (s := S4x256x256) ![3, 0, 0] S1x256x256.size inb_S4x256x256_S1x256x256_3_0_0))) X.i8
def rsA (i : grid0.Coords) (X : Ins Ideal) : FVec Ideal S128x1 .f32 :=
  k0_pay54 (sqA i X)
def nrmA (i : grid0.Coords) (X : Ins Ideal) : FVec Ideal S128x1024 .f32 :=
  k0_pay55 (brA i X) (sqA i X)
def yA (i : grid0.Coords) (X : Ins Ideal) : FVec Ideal S128x1024 .f32 :=
  k0_pay56 (brA i X) (gainA X) (sqA i X)
def uu (X : Ins Ideal) : FVec Ideal S128x1024 .f32 :=
  k0_pay57 ((View.ld X.i0 (Rect.unit (s := S128x7168) ![0, 2048] S128x1024.size inb_S128x7168_S128x1024_0_2048)))
def gb (X : Ins Ideal) : FVec Ideal S128x1024 .f32 :=
  k0_pay58 ((View.ld X.i0 (Rect.unit (s := S128x7168) ![0, 4096] S128x1024.size inb_S128x7168_S128x1024_0_4096)))
def rsV (X : Ins Ideal) : FVec Ideal S128x1 .f32 :=
  k0_pay60 ((View.ld X.i0 (Rect.unit (s := S128x7168) ![0, 3072] S128x1024.size inb_S128x7168_S128x1024_0_3072)))
def nrmV (X : Ins Ideal) : FVec Ideal S128x1024 .f32 :=
  k0_pay61 ((View.ld X.i0 (Rect.unit (s := S128x7168) ![0, 3072] S128x1024.size inb_S128x7168_S128x1024_0_3072)))
def vn (X : Ins Ideal) : FVec Ideal S128x1024 .bf16 :=
  k0_pay62 ((View.ld X.i0 (Rect.unit (s := S128x7168) ![0, 3072] S128x1024.size inb_S128x7168_S128x1024_0_3072))) X.i9 X.i10
def z0 (X : Ins Ideal) : FVec Ideal S128x128 .f32 :=
  k0_pay63 (vn X) ((View.ld X.i12 (Rect.unit (s := S8x128x128) ![0, 0, 0] S1x128x128.size inb_S8x128x128_S1x128x128_0_0_0)))
def z1 (X : Ins Ideal) : FVec Ideal S128x128 .f32 :=
  k0_pay64 (vn X) ((View.ld X.i12 (Rect.unit (s := S8x128x128) ![1, 0, 0] S1x128x128.size inb_S8x128x128_S1x128x128_1_0_0)))
def z2 (X : Ins Ideal) : FVec Ideal S128x128 .f32 :=
  k0_pay65 (vn X) ((View.ld X.i12 (Rect.unit (s := S8x128x128) ![2, 0, 0] S1x128x128.size inb_S8x128x128_S1x128x128_2_0_0)))
def z3 (X : Ins Ideal) : FVec Ideal S128x128 .f32 :=
  k0_pay66 (vn X) ((View.ld X.i12 (Rect.unit (s := S8x128x128) ![3, 0, 0] S1x128x128.size inb_S8x128x128_S1x128x128_3_0_0)))
def z4 (X : Ins Ideal) : FVec Ideal S128x128 .f32 :=
  k0_pay67 (vn X) ((View.ld X.i12 (Rect.unit (s := S8x128x128) ![4, 0, 0] S1x128x128.size inb_S8x128x128_S1x128x128_4_0_0)))
def z5 (X : Ins Ideal) : FVec Ideal S128x128 .f32 :=
  k0_pay68 (vn X) ((View.ld X.i12 (Rect.unit (s := S8x128x128) ![5, 0, 0] S1x128x128.size inb_S8x128x128_S1x128x128_5_0_0)))
def z6 (X : Ins Ideal) : FVec Ideal S128x128 .f32 :=
  k0_pay69 (vn X) ((View.ld X.i12 (Rect.unit (s := S8x128x128) ![6, 0, 0] S1x128x128.size inb_S8x128x128_S1x128x128_6_0_0)))
def m7 (X : Ins Ideal) : FVec Ideal S128x128 .bf16 :=
  k0_pay70 ((View.ld X.i12 (Rect.unit (s := S8x128x128) ![7, 0, 0] S1x128x128.size inb_S8x128x128_S1x128x128_7_0_0)))
def v7 (X : Ins Ideal) : FVec Ideal S128x128 .bf16 :=
  k0_pay71 (vn X)
def gate (X : Ins Ideal) : FVec Ideal S128x1024 .f32 :=
  k0_pay72 (z0 X) (z1 X) (z2 X) (z3 X) (z4 X) (z5 X) (z6 X) (m7 X) (v7 X) X.i11
def gated (X : Ins Ideal) : FVec Ideal S128x1024 .f32 :=
  k0_pay73 (uu X) (z0 X) (z1 X) (z2 X) (z3 X) (z4 X) (z5 X) (z6 X) (m7 X) (v7 X) X.i11
def sigB (X : Ins Ideal) : FVec Ideal S128x1024 .f32 :=
  k0_pay74 (gb X)
def siluB (X : Ins Ideal) : FVec Ideal S128x1024 .f32 :=
  k0_pay75 (gb X)
def gainB (X : Ins Ideal) : FVec Ideal S1x1024 .f32 :=
  View.ld X.i14 (Rect.unit (s := S1x3072) ![0, 1024] S1x1024.size inb_S1x3072_S1x1024_0_1024)
def rsB (X : Ins Ideal) : FVec Ideal S128x1 .f32 :=
  k0_pay77 (uu X) (gb X) (z0 X) (z1 X) (z2 X) (z3 X) (z4 X) (z5 X) (z6 X) (m7 X) (v7 X) X.i11
def nrmB (X : Ins Ideal) : FVec Ideal S128x1024 .f32 :=
  k0_pay78 (uu X) (gb X) (z0 X) (z1 X) (z2 X) (z3 X) (z4 X) (z5 X) (z6 X) (m7 X) (v7 X) X.i11
def yB (X : Ins Ideal) : FVec Ideal S128x1024 .f32 :=
  k0_pay79 (uu X) (gb X) (z0 X) (z1 X) (z2 X) (z3 X) (z4 X) (z5 X) (z6 X) (m7 X) (v7 X) X.i11 ((View.ld X.i14 (Rect.unit (s := S1x3072) ![0, 1024] S1x1024.size inb_S1x3072_S1x1024_0_1024)))
def qq (X : Ins Ideal) : FVec Ideal S128x1024 .bf16 :=
  View.ld X.i0 (Rect.unit (s := S128x7168) ![0, 5120] S128x1024.size inb_S128x7168_S128x1024_0_5120)
def gc (X : Ins Ideal) : FVec Ideal S128x1024 .f32 :=
  k0_pay80 ((View.ld X.i0 (Rect.unit (s := S128x7168) ![0, 6144] S128x1024.size inb_S128x7168_S128x1024_0_6144)))
def p0 (X : Ins Ideal) : FVec Ideal S128x256 .bf16 :=
  k0_pay82 ((View.ld X.i0 (Rect.unit (s := S128x7168) ![0, 5120] S128x1024.size inb_S128x7168_S128x1024_0_5120))) ((View.ld X.i5 (Rect.unit (s := S2048x256) ![0, 0] S256x256.size inb_S2048x256_S256x256_0_0)))
def o0 (X : Ins Ideal) : FVec Ideal S128x256 .f32 :=
  k0_pay83 (p0 X) ((View.ld X.i4 (Rect.unit (s := S256x2048) ![0, 1024] S256x256.size inb_S256x2048_S256x256_0_1024)))
def p1 (X : Ins Ideal) : FVec Ideal S128x256 .bf16 :=
  k0_pay85 (qq X) ((View.ld X.i5 (Rect.unit (s := S2048x256) ![256, 0] S256x256.size inb_S2048x256_S256x256_256_0)))
def o1 (X : Ins Ideal) : FVec Ideal S128x256 .f32 :=
  k0_pay86 (qq X) ((View.ld X.i5 (Rect.unit (s := S2048x256) ![256, 0] S256x256.size inb_S2048x256_S256x256_256_0))) ((View.ld X.i4 (Rect.unit (s := S256x2048) ![0, 1280] S256x256.size inb_S256x2048_S256x256_0_1280)))
def p2 (X : Ins Ideal) : FVec Ideal S128x256 .bf16 :=
  k0_pay88 (qq X) ((View.ld X.i5 (Rect.unit (s := S2048x256) ![512, 0] S256x256.size inb_S2048x256_S256x256_512_0)))
def o2 (X : Ins Ideal) : FVec Ideal S128x256 .f32 :=
  k0_pay89 (qq X) ((View.ld X.i5 (Rect.unit (s := S2048x256) ![512, 0] S256x256.size inb_S2048x256_S256x256_512_0))) ((View.ld X.i4 (Rect.unit (s := S256x2048) ![0, 1536] S256x256.size inb_S256x2048_S256x256_0_1536)))
def q3 (X : Ins Ideal) : FVec Ideal S128x256 .bf16 :=
  k0_pay90 (qq X)
def p3 (X : Ins Ideal) : FVec Ideal S128x256 .bf16 :=
  k0_pay91 (q3 X) ((View.ld X.i5 (Rect.unit (s := S2048x256) ![768, 0] S256x256.size inb_S2048x256_S256x256_768_0)))
def oo (X : Ins Ideal) : FVec Ideal S128x1024 .f32 :=
  k0_pay92 (o0 X) (o1 X) (o2 X) (q3 X) ((View.ld X.i5 (Rect.unit (s := S2048x256) ![768, 0] S256x256.size inb_S2048x256_S256x256_768_0))) ((View.ld X.i4 (Rect.unit (s := S256x2048) ![0, 1792] S256x256.size inb_S256x2048_S256x256_0_1792)))
def sigC (X : Ins Ideal) : FVec Ideal S128x1024 .f32 :=
  k0_pay93 (gc X)
def siluC (X : Ins Ideal) : FVec Ideal S128x1024 .f32 :=
  k0_pay94 (gc X)
def gainC (X : Ins Ideal) : FVec Ideal S1x1024 .f32 :=
  View.ld X.i14 (Rect.unit (s := S1x3072) ![0, 2048] S1x1024.size inb_S1x3072_S1x1024_0_2048)
def rsC (X : Ins Ideal) : FVec Ideal S128x1 .f32 :=
  k0_pay96 (gc X) (o0 X) (o1 X) (o2 X) (q3 X) ((View.ld X.i5 (Rect.unit (s := S2048x256) ![768, 0] S256x256.size inb_S2048x256_S256x256_768_0))) ((View.ld X.i4 (Rect.unit (s := S256x2048) ![0, 1792] S256x256.size inb_S256x2048_S256x256_0_1792)))
def nrmC (X : Ins Ideal) : FVec Ideal S128x1024 .f32 :=
  k0_pay97 (gc X) (o0 X) (o1 X) (o2 X) (q3 X) ((View.ld X.i5 (Rect.unit (s := S2048x256) ![768, 0] S256x256.size inb_S2048x256_S256x256_768_0))) ((View.ld X.i4 (Rect.unit (s := S256x2048) ![0, 1792] S256x256.size inb_S256x2048_S256x256_0_1792)))
def yC (X : Ins Ideal) : FVec Ideal S128x1024 .f32 :=
  k0_pay98 (gc X) (o0 X) (o1 X) (o2 X) (q3 X) ((View.ld X.i5 (Rect.unit (s := S2048x256) ![768, 0] S256x256.size inb_S2048x256_S256x256_768_0))) ((View.ld X.i4 (Rect.unit (s := S256x2048) ![0, 1792] S256x256.size inb_S256x2048_S256x256_0_1792))) ((View.ld X.i14 (Rect.unit (s := S1x3072) ![0, 2048] S1x1024.size inb_S1x3072_S1x1024_0_2048)))
def yA16 (i : grid0.Coords) (X : Ins Ideal) : FVec Ideal S128x1024 .bf16 :=
  k0_pay99 (yA i X)
def rsO (i : grid0.Coords) (X : Ins Ideal) (w : FVec Ideal S3072x2048 .bf16) : FVec Ideal S128x1 .f32 :=
  k0_pay103 (yB X) (yC X) (yA16 i X) ((View.ld w (Rect.unit (s := S3072x2048) ![0, 0] S1024x2048.size inb_S3072x2048_S1024x2048_0_0))) ((View.ld w (Rect.unit (s := S3072x2048) ![1024, 0] S1024x2048.size inb_S3072x2048_S1024x2048_1024_0))) ((View.ld w (Rect.unit (s := S3072x2048) ![2048, 0] S1024x2048.size inb_S3072x2048_S1024x2048_2048_0)))
def nrmO (i : grid0.Coords) (X : Ins Ideal) (w : FVec Ideal S3072x2048 .bf16) : FVec Ideal S128x2048 .f32 :=
  k0_pay104 (yB X) (yC X) (yA16 i X) ((View.ld w (Rect.unit (s := S3072x2048) ![0, 0] S1024x2048.size inb_S3072x2048_S1024x2048_0_0))) ((View.ld w (Rect.unit (s := S3072x2048) ![1024, 0] S1024x2048.size inb_S3072x2048_S1024x2048_1024_0))) ((View.ld w (Rect.unit (s := S3072x2048) ![2048, 0] S1024x2048.size inb_S3072x2048_S1024x2048_2048_0)))
def err (i : grid0.Coords) (X : Ins Ideal) (w : FVec Ideal S3072x2048 .bf16) : FVec Ideal S128x2048 .f32 :=
  k0_pay105 (yB X) (yC X) (yA16 i X) ((View.ld w (Rect.unit (s := S3072x2048) ![0, 0] S1024x2048.size inb_S3072x2048_S1024x2048_0_0))) ((View.ld w (Rect.unit (s := S3072x2048) ![1024, 0] S1024x2048.size inb_S3072x2048_S1024x2048_1024_0))) ((View.ld w (Rect.unit (s := S3072x2048) ![2048, 0] S1024x2048.size inb_S3072x2048_S1024x2048_2048_0))) X.i15 X.i2 X.i3
def errSq (i : grid0.Coords) (X : Ins Ideal) (w : FVec Ideal S3072x2048 .bf16) : FVec Ideal S128x1 .f32 :=
  k0_pay107 (yB X) (yC X) (yA16 i X) ((View.ld w (Rect.unit (s := S3072x2048) ![0, 0] S1024x2048.size inb_S3072x2048_S1024x2048_0_0))) ((View.ld w (Rect.unit (s := S3072x2048) ![1024, 0] S1024x2048.size inb_S3072x2048_S1024x2048_1024_0))) ((View.ld w (Rect.unit (s := S3072x2048) ![2048, 0] S1024x2048.size inb_S3072x2048_S1024x2048_2048_0))) X.i15 X.i2 X.i3
def dout (i : grid0.Coords) (X : Ins Ideal) (w : FVec Ideal S3072x2048 .bf16) : FVec Ideal S128x2048 .bf16 :=
  k0_pay111 X.i15 (rsO i X w) (nrmO i X w) (err i X w)
def dgA (i : grid0.Coords) (X : Ins Ideal) (w : FVec Ideal S3072x2048 .bf16) (wt : FVec Ideal S2048x3072 .bf16) : FVec Ideal S1x1024 .f32 :=
  k0_pay115 (nrmA i X) (dout i X w) ((View.ld wt (Rect.unit (s := S2048x3072) ![0, 0] S2048x1024.size inb_S2048x3072_S2048x1024_0_0)))
def dbA (i : grid0.Coords) (X : Ins Ideal) (w : FVec Ideal S3072x2048 .bf16) (wt : FVec Ideal S2048x3072 .bf16) : FVec Ideal S128x1024 .f32 :=
  k0_pay116 (gainA X) (rsA i X) (nrmA i X) (dout i X w) ((View.ld wt (Rect.unit (s := S2048x3072) ![0, 0] S2048x1024.size inb_S2048x3072_S2048x1024_0_0)))
def dgB (i : grid0.Coords) (X : Ins Ideal) (w : FVec Ideal S3072x2048 .bf16) (wt : FVec Ideal S2048x3072 .bf16) : FVec Ideal S1x1024 .f32 :=
  k0_pay117 (nrmB X) (dout i X w) ((View.ld wt (Rect.unit (s := S2048x3072) ![0, 1024] S2048x1024.size inb_S2048x3072_S2048x1024_0_1024)))
def dbB (i : grid0.Coords) (X : Ins Ideal) (w : FVec Ideal S3072x2048 .bf16) (wt : FVec Ideal S2048x3072 .bf16) : FVec Ideal S128x1024 .f32 :=
  k0_pay118 (gainB X) (rsB X) (nrmB X) (dout i X w) ((View.ld wt (Rect.unit (s := S2048x3072) ![0, 1024] S2048x1024.size inb_S2048x3072_S2048x1024_0_1024)))
def dyC (i : grid0.Coords) (X : Ins Ideal) (w : FVec Ideal S3072x2048 .bf16) (wt : FVec Ideal S2048x3072 .bf16) : FVec Ideal S128x1024 .f32 :=
  k0_pay119 (gainC X) (dout i X w) ((View.ld wt (Rect.unit (s := S2048x3072) ![0, 2048] S2048x1024.size inb_S2048x3072_S2048x1024_0_2048)))
def dgC (i : grid0.Coords) (X : Ins Ideal) (w : FVec Ideal S3072x2048 .bf16) (wt : FVec Ideal S2048x3072 .bf16) : FVec Ideal S1x1024 .f32 :=
  k0_pay120 (nrmC X) (dout i X w) ((View.ld wt (Rect.unit (s := S2048x3072) ![0, 2048] S2048x1024.size inb_S2048x3072_S2048x1024_0_2048)))
def prodC (i : grid0.Coords) (X : Ins Ideal) (w : FVec Ideal S3072x2048 .bf16) (wt : FVec Ideal S2048x3072 .bf16) : FVec Ideal S128x1024 .f32 :=
  k0_pay121 (gainC X) (nrmC X) (dout i X w) ((View.ld wt (Rect.unit (s := S2048x3072) ![0, 2048] S2048x1024.size inb_S2048x3072_S2048x1024_0_2048)))
def dbC (i : grid0.Coords) (X : Ins Ideal) (w : FVec Ideal S3072x2048 .bf16) (wt : FVec Ideal S2048x3072 .bf16) : FVec Ideal S128x1024 .f32 :=
  k0_pay122 (rsC X) (nrmC X) (dyC i X w wt) (prodC i X w wt)
def dga (i : grid0.Coords) (X : Ins Ideal) (w : FVec Ideal S3072x2048 .bf16) (wt : FVec Ideal S2048x3072 .bf16) : FVec Ideal S128x1024 .f32 :=
  k0_pay125 (ga X) (scaled i X) (sigA X) (dbA i X w wt)
def dmix (i : grid0.Coords) (X : Ins Ideal) (w : FVec Ideal S3072x2048 .bf16) (wt : FVec Ideal S2048x3072 .bf16) : FVec Ideal S128x1024 .f32 :=
  k0_pay127 X.i8 (siluA X) (dbA i X w wt)
def dscale (i : grid0.Coords) (X : Ins Ideal) (w : FVec Ideal S3072x2048 .bf16) (wt : FVec Ideal S2048x3072 .bf16) : FVec Ideal S128x256 .bf16 :=
  k0_pay128 X.i8 (siluA X) (dbA i X w wt)
def back0 (i : grid0.Coords) (X : Ins Ideal) (w : FVec Ideal S3072x2048 .bf16) (wt : FVec Ideal S2048x3072 .bf16) : FVec Ideal S128x256 .f32 :=
  k0_pay129 X.i8 (siluA X) (dbA i X w wt) ((View.ld X.i7 (Rect.unit (s := S4x256x256) ![0, 0, 0] S1x256x256.size inb_S4x256x256_S1x256x256_0_0_0)))
def back1 (i : grid0.Coords) (X : Ins Ideal) (w : FVec Ideal S3072x2048 .bf16) (wt : FVec Ideal S2048x3072 .bf16) : FVec Ideal S128x256 .f32 :=
  k0_pay136 (dmix i X w wt) ((View.ld X.i7 (Rect.unit (s := S4x256x256) ![1, 0, 0] S1x256x256.size inb_S4x256x256_S1x256x256_1_0_0)))
def back3 (i : grid0.Coords) (X : Ins Ideal) (w : FVec Ideal S3072x2048 .bf16) (wt : FVec Ideal S2048x3072 .bf16) : FVec Ideal S128x256 .f32 :=
  k0_pay149 (dmix i X w wt) ((View.ld X.i7 (Rect.unit (s := S4x256x256) ![3, 0, 0] S1x256x256.size inb_S4x256x256_S1x256x256_3_0_0)))
def dgb (i : grid0.Coords) (X : Ins Ideal) (w : FVec Ideal S3072x2048 .bf16) (wt : FVec Ideal S2048x3072 .bf16) : FVec Ideal S128x1024 .f32 :=
  k0_pay156 (gb X) (gated X) (sigB X) (dbB i X w wt)
def duu (i : grid0.Coords) (X : Ins Ideal) (w : FVec Ideal S3072x2048 .bf16) (wt : FVec Ideal S2048x3072 .bf16) : FVec Ideal S128x1024 .f32 :=
  k0_pay157 (gate X) (siluB X) (dbB i X w wt)
def dgate (i : grid0.Coords) (X : Ins Ideal) (w : FVec Ideal S3072x2048 .bf16) (wt : FVec Ideal S2048x3072 .bf16) : FVec Ideal S128x1024 .f32 :=
  k0_pay158 (uu X) (siluB X) (dbB i X w wt)
def dgate16 (i : grid0.Coords) (X : Ins Ideal) (w : FVec Ideal S3072x2048 .bf16) (wt : FVec Ideal S2048x3072 .bf16) : FVec Ideal S128x1024 .bf16 :=
  k0_pay159 (uu X) (siluB X) (dbB i X w wt)
def dv0 (i : grid0.Coords) (X : Ins Ideal) (w : FVec Ideal S3072x2048 .bf16) (wt : FVec Ideal S2048x3072 .bf16) : FVec Ideal S128x128 .f32 :=
  k0_pay160 (uu X) (siluB X) (dbB i X w wt) ((View.ld X.i13 (Rect.unit (s := S8x128x128) ![0, 0, 0] S1x128x128.size inb_S8x128x128_S1x128x128_0_0_0)))
def dv1 (i : grid0.Coords) (X : Ins Ideal) (w : FVec Ideal S3072x2048 .bf16) (wt : FVec Ideal S2048x3072 .bf16) : FVec Ideal S128x128 .f32 :=
  k0_pay162 (dgate16 i X w wt) ((View.ld X.i13 (Rect.unit (s := S8x128x128) ![1, 0, 0] S1x128x128.size inb_S8x128x128_S1x128x128_1_0_0)))
def dv2 (i : grid0.Coords) (X : Ins Ideal) (w : FVec Ideal S3072x2048 .bf16) (wt : FVec Ideal S2048x3072 .bf16) : FVec Ideal S128x128 .f32 :=
  k0_pay164 (dgate16 i X w wt) ((View.ld X.i13 (Rect.unit (s := S8x128x128) ![2, 0, 0] S1x128x128.size inb_S8x128x128_S1x128x128_2_0_0)))
def dv3 (i : grid0.Coords) (X : Ins Ideal) (w : FVec Ideal S3072x2048 .bf16) (wt : FVec Ideal S2048x3072 .bf16) : FVec Ideal S128x128 .f32 :=
  k0_pay167 (dgate16 i X w wt) ((View.ld X.i13 (Rect.unit (s := S8x128x128) ![3, 0, 0] S1x128x128.size inb_S8x128x128_S1x128x128_3_0_0)))
def dv4 (i : grid0.Coords) (X : Ins Ideal) (w : FVec Ideal S3072x2048 .bf16) (wt : FVec Ideal S2048x3072 .bf16) : FVec Ideal S128x128 .f32 :=
  k0_pay169 (dgate16 i X w wt) ((View.ld X.i13 (Rect.unit (s := S8x128x128) ![4, 0, 0] S1x128x128.size inb_S8x128x128_S1x128x128_4_0_0)))
def m5t (X : Ins Ideal) : FVec Ideal S128x128 .bf16 :=
  k0_pay171 ((View.ld X.i13 (Rect.unit (s := S8x128x128) ![5, 0, 0] S1x128x128.size inb_S8x128x128_S1x128x128_5_0_0)))
def dv5 (i : grid0.Coords) (X : Ins Ideal) (w : FVec Ideal S3072x2048 .bf16) (wt : FVec Ideal S2048x3072 .bf16) : FVec Ideal S128x128 .f32 :=
  k0_pay172 (dgate16 i X w wt) (m5t X)
def dv6 (i : grid0.Coords) (X : Ins Ideal) (w : FVec Ideal S3072x2048 .bf16) (wt : FVec Ideal S2048x3072 .bf16) : FVec Ideal S128x128 .f32 :=
  k0_pay174 (dgate16 i X w wt) ((View.ld X.i13 (Rect.unit (s := S8x128x128) ![6, 0, 0] S1x128x128.size inb_S8x128x128_S1x128x128_6_0_0)))
def dv7 (i : grid0.Coords) (X : Ins Ideal) (w : FVec Ideal S3072x2048 .bf16) (wt : FVec Ideal S2048x3072 .bf16) : FVec Ideal S128x128 .f32 :=
  k0_pay176 (dgate16 i X w wt) ((View.ld X.i13 (Rect.unit (s := S8x128x128) ![7, 0, 0] S1x128x128.size inb_S8x128x128_S1x128x128_7_0_0)))
def dhat (i : grid0.Coords) (X : Ins Ideal) (w : FVec Ideal S3072x2048 .bf16) (wt : FVec Ideal S2048x3072 .bf16) : FVec Ideal S128x1024 .f32 :=
  k0_pay186 X.i9 (dv0 i X w wt) (dv1 i X w wt) (dv2 i X w wt) (dv3 i X w wt) (dv4 i X w wt) (dv5 i X w wt) (dv6 i X w wt) (dv7 i X w wt)
def dln (i : grid0.Coords) (X : Ins Ideal) (w : FVec Ideal S3072x2048 .bf16) (wt : FVec Ideal S2048x3072 .bf16) : FVec Ideal S128x1 .f32 :=
  k0_pay187 X.i9 (nrmV X) (dv0 i X w wt) (dv1 i X w wt) (dv2 i X w wt) (dv3 i X w wt) (dv4 i X w wt) (dv5 i X w wt) (dv6 i X w wt) (dv7 i X w wt)
def dvv (i : grid0.Coords) (X : Ins Ideal) (w : FVec Ideal S3072x2048 .bf16) (wt : FVec Ideal S2048x3072 .bf16) : FVec Ideal S128x1024 .f32 :=
  k0_pay188 (rsV X) (nrmV X) (dhat i X w wt) (dln i X w wt)
def doo (i : grid0.Coords) (X : Ins Ideal) (w : FVec Ideal S3072x2048 .bf16) (wt : FVec Ideal S2048x3072 .bf16) : FVec Ideal S128x1024 .f32 :=
  k0_pay189 (siluC X) (dbC i X w wt)
def dgc (i : grid0.Coords) (X : Ins Ideal) (w : FVec Ideal S3072x2048 .bf16) (wt : FVec Ideal S2048x3072 .bf16) : FVec Ideal S128x1024 .f32 :=
  k0_pay190 (gc X) (oo X) (sigC X) (dbC i X w wt)
def ds0 (i : grid0.Coords) (X : Ins Ideal) (w : FVec Ideal S3072x2048 .bf16) (wt : FVec Ideal S2048x3072 .bf16) : FVec Ideal S128x256 .bf16 :=
  k0_pay193 (p0 X) (siluC X) (dbC i X w wt) ((View.ld X.i5 (Rect.unit (s := S2048x256) ![1024, 0] S256x256.size inb_S2048x256_S256x256_1024_0)))
def dq0 (i : grid0.Coords) (X : Ins Ideal) (w : FVec Ideal S3072x2048 .bf16) (wt : FVec Ideal S2048x3072 .bf16) : FVec Ideal S128x256 .f32 :=
  k0_pay194 (p0 X) (siluC X) (dbC i X w wt) ((View.ld X.i5 (Rect.unit (s := S2048x256) ![1024, 0] S256x256.size inb_S2048x256_S256x256_1024_0))) ((View.ld X.i4 (Rect.unit (s := S256x2048) ![0, 0] S256x256.size inb_S256x2048_S256x256_0_0)))
def dq1 (i : grid0.Coords) (X : Ins Ideal) (w : FVec Ideal S3072x2048 .bf16) (wt : FVec Ideal S2048x3072 .bf16) : FVec Ideal S128x256 .f32 :=
  k0_pay199 (p1 X) (doo i X w wt) ((View.ld X.i5 (Rect.unit (s := S2048x256) ![1280, 0] S256x256.size inb_S2048x256_S256x256_1280_0))) ((View.ld X.i4 (Rect.unit (s := S256x2048) ![0, 256] S256x256.size inb_S256x2048_S256x256_0_256)))
def doo2 (i : grid0.Coords) (X : Ins Ideal) (w : FVec Ideal S3072x2048 .bf16) (wt : FVec Ideal S2048x3072 .bf16) : FVec Ideal S128x256 .bf16 :=
  k0_pay201 (doo i X w wt)
def p2f (X : Ins Ideal) : FVec Ideal S128x256 .f32 :=
  k0_pay202 (p2 X)
def dq2 (i : grid0.Coords) (X : Ins Ideal) (w : FVec Ideal S3072x2048 .bf16) (wt : FVec Ideal S2048x3072 .bf16) : FVec Ideal S128x256 .f32 :=
  k0_pay205 (doo2 i X w wt) (p2f X) ((View.ld X.i5 (Rect.unit (s := S2048x256) ![1536, 0] S256x256.size inb_S2048x256_S256x256_1536_0))) ((View.ld X.i4 (Rect.unit (s := S256x2048) ![0, 512] S256x256.size inb_S256x2048_S256x256_0_512)))
def p3f (X : Ins Ideal) : FVec Ideal S128x256 .f32 :=
  k0_pay208 (p3 X)
def dp3 (i : grid0.Coords) (X : Ins Ideal) (w : FVec Ideal S3072x2048 .bf16) (wt : FVec Ideal S2048x3072 .bf16) : FVec Ideal S128x256 .f32 :=
  k0_pay209 (doo i X w wt) ((View.ld X.i5 (Rect.unit (s := S2048x256) ![1792, 0] S256x256.size inb_S2048x256_S256x256_1792_0)))
def doo3 (i : grid0.Coords) (X : Ins Ideal) (w : FVec Ideal S3072x2048 .bf16) (wt : FVec Ideal S2048x3072 .bf16) : FVec Ideal S256x256 .f32 :=
  k0_pay210 (p3 X) (doo i X w wt)

end Tile

end Cert.KernelIdeal.Mix

end

end
-- ==== Proof.MixFwd.lean ====
/- The forward half of one tile of the mixing kernel, read against the reference: row `a` of the tile that holds rows
   `128 T ..` of the sequence is row `128 T + a` of the reference's arrays. -/
module

public import proofs.«01_k».proof.Proof.MixTile
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

/-- The reference's thirteen arguments. -/
structure Args where
  x : FVec Ideal S4096x2048 .f32
  target : FVec Ideal S4096x2048 .f32
  proj : FVec Ideal S4096x7168 .bf16
  kv : FVec Ideal S256x2048 .bf16
  poolW : FVec Ideal S4x256x256 .f32
  poolS : FVec Ideal S1x1024 .f32
  lnG : FVec Ideal S1x1024 .f32
  lnB : FVec Ideal S1x1024 .f32
  sguW : FVec Ideal S8x128x128 .f32
  sguB : FVec Ideal S8x128 .f32
  gains : FVec Ideal S1x3072 .f32
  wOut : FVec Ideal S3072x2048 .f32
  post : FVec Ideal S1x2048 .f32

/-- Row `a` of tile `T`. -/
def row (T : Fin 32) (a : Fin 128) : Fin 4096 := ⟨128 * T.val + a.val, by omega⟩

/-- What the blocks of the grid point that computes tile `T` hold, in terms of the reference's arguments. -/
structure Reads (A : Args) (T : Fin 32) (i : grid0.Coords) (X : Ins Ideal) : Prop where
  point : (i 0).val = 31 - T.val
  proj : ∀ (a : Fin 128) (e : Fin 7168), X.i0 (ix2 a e) = A.proj (ix2 (row T a) e)
  halo : ∀ (a : Fin 16) (e : Fin 1024) (h : 0 < T.val),
    X.i1 (ix2 a e) = A.proj (ix2 ⟨128 * T.val + a.val - 16, by omega⟩ ⟨e.val, by omega⟩)
  x : ∀ (a : Fin 128) (e : Fin 2048), X.i2 (ix2 a e) = A.x (ix2 (row T a) e)
  target : ∀ (a : Fin 128) (e : Fin 2048), X.i3 (ix2 a e) = A.target (ix2 (row T a) e)
  kv : ∀ (a : Fin 256) (e : Fin 2048), X.i4 (ix2 a e) = A.kv (ix2 a e)
  kvT : ∀ (e : Fin 2048) (a : Fin 256), X.i5 (ix2 e a) = A.kv (ix2 a e)
  poolW : ∀ (g : Fin 4) (e f : Fin 256), X.i6 (ix3 g e f) = A.poolW (ix3 g e f)
  poolWT : ∀ (g : Fin 4) (e f : Fin 256), X.i7 (ix3 g e f) = A.poolW (ix3 g f e)
  poolS : ∀ e : Fin 1024, X.i8 (ix2 0 e) = A.poolS (ix2 0 e)
  lnG : ∀ e : Fin 1024, X.i9 (ix2 0 e) = A.lnG (ix2 0 e)
  lnB : ∀ e : Fin 1024, X.i10 (ix2 0 e) = A.lnB (ix2 0 e)
  bias : ∀ (a : Fin 128) (e : Fin 1024), X.i11 (ix2 a e) = A.sguB (ix2 ⟨e.val / 128, by omega⟩ a)
  sguW : ∀ (g : Fin 8) (a k : Fin 128), X.i12 (ix3 g a k) = if k.val ≤ a.val then A.sguW (ix3 g a k) else 0
  sguWT : ∀ (g : Fin 8) (a k : Fin 128), X.i13 (ix3 g a k) = if a.val ≤ k.val then A.sguW (ix3 g k a) else 0
  gains : ∀ e : Fin 3072, X.i14 (ix2 0 e) = A.gains (ix2 0 e)
  post : ∀ e : Fin 2048, X.i15 (ix2 0 e) = A.post (ix2 0 e)

namespace Tile

variable {A : Args} {T : Fin 32} {i : grid0.Coords} {X : Ins Ideal}

theorem xa_at (h : Reads A T i X) (a : Fin 128) (b : Fin 1024) : xa X (ix2 a b) = val_main_v2 (F := Ideal) A.proj (ix2 (row T a) b) := by
  pointwise! [xa, k0_pay38, val_main_v2, val_main_v0]
  simp only [h.proj]

theorem ga_at (h : Reads A T i X) (a : Fin 128) (b : Fin 1024) : ga X (ix2 a b) = val_main_v3 (F := Ideal) A.proj (ix2 (row T a) b) := by
  pointwise! [ga, k0_pay39, val_main_v3, val_main_v0]
  simp only [h.proj]

theorem uu_at (h : Reads A T i X) (a : Fin 128) (b : Fin 1024) : uu X (ix2 a b) = val_main_v4 (F := Ideal) A.proj (ix2 (row T a) b) := by
  pointwise! [uu, k0_pay57, val_main_v4, val_main_v0]
  simp only [h.proj]

theorem vv_at (h : Reads A T i X) (a : Fin 128) (b : Fin 1024) : X.i0 (ix2 a ⟨3072 + b.val,
    by omega⟩) = val_main_v5 (F := Ideal) A.proj (ix2 (row T a) b) := by
  pointwise! [val_main_v5, val_main_v0]
  simp only [h.proj]

theorem gb_at (h : Reads A T i X) (a : Fin 128) (b : Fin 1024) : gb X (ix2 a b) = val_main_v6 (F := Ideal) A.proj (ix2 (row T a) b) := by
  pointwise! [gb, k0_pay58, val_main_v6, val_main_v0]
  simp only [h.proj]

theorem qq_at (h : Reads A T i X) (a : Fin 128) (b : Fin 1024) : qq X (ix2 a b) = val_main_v7 (F := Ideal) A.proj (ix2 (row T a) b) := by
  pointwise! [qq, val_main_v7, val_main_v0]
  simp only [h.proj]

theorem gc_at (h : Reads A T i X) (a : Fin 128) (b : Fin 1024) : gc X (ix2 a b) = val_main_v8 (F := Ideal) A.proj (ix2 (row T a) b) := by
  pointwise! [gc, k0_pay80, val_main_v8, val_main_v0]
  simp only [h.proj]

theorem siluA_at (h : Reads A T i X) (a : Fin 128) (b : Fin 1024) : siluA X (ix2 a b) = val_main_v86_0 (F := Ideal) A.proj (ix2 (row T a) b) := by
  pointwise! [siluA, k0_pay50, k0_pay51, val_main_v86_0, val_main_v86_2, val_main_call1_v4, val_main_call1_cst_0, val_main_call1_v3,
    val_main_call1_v2, val_main_call1_cst, val_main_call1_v1, val_main_call1_v0]
  simp only [ga_at h]
  rfl

theorem rsV_at (h : Reads A T i X) (a : Fin 128) : rsV X (ix2 a 0) = val_main_v101 (F := Ideal) A.proj (ix2 (row T a) 0) := by
  pointwise! [rsV, k0_pay60, k0_pay59, val_main_v101, val_main_v100, val_main_v98, val_main_v96, val_main_v95, val_main_v94, val_main_v93,
    val_main_v92, val_main_v91, val_main_v89, val_main_v88, val_main_cst_12, val_main_v90, val_main_cst_13, val_main_cst_14, val_main_v97,
    val_main_cst_15, val_main_v99, val_main_cst_16]
  simp only [vv_at h]

theorem nrmV_at (h : Reads A T i X) (a : Fin 128) (b : Fin 1024) : nrmV X (ix2 a b) = val_main_v106 (F := Ideal) A.proj (ix2 (row T a) b) := by
  pointwise! [nrmV, k0_pay61, k0_pay59, val_main_v106, val_main_v93, val_main_v92, val_main_v91, val_main_v89, val_main_v88, val_main_cst_12,
    val_main_v90, val_main_cst_13, val_main_v105]
  rw [show k0_pay60 _ (ix2 a 0) = _ from rsV_at h a]
  simp only [vv_at h]

theorem row_mod (T : Fin 32) (a : Fin 128) (p : (row T a).val % 128 < 128) : (⟨(row T a).val % 128, p⟩ : Fin 128) = a :=
  Fin.ext (by simp only [row]; omega)

theorem row_mod_val (T : Fin 32) (a : Fin 128) : (row T a).val % 128 = a.val := by simp only [row]; omega

theorem row_div (T : Fin 32) (a : Fin 128) (k : Fin 128) (p : (row T a).val / 128 * 128 + k.val < 4096) :
    (⟨(row T a).val / 128 * 128 + k.val, p⟩ : Fin 4096) = row T k :=
  Fin.ext (by simp only [row]; omega)

/-- The reference's causal mask. -/
theorem causal (n : ℕ) (a k : Fin 128) (hn : n = a.val) :
    Scalar.select (IntOp.cmpi .sge (IntOp.addi (BitVec.ofNat 32 n) 0#32) (BitVec.ofNat 32 k.val)) (1#1 : BitVec 1) 0#1 =
      if k.val ≤ a.val then 1#1 else 0#1 := by
  have e : ∀ a k : Fin 128, IntOp.cmpi .sge (IntOp.addi (BitVec.ofNat 32 a.val) 0#32) (BitVec.ofNat 32 k.val) =
      if k.val ≤ a.val then 1#1 else 0#1 := by decide +kernel
  rw [hn, e a k]; split_ifs <;> rfl

theorem vn_at (h : Reads A T i X) (a : Fin 128) (b : Fin 1024) : vn X (ix2 a b) = val_main_v110 (F := Ideal) A.proj A.lnG A.lnB (ix2 (row T a) b) := by
  pointwise! [vn, k0_pay62, val_main_v110, val_main_v108, val_main_v107, val_main_v109]
  rw [show k0_pay61 _ (ix2 a b) = _ from nrmV_at h a b, h.lnG, h.lnB]

/-- The causal sum over the rows of the chunk, at head `n` and column `b`. -/
def headSum (X : Ins Ideal) (n : Fin 8) (a : Fin 128) (b : Fin 1024) : EReal := ∑ k, X.i12 (ix3 n a k) * vn X (ix2 k b)

theorem headSum_eq (X : Ins Ideal) (n : Fin 8) (a : Fin 128) (b b' : Fin 1024) (hb : b'.val = b.val) (hn : b.val / 128 = n.val) :
    headSum X n a b' = headSum X ⟨b.val / 128, by omega⟩ a b := by
  obtain rfl : b' = b := Fin.ext hb
  exact congrArg (fun n => headSum X n a b') (Fin.ext hn.symm)

theorem z0_at (X : Ins Ideal) (a e : Fin 128) : z0 X (ix2 a e) = headSum X 0 a ⟨e.val, by omega⟩ := by
  pointwise [z0, k0_pay63, headSum]

theorem z1_at (X : Ins Ideal) (a e : Fin 128) : z1 X (ix2 a e) = headSum X 1 a ⟨128 + e.val, by omega⟩ := by
  pointwise [z1, k0_pay64, headSum]

theorem z2_at (X : Ins Ideal) (a e : Fin 128) : z2 X (ix2 a e) = headSum X 2 a ⟨256 + e.val, by omega⟩ := by
  pointwise [z2, k0_pay65, headSum]

theorem z3_at (X : Ins Ideal) (a e : Fin 128) : z3 X (ix2 a e) = headSum X 3 a ⟨384 + e.val, by omega⟩ := by
  pointwise [z3, k0_pay66, headSum]

theorem z4_at (X : Ins Ideal) (a e : Fin 128) : z4 X (ix2 a e) = headSum X 4 a ⟨512 + e.val, by omega⟩ := by
  pointwise [z4, k0_pay67, headSum]

theorem z5_at (X : Ins Ideal) (a e : Fin 128) : z5 X (ix2 a e) = headSum X 5 a ⟨640 + e.val, by omega⟩ := by
  pointwise [z5, k0_pay68, headSum]

theorem z6_at (X : Ins Ideal) (a e : Fin 128) : z6 X (ix2 a e) = headSum X 6 a ⟨768 + e.val, by omega⟩ := by
  pointwise [z6, k0_pay69, headSum]

theorem z7_at (X : Ins Ideal) (a e : Fin 128) :
    (∑ x, m7 X (ix2 a x) * v7 X (ix2 x e)) = headSum X 7 a ⟨896 + e.val, by omega⟩ := by
  pointwise [m7, v7, k0_pay70, k0_pay71, headSum]

/-- One output of the spatial gating, before its bias: a causal sum over the rows of the chunk. -/
theorem gate_sum (X : Ins Ideal) (a : Fin 128) (b : Fin 1024) : gate X (ix2 a b) =
    headSum X ⟨b.val / 128, by omega⟩ a b + X.i11 (ix2 a b) := by
  pointwise [gate, k0_pay72]
  congr 1
  split
  · rw [z0_at]; exact headSum_eq X 0 a b _ (by first | rfl | (dsimp only; omega)) (by show b.val / 128 = 0; omega)
  split
  · rw [z1_at]; exact headSum_eq X 1 a b _ (by first | rfl | (dsimp only; omega)) (by show b.val / 128 = 1; omega)
  split
  · rw [z2_at]; exact headSum_eq X 2 a b _ (by first | rfl | (dsimp only; omega)) (by show b.val / 128 = 2; omega)
  split
  · rw [z3_at]; exact headSum_eq X 3 a b _ (by first | rfl | (dsimp only; omega)) (by show b.val / 128 = 3; omega)
  split
  · rw [z4_at]; exact headSum_eq X 4 a b _ (by first | rfl | (dsimp only; omega)) (by show b.val / 128 = 4; omega)
  split
  · rw [z5_at]; exact headSum_eq X 5 a b _ (by first | rfl | (dsimp only; omega)) (by show b.val / 128 = 5; omega)
  split
  · rw [z6_at]; exact headSum_eq X 6 a b _ (by first | rfl | (dsimp only; omega)) (by show b.val / 128 = 6; omega)
  · rw [z7_at]; exact headSum_eq X 7 a b _ (by first | rfl | (dsimp only; omega)) (by show b.val / 128 = 7; omega)

theorem gate_at (h : Reads A T i X) (a : Fin 128) (b : Fin 1024) : gate X (ix2 a b) = val_main_v123 (F := Ideal) A.proj A.lnG A.lnB A.sguW A.sguB (ix2 (row T a) b) := by
  rw [gate_sum, headSum]
  pointwise! [val_main_v123, val_main_v122, val_main_v118, val_main_v117, val_main_v111, val_main_v116_0, val_main_v116_1, val_main_v114,
    val_main_v113, val_main_call2_v4, val_main_call2_v2, val_main_call2_v0, val_main_call2_v1, val_main_call2_c, val_main_call2_v3, val_main_v112,
    val_main_c, val_main_call2_v5, val_main_call2_c_0, val_main_v115, val_main_cst_18, val_main_v121, val_main_v120, val_main_v119]
  simp only [row_mod, row_div, h.bias, h.sguW, vn_at h]
  congr 1
  refine Finset.sum_congr rfl fun k _ => ?_
  rw [causal _ a k (row_mod_val T a)]
  split_ifs
  · exact mul_comm _ _
  · exact zero_mul _

theorem gated_at (h : Reads A T i X) (a : Fin 128) (b : Fin 1024) : gated X (ix2 a b) = val_main_v124 (F := Ideal) A.proj A.lnG A.lnB A.sguW A.sguB (ix2 (row T a) b) := by
  pointwise! [gated, k0_pay73, val_main_v124]
  rw [show k0_pay72 _ _ _ _ _ _ _ _ _ _ (ix2 a b) = _ from gate_at h a b, uu_at h]

theorem siluB_at (h : Reads A T i X) (a : Fin 128) (b : Fin 1024) : siluB X (ix2 a b) = val_main_v125_0 (F := Ideal) A.proj (ix2 (row T a) b) := by
  pointwise! [siluB, k0_pay75, k0_pay74, val_main_v125_0, val_main_v125_2, val_main_call4_v4, val_main_call4_cst_0, val_main_call4_v3,
    val_main_call4_v2, val_main_call4_cst, val_main_call4_v1, val_main_call4_v0]
  simp only [gb_at h]
  rfl

/-- The middle branch: the gated product times the activation of its gate. -/
def brB (X : Ins Ideal) : FVec Ideal S128x1024 .f32 :=
  k0_pay76 (uu X) (gb X) (z0 X) (z1 X) (z2 X) (z3 X) (z4 X) (z5 X) (z6 X) (m7 X) (v7 X) X.i11

theorem brB_at (h : Reads A T i X) (a : Fin 128) (b : Fin 1024) : brB X (ix2 a b) = val_main_v126 (F := Ideal) A.proj A.lnG A.lnB A.sguW A.sguB (ix2 (row T a) b) := by
  pointwise! [brB, k0_pay76, val_main_v126]
  rw [show k0_pay73 _ _ _ _ _ _ _ _ _ _ _ (ix2 a b) = _ from gated_at h a b, show k0_pay75 _ (ix2 a b) = _ from siluB_at h a b]

theorem rsB_at (h : Reads A T i X) (a : Fin 128) : rsB X (ix2 a 0) = val_main_v191 (F := Ideal) A.proj A.lnG A.lnB A.sguW A.sguB (ix2 (row T a) 0) := by
  rw [show rsB X = k0_pay77 _ _ _ _ _ _ _ _ _ _ _ _ from rfl]
  pointwise! [k0_pay77, val_main_v191, val_main_v190, val_main_v188, val_main_v186, val_main_v185, val_main_v184, val_main_cst_34, val_main_v187,
    val_main_cst_35, val_main_v189, val_main_cst_36]
  simp only [← brB_at h]
  rfl

theorem nrmB_at (h : Reads A T i X) (a : Fin 128) (b : Fin 1024) : nrmB X (ix2 a b) = val_main_v196 (F := Ideal) A.proj A.lnG A.lnB A.sguW A.sguB (ix2 (row T a) b) := by
  pointwise! [nrmB, k0_pay78, val_main_v196, val_main_v195]
  rw [show k0_pay77 _ _ _ _ _ _ _ _ _ _ _ _ (ix2 a 0) = _ from rsB_at h a, show k0_pay76 _ _ _ _ _ _ _ _ _ _ _ _ (ix2 a b) = _ from brB_at h a b]

theorem gainB_at (h : Reads A T i X) (b : Fin 1024) : gainB X (ix2 0 b) = val_main_v167 (F := Ideal) A.gains (ix2 0 b) := by
  pointwise! [gainB, val_main_v167]
  rw [h.gains]

theorem yB_at (h : Reads A T i X) (a : Fin 128) (b : Fin 1024) : yB X (ix2 a b) = val_main_v198 (F := Ideal) A.proj A.lnG A.lnB A.sguW A.sguB A.gains (ix2 (row T a) b) := by
  pointwise! [yB, k0_pay79, val_main_v198, val_main_v197]
  rw [show k0_pay78 _ _ _ _ _ _ _ _ _ _ _ _ (ix2 a b) = _ from nrmB_at h a b, ← gainB_at h b]
  pointwise [gainB]

end Tile

end Cert.KernelIdeal.Mix

end

end
-- ==== Proof.MixFwdC.lean ====
/- The forward half of one tile of the mixing kernel, read against the reference: row `a` of the tile that holds rows
   `128 T ..` of the sequence is row `128 T + a` of the reference's arrays. -/
module

public import proofs.«01_k».proof.Proof.MixFwd
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

/-- The softmax of a row of scores. -/
def soft (s : Fin 256 → EReal) (m : Fin 256) : EReal :=
  Ideal.div (Ideal.exp (s m - Finset.fold max (Ideal.ofBits FTy.f32 4286578688#32) s Finset.univ))
    (∑ x, Ideal.exp (s x - Finset.fold max (Ideal.ofBits FTy.f32 4286578688#32) s Finset.univ))

theorem score_ref (A : Args) (n : Fin 4) (R : Fin 4096) (m : Fin 256) : val_main_v132 (F := Ideal) A.proj A.kv (ix3 n R m) =
    (∑ d : Fin 256, val_main_v7 (F := Ideal) A.proj (ix2 R ⟨n.val * 256 + d.val,
    by omega⟩) * val_main_v9 (F := Ideal) A.kv (ix2 m ⟨n.val * 256 + d.val, by omega⟩)) * Ideal.ofBits .f32 0x3D800000#32 := by
  pointwise! [val_main_v132, val_main_v130, val_main_v127, val_main_v128, val_main_v131, val_main_cst_19]

theorem foldMax_ref (A : Args) (n : Fin 4) (R : Fin 4096) : val_main_v133 (F := Ideal) A.proj A.kv (ix2 n R) =
    Finset.fold max (Ideal.ofBits FTy.f32 4286578688#32) (fun m => val_main_v132 (F := Ideal) A.proj A.kv (ix3 n R m)) Finset.univ := by
  pointwise [val_main_v133, val_main_cst_20]

theorem max_ref (A : Args) (n : Fin 4) (R : Fin 4096) : val_main_v140 (F := Ideal) A.proj A.kv (ix2 n R) = val_main_v133 (F := Ideal) A.proj A.kv (ix2 n R) := by
  have e := foldMax_ref A n R
  unfold val_main_v140
  generalize val_main_v133 (F := Ideal) A.proj A.kv = y at e ⊢
  have e' : maximumf (val_main_v139 (F := Ideal)) y (ix2 n R) = max (Ideal.ofBits FTy.f32 4286578688#32) (y (ix2 n R)) := by
    rw [maximumf]
    rfl
  rw [e', e]
  exact max_eq_right ((Finset.le_fold_max _).mpr (Or.inl le_rfl))

theorem exp_ref (A : Args) (n : Fin 4) (R : Fin 4096) (m : Fin 256) : val_main_v153 (F := Ideal) A.proj A.kv (ix3 n R m) =
    Ideal.exp (val_main_v132 (F := Ideal) A.proj A.kv (ix3 n R m) - val_main_v140 (F := Ideal) A.proj A.kv (ix2 n R)) := by
  pointwise! [val_main_v153, val_main_v152, val_main_v151, val_main_v150]

theorem sum_ref (A : Args) (n : Fin 4) (R : Fin 4096) : val_main_v155 (F := Ideal) A.proj A.kv (ix3 n R 0) = ∑ m,
    val_main_v153 (F := Ideal) A.proj A.kv (ix3 n R m) := by
  pointwise! [val_main_v155, val_main_v154, val_main_cst_28]

theorem soft_ref (A : Args) (n : Fin 4) (R : Fin 4096) (m : Fin 256) : val_main_v157 (F := Ideal) A.proj A.kv (ix3 n R m) = soft (fun m => val_main_v132 (F := Ideal) A.proj A.kv (ix3 n R m)) m := by
  have e : val_main_v157 (F := Ideal) A.proj A.kv (ix3 n R m) = Ideal.div (val_main_v153 (F := Ideal) A.proj A.kv (ix3 n R m)) (val_main_v155 (F := Ideal) A.proj A.kv (ix3 n R 0)) := by
    pointwise! [val_main_v157, val_main_v156]
  rw [e, sum_ref]
  simp only [exp_ref, max_ref, foldMax_ref, soft]

theorem key_ref (A : Args) (m : Fin 256) (b : Fin 1024) : val_main_v9 (F := Ideal) A.kv (ix2 m b) = A.kv (ix2 m ⟨b.val, by omega⟩) := by
  pointwise! [val_main_v9, val_main_v1]

theorem p0_at (h : Reads A T i X) (a : Fin 128) (m : Fin 256) : p0 X (ix2 a m) = val_main_v157 (F := Ideal) A.proj A.kv (ix3 0 (row T a) m) := by
  have e : p0 X (ix2 a m) = soft (fun m => (∑ d : Fin 256, qq X (ix2 a ⟨d.val, by omega⟩) * X.i5 (ix2 ⟨d.val, by omega⟩ m)) *
      Ideal.ofBits .f32 0x3D800000#32) m := by
    pointwise [p0, k0_pay82, k0_pay81, soft, qq]
  rw [e, soft_ref]
  congr 1
  funext m
  rw [score_ref]
  congr 1
  refine Finset.sum_congr rfl fun d _ => ?_
  have e1 : qq X (ix2 a ⟨d.val, by omega⟩) = val_main_v7 (F := Ideal) A.proj (ix2 (row T a) ⟨(0 : Fin 4).val * 256 + d.val, by omega⟩) :=
    (qq_at h a _).trans (congrArg (fun c => val_main_v7 (F := Ideal) A.proj (ix2 (row T a) c)) (Fin.ext (by simp)))
  have e2 : X.i5 (ix2 ⟨d.val, by omega⟩ m) = val_main_v9 (F := Ideal) A.kv (ix2 m ⟨(0 : Fin 4).val * 256 + d.val, by omega⟩) := by
    rw [h.kvT, key_ref]
    exact congrArg (fun c => A.kv (ix2 m c)) (Fin.ext (by simp))
  rw [e1, e2]

theorem p1_at (h : Reads A T i X) (a : Fin 128) (m : Fin 256) : p1 X (ix2 a m) = val_main_v157 (F := Ideal) A.proj A.kv (ix3 1 (row T a) m) := by
  have e : p1 X (ix2 a m) = soft (fun m => (∑ d : Fin 256, qq X (ix2 a ⟨256 + d.val, by omega⟩) * X.i5 (ix2 ⟨256 + d.val, by omega⟩ m)) *
      Ideal.ofBits .f32 0x3D800000#32) m := by
    pointwise [p1, k0_pay85, k0_pay84, soft]
  rw [e, soft_ref]
  congr 1
  funext m
  rw [score_ref]
  congr 1
  refine Finset.sum_congr rfl fun d _ => ?_
  have e1 : qq X (ix2 a ⟨256 + d.val, by omega⟩) = val_main_v7 (F := Ideal) A.proj (ix2 (row T a) ⟨(1 : Fin 4).val * 256 + d.val, by omega⟩) :=
    (qq_at h a _).trans (congrArg (fun c => val_main_v7 (F := Ideal) A.proj (ix2 (row T a) c)) (Fin.ext (by simp)))
  have e2 : X.i5 (ix2 ⟨256 + d.val, by omega⟩ m) = val_main_v9 (F := Ideal) A.kv (ix2 m ⟨(1 : Fin 4).val * 256 + d.val, by omega⟩) := by
    rw [h.kvT, key_ref]
    exact congrArg (fun c => A.kv (ix2 m c)) (Fin.ext (by simp))
  rw [e1, e2]

theorem p2_at (h : Reads A T i X) (a : Fin 128) (m : Fin 256) : p2 X (ix2 a m) = val_main_v157 (F := Ideal) A.proj A.kv (ix3 2 (row T a) m) := by
  have e : p2 X (ix2 a m) = soft (fun m => (∑ d : Fin 256, qq X (ix2 a ⟨512 + d.val, by omega⟩) * X.i5 (ix2 ⟨512 + d.val, by omega⟩ m)) *
      Ideal.ofBits .f32 0x3D800000#32) m := by
    pointwise [p2, k0_pay88, k0_pay87, soft]
  rw [e, soft_ref]
  congr 1
  funext m
  rw [score_ref]
  congr 1
  refine Finset.sum_congr rfl fun d _ => ?_
  have e1 : qq X (ix2 a ⟨512 + d.val, by omega⟩) = val_main_v7 (F := Ideal) A.proj (ix2 (row T a) ⟨(2 : Fin 4).val * 256 + d.val, by omega⟩) :=
    (qq_at h a _).trans (congrArg (fun c => val_main_v7 (F := Ideal) A.proj (ix2 (row T a) c)) (Fin.ext (by simp)))
  have e2 : X.i5 (ix2 ⟨512 + d.val, by omega⟩ m) = val_main_v9 (F := Ideal) A.kv (ix2 m ⟨(2 : Fin 4).val * 256 + d.val, by omega⟩) := by
    rw [h.kvT, key_ref]
    exact congrArg (fun c => A.kv (ix2 m c)) (Fin.ext (by simp))
  rw [e1, e2]

theorem p3_at (h : Reads A T i X) (a : Fin 128) (m : Fin 256) : p3 X (ix2 a m) = val_main_v157 (F := Ideal) A.proj A.kv (ix3 3 (row T a) m) := by
  have e : p3 X (ix2 a m) = soft (fun m => (∑ d : Fin 256, qq X (ix2 a ⟨768 + d.val, by omega⟩) * X.i5 (ix2 ⟨768 + d.val, by omega⟩ m)) *
      Ideal.ofBits .f32 0x3D800000#32) m := by
    pointwise [p3, q3, k0_pay91, k0_pay90, soft]
  rw [e, soft_ref]
  congr 1
  funext m
  rw [score_ref]
  congr 1
  refine Finset.sum_congr rfl fun d _ => ?_
  have e1 : qq X (ix2 a ⟨768 + d.val, by omega⟩) = val_main_v7 (F := Ideal) A.proj (ix2 (row T a) ⟨(3 : Fin 4).val * 256 + d.val, by omega⟩) :=
    (qq_at h a _).trans (congrArg (fun c => val_main_v7 (F := Ideal) A.proj (ix2 (row T a) c)) (Fin.ext (by simp)))
  have e2 : X.i5 (ix2 ⟨768 + d.val, by omega⟩ m) = val_main_v9 (F := Ideal) A.kv (ix2 m ⟨(3 : Fin 4).val * 256 + d.val, by omega⟩) := by
    rw [h.kvT, key_ref]
    exact congrArg (fun c => A.kv (ix2 m c)) (Fin.ext (by simp))
  rw [e1, e2]

theorem value_ref (A : Args) (m : Fin 256) (b : Fin 1024) : val_main_v10 (F := Ideal) A.kv (ix2 m b) = A.kv (ix2 m ⟨1024 + b.val, by omega⟩) := by
  pointwise! [val_main_v10, val_main_v1]

theorem oo_ref (A : Args) (R : Fin 4096) (b : Fin 1024) : val_main_v163 (F := Ideal) A.proj A.kv (ix2 R b) = ∑ m,
    val_main_v157 (F := Ideal) A.proj A.kv (ix3 ⟨b.val / 256, by omega⟩ R m) * val_main_v10 (F := Ideal) A.kv (ix2 m b) := by
  pointwise! [val_main_v163, val_main_v162, val_main_v161, val_main_v129]

theorem o0_at (X : Ins Ideal) (a : Fin 128) (e : Fin 256) : o0 X (ix2 a e) = ∑ m, p0 X (ix2 a m) * X.i4 (ix2 m ⟨1024 + e.val, by omega⟩) := by
  pointwise [o0, k0_pay83]

theorem o1_at (X : Ins Ideal) (a : Fin 128) (e : Fin 256) : o1 X (ix2 a e) = ∑ m, p1 X (ix2 a m) * X.i4 (ix2 m ⟨1280 + e.val, by omega⟩) := by
  pointwise [o1, k0_pay86]
  rfl

theorem o2_at (X : Ins Ideal) (a : Fin 128) (e : Fin 256) : o2 X (ix2 a e) = ∑ m, p2 X (ix2 a m) * X.i4 (ix2 m ⟨1536 + e.val, by omega⟩) := by
  pointwise [o2, k0_pay89]
  rfl

/-- A head's output row: its probabilities against the memory's values. -/
theorem head_at (h : Reads A T i X) (n : Fin 4) (p : FVec Ideal S128x256 .bf16) (a : Fin 128) (b : Fin 1024) (c : Fin 2048)
    (hc : c.val = 1024 + b.val) (hn : b.val / 256 = n.val) (hp : ∀ m, p (ix2 a m) = val_main_v157 (F := Ideal) A.proj A.kv (ix3 n (row T a) m)) :
    (∑ m, p (ix2 a m) * X.i4 (ix2 m c)) = val_main_v163 (F := Ideal) A.proj A.kv (ix2 (row T a) b) := by
  rw [show c = ⟨1024 + b.val, by omega⟩ from Fin.ext hc, oo_ref, show (⟨b.val / 256, by omega⟩ : Fin 4) = n from Fin.ext hn]
  refine Finset.sum_congr rfl fun m _ => ?_
  rw [hp, h.kv, value_ref]

theorem oo_at (h : Reads A T i X) (a : Fin 128) (b : Fin 1024) : oo X (ix2 a b) = val_main_v163 (F := Ideal) A.proj A.kv (ix2 (row T a) b) := by
  pointwise [oo, k0_pay92]
  split
  · rw [o0_at]; exact head_at h 0 _ a b _ (by first | rfl | (dsimp only; omega)) (by show b.val / 256 = 0; omega) (p0_at h a)
  split
  · rw [o1_at]; exact head_at h 1 _ a b _ (by first | rfl | (dsimp only; omega)) (by show b.val / 256 = 1; omega) (p1_at h a)
  split
  · rw [o2_at]; exact head_at h 2 _ a b _ (by first | rfl | (dsimp only; omega)) (by show b.val / 256 = 2; omega) (p2_at h a)
  · exact head_at h 3 (p3 X) a b _ (by first | rfl | (dsimp only; omega)) (by show b.val / 256 = 3; omega) (p3_at h a)

theorem siluC_at (h : Reads A T i X) (a : Fin 128) (b : Fin 1024) : siluC X (ix2 a b) = val_main_v164_0 (F := Ideal) A.proj (ix2 (row T a) b) := by
  pointwise! [siluC, k0_pay93, k0_pay94, val_main_v164_0, val_main_v164_2, val_main_call5_v4, val_main_call5_cst_0, val_main_call5_v3,
    val_main_call5_v2, val_main_call5_cst, val_main_call5_v1, val_main_call5_v0]
  simp only [gc_at h]
  rfl

/-- The last branch: the attention's output times the activation of its gate. -/
def brC (X : Ins Ideal) : FVec Ideal S128x1024 .f32 :=
  k0_pay95 (gc X) (o0 X) (o1 X) (o2 X) (q3 X) (View.ld X.i5 (Rect.unit (s := S2048x256) ![768, 0] S256x256.size inb_S2048x256_S256x256_768_0))
    (View.ld X.i4 (Rect.unit (s := S256x2048) ![0, 1792] S256x256.size inb_S256x2048_S256x256_0_1792))

theorem brC_at (h : Reads A T i X) (a : Fin 128) (b : Fin 1024) : brC X (ix2 a b) = val_main_v165 (F := Ideal) A.proj A.kv (ix2 (row T a) b) := by
  pointwise! [brC, k0_pay95, val_main_v165]
  rw [show k0_pay92 _ _ _ _ _ _ (ix2 a b) = _ from oo_at h a b, show k0_pay94 _ (ix2 a b) = _ from siluC_at h a b]

/-- The root mean square's reciprocal of a row. -/
def rms (v : Fin 1024 → EReal) : EReal :=
  Ideal.rsqrt (Ideal.div (∑ b, v b * v b) (Ideal.ofBits FTy.f32 1149239296#32) + Ideal.ofBits FTy.f32 897988541#32)

theorem rms_C (g : FVec Ideal S128x1024 .f32) (u0 u1 u2 : FVec Ideal S128x256 .f32) (q k v) (a : Fin 128) :
    k0_pay96 g u0 u1 u2 q k v (ix2 a 0) = rms (fun b => k0_pay95 g u0 u1 u2 q k v (ix2 a b)) := by
  pointwise [k0_pay96, rms]

theorem rsC_at (h : Reads A T i X) (a : Fin 128) : rsC X (ix2 a 0) = val_main_v206 (F := Ideal) A.proj A.kv (ix2 (row T a) 0) := by
  have e : rsC X (ix2 a 0) = rms (fun b => brC X (ix2 a b)) := rms_C _ _ _ _ _ _ _ a
  rw [e, rms]
  simp only [brC_at h]
  pointwise! [val_main_v206, val_main_v205, val_main_v203, val_main_v201, val_main_v200, val_main_v199, val_main_cst_38, val_main_v202,
    val_main_cst_39, val_main_v204, val_main_cst_40]

theorem nrmC_at (h : Reads A T i X) (a : Fin 128) (b : Fin 1024) : nrmC X (ix2 a b) = val_main_v211 (F := Ideal) A.proj A.kv (ix2 (row T a) b) := by
  pointwise! [nrmC, k0_pay97, val_main_v211, val_main_v210]
  rw [show k0_pay96 _ _ _ _ _ _ _ (ix2 a 0) = _ from rsC_at h a, show k0_pay95 _ _ _ _ _ _ _ (ix2 a b) = _ from brC_at h a b]

theorem gainC_at (h : Reads A T i X) (b : Fin 1024) : gainC X (ix2 0 b) = val_main_v168 (F := Ideal) A.gains (ix2 0 b) := by
  pointwise! [gainC, val_main_v168]
  rw [h.gains]

theorem yC_at (h : Reads A T i X) (a : Fin 128) (b : Fin 1024) : yC X (ix2 a b) = val_main_v213 (F := Ideal) A.proj A.kv A.gains (ix2 (row T a) b) := by
  pointwise! [yC, k0_pay98, val_main_v213, val_main_v212]
  rw [show k0_pay97 _ _ _ _ _ _ _ (ix2 a b) = _ from nrmC_at h a b, ← gainC_at h b]
  pointwise [gainC]

end Tile

end Cert.KernelIdeal.Mix

end

end
-- ==== Proof.MixPool.lean ====
/- Sums over a sliding window. The reference takes them as differences of running sums, the kernel adds the rows of the
   window; both are the same real number when the entries are real. -/
module

public import proofs.«01_k».proof.Proof.MixTile
import Idealize.ShloMosaic.Lib.Pointwise

@[expose] public section

noncomputable section

open Idealize.ShloMosaic

namespace Cert.KernelIdeal.Mix

/-- A value that is a real number, not an infinity. -/
def IsFin (x : EReal) : Prop := ∃ r : ℝ, x = (r : EReal)

namespace IsFin

theorem coe (r : ℝ) : IsFin (r : EReal) := ⟨r, rfl⟩

theorem zero : IsFin 0 := ⟨0, rfl⟩

theorem one : IsFin 1 := ⟨1, rfl⟩

theorem eq {x : EReal} (h : IsFin x) : x = (x.toReal : EReal) := by
  obtain ⟨r, rfl⟩ := h; rfl

theorem add {x y : EReal} (hx : IsFin x) (hy : IsFin y) : IsFin (x + y) := by
  obtain ⟨r, rfl⟩ := hx; obtain ⟨s, rfl⟩ := hy; exact ⟨r + s, rfl⟩

theorem sub {x y : EReal} (hx : IsFin x) (hy : IsFin y) : IsFin (x - y) := by
  obtain ⟨r, rfl⟩ := hx; obtain ⟨s, rfl⟩ := hy; exact ⟨r - s, rfl⟩

theorem neg {x : EReal} (hx : IsFin x) : IsFin (-x) := by
  obtain ⟨r, rfl⟩ := hx; exact ⟨-r, rfl⟩

theorem mul {x y : EReal} (hx : IsFin x) (hy : IsFin y) : IsFin (x * y) := by
  obtain ⟨r, rfl⟩ := hx; obtain ⟨s, rfl⟩ := hy; exact ⟨r * s, rfl⟩

theorem sum {ι : Type*} (s : Finset ι) {f : ι → EReal} (h : ∀ k ∈ s, IsFin (f k)) : IsFin (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

theorem div {x : EReal} (hx : IsFin x) {s : ℝ} (hs : s ≠ 0) : IsFin (Ideal.div x (s : EReal)) := by
  rw [Ideal.div_coe hs]; exact hx.mul (coe _)

theorem ite {p : Prop} [Decidable p] {x y : EReal} (hx : IsFin x) (hy : IsFin y) : IsFin (if p then x else y) := by
  split <;> assumption

end IsFin

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Adding the entries of a list one after the other is their sum. -/
theorem foldl_sum {n : ℕ} (g : Fin n → EReal) : (List.finRange n).foldl (fun r k => r + g k) 0 = ∑ k, g k := by
  rw [Fin.sum_univ_def, List.sum_eq_foldl, List.foldl_map]

/-- A window sum started at zero is the sum, over the places of the window, of what lies inside the array. -/
theorem window_sum {N G C : ℕ} (l u : ℕ) (x : (⟨3, ![N, G, C]⟩ : Shape).Idx → EReal)
    (h : (⟨3, ![N, G, C]⟩ : Shape).ReduceWindows ![N, 1, 1] ![1, 1, 1] ![l, 0, 0] ![u, 0, 0] ⟨3, ![N, G, C]⟩)
    (R : Fin N) (g : Fin G) (f : Fin C) :
    Ideal.hostReduceWindowAdd ![N, 1, 1] ![1, 1, 1] ![l, 0, 0] ![u, 0, 0] h x 0 (ix3 R g f)
      = ∑ k : Fin N, if h : l ≤ R.val + k.val ∧ R.val + k.val - l < N then x (ix3 ⟨R.val + k.val - l, h.2⟩ g f) else 0 := by
  have hg := g.isLt
  have hf := f.isLt
  refine (foldl_sum _).trans ?_
  refine (Equiv.sum_comp (Shape.rowMajor (⟨3, ![N, 1, 1]⟩ : Shape)).symm (fun w : (⟨3, ![N, 1, 1]⟩ : Shape).Idx =>
    @dite EReal (∀ a : Fin 3, (![l, 0, 0] : Fin 3 → ℕ) a ≤ (ix3 R g f a).val * (![1, 1, 1] : Fin 3 → ℕ) a + (w a).val ∧
        (ix3 R g f a).val * (![1, 1, 1] : Fin 3 → ℕ) a + (w a).val - (![l, 0, 0] : Fin 3 → ℕ) a < (⟨3, ![N, G, C]⟩ : Shape).size a)
      (Nat.decidableForallFin _)
      (fun hin => x fun a => ⟨(ix3 R g f a).val * (![1, 1, 1] : Fin 3 → ℕ) a + (w a).val - (![l, 0, 0] : Fin 3 → ℕ) a, (hin a).2⟩)
      (fun _ => 0))).trans ?_
  rw [sum_idx3]
  refine Finset.sum_congr rfl fun k _ => ?_
  rw [Fin.sum_univ_one, Fin.sum_univ_one]
  split
  · next hin =>
    have h0 : l ≤ R.val * 1 + k.val ∧ R.val * 1 + k.val - l < N := hin 0
    rw [dif_pos (by omega)]
    refine congrArg x (funext fun a => Fin.ext ?_)
    match a with
    | ⟨0, _⟩ => show R.val * 1 + k.val - l = R.val + k.val - l; omega
    | ⟨1, _⟩ => show g.val * 1 + 0 - 0 = g.val; omega
    | ⟨2, _⟩ => show f.val * 1 + 0 - 0 = f.val; omega
  · next hin =>
    rw [dif_neg]
    refine fun hle => hin fun a => ?_
    match a with
    | ⟨0, _⟩ => show l ≤ R.val * 1 + k.val ∧ R.val * 1 + k.val - l < N; omega
    | ⟨1, _⟩ => show 0 ≤ g.val * 1 + 0 ∧ g.val * 1 + 0 - 0 < G; omega
    | ⟨2, _⟩ => show 0 ≤ f.val * 1 + 0 ∧ f.val * 1 + 0 - 0 < C; omega

/-- The first `n` entries of a sequence of reals, added. -/
def pre (x : ℕ → ℝ) (n : ℕ) : ℝ := ∑ k ∈ Finset.range n, x k

/-- A running sum from the first row, of real entries. -/
theorem window_low {N G C : ℕ} (l : ℕ) (hl : l + 1 = N) (x : (⟨3, ![N, G, C]⟩ : Shape).Idx → EReal) (y : ℕ → ℝ)
    (h : (⟨3, ![N, G, C]⟩ : Shape).ReduceWindows ![N, 1, 1] ![1, 1, 1] ![l, 0, 0] ![0, 0, 0] ⟨3, ![N, G, C]⟩)
    (R : Fin N) (g : Fin G) (f : Fin C) (hx : ∀ k : Fin N, x (ix3 k g f) = (y k.val : EReal)) :
    Ideal.hostReduceWindowAdd ![N, 1, 1] ![1, 1, 1] ![l, 0, 0] ![0, 0, 0] h x 0 (ix3 R g f) = (pre y (R.val + 1) : EReal) := by
  have hR := R.isLt
  rw [window_sum, pre, coe_sum]
  have e : ∀ k : Fin N, (if h : l ≤ R.val + k.val ∧ R.val + k.val - l < N then x (ix3 ⟨R.val + k.val - l, h.2⟩ g f) else 0)
      = (fun k : ℕ => if l ≤ R.val + k then (y (R.val + k - l) : EReal) else 0) k.val := fun k => by
    have hk := k.isLt
    by_cases hc : l ≤ R.val + k.val
    · rw [dif_pos (by omega), hx]; exact (if_pos hc).symm
    · rw [dif_neg (by omega)]; exact (if_neg hc).symm
  rw [Finset.sum_congr rfl fun k _ => e k, Fin.sum_univ_eq_sum_range (fun k : ℕ => if l ≤ R.val + k then (y (R.val + k - l) : EReal) else 0) N]
  have hN : N = (l - R.val) + (R.val + 1) := by omega
  rw [show Finset.range N = Finset.range ((l - R.val) + (R.val + 1)) from congrArg _ hN, Finset.sum_range_add]
  rw [Finset.sum_eq_zero fun k hk => if_neg (by have := Finset.mem_range.mp hk; omega), zero_add]
  refine Finset.sum_congr rfl fun k _ => ?_
  rw [if_pos (by omega)]
  congr 2; omega

/-- A running sum from the last row, of real entries. -/
theorem window_high {N G C : ℕ} (u : ℕ) (hu : u + 1 = N) (x : (⟨3, ![N, G, C]⟩ : Shape).Idx → EReal) (y : ℕ → ℝ)
    (h : (⟨3, ![N, G, C]⟩ : Shape).ReduceWindows ![N, 1, 1] ![1, 1, 1] ![0, 0, 0] ![u, 0, 0] ⟨3, ![N, G, C]⟩)
    (R : Fin N) (g : Fin G) (f : Fin C) (hx : ∀ k : Fin N, x (ix3 k g f) = (y k.val : EReal)) :
    Ideal.hostReduceWindowAdd ![N, 1, 1] ![1, 1, 1] ![0, 0, 0] ![u, 0, 0] h x 0 (ix3 R g f) = ((pre y N - pre y R.val : ℝ) : EReal) := by
  have hR := R.isLt
  have hp : pre y N - pre y R.val = ∑ k ∈ Finset.range (N - R.val), y (R.val + k) := by
    have : pre y N = pre y R.val + ∑ k ∈ Finset.range (N - R.val), y (R.val + k) := by
      unfold pre
      rw [← Finset.sum_range_add, show R.val + (N - R.val) = N from by omega]
    rw [this]; ring
  rw [window_sum, hp, coe_sum]
  have e : ∀ k : Fin N, (if h : 0 ≤ R.val + k.val ∧ R.val + k.val - 0 < N then x (ix3 ⟨R.val + k.val - 0, h.2⟩ g f) else 0)
      = (fun k : ℕ => if R.val + k < N then (y (R.val + k) : EReal) else 0) k.val := fun k => by
    have hk := k.isLt
    by_cases hc : R.val + k.val < N
    · rw [dif_pos (by omega), hx]; exact (if_pos hc).symm
    · rw [dif_neg (by omega)]; exact (if_neg hc).symm
  rw [Finset.sum_congr rfl fun k _ => e k, Fin.sum_univ_eq_sum_range (fun k : ℕ => if R.val + k < N then (y (R.val + k) : EReal) else 0) N]
  rw [show Finset.range N = Finset.range ((N - R.val) + R.val) from congrArg _ (by omega), Finset.sum_range_add]
  rw [Finset.sum_eq_zero (s := Finset.range R.val) fun k hk => if_neg (by omega), add_zero]
  refine Finset.sum_congr rfl fun k hk => ?_
  rw [if_pos (by have := Finset.mem_range.mp hk; omega)]

/-- The difference of two running sums is the sum of the window between them. -/
theorem pre_window (x : ℕ → ℝ) (R w : ℕ) :
    pre x (R + 1) - pre x (R + 1 - w) = ∑ k ∈ Finset.range w, if k ≤ R then x (R - k) else 0 := by
  induction w with
  | zero => simp
  | succ w ih =>
    rw [Finset.sum_range_succ, ← ih]
    by_cases hw : w ≤ R
    · rw [if_pos hw, show R + 1 - w = (R - w) + 1 from by omega, show R + 1 - (w + 1) = R - w from by omega]
      simp only [pre, Finset.sum_range_succ]
      ring
    · rw [if_neg hw, show R + 1 - w = 0 from by omega, show R + 1 - (w + 1) = 0 from by omega]
      ring

end Cert.KernelIdeal.Mix

end

end
-- ==== Proof.MixFwdA.lean ====
/- The pooled branch of the forward half of one tile of the mixing kernel, read against the reference. -/
module

public import proofs.«01_k».proof.Proof.MixFwdC
public import proofs.«01_k».proof.Proof.MixPool
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

/-- Every argument of the reference holds real numbers. -/
structure Args.Real (A : Args) : Prop where
  x : ∀ j, IsFin (A.x j)
  target : ∀ j, IsFin (A.target j)
  proj : ∀ j, IsFin (A.proj j)
  kv : ∀ j, IsFin (A.kv j)
  poolW : ∀ j, IsFin (A.poolW j)
  poolS : ∀ j, IsFin (A.poolS j)
  lnG : ∀ j, IsFin (A.lnG j)
  lnB : ∀ j, IsFin (A.lnB j)
  sguW : ∀ j, IsFin (A.sguW j)
  sguB : ∀ j, IsFin (A.sguB j)
  gains : ∀ j, IsFin (A.gains j)
  wOut : ∀ j, IsFin (A.wOut j)
  post : ∀ j, IsFin (A.post j)

/-- Column `b` of the pooled branch's input, as a sequence of reals. -/
def col (A : Args) (b n : ℕ) : ℝ :=
  if h : n < 4096 ∧ b < 1024 then (A.proj (ix2 ⟨n, h.1⟩ ⟨b, by omega⟩)).toReal else 0

/-- The mean over the window of the last `w` rows, less the row itself. -/
def pooled (w R : ℕ) (y : ℕ → ℝ) : ℝ := (pre y (R + 1) - pre y (R + 1 - w)) * (1 / min (1 + (R : ℝ)) w) - y R

namespace Tile

variable {A : Args} {T : Fin 32} {i : grid0.Coords} {X : Ins Ideal}

theorem input_ref (hA : A.Real) (R : Fin 4096) (g : Fin 4) (f : Fin 256) :
    val_main_v11 (F := Ideal) A.proj (ix3 R g f) = (col A (256 * g.val + f.val) R.val : EReal) := by
  rw [col, dif_pos ⟨R.isLt, by omega⟩, ← (hA.proj _).eq]
  pointwise [val_main_v11, val_main_v2, val_main_v0]
  refine congrArg A.proj ?_
  congr 1 <;> exact Fin.ext (by dsimp only; omega)

theorem zero_init (j : S_.Idx) : val_main_call0_call0_v0 (F := Ideal) j = 0 := by
  pointwise [val_main_call0_call0_v0, val_main_call0_call0_cst]

theorem running_ref (hA : A.Real) (R : Fin 4096) (g : Fin 4) (f : Fin 256) :
    val_main_v12 (F := Ideal) A.proj (ix3 R g f) = (pre (col A (256 * g.val + f.val)) (R.val + 1) : EReal) := by
  have H := fun k => input_ref hA k g f
  unfold val_main_v12 Host.reduceWindowAdd
  rw [zero_init]
  generalize val_main_v11 (F := Ideal) A.proj = x at H ⊢
  exact window_low 4095 rfl x _ _ R g f H

/-- A row number below `2 ^ 31` as a real. -/
theorem of_row (n : ℕ) (h : n < 2147483648) : (FloatOps.sitofp (F := Ideal) FTy.f32 (BitVec.ofNat 32 n)) = ((n : ℝ) : EReal) := by
  have e : (BitVec.ofNat 32 n).toInt = (n : ℤ) := by
    rw [BitVec.toInt_eq_toNat_of_lt] <;> rw [BitVec.toNat_ofNat] <;> omega
  show (((BitVec.ofNat 32 n).toInt : ℝ) : EReal) = _
  rw [e]; rfl

/-- What the reference computes of the two running sums is the pooled value. -/
theorem pooled_eq (w : ℕ) (hw : 0 < w) (R : ℕ) (y : ℕ → ℝ) (u : EReal)
    (hu : u = (pre y (R + 1 - w) : EReal)) :
    Ideal.div ((pre y (R + 1) : EReal) - u) (min (1 + ((R : ℝ) : EReal)) ((w : ℝ) : EReal)) - (y R : EReal)
      = (pooled w R y : EReal) := by
  have hc : (min (1 + (R : ℝ)) w : ℝ) ≠ 0 := by
    refine (lt_min ?_ ?_).ne'
    · positivity
    · exact_mod_cast hw
  have e : min (1 + ((R : ℝ) : EReal)) ((w : ℝ) : EReal) = ((min (1 + (R : ℝ)) w : ℝ) : EReal) := by
    rw [EReal.coe_strictMono.monotone.map_min]; rfl
  rw [hu, e, Ideal.div_coe hc, pooled]
  rfl

theorem before_ref (hA : A.Real) (w : ℕ) (R : Fin 4096) (g : Fin 4) (f : Fin 256) :
    (if h : R.val < w then (0 : EReal) else val_main_v12 (F := Ideal) A.proj (ix3 ⟨R.val - w, by omega⟩ g f))
      = (pre (col A (256 * g.val + f.val)) (R.val + 1 - w) : EReal) := by
  split
  · rw [show R.val + 1 - w = 0 from by omega]; simp [pre]
  · rw [running_ref hA, show R.val - w + 1 = R.val + 1 - w from by omega]

theorem two : Ideal.ofBits FTy.f32 1073741824#32 = ((2 : ℕ) : ℝ) := by
  simp [Ideal.ofBits, Ideal.ieee, -EReal.coe_mul]; norm_num
theorem four : Ideal.ofBits FTy.f32 1082130432#32 = ((4 : ℕ) : ℝ) := by
  simp [Ideal.ofBits, Ideal.ieee, -EReal.coe_mul]; norm_num
theorem eight : Ideal.ofBits FTy.f32 1090519040#32 = ((8 : ℕ) : ℝ) := by
  simp [Ideal.ofBits, Ideal.ieee, -EReal.coe_mul]; norm_num
theorem sixteen : Ideal.ofBits FTy.f32 1098907648#32 = ((16 : ℕ) : ℝ) := by
  simp [Ideal.ofBits, Ideal.ieee, -EReal.coe_mul]; norm_num

theorem d0_ref (hA : A.Real) (R : Fin 4096) (f : Fin 256) :
    val_main_v30 (F := Ideal) A.proj (ix2 R f) = (pooled 2 R.val (col A (256 * 0 + f.val)) : EReal) := by
  pointwise [val_main_v30, val_main_v27, val_main_v25, val_main_v17, val_main_v16, val_main_v20, val_main_v18, val_main_cst_0, val_main_v19,
    val_main_v26, val_main_v24, val_main_v23, val_main_v15, val_main_v14, val_main_cst, val_main_v13, val_main_v22, val_main_cst_2, val_main_v29,
    val_main_v28]
  rw [running_ref hA, input_ref hA, of_row _ (by omega), two]
  refine Eq.trans ?_ (congrArg (fun n => ((pooled 2 R.val (col A n) : ℝ) : EReal)) (Nat.zero_add f.val))
  exact pooled_eq 2 (by decide) R.val _ _ (before_ref hA 2 R 0 f)

theorem d1_ref (hA : A.Real) (R : Fin 4096) (f : Fin 256) :
    val_main_v45 (F := Ideal) A.proj (ix2 R f) = (pooled 4 R.val (col A (256 * 1 + f.val)) : EReal) := by
  pointwise [val_main_v45, val_main_v42, val_main_v40, val_main_v32, val_main_v31, val_main_v35, val_main_v33, val_main_cst_3, val_main_v34,
    val_main_v41, val_main_v39, val_main_v38, val_main_v15, val_main_v14, val_main_cst, val_main_v13, val_main_v37, val_main_cst_5, val_main_v44,
    val_main_v43]
  rw [running_ref hA, input_ref hA, of_row _ (by omega), four]
  exact pooled_eq 4 (by decide) R.val _ _ (before_ref hA 4 R 1 f)

theorem d2_ref (hA : A.Real) (R : Fin 4096) (f : Fin 256) :
    val_main_v60 (F := Ideal) A.proj (ix2 R f) = (pooled 8 R.val (col A (256 * 2 + f.val)) : EReal) := by
  pointwise [val_main_v60, val_main_v57, val_main_v55, val_main_v47, val_main_v46, val_main_v50, val_main_v48, val_main_cst_6, val_main_v49,
    val_main_v56, val_main_v54, val_main_v53, val_main_v15, val_main_v14, val_main_cst, val_main_v13, val_main_v52, val_main_cst_8, val_main_v59,
    val_main_v58]
  rw [running_ref hA, input_ref hA, of_row _ (by omega), eight]
  exact pooled_eq 8 (by decide) R.val _ _ (before_ref hA 8 R 2 f)

theorem d3_ref (hA : A.Real) (R : Fin 4096) (f : Fin 256) :
    val_main_v75 (F := Ideal) A.proj (ix2 R f) = (pooled 16 R.val (col A (256 * 3 + f.val)) : EReal) := by
  pointwise [val_main_v75, val_main_v72, val_main_v70, val_main_v62, val_main_v61, val_main_v65, val_main_v63, val_main_cst_9, val_main_v64,
    val_main_v71, val_main_v69, val_main_v68, val_main_v15, val_main_v14, val_main_cst, val_main_v13, val_main_v67, val_main_cst_11, val_main_v74,
    val_main_v73]
  rw [running_ref hA, input_ref hA, of_row _ (by omega), sixteen]
  exact pooled_eq 16 (by decide) R.val _ _ (before_ref hA 16 R 3 f)

theorem tile_word (h : Reads A T i X) : Scalar.subi 31#32 (BitVec.ofNat 32 (i 0).val) = BitVec.ofNat 32 T.val := by
  rw [h.point]
  exact (by decide : ∀ T : Fin 32, Scalar.subi 31#32 (BitVec.ofNat 32 (31 - T.val)) = BitVec.ofNat 32 T.val) T

/-- Row `k` rows back from row `a` of the tile, in column `b`; zero before the first row. -/
def back (A : Args) (T : Fin 32) (a : Fin 128) (b k : ℕ) : ℝ :=
  if k ≤ (row T a).val then col A b ((row T a).val - k) else 0

/-- The rows before the tile are zero for the first tile. -/
theorem before_at (h : Reads A T i X) (hA : A.Real) (a : Fin 128) (k : ℕ) (hk : k ≤ 16) (ha : 16 + a.val - k < 16) (b : Fin 1024) :
    k0_pay40 (Scalar.subi 31#32 (BitVec.ofNat 32 (i 0).val)) X.i1 (ix2 ⟨16 + a.val - k, ha⟩ b) = (back A T a b.val k : EReal) := by
  have hT := T.isLt
  have e := tile_word h
  rcases Nat.eq_zero_or_pos T.val with h0 | h0
  · rw [back, if_neg (by simp only [row]; omega), e, h0]
    pointwise [k0_pay40]
    rfl
  · have hc : Scalar.cmpi CmpIPredicate.eq (BitVec.ofNat 32 T.val) 0#32 = 0#1 :=
      (by decide : ∀ T : Fin 32, 0 < T.val → Scalar.cmpi CmpIPredicate.eq (BitVec.ofNat 32 T.val) 0#32 = 0#1) T h0
    rw [back, if_pos (by simp only [row]; omega), col, dif_pos ⟨by simp only [row]; omega, b.isLt⟩, ← (hA.proj _).eq, e]
    pointwise [k0_pay40]
    rw [hc]
    refine (h.halo _ _ h0).trans (congrArg A.proj ?_)
    congr 1
    exact Fin.ext (by simp only [row]; omega)

theorem xa_col (h : Reads A T i X) (hA : A.Real) (a : Fin 128) (b : Fin 1024) : xa X (ix2 a b) = (col A b.val (row T a).val : EReal) := by
  rw [xa_at h, col, dif_pos ⟨(row T a).isLt, b.isLt⟩, ← (hA.proj _).eq]
  pointwise [val_main_v2, val_main_v0]

theorem count_word (h : Reads A T i X) (a : Fin 128) (w : ℕ) (hw : w < 32) :
    FloatOps.sitofp (F := Ideal) FTy.f32 (IntOp.minsi (IntOp.addi (IntOp.addi (Scalar.muli
      (Scalar.subi 31#32 (BitVec.ofNat 32 (i 0).val)) 128#32) (BitVec.ofNat 32 a.val)) 1#32) (BitVec.ofNat 32 w))
      = ((min (1 + ((row T a).val : ℝ)) w : ℝ) : EReal) := by
  have hT := T.isLt
  have e : IntOp.addi (IntOp.addi (Scalar.muli (BitVec.ofNat 32 T.val) 128#32) (BitVec.ofNat 32 a.val)) 1#32
      = BitVec.ofNat 32 (1 + (row T a).val) := by
    show BitVec.ofNat 32 T.val * BitVec.ofNat 32 128 + BitVec.ofNat 32 a.val + BitVec.ofNat 32 1 = _
    rw [← BitVec.ofNat_mul, ← BitVec.ofNat_add, ← BitVec.ofNat_add]
    congr 1
    simp only [row]; omega
  have hr : (row T a).val < 4096 := (row T a).isLt
  have e2 : IntOp.minsi (BitVec.ofNat 32 (1 + (row T a).val)) (BitVec.ofNat 32 w) = BitVec.ofNat 32 (min (1 + (row T a).val) w) := by
    have slt : (BitVec.ofNat 32 (1 + (row T a).val)).slt (BitVec.ofNat 32 w) = decide (1 + (row T a).val < w) := by
      rw [BitVec.slt_eq_decide, BitVec.toInt_eq_toNat_of_lt, BitVec.toInt_eq_toNat_of_lt, BitVec.toNat_ofNat, BitVec.toNat_ofNat,
        Nat.mod_eq_of_lt, Nat.mod_eq_of_lt]
      · exact decide_eq_decide.mpr Nat.cast_lt
      · omega
      · omega
      · rw [BitVec.toNat_ofNat]; omega
      · rw [BitVec.toNat_ofNat]; omega
    unfold IntOp.minsi
    rw [slt]
    by_cases hc : 1 + (row T a).val < w
    · rw [min_eq_left hc.le]; simp [hc]
    · rw [min_eq_right (by omega)]; simp [hc]
  rw [tile_word h, e, e2, of_row _ (by omega)]
  push_cast
  rfl

theorem count_pos (R w : ℕ) (hw : 0 < w) : (min (1 + (R : ℝ)) w : ℝ) ≠ 0 := by
  refine (lt_min ?_ ?_).ne'
  · positivity
  · exact_mod_cast hw

theorem count2_at (h : Reads A T i X) (a : Fin 128) :
    k0_pay34 (F := Ideal) i (ix2 a 0) = ((1 / min (1 + ((row T a).val : ℝ)) (2 : ℕ) : ℝ) : EReal) := by
  pointwise [k0_pay34, k0_pay33]
  rw [count_word h a 2 (by decide), Ideal.div_coe (count_pos _ _ (by decide)), one_mul]
theorem count4_at (h : Reads A T i X) (a : Fin 128) :
    k0_pay35 (F := Ideal) i (ix2 a 0) = ((1 / min (1 + ((row T a).val : ℝ)) (4 : ℕ) : ℝ) : EReal) := by
  pointwise [k0_pay35, k0_pay33]
  rw [count_word h a 4 (by decide), Ideal.div_coe (count_pos _ _ (by decide)), one_mul]
theorem count8_at (h : Reads A T i X) (a : Fin 128) :
    k0_pay36 (F := Ideal) i (ix2 a 0) = ((1 / min (1 + ((row T a).val : ℝ)) (8 : ℕ) : ℝ) : EReal) := by
  pointwise [k0_pay36, k0_pay33]
  rw [count_word h a 8 (by decide), Ideal.div_coe (count_pos _ _ (by decide)), one_mul]
theorem count16_at (h : Reads A T i X) (a : Fin 128) :
    k0_pay37 (F := Ideal) i (ix2 a 0) = ((1 / min (1 + ((row T a).val : ℝ)) (16 : ℕ) : ℝ) : EReal) := by
  pointwise [k0_pay37, k0_pay33]
  rw [count_word h a 16 (by decide), Ideal.div_coe (count_pos _ _ (by decide)), one_mul]

theorem pooled_back (w : ℕ) (a : Fin 128) (b : ℕ) :
    pooled w (row T a).val (col A b)
      = (∑ k ∈ Finset.range w, back A T a b k) * (1 / min (1 + ((row T a).val : ℝ)) w) - col A b (row T a).val := by
  rw [pooled, pre_window]; rfl

theorem here_at (a : Fin 128) (b : ℕ) : col A b (row T a).val = back A T a b 0 := by
  rw [back, if_pos (Nat.zero_le _)]; rfl

/-- The rows before the tile and the rows of the tile, in window group 0. -/
def pair0 (i : grid0.Coords) (X : Ins Ideal) : FVec Ideal S144x256 .f32 :=
  concatenate S144x256 0 [⟨S16x256, extractStridedSlice S16x256 ![0, 0] (halo i X) slices_S16x1024_o0_0_S16x256⟩,
    ⟨S128x256, extractStridedSlice S128x256 ![0, 0] (xa X) slices_S128x1024_o0_0_S128x256⟩] concatenates_S16x256_S128x256_S144x256_d0

theorem pair0_at (h : Reads A T i X) (hA : A.Real) (a : Fin 128) (f : Fin 256) (k : ℕ) (hk : k ≤ 16) (hn : 16 + a.val - k < 144) :
    pair0 i X (ix2 ⟨16 + a.val - k, hn⟩ f) = (back A T a (256 * 0 + f.val) k : EReal) := by
  rw [Nat.mul_zero, Nat.zero_add]
  pointwise [pair0, halo]
  split
  · next hlt => exact before_at h hA a k hk hlt ⟨f.val, by omega⟩
  · next hlt =>
    refine (xa_col h hA ⟨16 + a.val - k - 16, by omega⟩ ⟨f.val, by omega⟩).trans ?_
    rw [back, if_pos (by simp only [row]; omega)]
    exact congrArg (fun n => (col A _ n : EReal)) (by simp only [row]; omega)

/-- The rows before the tile and the rows of the tile, in window group 1. -/
def pair1 (i : grid0.Coords) (X : Ins Ideal) : FVec Ideal S144x256 .f32 :=
  concatenate S144x256 0 [⟨S16x256, extractStridedSlice S16x256 ![0, 256] (halo i X) slices_S16x1024_o0_256_S16x256⟩,
    ⟨S128x256, extractStridedSlice S128x256 ![0, 256] (xa X) slices_S128x1024_o0_256_S128x256⟩] concatenates_S16x256_S128x256_S144x256_d0

theorem pair1_at (h : Reads A T i X) (hA : A.Real) (a : Fin 128) (f : Fin 256) (k : ℕ) (hk : k ≤ 16) (hn : 16 + a.val - k < 144) :
    pair1 i X (ix2 ⟨16 + a.val - k, hn⟩ f) = (back A T a (256 * 1 + f.val) k : EReal) := by
  pointwise [pair1, halo]
  split
  · next hlt => exact before_at h hA a k hk hlt ⟨256 + f.val, by omega⟩
  · next hlt =>
    refine (xa_col h hA ⟨16 + a.val - k - 16, by omega⟩ ⟨256 + f.val, by omega⟩).trans ?_
    rw [back, if_pos (by simp only [row]; omega)]
    exact congrArg (fun n => (col A _ n : EReal)) (by simp only [row]; omega)

/-- The rows before the tile and the rows of the tile, in window group 2. -/
def pair2 (i : grid0.Coords) (X : Ins Ideal) : FVec Ideal S144x256 .f32 :=
  concatenate S144x256 0 [⟨S16x256, extractStridedSlice S16x256 ![0, 512] (halo i X) slices_S16x1024_o0_512_S16x256⟩,
    ⟨S128x256, extractStridedSlice S128x256 ![0, 512] (xa X) slices_S128x1024_o0_512_S128x256⟩] concatenates_S16x256_S128x256_S144x256_d0

theorem pair2_at (h : Reads A T i X) (hA : A.Real) (a : Fin 128) (f : Fin 256) (k : ℕ) (hk : k ≤ 16) (hn : 16 + a.val - k < 144) :
    pair2 i X (ix2 ⟨16 + a.val - k, hn⟩ f) = (back A T a (256 * 2 + f.val) k : EReal) := by
  pointwise [pair2, halo]
  split
  · next hlt => exact before_at h hA a k hk hlt ⟨512 + f.val, by omega⟩
  · next hlt =>
    refine (xa_col h hA ⟨16 + a.val - k - 16, by omega⟩ ⟨512 + f.val, by omega⟩).trans ?_
    rw [back, if_pos (by simp only [row]; omega)]
    exact congrArg (fun n => (col A _ n : EReal)) (by simp only [row]; omega)

/-- The rows before the tile and the rows of the tile, in window group 3. -/
def pair3 (i : grid0.Coords) (X : Ins Ideal) : FVec Ideal S144x256 .f32 :=
  concatenate S144x256 0 [⟨S16x256, extractStridedSlice S16x256 ![0, 768] (halo i X) slices_S16x1024_o0_768_S16x256⟩,
    ⟨S128x256, extractStridedSlice S128x256 ![0, 768] (xa X) slices_S128x1024_o0_768_S128x256⟩] concatenates_S16x256_S128x256_S144x256_d0

theorem pair3_at (h : Reads A T i X) (hA : A.Real) (a : Fin 128) (f : Fin 256) (k : ℕ) (hk : k ≤ 16) (hn : 16 + a.val - k < 144) :
    pair3 i X (ix2 ⟨16 + a.val - k, hn⟩ f) = (back A T a (256 * 3 + f.val) k : EReal) := by
  pointwise [pair3, halo]
  split
  · next hlt => exact before_at h hA a k hk hlt ⟨768 + f.val, by omega⟩
  · next hlt =>
    refine (xa_col h hA ⟨16 + a.val - k - 16, by omega⟩ ⟨768 + f.val, by omega⟩).trans ?_
    rw [back, if_pos (by simp only [row]; omega)]
    exact congrArg (fun n => (col A _ n : EReal)) (by simp only [row]; omega)

theorem double1 (a : Fin 128) (f : Fin 256) (c : FVec Ideal S144x256 .f32) (Y : ℕ → ℝ) (m : ℕ)
    (hm : m ≤ 16) (hc : ∀ k, k ≤ m → ∀ hn, c (ix2 ⟨16 + a.val - k, hn⟩ f) = (Y k : EReal)) :
    ∀ k, k + 1 ≤ m → ∀ hn, addf c (dynamicRotate 0 1#32 none c rotates_S144x256_d0) (ix2 ⟨16 + a.val - k, hn⟩ f)
      = ((Y k + Y (k + 1) : ℝ) : EReal) := by
  intro k hk hn
  pointwise
  rw [EReal.coe_add]
  refine congrArg₂ (· + ·) (hc k (by omega) _) ((congrArg c ?_).trans (hc (k + 1) hk (by omega)))
  exact congrArg (fun n => ix2 n f) (Fin.ext (by dsimp only; omega))

theorem double2 (a : Fin 128) (f : Fin 256) (c : FVec Ideal S144x256 .f32) (Y : ℕ → ℝ) (m : ℕ)
    (hm : m ≤ 16) (hc : ∀ k, k ≤ m → ∀ hn, c (ix2 ⟨16 + a.val - k, hn⟩ f) = (Y k : EReal)) :
    ∀ k, k + 2 ≤ m → ∀ hn, addf c (dynamicRotate 0 2#32 none c rotates_S144x256_d0) (ix2 ⟨16 + a.val - k, hn⟩ f)
      = ((Y k + Y (k + 2) : ℝ) : EReal) := by
  intro k hk hn
  pointwise
  rw [EReal.coe_add]
  refine congrArg₂ (· + ·) (hc k (by omega) _) ((congrArg c ?_).trans (hc (k + 2) hk (by omega)))
  exact congrArg (fun n => ix2 n f) (Fin.ext (by dsimp only; omega))

theorem double4 (a : Fin 128) (f : Fin 256) (c : FVec Ideal S144x256 .f32) (Y : ℕ → ℝ) (m : ℕ)
    (hm : m ≤ 16) (hc : ∀ k, k ≤ m → ∀ hn, c (ix2 ⟨16 + a.val - k, hn⟩ f) = (Y k : EReal)) :
    ∀ k, k + 4 ≤ m → ∀ hn, addf c (dynamicRotate 0 4#32 none c rotates_S144x256_d0) (ix2 ⟨16 + a.val - k, hn⟩ f)
      = ((Y k + Y (k + 4) : ℝ) : EReal) := by
  intro k hk hn
  pointwise
  rw [EReal.coe_add]
  refine congrArg₂ (· + ·) (hc k (by omega) _) ((congrArg c ?_).trans (hc (k + 4) hk (by omega)))
  exact congrArg (fun n => ix2 n f) (Fin.ext (by dsimp only; omega))

theorem double8 (a : Fin 128) (f : Fin 256) (c : FVec Ideal S144x256 .f32) (Y : ℕ → ℝ) (m : ℕ)
    (hm : m ≤ 16) (hc : ∀ k, k ≤ m → ∀ hn, c (ix2 ⟨16 + a.val - k, hn⟩ f) = (Y k : EReal)) :
    ∀ k, k + 8 ≤ m → ∀ hn, addf c (dynamicRotate 0 8#32 none c rotates_S144x256_d0) (ix2 ⟨16 + a.val - k, hn⟩ f)
      = ((Y k + Y (k + 8) : ℝ) : EReal) := by
  intro k hk hn
  pointwise
  rw [EReal.coe_add]
  refine congrArg₂ (· + ·) (hc k (by omega) _) ((congrArg c ?_).trans (hc (k + 8) hk (by omega)))
  exact congrArg (fun n => ix2 n f) (Fin.ext (by dsimp only; omega))

theorem mean0 (W : FVec Ideal S144x256 .f32) (u : FVec Ideal S128x1 .f32) (x : FVec Ideal S128x1024 .f32) (a : Fin 128) (f : Fin 256) :
    (truncf .bf16 (subf (mulf (extractStridedSlice S128x256 ![16, 0] W slices_S144x256_o16_0_S128x256)
      (broadcastTo S128x256 u broadcasts_S128x1_S128x256)) (extractStridedSlice S128x256 ![0, 0] x slices_S128x1024_o0_0_S128x256))
      bitsLt_bf16_f32 : FVec Ideal S128x256 .bf16) (ix2 a f)
      = W (ix2 ⟨16 + a.val - 0, by omega⟩ f) * u (ix2 a 0) - x (ix2 a ⟨f.val, by omega⟩) := by
  pointwise

theorem mean1 (W : FVec Ideal S144x256 .f32) (u : FVec Ideal S128x1 .f32) (x : FVec Ideal S128x1024 .f32) (a : Fin 128) (f : Fin 256) :
    (truncf .bf16 (subf (mulf (extractStridedSlice S128x256 ![16, 0] W slices_S144x256_o16_0_S128x256)
      (broadcastTo S128x256 u broadcasts_S128x1_S128x256)) (extractStridedSlice S128x256 ![0, 256] x slices_S128x1024_o0_256_S128x256))
      bitsLt_bf16_f32 : FVec Ideal S128x256 .bf16) (ix2 a f)
      = W (ix2 ⟨16 + a.val - 0, by omega⟩ f) * u (ix2 a 0) - x (ix2 a ⟨256 + f.val, by omega⟩) := by
  pointwise

theorem mean2 (W : FVec Ideal S144x256 .f32) (u : FVec Ideal S128x1 .f32) (x : FVec Ideal S128x1024 .f32) (a : Fin 128) (f : Fin 256) :
    (truncf .bf16 (subf (mulf (extractStridedSlice S128x256 ![16, 0] W slices_S144x256_o16_0_S128x256)
      (broadcastTo S128x256 u broadcasts_S128x1_S128x256)) (extractStridedSlice S128x256 ![0, 512] x slices_S128x1024_o0_512_S128x256))
      bitsLt_bf16_f32 : FVec Ideal S128x256 .bf16) (ix2 a f)
      = W (ix2 ⟨16 + a.val - 0, by omega⟩ f) * u (ix2 a 0) - x (ix2 a ⟨512 + f.val, by omega⟩) := by
  pointwise

theorem mean3 (W : FVec Ideal S144x256 .f32) (u : FVec Ideal S128x1 .f32) (x : FVec Ideal S128x1024 .f32) (a : Fin 128) (f : Fin 256) :
    (truncf .bf16 (subf (mulf (extractStridedSlice S128x256 ![16, 0] W slices_S144x256_o16_0_S128x256)
      (broadcastTo S128x256 u broadcasts_S128x1_S128x256)) (extractStridedSlice S128x256 ![0, 768] x slices_S128x1024_o0_768_S128x256))
      bitsLt_bf16_f32 : FVec Ideal S128x256 .bf16) (ix2 a f)
      = W (ix2 ⟨16 + a.val - 0, by omega⟩ f) * u (ix2 a 0) - x (ix2 a ⟨768 + f.val, by omega⟩) := by
  pointwise

theorem d0_at (h : Reads A T i X) (hA : A.Real) (a : Fin 128) (f : Fin 256) :
    d0 i X (ix2 a f) = val_main_v30 (F := Ideal) A.proj (ix2 (row T a) f) := by
  rw [d0_ref hA, pooled_back]
  refine (mean0 _ _ _ a f).trans ?_
  have e := (double1 a f _ _ 16 (by decide) (pair0_at h hA a f)) 0 (by decide) (by omega)
  refine (congrArg₂ (fun z u => z * u - _) e (count2_at h a)).trans ?_
  rw [xa_col h hA]
  simp only [here_at, Finset.sum_range_succ, Finset.sum_range_zero, Nat.zero_add, Nat.reduceAdd, Nat.reduceMul, Nat.mul_zero,
    ← EReal.coe_add, ← EReal.coe_mul, ← EReal.coe_sub]
  congr 1
  ring

theorem d1_at (h : Reads A T i X) (hA : A.Real) (a : Fin 128) (f : Fin 256) :
    d1 i X (ix2 a f) = val_main_v45 (F := Ideal) A.proj (ix2 (row T a) f) := by
  rw [d1_ref hA, pooled_back]
  refine (mean1 _ _ _ a f).trans ?_
  have e := (double2 a f _ _ 15 (by decide) (fun k (hk : k ≤ 15) hn => (double1 a f _ _ 16 (by decide) (pair1_at h hA a f)) k (by omega) hn)) 0 (by decide) (by omega)
  refine (congrArg₂ (fun z u => z * u - _) e (count4_at h a)).trans ?_
  rw [xa_col h hA]
  simp only [here_at, Finset.sum_range_succ, Finset.sum_range_zero, Nat.zero_add, Nat.reduceAdd, Nat.reduceMul, Nat.mul_zero,
    ← EReal.coe_add, ← EReal.coe_mul, ← EReal.coe_sub]
  congr 1
  ring

theorem d2_at (h : Reads A T i X) (hA : A.Real) (a : Fin 128) (f : Fin 256) :
    d2 i X (ix2 a f) = val_main_v60 (F := Ideal) A.proj (ix2 (row T a) f) := by
  rw [d2_ref hA, pooled_back]
  refine (mean2 _ _ _ a f).trans ?_
  have e := (double4 a f _ _ 13 (by decide) (fun k (hk : k ≤ 13) hn => (double2 a f _ _ 15 (by decide) (fun k (hk : k ≤ 15) hn => (double1 a f _ _ 16 (by decide) (pair2_at h hA a f)) k (by omega) hn)) k (by omega) hn)) 0 (by decide) (by omega)
  refine (congrArg₂ (fun z u => z * u - _) e (count8_at h a)).trans ?_
  rw [xa_col h hA]
  simp only [here_at, Finset.sum_range_succ, Finset.sum_range_zero, Nat.zero_add, Nat.reduceAdd, Nat.reduceMul, Nat.mul_zero,
    ← EReal.coe_add, ← EReal.coe_mul, ← EReal.coe_sub]
  congr 1
  ring

theorem d3_at (h : Reads A T i X) (hA : A.Real) (a : Fin 128) (f : Fin 256) :
    d3 i X (ix2 a f) = val_main_v75 (F := Ideal) A.proj (ix2 (row T a) f) := by
  rw [d3_ref hA, pooled_back]
  refine (mean3 _ _ _ a f).trans ?_
  have e := (double8 a f _ _ 9 (by decide) (fun k (hk : k ≤ 9) hn => (double4 a f _ _ 13 (by decide) (fun k (hk : k ≤ 13) hn => (double2 a f _ _ 15 (by decide) (fun k (hk : k ≤ 15) hn => (double1 a f _ _ 16 (by decide) (pair3_at h hA a f)) k (by omega) hn)) k (by omega) hn)) k (by omega) hn)) 0 (by decide) (by omega)
  refine (congrArg₂ (fun z u => z * u - _) e (count16_at h a)).trans ?_
  rw [xa_col h hA]
  simp only [here_at, Finset.sum_range_succ, Finset.sum_range_zero, Nat.zero_add, Nat.reduceAdd, Nat.reduceMul, Nat.mul_zero,
    ← EReal.coe_add, ← EReal.coe_mul, ← EReal.coe_sub]
  congr 1
  ring

theorem stack_ref (R : Fin 4096) (g : Fin 4) (c : Fin 256) :
    val_main_v80 (F := Ideal) A.proj (ix3 R g c) = match g with
      | 0 => val_main_v30 (F := Ideal) A.proj (ix2 R c) | 1 => val_main_v45 (F := Ideal) A.proj (ix2 R c) | 2 => val_main_v60 (F := Ideal) A.proj (ix2 R c) | 3 => val_main_v75 (F := Ideal) A.proj (ix2 R c) := by
  match g with
  | 0 => pointwise [val_main_v80, val_main_v76, val_main_v77, val_main_v78, val_main_v79]
  | 1 => pointwise [val_main_v80, val_main_v76, val_main_v77, val_main_v78, val_main_v79]
  | 2 => pointwise [val_main_v80, val_main_v76, val_main_v77, val_main_v78, val_main_v79]
  | 3 => pointwise [val_main_v80, val_main_v76, val_main_v77, val_main_v78, val_main_v79]

theorem mix_ref (R : Fin 4096) (b : Fin 1024) :
    val_main_v83 (F := Ideal) A.proj A.poolW (ix2 R b) = ∑ c : Fin 256, A.poolW (ix3 ⟨b.val / 256, by omega⟩ c ⟨b.val % 256,
    by omega⟩) * val_main_v80 (F := Ideal) A.proj (ix3 R ⟨b.val / 256, by omega⟩ c) := by
  pointwise [val_main_v83, val_main_v82, val_main_v81]

theorem group_congr (R : Fin 4096) (b : Fin 1024) (g : Fin 4) (f : Fin 256) (hb : b.val = 256 * g.val + f.val) (d w : Fin 256 → EReal)
    (hd : ∀ c, d c = val_main_v80 (F := Ideal) A.proj (ix3 R g c)) (hw : ∀ c, w c = A.poolW (ix3 g c f)) : ∑ c,
    d c * w c = val_main_v83 (F := Ideal) A.proj A.poolW (ix2 R b) := by
  have eg : (⟨b.val / 256, by omega⟩ : Fin 4) = g := Fin.ext (by dsimp only; omega)
  have ef : (⟨b.val % 256, by omega⟩ : Fin 256) = f := Fin.ext (by dsimp only; omega)
  rw [mix_ref, eg, ef]
  exact Finset.sum_congr rfl fun c _ => by rw [hd, hw, mul_comm]

theorem mixed_at (h : Reads A T i X) (hA : A.Real) (a : Fin 128) (b : Fin 1024) : mixed i X (ix2 a b) = val_main_v83 (F := Ideal) A.proj A.poolW (ix2 (row T a) b) := by
  have hb := b.isLt
  unfold mixed e0 e1
  pointwise [k0_pay48, k0_pay42, k0_pay44]
  split
  · exact group_congr _ _ 0 ⟨b.val, by omega⟩ (by simp) _ _ (fun c => (d0_at h hA a c).trans (stack_ref _ 0 c).symm) fun c => h.poolW _ _ _
  split
  · exact group_congr _ _ 1 ⟨b.val - 256,
    by omega⟩ (by simp; omega) _ _ (fun c => (d1_at h hA a c).trans (stack_ref _ 1 c).symm) fun c => h.poolW _ _ _
  split
  · exact group_congr _ _ 2 ⟨b.val - 256 - 256,
    by omega⟩ (by simp; omega) _ _ (fun c => (d2_at h hA a c).trans (stack_ref _ 2 c).symm) fun c => h.poolW _ _ _
  · exact group_congr _ _ 3 ⟨b.val - 256 - 256 - 256,
    by omega⟩ (by simp; omega) _ _ (fun c => (d3_at h hA a c).trans (stack_ref _ 3 c).symm) fun c => h.poolW _ _ _

theorem scaled_at (h : Reads A T i X) (hA : A.Real) (a : Fin 128) (b : Fin 1024) : scaled i X (ix2 a b) = val_main_v85 (F := Ideal) A.proj A.poolW A.poolS (ix2 (row T a) b) := by
  pointwise [val_main_v85, val_main_v84]
  rw [← mixed_at h hA]
  unfold scaled
  pointwise [k0_pay49]
  rw [h.poolS]
  rfl

theorem brA_at (h : Reads A T i X) (hA : A.Real) (a : Fin 128) (b : Fin 1024) : brA i X (ix2 a b) = val_main_v87 (F := Ideal) A.proj A.poolW A.poolS (ix2 (row T a) b) := by
  pointwise [val_main_v87]
  rw [← scaled_at h hA, ← siluA_at h]
  rfl

theorem sqA_at (h : Reads A T i X) (hA : A.Real) (a : Fin 128) (b : Fin 1024) :
    sqA i X (ix2 a b) = val_main_v87 (F := Ideal) A.proj A.poolW A.poolS (ix2 (row T a) b) * val_main_v87 (F := Ideal) A.proj A.poolW A.poolS (ix2 (row T a) b) := by
  rw [← brA_at h hA]
  rfl

theorem rsA_at (h : Reads A T i X) (hA : A.Real) (a : Fin 128) : rsA i X (ix2 a 0) = val_main_v176 (F := Ideal) A.proj A.poolW A.poolS (ix2 (row T a) 0) := by
  unfold rsA
  pointwise [k0_pay54, val_main_v176, val_main_v175, val_main_v173, val_main_v171, val_main_v170, val_main_v169, val_main_cst_30, val_main_v172,
    val_main_cst_31, val_main_v174, val_main_cst_32]
  simp only [sqA_at h hA]

theorem nrmA_at (h : Reads A T i X) (hA : A.Real) (a : Fin 128) (b : Fin 1024) : nrmA i X (ix2 a b) = val_main_v181 (F := Ideal) A.proj A.poolW A.poolS (ix2 (row T a) b) := by
  unfold nrmA
  pointwise [k0_pay55, val_main_v181, val_main_v180]
  rw [brA_at h hA]
  exact congrArg _ (rsA_at h hA a)

theorem gainA_at (h : Reads A T i X) (b : Fin 1024) : gainA X (ix2 0 b) = val_main_v166 (F := Ideal) A.gains (ix2 0 b) := by
  pointwise! [gainA, val_main_v166]
  simp only [h.gains]

theorem yA_at (h : Reads A T i X) (hA : A.Real) (a : Fin 128) (b : Fin 1024) : yA i X (ix2 a b) = val_main_v183 (F := Ideal) A.proj A.poolW A.poolS A.gains (ix2 (row T a) b) := by
  pointwise [val_main_v183, val_main_v182]
  rw [← nrmA_at h hA, ← gainA_at h]
  unfold yA
  pointwise [k0_pay56]
  rfl

end Tile

end Cert.KernelIdeal.Mix

end

end
-- ==== Proof.MixOut.lean ====
/- The output projection, the loss and their gradients of one tile of the mixing kernel, read against the reference. -/
module

public import proofs.«01_k».proof.Proof.MixFwdA
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

/-- What the two copies of the output weights hold. -/
structure Weights (A : Args) (w : FVec Ideal S3072x2048 .bf16) (wt : FVec Ideal S2048x3072 .bf16) : Prop where
  w : ∀ (k : Fin 3072) (n : Fin 2048), w (ix2 k n) = A.wOut (ix2 k n)
  wt : ∀ (n : Fin 2048) (k : Fin 3072), wt (ix2 n k) = A.wOut (ix2 k n)

variable {w : FVec Ideal S3072x2048 .bf16} {wt : FVec Ideal S2048x3072 .bf16}

theorem catA_ref (R : Fin 4096) (k : Fin 1024) (e : Fin 3072) (he : e.val = k.val) : val_main_v214 (F := Ideal) A.proj A.kv A.poolW A.poolS A.lnG A.lnB A.sguW A.sguB A.gains (ix2 R e) = val_main_v183 (F := Ideal) A.proj A.poolW A.poolS A.gains (ix2 R k) := by
  pointwise [val_main_v214]
  rw [dif_pos (by omega)]
  exact congrArg (fun z => val_main_v183 (F := Ideal) A.proj A.poolW A.poolS A.gains (ix2 R z)) (Fin.ext he)

theorem catB_ref (R : Fin 4096) (k : Fin 1024) (e : Fin 3072) (he : e.val = 1024 + k.val) : val_main_v214 (F := Ideal) A.proj A.kv A.poolW A.poolS A.lnG A.lnB A.sguW A.sguB A.gains (ix2 R e) = val_main_v198 (F := Ideal) A.proj A.lnG A.lnB A.sguW A.sguB A.gains (ix2 R k) := by
  pointwise [val_main_v214]
  rw [dif_neg (by omega), dif_pos (by omega)]
  exact congrArg (fun z => val_main_v198 (F := Ideal) A.proj A.lnG A.lnB A.sguW A.sguB A.gains (ix2 R z)) (Fin.ext (by dsimp only; omega))

theorem catC_ref (R : Fin 4096) (k : Fin 1024) (e : Fin 3072) (he : e.val = 2048 + k.val) : val_main_v214 (F := Ideal) A.proj A.kv A.poolW A.poolS A.lnG A.lnB A.sguW A.sguB A.gains (ix2 R e) = val_main_v213 (F := Ideal) A.proj A.kv A.gains (ix2 R k) := by
  pointwise [val_main_v214]
  rw [dif_neg (by omega), dif_neg (by omega)]
  exact congrArg (fun z => val_main_v213 (F := Ideal) A.proj A.kv A.gains (ix2 R z)) (Fin.ext (by dsimp only; omega))

theorem sum_thirds (f : Fin 3072 → EReal) :
    ∑ k, f k = ∑ k : Fin 1024, f ⟨k.val, by omega⟩ + ∑ k : Fin 1024, f ⟨1024 + k.val, by omega⟩ + ∑ k : Fin 1024, f ⟨2048 + k.val, by omega⟩ := by
  rw [show ∑ k, f k = ∑ k : Fin (1024 + 1024 + 1024), f (k.cast (by norm_num)) from rfl, Fin.sum_univ_add, Fin.sum_univ_add]
  rfl

/-- The tile's rows of the output projection. -/
def out (i : grid0.Coords) (X : Ins Ideal) (w : FVec Ideal S3072x2048 .bf16) : FVec Ideal S128x2048 .f32 :=
  k0_pay102 (yB X) (yC X) (yA16 i X) ((View.ld w (Rect.unit (s := S3072x2048) ![0, 0] S1024x2048.size inb_S3072x2048_S1024x2048_0_0)))
    ((View.ld w (Rect.unit (s := S3072x2048) ![1024, 0] S1024x2048.size inb_S3072x2048_S1024x2048_1024_0)))
    ((View.ld w (Rect.unit (s := S3072x2048) ![2048, 0] S1024x2048.size inb_S3072x2048_S1024x2048_2048_0)))

theorem out_at (h : Reads A T i X) (hA : A.Real) (hw : Weights A w wt) (a : Fin 128) (b : Fin 2048) :
    out i X w (ix2 a b) = val_main_v215 (F := Ideal) A.proj A.kv A.poolW A.poolS A.lnG A.lnB A.sguW A.sguB A.gains A.wOut (ix2 (row T a) b) := by
  pointwise [val_main_v215]
  rw [sum_thirds]
  unfold out yA16
  pointwise [k0_pay102, k0_pay99, k0_pay100, k0_pay101]
  simp only [yA_at h hA, yB_at h, yC_at h, hw.w, fun R k => catA_ref (A := A) R k ⟨k.val, by omega⟩ rfl,
    fun R k => catB_ref (A := A) R k ⟨1024 + k.val, by omega⟩ rfl, fun R k => catC_ref (A := A) R k ⟨2048 + k.val, by omega⟩ rfl]

theorem rsO_at (h : Reads A T i X) (hA : A.Real) (hw : Weights A w wt) (a : Fin 128) : rsO i X w (ix2 a 0) = val_main_v223 (F := Ideal) A.proj A.kv A.poolW A.poolS A.lnG A.lnB A.sguW A.sguB A.gains A.wOut (ix2 (row T a) 0) := by
  pointwise [val_main_v223, val_main_v222, val_main_v220, val_main_v218, val_main_v217, val_main_v216, val_main_cst_42, val_main_v219,
    val_main_cst_43, val_main_v221, val_main_cst_44]
  simp only [← out_at h hA hw]
  unfold rsO
  pointwise [k0_pay103]
  rfl

theorem nrmO_at (h : Reads A T i X) (hA : A.Real) (hw : Weights A w wt) (a : Fin 128) (b : Fin 2048) : nrmO i X w (ix2 a b) = val_main_v228 (F := Ideal) A.proj A.kv A.poolW A.poolS A.lnG A.lnB A.sguW A.sguB A.gains A.wOut (ix2 (row T a) b) := by
  pointwise [val_main_v228, val_main_v227]
  rw [← out_at h hA hw, ← rsO_at h hA hw]
  unfold nrmO
  pointwise [k0_pay104]
  rfl

theorem err_at (h : Reads A T i X) (hA : A.Real) (hw : Weights A w wt) (a : Fin 128) (b : Fin 2048) : err i X w (ix2 a b) = val_main_v232 (F := Ideal) A.x A.target A.proj A.kv A.poolW A.poolS A.lnG A.lnB A.sguW A.sguB A.gains A.wOut A.post (ix2 (row T a) b) := by
  pointwise [val_main_v232, val_main_v231, val_main_v230, val_main_v229]
  rw [← nrmO_at h hA hw, ← h.x, ← h.target, ← h.post]
  unfold err
  pointwise [k0_pay105]
  rfl

/-- The tile's rows of the gradient of the output. -/
def dxo (i : grid0.Coords) (X : Ins Ideal) (w : FVec Ideal S3072x2048 .bf16) : FVec Ideal S128x2048 .f32 := k0_pay109 (err i X w)

theorem rate (z : EReal) : z * Ideal.ofBits .f32 973078528#32
    = Ideal.div (Ideal.ofBits .f32 1056964608#32) (Ideal.ofBits .f32 1157627904#32)
      * (Ideal.ofBits .f32 1073741824#32 * z) := by
  have e1 : Ideal.ofBits .f32 973078528#32 = ((1 / 2048 : ℝ) : EReal) := by simp [Ideal.ofBits, Ideal.ieee, -EReal.coe_mul]; norm_num
  have e2 : Ideal.ofBits .f32 1056964608#32 = ((1 / 2 : ℝ) : EReal) := by simp [Ideal.ofBits, Ideal.ieee, -EReal.coe_mul]; norm_num
  have e4 : Ideal.ofBits .f32 1157627904#32 = ((2048 : ℝ) : EReal) := by simp [Ideal.ofBits, Ideal.ieee, -EReal.coe_mul]; norm_num
  have e5 : Ideal.ofBits .f32 1073741824#32 = ((2 : ℝ) : EReal) := by simp [Ideal.ofBits, Ideal.ieee, -EReal.coe_mul]; norm_num
  rw [e1, e2, e4, e5, Ideal.div_coe (by norm_num), ← mul_assoc, ← EReal.coe_mul, ← EReal.coe_mul, mul_comm z]
  congr 2
  norm_num

theorem dxo_at (h : Reads A T i X) (hA : A.Real) (hw : Weights A w wt) (a : Fin 128) (b : Fin 2048) : dxo i X w (ix2 a b) = val_main_v246 (F := Ideal) A.x A.target A.proj A.kv A.poolW A.poolS A.lnG A.lnB A.sguW A.sguB A.gains A.wOut A.post (ix2 (row T a) b) := by
  pointwise [val_main_v246, val_main_v245, val_main_v244, val_main_v242, val_main_v241, val_main_cst_51, val_main_cst_52, val_main_v243,
    val_main_cst_53, val_main_v235, val_main_v234, val_main_cst_46]
  unfold dxo
  pointwise [k0_pay109]
  rw [err_at h hA hw]
  exact rate _

theorem errSq_at (h : Reads A T i X) (hA : A.Real) (hw : Weights A w wt) (a : Fin 128) : errSq i X w (ix2 a 0) = val_main_v236 (F := Ideal) A.x A.target A.proj A.kv A.poolW A.poolS A.lnG A.lnB A.sguW A.sguB A.gains A.wOut A.post (ix1 (row T a)) := by
  pointwise [val_main_v236, val_main_v233, val_main_cst_47]
  simp only [← err_at h hA hw]
  unfold errSq
  pointwise [k0_pay107]
  rfl

theorem gpost_at (h : Reads A T i X) (hA : A.Real) (hw : Weights A w wt) (p : FVec Ideal S1x2048 .f32) (b : Fin 2048) :
    k0_pay110 (nrmO i X w) (err i X w) p (ix2 0 b) = p (ix2 0 b) + ∑ a : Fin 128,
    val_main_v247 (F := Ideal) A.x A.target A.proj A.kv A.poolW A.poolS A.lnG A.lnB A.sguW A.sguB A.gains A.wOut A.post (ix2 (row T a) b) := by
  pointwise [val_main_v247]
  simp only [← nrmO_at h hA hw, ← dxo_at h hA hw]
  unfold dxo
  pointwise [k0_pay110, k0_pay109]
  exact congrArg _ (Finset.sum_congr rfl fun x _ => mul_comm (G := EReal) _ _)

theorem loss_at (h : Reads A T i X) (hA : A.Real) (hw : Weights A w wt) (p : FVec Ideal S1x128 .f32) (b : Fin 128) :
    k0_pay108 p (errSq i X w) (ix2 0 b) = p (ix2 0 b) + Ideal.ofBits .f32 1056964608#32 * ∑ a : Fin 128,
    val_main_v238 (F := Ideal) A.x A.target A.proj A.kv A.poolW A.poolS A.lnG A.lnB A.sguW A.sguB A.gains A.wOut A.post (ix1 (row T a)) := by
  pointwise [val_main_v238, val_main_v237, val_main_cst_48]
  simp only [← errSq_at h hA hw]
  pointwise [k0_pay108]

theorem eps_pos : ∃ e : ℝ, 0 < e ∧ Ideal.ofBits .f32 897988541#32 = (e : EReal) := by
  refine ⟨_, ?_, by simp [Ideal.ofBits, Ideal.ieee, -EReal.coe_mul]; rfl⟩
  norm_num

/-- The two forms of the gradient through a root-mean-square norm of a row of `n` entries. -/
theorem norm_back {n : ℕ} (N : ℝ) (hN : 0 < N) (c : EReal) (hc : c = (N : EReal)) (x d : Fin n → EReal) (ms : EReal)
    (hms : ms = Ideal.div (∑ j, x j * x j) c + Ideal.ofBits .f32 897988541#32) (xk dk : EReal) :
    Ideal.rsqrt ms * (dk - xk * Ideal.rsqrt ms * Ideal.div (∑ j, d j * (x j * Ideal.rsqrt ms)) c)
      = dk * Ideal.rsqrt ms + xk * Ideal.div ((∑ j, x j * d j) * (Ideal.ofBits .f32 3204448256#32 * Ideal.div (Ideal.rsqrt ms) ms)) c
        + Ideal.div ((∑ j, x j * d j) * (Ideal.ofBits .f32 3204448256#32 * Ideal.div (Ideal.rsqrt ms) ms)) c * xk := by
  have half : Ideal.ofBits .f32 3204448256#32 = ((-1 / 2 : ℝ) : EReal) := by
    simp [Ideal.ofBits, Ideal.ieee, -EReal.coe_mul]; norm_num
  have hs : ∃ ρ : ℝ, 0 ≤ ρ ∧ Ideal.rsqrt ms = ρ ∧ Ideal.div (Ideal.rsqrt ms) ms = ((ρ * ρ * ρ : ℝ) : EReal) := by
    obtain ⟨e, he, h⟩ := eps_pos
    rw [hms, h, hc, Ideal.div_coe hN.ne']
    refine Norm.scale ?_ he
    exact mul_nonneg (Finset.sum_nonneg fun j _ => Norm.mul_self_nonneg _) (EReal.coe_nonneg.mpr (by positivity))
  obtain ⟨ρ, hρ, h1, h2⟩ := hs
  rw [h2, h1, half, hc]
  exact Norm.back hρ hN x d xk dk

theorem dout_at (h : Reads A T i X) (hA : A.Real) (hw : Weights A w wt) (a : Fin 128) (b : Fin 2048) : dout i X w (ix2 a b) = val_main_v265 (F := Ideal) A.x A.target A.proj A.kv A.poolW A.poolS A.lnG A.lnB A.sguW A.sguB A.gains A.wOut A.post (ix2 (row T a) b) := by
  have e4 : Ideal.ofBits .f32 1157627904#32 = ((2048 : ℝ) : EReal) := by simp [Ideal.ofBits, Ideal.ieee, -EReal.coe_mul]; norm_num
  pointwise [val_main_v265, val_main_v263, val_main_v256, val_main_v251, val_main_v250, val_main_v255, val_main_v262, val_main_v261, val_main_v260,
    val_main_v259, val_main_v257, val_main_v254, val_main_v253, val_main_v252, val_main_cst_55, val_main_v226, val_main_v225, val_main_cst_45,
    val_main_v224, val_main_v258, val_main_cst_56, val_main_cst_57, val_main_v264]
  unfold dout
  pointwise [k0_pay111, k0_pay109]
  have hn : ∀ x, nrmO i X w (ix2 a x) = val_main_v215 (F := Ideal) A.proj A.kv A.poolW A.poolS A.lnG A.lnB A.sguW A.sguB A.gains A.wOut (ix2 (row T a) x) * Ideal.rsqrt (val_main_v222 (F := Ideal) A.proj A.kv A.poolW A.poolS A.lnG A.lnB A.sguW A.sguB A.gains A.wOut (ix2 (row T a) 0)) := fun x => by
    rw [nrmO_at h hA hw]
    pointwise [val_main_v228, val_main_v227, val_main_v223]
  have hr : val_main_v223 (F := Ideal) A.proj A.kv A.poolW A.poolS A.lnG A.lnB A.sguW A.sguB A.gains A.wOut (ix2 (row T a) 0) = Ideal.rsqrt (val_main_v222 (F := Ideal) A.proj A.kv A.poolW A.poolS A.lnG A.lnB A.sguW A.sguB A.gains A.wOut (ix2 (row T a) 0)) := by pointwise [val_main_v223]
  have hm : val_main_v222 (F := Ideal) A.proj A.kv A.poolW A.poolS A.lnG A.lnB A.sguW A.sguB A.gains A.wOut (ix2 (row T a) 0) = Ideal.div (∑ j : Fin 2048, val_main_v215 (F := Ideal) A.proj A.kv A.poolW A.poolS A.lnG A.lnB A.sguW A.sguB A.gains A.wOut (ix2 (row T a) j) * val_main_v215 (F := Ideal) A.proj A.kv A.poolW A.poolS A.lnG A.lnB A.sguW A.sguB A.gains A.wOut (ix2 (row T a) j)) (Ideal.ofBits .f32 1157627904#32)
      + Ideal.ofBits .f32 897988541#32 := by pointwise [val_main_v222, val_main_v220, val_main_v218, val_main_v217, val_main_v216, val_main_cst_42,
    val_main_v219, val_main_cst_43, val_main_v221, val_main_cst_44]
  have hx : ∀ x, err i X w (ix2 a x) * Ideal.ofBits .f32 973078528#32 = val_main_v246 (F := Ideal) A.x A.target A.proj A.kv A.poolW A.poolS A.lnG A.lnB A.sguW A.sguB A.gains A.wOut A.post (ix2 (row T a) x) := fun x => by
    rw [← dxo_at h hA hw]
    unfold dxo
    pointwise [k0_pay109]
  rw [Fin.sum_univ_one]
  simp only [rsO_at h hA hw, hn, hx, h.post, hr]
  exact norm_back 2048 (by norm_num) _ e4 (fun j => val_main_v215 (F := Ideal) A.proj A.kv A.poolW A.poolS A.lnG A.lnB A.sguW A.sguB A.gains A.wOut (ix2 (row T a) j)) (fun j => val_main_v246 (F := Ideal) A.x A.target A.proj A.kv A.poolW A.poolS A.lnG A.lnB A.sguW A.sguB A.gains A.wOut A.post (ix2 (row T a) j) * A.post (ix2 0 j)) _ hm _ _

end Tile

end Cert.KernelIdeal.Mix

end

end
-- ==== Proof.MixIn.lean ====
/- What the blocks of each grid point of the mixing kernel hold, in terms of the arguments. -/
module

public import proofs.«01_k».proof.Proof.MixFrame
public import proofs.«01_k».proof.Proof.MixOut
import Idealize.ShloMosaic.Lib.Pointwise
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

variable (m : (ℓ : Loc nD τ sig) → Buf (Elt Ideal) ℓ) (c : Dev nD)

/-- The arguments as the kernel finds them. -/
def argsOf : Args where
  x := m ((c : Thread nD τ).loc main_arg0)
  target := m ((c : Thread nD τ).loc main_arg1)
  proj := m ((c : Thread nD τ).loc main_arg2)
  kv := m ((c : Thread nD τ).loc main_arg3)
  poolW := m ((c : Thread nD τ).loc main_arg4)
  poolS := m ((c : Thread nD τ).loc main_arg5)
  lnG := m ((c : Thread nD τ).loc main_arg6)
  lnB := m ((c : Thread nD τ).loc main_arg7)
  sguW := m ((c : Thread nD τ).loc main_arg8)
  sguB := m ((c : Thread nD τ).loc main_arg9)
  gains := m ((c : Thread nD τ).loc main_arg10)
  wOut := m ((c : Thread nD τ).loc main_arg11)
  post := m ((c : Thread nD τ).loc main_arg12)

theorem lt32 (t : Fin cfg0.N) : t.val < 32 := lt_of_lt_of_eq t.isLt (show cfg0.N = 32 from N_0)

/-- The tile a grid point computes: the sequence is walked from its end. -/
def tile (t : Fin cfg0.N) : Fin 32 := ⟨31 - t.val, by omega⟩

theorem idx : ∀ t : Fin cfg0.N, win0_0.index t = ![31 - t.val, 0] ∧ win0_1.index t = ![(31 - t.val) * 8 - 1, 0]
    ∧ win0_2.index t = ![31 - t.val, 0] ∧ win0_3.index t = ![31 - t.val, 0] ∧ win0_4.index t = ![0, 0] ∧ win0_5.index t = ![0, 0]
    ∧ win0_6.index t = ![0, 0, 0] ∧ win0_7.index t = ![0, 0, 0] ∧ win0_8.index t = ![0, 0] ∧ win0_9.index t = ![0, 0]
    ∧ win0_10.index t = ![0, 0] ∧ win0_11.index t = ![0, 0] ∧ win0_12.index t = ![0, 0, 0] ∧ win0_13.index t = ![0, 0, 0]
    ∧ win0_14.index t = ![0, 0] ∧ win0_15.index t = ![0, 0] :=
  (by decide +kernel : ∀ t : Fin grid0.N, _)

theorem idx_out : ∀ t : Fin cfg0.N, win0_16.index t = ![31 - t.val, 0] ∧ win0_17.index t = ![31 - t.val, 0] ∧ win0_18.index t = ![31 - t.val, 0]
    ∧ win0_19.index t = ![31 - t.val, 0] ∧ win0_20.index t = ![0, 0] ∧ win0_21.index t = ![0, 0] ∧ win0_22.index t = ![0, 0]
    ∧ win0_23.index t = ![0, 0] ∧ win0_24.index t = ![0, 0] ∧ win0_25.index t = ![0, 0] ∧ win0_26.index t = ![0, 0] :=
  (by decide +kernel : ∀ t : Fin grid0.N, _)

theorem coord : ∀ t : Fin cfg0.N, (grid0.coords t 0).val = t.val := (by decide +kernel : ∀ t : Fin grid0.N, _)

theorem entry_wout : V m c main_v8 = truncf .bf16 (argsOf m c).wOut facts.bitsLt_bf16_f32 := rfl
theorem entry_woutT : V m c main_v11 = transpose S2048x3072 [1, 0] (truncf .bf16 (argsOf m c).wOut facts.bitsLt_bf16_f32) facts.transposes_S3072x2048_S2048x3072_1_0 := rfl
theorem entry_pool : V m c main_v9 = truncf .bf16 (argsOf m c).poolW facts.bitsLt_bf16_f32 := rfl
theorem entry_poolT : V m c main_v12 = transpose S4x256x256 [0, 2, 1] (truncf .bf16 (argsOf m c).poolW facts.bitsLt_bf16_f32) facts.transposes_S4x256x256_S4x256x256_0_2_1 := rfl
theorem entry_kvT : V m c main_v10 = transpose S2048x256 [1, 0] (argsOf m c).kv facts.transposes_S256x2048_S2048x256_1_0 := rfl
theorem entry_bias : V m c main_v7 = shapeCast S128x1024 (broadcastInDim S128x8x128 ![0, 1] facts.bcast_S128x8_S128x8x128_0_1
    (transpose S128x8 [1, 0] (argsOf m c).sguB facts.transposes_S8x128_S128x8_1_0)) facts.shapeCasts_S128x8x128_S128x1024 := rfl

/-- The lower triangle. -/
def tri : Vec Ideal S128x128 .i1 :=
  select (cmpi .sge (addi (iotaInDim S128x128 32 0) (broadcastInDim S128x128 ![] facts.bcast_S_S128x128 (constantI S_ 32 0#32))) (iotaInDim S128x128 32 1))
    (broadcastInDim S128x128 ![] facts.bcast_S_S128x128 (constantI S_ 1 1#1)) (broadcastInDim S128x128 ![] facts.bcast_S_S128x128 (constantI S_ 1 0#1))

/-- The gate weights with the part above the diagonal cut off. -/
def cut : FVec Ideal S8x128x128 .bf16 :=
  truncf .bf16 (select (broadcastInDim S8x128x128 ![0, 1, 2] facts.bcast_S1x128x128_S8x128x128_0_1_2 (broadcastInDim S1x128x128 ![1, 2] facts.bcast_S128x128_S1x128x128_1_2 tri))
    (argsOf m c).sguW (broadcastInDim S8x128x128 ![] facts.bcast_S_S8x128x128 (constant S_ .f32 0x00000000#32))) facts.bitsLt_bf16_f32

theorem entry_cut : V m c main_v4 = cut m c := rfl
theorem entry_cutT : V m c main_v13 = transpose S8x128x128 [0, 2, 1] (cut m c) facts.transposes_S8x128x128_S8x128x128_0_2_1 := rfl

theorem cut_at (g : Fin 8) (a k : Fin 128) : cut m c (ix3 g a k) = if k.val ≤ a.val then (argsOf m c).sguW (ix3 g a k) else 0 := by
  pointwise [cut, tri]
  have e := Tile.causal a.val a k rfl
  rw [e]
  split <;> rfl

theorem weights : Tile.Weights (argsOf m c) (V m c main_v8) (V m c main_v11) where
  w k n := by rw [entry_wout]; rfl
  wt n k := by rw [entry_woutT]; pointwise

theorem blk_proj (t : Fin cfg0.N) (a : Fin 128) (e : Fin 7168) : iblk m c 0 t (ix2 a e) = (argsOf m c).proj (ix2 (row (tile t) a) e) := by
  have := lt32 t
  blk_point [iblk, idx t, argsOf, row, tile]

theorem blk_halo (t : Fin cfg0.N) (a : Fin 16) (e : Fin 1024) (h : 0 < (tile t).val) :
    iblk m c 1 t (ix2 a e) = (argsOf m c).proj (ix2 ⟨128 * (tile t).val + a.val - 16, by omega⟩ ⟨e.val, by omega⟩) := by
  have := lt32 t
  have h' : 0 < 31 - t.val := h
  blk_point [iblk, idx t, argsOf, tile]

theorem blk_x (t : Fin cfg0.N) (a : Fin 128) (e : Fin 2048) : iblk m c 2 t (ix2 a e) = (argsOf m c).x (ix2 (row (tile t) a) e) := by
  have := lt32 t
  blk_point [iblk, idx t, argsOf, row, tile]

theorem blk_target (t : Fin cfg0.N) (a : Fin 128) (e : Fin 2048) : iblk m c 3 t (ix2 a e) = (argsOf m c).target (ix2 (row (tile t) a) e) := by
  have := lt32 t
  blk_point [iblk, idx t, argsOf, row, tile]

theorem blk_kvT (t : Fin cfg0.N) (e : Fin 2048) (a : Fin 256) : iblk m c 5 t (ix2 e a) = (argsOf m c).kv (ix2 a e) := by
  refine Eq.trans (b := V m c main_v10 (ix2 e a)) (by blk_point [iblk, idx t]) ?_
  rw [entry_kvT]; pointwise

theorem blk_poolWT (t : Fin cfg0.N) (g : Fin 4) (e f : Fin 256) : iblk m c 7 t (ix3 g e f) = (argsOf m c).poolW (ix3 g f e) := by
  refine Eq.trans (b := V m c main_v12 (ix3 g e f)) (by blk_point [iblk, idx t]) ?_
  rw [entry_poolT]; pointwise

theorem blk_poolW (t : Fin cfg0.N) (g : Fin 4) (e f : Fin 256) : iblk m c 6 t (ix3 g e f) = (argsOf m c).poolW (ix3 g e f) := by
  refine Eq.trans (b := V m c main_v9 (ix3 g e f)) (by blk_point [iblk, idx t]) ?_
  rw [entry_pool]; rfl

theorem blk_bias (t : Fin cfg0.N) (a : Fin 128) (e : Fin 1024) : iblk m c 11 t (ix2 a e) = (argsOf m c).sguB (ix2 ⟨e.val / 128, by omega⟩ a) := by
  refine Eq.trans (b := V m c main_v7 (ix2 a e)) (by blk_point [iblk, idx t]) ?_
  rw [entry_bias]; pointwise

theorem blk_cut (t : Fin cfg0.N) (g : Fin 8) (a k : Fin 128) : iblk m c 12 t (ix3 g a k) = (if k.val ≤ a.val then (argsOf m c).sguW (ix3 g a k) else (0 : EReal) : EReal) := by
  refine Eq.trans (b := V m c main_v4 (ix3 g a k)) (by blk_point [iblk, idx t]) ?_
  rw [entry_cut, cut_at]

theorem blk_kv (t : Fin cfg0.N) (a : Fin 256) (e : Fin 2048) : iblk m c 4 t (ix2 a e) = (argsOf m c).kv (ix2 a e) := by
  blk_point [iblk, idx t, argsOf]

theorem blk_poolS (t : Fin cfg0.N) (e : Fin 1024) : iblk m c 8 t (ix2 0 e) = (argsOf m c).poolS (ix2 0 e) := by
  blk_point [iblk, idx t, argsOf]

theorem blk_lnG (t : Fin cfg0.N) (e : Fin 1024) : iblk m c 9 t (ix2 0 e) = (argsOf m c).lnG (ix2 0 e) := by
  blk_point [iblk, idx t, argsOf]

theorem blk_lnB (t : Fin cfg0.N) (e : Fin 1024) : iblk m c 10 t (ix2 0 e) = (argsOf m c).lnB (ix2 0 e) := by
  blk_point [iblk, idx t, argsOf]

theorem blk_gains (t : Fin cfg0.N) (e : Fin 3072) : iblk m c 14 t (ix2 0 e) = (argsOf m c).gains (ix2 0 e) := by
  blk_point [iblk, idx t, argsOf]

theorem blk_post (t : Fin cfg0.N) (e : Fin 2048) : iblk m c 15 t (ix2 0 e) = (argsOf m c).post (ix2 0 e) := by
  blk_point [iblk, idx t, argsOf]

theorem point_at (t : Fin cfg0.N) : (grid0.coords t 0).val = 31 - (tile t).val := by
  have := lt32 t
  rw [coord, tile]; dsimp only; omega

theorem in_proj (t : Fin cfg0.N) (a : Fin 128) (e : Fin 7168) : (inAt m c t).i0 (ix2 a e) = (argsOf m c).proj (ix2 (row (tile t) a) e) := blk_proj m c t a e
theorem in_halo (t : Fin cfg0.N) (a : Fin 16) (e : Fin 1024) (h : 0 < (tile t).val) : (inAt m c t).i1 (ix2 a e) = (argsOf m c).proj (ix2 ⟨128 * (tile t).val + a.val - 16, by omega⟩ ⟨e.val, by omega⟩) := blk_halo m c t a e h
theorem in_x (t : Fin cfg0.N) (a : Fin 128) (e : Fin 2048) : (inAt m c t).i2 (ix2 a e) = (argsOf m c).x (ix2 (row (tile t) a) e) := blk_x m c t a e
theorem in_target (t : Fin cfg0.N) (a : Fin 128) (e : Fin 2048) : (inAt m c t).i3 (ix2 a e) = (argsOf m c).target (ix2 (row (tile t) a) e) := blk_target m c t a e
theorem in_kvT (t : Fin cfg0.N) (e : Fin 2048) (a : Fin 256) : (inAt m c t).i5 (ix2 e a) = (argsOf m c).kv (ix2 a e) := blk_kvT m c t e a
theorem in_poolWT (t : Fin cfg0.N) (g : Fin 4) (e f : Fin 256) : (inAt m c t).i7 (ix3 g e f) = (argsOf m c).poolW (ix3 g f e) := blk_poolWT m c t g e f
theorem in_poolW (t : Fin cfg0.N) (g : Fin 4) (e f : Fin 256) : (inAt m c t).i6 (ix3 g e f) = (argsOf m c).poolW (ix3 g e f) := blk_poolW m c t g e f
theorem in_bias (t : Fin cfg0.N) (a : Fin 128) (e : Fin 1024) : (inAt m c t).i11 (ix2 a e) = (argsOf m c).sguB (ix2 ⟨e.val / 128, by omega⟩ a) := blk_bias m c t a e
theorem in_cut (t : Fin cfg0.N) (g : Fin 8) (a k : Fin 128) : (inAt m c t).i12 (ix3 g a k) = (if k.val ≤ a.val then (argsOf m c).sguW (ix3 g a k) else (0 : EReal) : EReal) := blk_cut m c t g a k
theorem in13 (t : Fin cfg0.N) : (inAt m c t).i13 = (iblk m c 13 t : Vec Ideal S8x128x128 .bf16) := by
  unfold inAt
  with_reducible rfl
theorem blk_cutT (t : Fin cfg0.N) (g : Fin 8) (a k : Fin 128) : (iblk m c 13 t : Vec Ideal S8x128x128 .bf16) (ix3 g a k) = V m c main_v13 (ix3 g a k) := by
  blk_point [iblk, idx t]
theorem in_cutT (t : Fin cfg0.N) (g : Fin 8) (a k : Fin 128) : (inAt m c t).i13 (ix3 g a k) = if a.val ≤ k.val then (argsOf m c).sguW (ix3 g k a) else 0 := by
  rw [in13, blk_cutT, entry_cutT]
  pointwise
  rw [cut_at]
theorem in_kv (t : Fin cfg0.N) (a : Fin 256) (e : Fin 2048) : (inAt m c t).i4 (ix2 a e) = (argsOf m c).kv (ix2 a e) := blk_kv m c t a e
theorem in_poolS (t : Fin cfg0.N) (e : Fin 1024) : (inAt m c t).i8 (ix2 0 e) = (argsOf m c).poolS (ix2 0 e) := blk_poolS m c t e
theorem in_lnG (t : Fin cfg0.N) (e : Fin 1024) : (inAt m c t).i9 (ix2 0 e) = (argsOf m c).lnG (ix2 0 e) := blk_lnG m c t e
theorem in_lnB (t : Fin cfg0.N) (e : Fin 1024) : (inAt m c t).i10 (ix2 0 e) = (argsOf m c).lnB (ix2 0 e) := blk_lnB m c t e
theorem in_gains (t : Fin cfg0.N) (e : Fin 3072) : (inAt m c t).i14 (ix2 0 e) = (argsOf m c).gains (ix2 0 e) := blk_gains m c t e
theorem in_post (t : Fin cfg0.N) (e : Fin 2048) : (inAt m c t).i15 (ix2 0 e) = (argsOf m c).post (ix2 0 e) := blk_post m c t e

theorem reads (t : Fin cfg0.N) : Reads (argsOf m c) (tile t) (grid0.coords t) (inAt m c t) where
  point := point_at t
  proj := in_proj m c t
  halo := in_halo m c t
  x := in_x m c t
  target := in_target m c t
  kv := in_kv m c t
  kvT := in_kvT m c t
  poolW := in_poolW m c t
  poolWT := in_poolWT m c t
  poolS := in_poolS m c t
  lnG := in_lnG m c t
  lnB := in_lnB m c t
  bias := in_bias m c t
  sguW := in_cut m c t
  sguWT := in_cutT m c t
  gains := in_gains m c t
  post := in_post m c t

end Cert.KernelIdeal.Mix

end
-- ==== Proof.MixPre.lean ====
/- What the precondition says: every argument of the mixing call is finite. -/
module

public import proofs.«01_k».proof.Defs
public import proofs.«01_k».proof.Proof.MixIn

@[expose] public section

set_option maxRecDepth 16384

noncomputable section

open Idealize.ShloMosaic Idealize.ShloMosaic.TcCoe Idealize.SL.Sem

namespace Cert.Mix

open Cert.KernelIdeal.Mix

theorem preFacts : Cert.Pre_finite.Facts := by
  constructor <;> decide

theorem inf_eq : Ideal.ofBits .f32 0x7F800000#32 = (⊤ : EReal) := by
  show Ideal.ieee 8 23 0x7F800000#32 = ⊤
  unfold Ideal.ieee
  dsimp only
  rw [if_pos (by decide), if_pos (by decide), if_neg (by decide)]

/-- A number whose size is below infinity is a real number. -/
theorem fin_of_lt {x : EReal} (h : Ideal.cmp .olt (max x (-x)) (⊤ : EReal) = 1#1) : IsFin x := by
  induction x with
  | bot => simp [Ideal.cmp] at h
  | top => simp [Ideal.cmp] at h
  | coe r => exact ⟨r, rfl⟩

theorem fin_of {s : Shape} (a : FVec Ideal s .f32) (hb : Cert.Pre_finite.S_.BroadcastsInDim s ![])
    (h : cmpf .olt (Host.absf a) (broadcastInDim s ![] hb (constant Cert.Pre_finite.S_ .f32 0x7F800000#32)) = fun _ => 1#1) (j : s.Idx) : IsFin (a j) := by
  have e := congrFun h j
  refine fin_of_lt (Eq.trans ?_ e)
  rw [← inf_eq]
  rfl

theorem real_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : (Cert.KernelIdeal.Mix.argsOf m c).Real := by
  obtain ⟨h0, h1, h2, h3, h4, h5, h6, h7, h8, h9, h10, h11, h12⟩ := h c
  exact ⟨fun j => fin_of _ _ h0 j,
    fun j => fin_of _ _ h1 j,
    fun j => fin_of _ _ h2 j,
    fun j => fin_of _ _ h3 j,
    fun j => fin_of _ _ h4 j,
    fun j => fin_of _ _ h5 j,
    fun j => fin_of _ _ h6 j,
    fun j => fin_of _ _ h7 j,
    fun j => fin_of _ _ h8 j,
    fun j => fin_of _ _ h9 j,
    fun j => fin_of _ _ h10 j,
    fun j => fin_of _ _ h11 j,
    fun j => fin_of _ _ h12 j⟩

end Cert.Mix

end
-- ==== Proof.MixBranch.lean ====
/- The gradients through the branch norms of one tile of the mixing kernel, read against the reference. -/
module

public import proofs.«01_k».proof.Proof.MixOut
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

theorem width1 : Ideal.ofBits .f32 1149239296#32 = ((1024 : ℝ) : EReal) := by simp [Ideal.ofBits, Ideal.ieee, -EReal.coe_mul]; norm_num

/-- The gradient of the concatenated branches. -/
theorem dy_ref (R : Fin 4096) (k : Fin 3072) : val_main_v266 (F := Ideal) A.x A.target A.proj A.kv A.poolW A.poolS A.lnG A.lnB A.sguW A.sguB A.gains A.wOut A.post (ix2 R k) = ∑ j : Fin 2048, val_main_v265 (F := Ideal) A.x A.target A.proj A.kv A.poolW A.poolS A.lnG A.lnB A.sguW A.sguB A.gains A.wOut A.post (ix2 R j) * A.wOut (ix2 k j) := by
  pointwise [val_main_v266]

theorem dyA_ref (R : Fin 4096) (k : Fin 1024) : val_main_v267 (F := Ideal) A.x A.target A.proj A.kv A.poolW A.poolS A.lnG A.lnB A.sguW A.sguB A.gains A.wOut A.post (ix2 R k) = ∑ j : Fin 2048, val_main_v265 (F := Ideal) A.x A.target A.proj A.kv A.poolW A.poolS A.lnG A.lnB A.sguW A.sguB A.gains A.wOut A.post (ix2 R j) * A.wOut (ix2 ⟨k.val, by omega⟩ j) := by
  pointwise [val_main_v267]
  exact dy_ref _ _

theorem dyA_at (h : Reads A T i X) (hA : A.Real) (hw : Weights A w wt) (a : Fin 128) (k : Fin 1024) :
    k0_pay112 (dout i X w) (View.ld wt (Rect.unit (s := S2048x3072) ![0, 0] S2048x1024.size inb_S2048x3072_S2048x1024_0_0)) (ix2 a k)
      = val_main_v267 (F := Ideal) A.x A.target A.proj A.kv A.poolW A.poolS A.lnG A.lnB A.sguW A.sguB A.gains A.wOut A.post (ix2 (row T a) k) := by
  rw [dyA_ref]
  pointwise [k0_pay112]
  simp only [dout_at h hA hw, hw.wt]

theorem dgA_at (h : Reads A T i X) (hA : A.Real) (hw : Weights A w wt) (k : Fin 1024) :
    dgA i X w wt (ix2 0 k) = ∑ a : Fin 128,
    val_main_v308 (F := Ideal) A.x A.target A.proj A.kv A.poolW A.poolS A.lnG A.lnB A.sguW A.sguB A.gains A.wOut A.post (ix2 (row T a) k) := by
  pointwise [val_main_v308]
  simp only [← dyA_at h hA hw, ← nrmA_at h hA]
  unfold dgA
  pointwise [k0_pay115]
  exact Finset.sum_congr rfl fun x _ => mul_comm (G := EReal) _ _

theorem dbA_at (h : Reads A T i X) (hA : A.Real) (hw : Weights A w wt) (a : Fin 128) (k : Fin 1024) :
    dbA i X w wt (ix2 a k) = val_main_v326 (F := Ideal) A.x A.target A.proj A.kv A.poolW A.poolS A.lnG A.lnB A.sguW A.sguB A.gains A.wOut A.post (ix2 (row T a) k) := by
  have hn : ∀ x, nrmA i X (ix2 a x) = val_main_v87 (F := Ideal) A.proj A.poolW A.poolS (ix2 (row T a) x) * Ideal.rsqrt (val_main_v175 (F := Ideal) A.proj A.poolW A.poolS (ix2 (row T a) 0)) := fun x => by
    rw [nrmA_at h hA]
    pointwise [val_main_v181, val_main_v180, val_main_v176]
  have hr : val_main_v176 (F := Ideal) A.proj A.poolW A.poolS (ix2 (row T a) 0) = Ideal.rsqrt (val_main_v175 (F := Ideal) A.proj A.poolW A.poolS (ix2 (row T a) 0)) := by pointwise [val_main_v176]
  have hm : val_main_v175 (F := Ideal) A.proj A.poolW A.poolS (ix2 (row T a) 0) = Ideal.div (∑ j : Fin 1024,
    val_main_v87 (F := Ideal) A.proj A.poolW A.poolS (ix2 (row T a) j) * val_main_v87 (F := Ideal) A.proj A.poolW A.poolS (ix2 (row T a) j)) (Ideal.ofBits .f32 1149239296#32)
      + Ideal.ofBits .f32 897988541#32 := by pointwise [val_main_v175, val_main_v173, val_main_v171, val_main_v170, val_main_v169, val_main_cst_30,
    val_main_v172, val_main_cst_31, val_main_v174, val_main_cst_32]
  have hd := fun x => dyA_at h hA hw a x
  pointwise [val_main_v326, val_main_v324, val_main_v317, val_main_v312, val_main_v311, val_main_v316, val_main_v323, val_main_v322, val_main_v321,
    val_main_v320, val_main_v318, val_main_v315, val_main_v314, val_main_v313, val_main_cst_67, val_main_v179, val_main_v178, val_main_cst_33,
    val_main_v177, val_main_v319, val_main_cst_68, val_main_cst_69, val_main_v325]
  unfold dbA
  pointwise [k0_pay116]
  rw [Fin.sum_univ_one]
  simp only [hd, hn, rsA_at h hA, hr, gainA_at h]
  exact norm_back 1024 (by norm_num) _ width1 (fun j => val_main_v87 (F := Ideal) A.proj A.poolW A.poolS (ix2 (row T a) j)) (fun j => val_main_v267 (F := Ideal) A.x A.target A.proj A.kv A.poolW A.poolS A.lnG A.lnB A.sguW A.sguB A.gains A.wOut A.post (ix2 (row T a) j) * val_main_v166 (F := Ideal) A.gains (ix2 0 j)) _ hm _ _

theorem dyB_ref (R : Fin 4096) (k : Fin 1024) : val_main_v268 (F := Ideal) A.x A.target A.proj A.kv A.poolW A.poolS A.lnG A.lnB A.sguW A.sguB A.gains A.wOut A.post (ix2 R k) = ∑ j : Fin 2048, val_main_v265 (F := Ideal) A.x A.target A.proj A.kv A.poolW A.poolS A.lnG A.lnB A.sguW A.sguB A.gains A.wOut A.post (ix2 R j) * A.wOut (ix2 ⟨1024 + k.val, by omega⟩ j) := by
  pointwise [val_main_v268]
  exact dy_ref _ _

theorem dyB_at (h : Reads A T i X) (hA : A.Real) (hw : Weights A w wt) (a : Fin 128) (k : Fin 1024) :
    k0_pay113 (dout i X w) (View.ld wt (Rect.unit (s := S2048x3072) ![0, 1024] S2048x1024.size inb_S2048x3072_S2048x1024_0_1024)) (ix2 a k)
      = val_main_v268 (F := Ideal) A.x A.target A.proj A.kv A.poolW A.poolS A.lnG A.lnB A.sguW A.sguB A.gains A.wOut A.post (ix2 (row T a) k) := by
  rw [dyB_ref]
  pointwise [k0_pay113]
  simp only [dout_at h hA hw, hw.wt]

theorem dgB_at (h : Reads A T i X) (hA : A.Real) (hw : Weights A w wt) (k : Fin 1024) :
    dgB i X w wt (ix2 0 k) = ∑ a : Fin 128,
    val_main_v289 (F := Ideal) A.x A.target A.proj A.kv A.poolW A.poolS A.lnG A.lnB A.sguW A.sguB A.gains A.wOut A.post (ix2 (row T a) k) := by
  pointwise [val_main_v289]
  simp only [← dyB_at h hA hw, ← nrmB_at h ]
  unfold dgB
  pointwise [k0_pay117]
  exact Finset.sum_congr rfl fun x _ => mul_comm (G := EReal) _ _

theorem dbB_at (h : Reads A T i X) (hA : A.Real) (hw : Weights A w wt) (a : Fin 128) (k : Fin 1024) :
    dbB i X w wt (ix2 a k) = val_main_v307 (F := Ideal) A.x A.target A.proj A.kv A.poolW A.poolS A.lnG A.lnB A.sguW A.sguB A.gains A.wOut A.post (ix2 (row T a) k) := by
  have hn : ∀ x, nrmB X (ix2 a x) = val_main_v126 (F := Ideal) A.proj A.lnG A.lnB A.sguW A.sguB (ix2 (row T a) x) * Ideal.rsqrt (val_main_v190 (F := Ideal) A.proj A.lnG A.lnB A.sguW A.sguB (ix2 (row T a) 0)) := fun x => by
    rw [nrmB_at h ]
    pointwise [val_main_v196, val_main_v195, val_main_v191]
  have hr : val_main_v191 (F := Ideal) A.proj A.lnG A.lnB A.sguW A.sguB (ix2 (row T a) 0) = Ideal.rsqrt (val_main_v190 (F := Ideal) A.proj A.lnG A.lnB A.sguW A.sguB (ix2 (row T a) 0)) := by pointwise [val_main_v191]
  have hm : val_main_v190 (F := Ideal) A.proj A.lnG A.lnB A.sguW A.sguB (ix2 (row T a) 0) = Ideal.div (∑ j : Fin 1024,
    val_main_v126 (F := Ideal) A.proj A.lnG A.lnB A.sguW A.sguB (ix2 (row T a) j) * val_main_v126 (F := Ideal) A.proj A.lnG A.lnB A.sguW A.sguB (ix2 (row T a) j)) (Ideal.ofBits .f32 1149239296#32)
      + Ideal.ofBits .f32 897988541#32 := by pointwise [val_main_v190, val_main_v188, val_main_v186, val_main_v185, val_main_v184, val_main_cst_34,
    val_main_v187, val_main_cst_35, val_main_v189, val_main_cst_36]
  have hd := fun x => dyB_at h hA hw a x
  pointwise [val_main_v307, val_main_v305, val_main_v298, val_main_v293, val_main_v292, val_main_v297, val_main_v304, val_main_v303, val_main_v302,
    val_main_v301, val_main_v299, val_main_v296, val_main_v295, val_main_v294, val_main_cst_63, val_main_v194, val_main_v193, val_main_cst_37,
    val_main_v192, val_main_v300, val_main_cst_64, val_main_cst_65, val_main_v306]
  unfold dbB
  pointwise [k0_pay118]
  rw [Fin.sum_univ_one]
  simp only [hd, hn, rsB_at h , hr, gainB_at h]
  exact norm_back 1024 (by norm_num) _ width1 (fun j => val_main_v126 (F := Ideal) A.proj A.lnG A.lnB A.sguW A.sguB (ix2 (row T a) j)) (fun j => val_main_v268 (F := Ideal) A.x A.target A.proj A.kv A.poolW A.poolS A.lnG A.lnB A.sguW A.sguB A.gains A.wOut A.post (ix2 (row T a) j) * val_main_v167 (F := Ideal) A.gains (ix2 0 j)) _ hm _ _

theorem dyC_ref (R : Fin 4096) (k : Fin 1024) : val_main_v269 (F := Ideal) A.x A.target A.proj A.kv A.poolW A.poolS A.lnG A.lnB A.sguW A.sguB A.gains A.wOut A.post (ix2 R k) = ∑ j : Fin 2048, val_main_v265 (F := Ideal) A.x A.target A.proj A.kv A.poolW A.poolS A.lnG A.lnB A.sguW A.sguB A.gains A.wOut A.post (ix2 R j) * A.wOut (ix2 ⟨2048 + k.val, by omega⟩ j) := by
  pointwise [val_main_v269]
  exact dy_ref _ _

theorem dyC_at (h : Reads A T i X) (hA : A.Real) (hw : Weights A w wt) (a : Fin 128) (k : Fin 1024) :
    k0_pay114 (dout i X w) (View.ld wt (Rect.unit (s := S2048x3072) ![0, 2048] S2048x1024.size inb_S2048x3072_S2048x1024_0_2048)) (ix2 a k)
      = val_main_v269 (F := Ideal) A.x A.target A.proj A.kv A.poolW A.poolS A.lnG A.lnB A.sguW A.sguB A.gains A.wOut A.post (ix2 (row T a) k) := by
  rw [dyC_ref]
  pointwise [k0_pay114]
  simp only [dout_at h hA hw, hw.wt]

theorem dgC_at (h : Reads A T i X) (hA : A.Real) (hw : Weights A w wt) (k : Fin 1024) :
    dgC i X w wt (ix2 0 k) = ∑ a : Fin 128,
    val_main_v270 (F := Ideal) A.x A.target A.proj A.kv A.poolW A.poolS A.lnG A.lnB A.sguW A.sguB A.gains A.wOut A.post (ix2 (row T a) k) := by
  pointwise [val_main_v270]
  simp only [← dyC_at h hA hw, ← nrmC_at h ]
  unfold dgC
  pointwise [k0_pay120]
  exact Finset.sum_congr rfl fun x _ => mul_comm (G := EReal) _ _

theorem dbC_at (h : Reads A T i X) (hA : A.Real) (hw : Weights A w wt) (a : Fin 128) (k : Fin 1024) :
    dbC i X w wt (ix2 a k) = val_main_v288 (F := Ideal) A.x A.target A.proj A.kv A.poolW A.poolS A.lnG A.lnB A.sguW A.sguB A.gains A.wOut A.post (ix2 (row T a) k) := by
  have hn : ∀ x, nrmC X (ix2 a x) = val_main_v165 (F := Ideal) A.proj A.kv (ix2 (row T a) x) * Ideal.rsqrt (val_main_v205 (F := Ideal) A.proj A.kv (ix2 (row T a) 0)) := fun x => by
    rw [nrmC_at h ]
    pointwise [val_main_v211, val_main_v210, val_main_v206]
  have hr : val_main_v206 (F := Ideal) A.proj A.kv (ix2 (row T a) 0) = Ideal.rsqrt (val_main_v205 (F := Ideal) A.proj A.kv (ix2 (row T a) 0)) := by pointwise [val_main_v206]
  have hm : val_main_v205 (F := Ideal) A.proj A.kv (ix2 (row T a) 0) = Ideal.div (∑ j : Fin 1024,
    val_main_v165 (F := Ideal) A.proj A.kv (ix2 (row T a) j) * val_main_v165 (F := Ideal) A.proj A.kv (ix2 (row T a) j)) (Ideal.ofBits .f32 1149239296#32)
      + Ideal.ofBits .f32 897988541#32 := by pointwise [val_main_v205, val_main_v203, val_main_v201, val_main_v200, val_main_v199, val_main_cst_38,
    val_main_v202, val_main_cst_39, val_main_v204, val_main_cst_40]
  have hd := fun x => dyC_at h hA hw a x
  pointwise [val_main_v288, val_main_v286, val_main_v279, val_main_v274, val_main_v273, val_main_v278, val_main_v285, val_main_v284, val_main_v283,
    val_main_v282, val_main_v280, val_main_v277, val_main_v276, val_main_v275, val_main_cst_59, val_main_v209, val_main_v208, val_main_cst_41,
    val_main_v207, val_main_v281, val_main_cst_60, val_main_cst_61, val_main_v287]
  unfold dbC dyC prodC
  pointwise [k0_pay122, k0_pay121, k0_pay119]
  rw [Fin.sum_univ_one]
  simp only [hd, hn, rsC_at h , hr, gainC_at h]
  exact norm_back 1024 (by norm_num) _ width1 (fun j => val_main_v165 (F := Ideal) A.proj A.kv (ix2 (row T a) j)) (fun j => val_main_v269 (F := Ideal) A.x A.target A.proj A.kv A.poolW A.poolS A.lnG A.lnB A.sguW A.sguB A.gains A.wOut A.post (ix2 (row T a) j) * val_main_v168 (F := Ideal) A.gains (ix2 0 j)) _ hm _ _

end Tile

end Cert.KernelIdeal.Mix

end

end
-- ==== Proof.MixFin.lean ====
/- The values of the reference are real numbers when its arguments are. -/
module

public import proofs.«01_k».proof.Proof.MixOut
public import proofs.«01_k».proof.Proof.MixBranch
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

theorem fin_sigmoid {x : EReal} (hx : IsFin x) : IsFin (Ideal.div 1 (1 + Ideal.exp (-x))) := by
  obtain ⟨r, rfl⟩ := hx
  rw [← EReal.coe_neg, Ideal.exp_coe, ← EReal.coe_one, ← EReal.coe_add]
  exact (IsFin.coe 1).div (by positivity)

/-- The scale of a root-mean-square norm over real entries, and its derivative's factor. -/
theorem fin_scale {n : ℕ} {c : ℝ} (hc : 0 < c) {x : Fin n → EReal} (hx : ∀ k, IsFin (x k)) :
    IsFin (Ideal.rsqrt (Ideal.div (∑ k, x k * x k) c + Ideal.ofBits .f32 897988541#32))
      ∧ IsFin (Ideal.div (Ideal.rsqrt (Ideal.div (∑ k, x k * x k) c + Ideal.ofBits .f32 897988541#32))
        (Ideal.div (∑ k, x k * x k) c + Ideal.ofBits .f32 897988541#32)) := by
  obtain ⟨e, he, h⟩ := eps_pos
  have hs : 0 ≤ Ideal.div (∑ j, x j * x j) c := by
    rw [Ideal.div_coe hc.ne']
    exact mul_nonneg (Finset.sum_nonneg fun j _ => Norm.mul_self_nonneg _) (EReal.coe_nonneg.mpr (by positivity))
  obtain ⟨ρ, -, h1, h2⟩ := Norm.scale hs he
  rw [h]
  exact ⟨⟨_, h1⟩, ⟨_, h2⟩⟩

theorem fin_half : IsFin (Ideal.ofBits .f32 3204448256#32) := ⟨-1 / 2, by simp [Ideal.ofBits, Ideal.ieee, -EReal.coe_mul]; norm_num⟩
theorem fin_two : IsFin (Ideal.ofBits .f32 1073741824#32) := ⟨2, by simp [Ideal.ofBits, Ideal.ieee, -EReal.coe_mul]; norm_num⟩
theorem fin_inv_width : IsFin (Ideal.div (Ideal.ofBits .f32 1056964608#32) (Ideal.ofBits .f32 1157627904#32)) := by
  rw [show Ideal.ofBits .f32 1157627904#32 = ((2048 : ℝ) : EReal) by simp [Ideal.ofBits, Ideal.ieee, -EReal.coe_mul]; norm_num]
  exact IsFin.div ⟨1 / 2, by simp [Ideal.ofBits, Ideal.ieee, -EReal.coe_mul]; norm_num⟩ (by norm_num)

/-- The largest of finitely many real numbers is real. -/
theorem fin_max {n : ℕ} (z : EReal) (hz : z ≠ ⊤) {s : Fin (n + 1) → EReal} (hs : ∀ k, IsFin (s k)) : IsFin (Finset.fold max z s Finset.univ) := by
  have h1 : Finset.fold max z s Finset.univ ≠ ⊤ := by
    refine ne_of_lt ((Finset.fold_max_lt _).mpr ⟨hz.lt_top, fun k _ => ?_⟩)
    obtain ⟨r, hr⟩ := hs k
    rw [hr]
    exact EReal.coe_lt_top r
  have h2 : Finset.fold max z s Finset.univ ≠ ⊥ := by
    refine ne_of_gt (lt_of_lt_of_le ?_ ((Finset.le_fold_max _).mpr (Or.inr ⟨0, Finset.mem_univ _, le_rfl⟩)))
    obtain ⟨r, hr⟩ := hs 0
    rw [hr]
    exact EReal.bot_lt_coe r
  exact ⟨_, (EReal.coe_toReal h1 h2).symm⟩

theorem fin_select {c : BitVec 1} {x y : EReal} (hx : IsFin x) (hy : IsFin y) : IsFin (Scalar.select c x y) := by
  unfold Scalar.select
  split
  · exact hx
  · exact hy

theorem lowest_lt : Ideal.ofBits .f32 4286578688#32 ≠ ⊤ := by
  unfold Ideal.ofBits Ideal.ieee
  decide

/-- The gradient through a root-mean-square norm over real entries is real. -/
theorem fin_norm {n : ℕ} {c : ℝ} (hc : c ≠ 0) {N d s y : EReal} (hN : N = c) (hd : IsFin d) (hs : IsFin s) (hy : IsFin y) {f : Fin n → EReal}
    (hf : ∀ k, IsFin (f k)) {t : Fin 1 → EReal} (ht : IsFin (t 0)) :
    IsFin (d * s + y * ∑ x : Fin 1, Ideal.div ((∑ k, f k) * (Ideal.ofBits .f32 3204448256#32 * t x)) N
      + (∑ x : Fin 1, Ideal.div ((∑ k, f k) * (Ideal.ofBits .f32 3204448256#32 * t x)) N) * y) := by
  subst hN
  rw [Fin.sum_univ_one]
  have h := ((IsFin.sum Finset.univ fun k _ => hf k).mul (fin_half.mul ht)).div hc
  exact ((hd.mul hs).add (hy.mul h)).add (h.mul hy)

theorem width2 : Ideal.ofBits .f32 1157627904#32 = ((2048 : ℝ) : EReal) := by simp [Ideal.ofBits, Ideal.ieee, -EReal.coe_mul]; norm_num

section Values

variable (hA : A.Real)
include hA

theorem fin3 (R : Fin 4096) (b : Fin 1024) : IsFin (val_main_v3 (F := Ideal) A.proj (ix2 R b)) := by
  pointwise [val_main_v3, val_main_v0]
  exact hA.proj _
theorem fin4 (R : Fin 4096) (b : Fin 1024) : IsFin (val_main_v4 (F := Ideal) A.proj (ix2 R b)) := by
  pointwise [val_main_v4, val_main_v0]
  exact hA.proj _
theorem fin5 (R : Fin 4096) (b : Fin 1024) : IsFin (val_main_v5 (F := Ideal) A.proj (ix2 R b)) := by
  pointwise [val_main_v5, val_main_v0]
  exact hA.proj _
theorem fin6 (R : Fin 4096) (b : Fin 1024) : IsFin (val_main_v6 (F := Ideal) A.proj (ix2 R b)) := by
  pointwise [val_main_v6, val_main_v0]
  exact hA.proj _
theorem fin7 (R : Fin 4096) (b : Fin 1024) : IsFin (val_main_v7 (F := Ideal) A.proj (ix2 R b)) := by
  pointwise [val_main_v7, val_main_v0]
  exact hA.proj _
theorem fin8 (R : Fin 4096) (b : Fin 1024) : IsFin (val_main_v8 (F := Ideal) A.proj (ix2 R b)) := by
  pointwise [val_main_v8, val_main_v0]
  exact hA.proj _
theorem fin9 (m : Fin 256) (b : Fin 1024) : IsFin (val_main_v9 (F := Ideal) A.kv (ix2 m b)) := by
  pointwise [val_main_v9, val_main_v1]
  exact hA.kv _
theorem fin10 (m : Fin 256) (b : Fin 1024) : IsFin (val_main_v10 (F := Ideal) A.kv (ix2 m b)) := by
  pointwise [val_main_v10, val_main_v1]
  exact hA.kv _

theorem fin80 (R : Fin 4096) (g : Fin 4) (c : Fin 256) : IsFin (val_main_v80 (F := Ideal) A.proj (ix3 R g c)) := by
  rw [stack_ref]
  match g with
  | 0 => exact ⟨_, d0_ref hA R c⟩
  | 1 => exact ⟨_, d1_ref hA R c⟩
  | 2 => exact ⟨_, d2_ref hA R c⟩
  | 3 => exact ⟨_, d3_ref hA R c⟩

theorem fin83 (R : Fin 4096) (b : Fin 1024) : IsFin (val_main_v83 (F := Ideal) A.proj A.poolW (ix2 R b)) := by
  rw [mix_ref]
  exact IsFin.sum _ fun c _ => (hA.poolW _).mul (fin80 hA _ _ _)

theorem fin85 (R : Fin 4096) (b : Fin 1024) : IsFin (val_main_v85 (F := Ideal) A.proj A.poolW A.poolS (ix2 R b)) := by
  pointwise [val_main_v85, val_main_v84]
  exact (fin83 hA R b).mul (hA.poolS _)

theorem fin86_2 (R : Fin 4096) (b : Fin 1024) : IsFin (val_main_v86_2 (F := Ideal) A.proj (ix2 R b)) := by
  pointwise [val_main_v86_2, val_main_call1_v4, val_main_call1_cst_0, val_main_call1_v3, val_main_call1_v2, val_main_call1_cst, val_main_call1_v1,
    val_main_call1_v0]
  exact fin_sigmoid (fin3 hA R b)
theorem fin125_2 (R : Fin 4096) (b : Fin 1024) : IsFin (val_main_v125_2 (F := Ideal) A.proj (ix2 R b)) := by
  pointwise [val_main_v125_2, val_main_call4_v4, val_main_call4_cst_0, val_main_call4_v3, val_main_call4_v2, val_main_call4_cst, val_main_call4_v1,
    val_main_call4_v0]
  exact fin_sigmoid (fin6 hA R b)
theorem fin164_2 (R : Fin 4096) (b : Fin 1024) : IsFin (val_main_v164_2 (F := Ideal) A.proj (ix2 R b)) := by
  pointwise [val_main_v164_2, val_main_call5_v4, val_main_call5_cst_0, val_main_call5_v3, val_main_call5_v2, val_main_call5_cst, val_main_call5_v1,
    val_main_call5_v0]
  exact fin_sigmoid (fin8 hA R b)

theorem fin86_0 (R : Fin 4096) (b : Fin 1024) : IsFin (val_main_v86_0 (F := Ideal) A.proj (ix2 R b)) := by
  pointwise [val_main_v86_0]
  exact (fin3 hA R b).mul (fin86_2 hA R b)
theorem fin125_0 (R : Fin 4096) (b : Fin 1024) : IsFin (val_main_v125_0 (F := Ideal) A.proj (ix2 R b)) := by
  pointwise [val_main_v125_0]
  exact (fin6 hA R b).mul (fin125_2 hA R b)
theorem fin164_0 (R : Fin 4096) (b : Fin 1024) : IsFin (val_main_v164_0 (F := Ideal) A.proj (ix2 R b)) := by
  pointwise [val_main_v164_0]
  exact (fin8 hA R b).mul (fin164_2 hA R b)

theorem fin87 (R : Fin 4096) (b : Fin 1024) : IsFin (val_main_v87 (F := Ideal) A.proj A.poolW A.poolS (ix2 R b)) := by
  pointwise [val_main_v87]
  exact (fin85 hA R b).mul (fin86_0 hA R b)

theorem fin93 (R : Fin 4096) (b : Fin 1024) : IsFin (val_main_v93 (F := Ideal) A.proj (ix2 R b)) := by
  pointwise [val_main_v93, val_main_v92, val_main_v91, val_main_v89, val_main_v88, val_main_cst_12, val_main_v90, val_main_cst_13]
  rw [width1]
  exact (fin5 hA R b).sub ((IsFin.sum _ fun k _ => fin5 hA R k).div (by norm_num))

theorem fin101 (R : Fin 4096) : IsFin (val_main_v101 (F := Ideal) A.proj (ix2 R 0)) ∧ IsFin (val_main_v102 (F := Ideal) A.proj (ix2 R 0)) := by
  pointwise [val_main_v102, val_main_v101, val_main_v100, val_main_v98, val_main_v96, val_main_v95, val_main_v94, val_main_cst_14, val_main_v97,
    val_main_cst_15, val_main_v99, val_main_cst_16]
  rw [width1]
  exact fin_scale (by norm_num) fun k => fin93 hA R k

theorem fin106 (R : Fin 4096) (b : Fin 1024) : IsFin (val_main_v106 (F := Ideal) A.proj (ix2 R b)) := by
  pointwise [val_main_v106, val_main_v105]
  exact (fin93 hA R b).mul (fin101 hA R).1

theorem fin110 (R : Fin 4096) (b : Fin 1024) : IsFin (val_main_v110 (F := Ideal) A.proj A.lnG A.lnB (ix2 R b)) := by
  pointwise [val_main_v110, val_main_v108, val_main_v107, val_main_v109]
  exact ((fin106 hA R b).mul (hA.lnG _)).add (hA.lnB _)

theorem fin123 (R : Fin 4096) (b : Fin 1024) : IsFin (val_main_v123 (F := Ideal) A.proj A.lnG A.lnB A.sguW A.sguB (ix2 R b)) := by
  pointwise! [val_main_v123, val_main_v122, val_main_v118, val_main_v117, val_main_v111, val_main_v116_0, val_main_v116_1, val_main_v114,
    val_main_v113, val_main_call2_v4, val_main_call2_v2, val_main_call2_v0, val_main_call2_v1, val_main_call2_c, val_main_call2_v3, val_main_v112,
    val_main_c, val_main_call2_v5, val_main_call2_c_0, val_main_v115, val_main_cst_18, val_main_v121, val_main_v120, val_main_v119]
  exact (IsFin.sum _ fun x _ => fin_select ((fin110 hA _ b).mul (hA.sguW _)) IsFin.zero).add (hA.sguB _)

theorem fin124 (R : Fin 4096) (b : Fin 1024) : IsFin (val_main_v124 (F := Ideal) A.proj A.lnG A.lnB A.sguW A.sguB (ix2 R b)) := by
  pointwise [val_main_v124]
  exact (fin4 hA R b).mul (fin123 hA R b)

theorem fin126 (R : Fin 4096) (b : Fin 1024) : IsFin (val_main_v126 (F := Ideal) A.proj A.lnG A.lnB A.sguW A.sguB (ix2 R b)) := by
  pointwise [val_main_v126]
  exact (fin124 hA R b).mul (fin125_0 hA R b)

theorem fin132 (h : Fin 4) (R : Fin 4096) (m : Fin 256) : IsFin (val_main_v132 (F := Ideal) A.proj A.kv (ix3 h R m)) := by
  rw [score_ref]
  exact (IsFin.sum _ fun d _ => (fin7 hA _ _).mul (fin9 hA _ _)).mul ⟨1 / 16, by simp [Ideal.ofBits, Ideal.ieee, -EReal.coe_mul]; norm_num⟩

theorem fin140 (n : Fin 4) (R : Fin 4096) : IsFin (val_main_v140 (F := Ideal) A.proj A.kv (ix2 n R)) := by
  rw [max_ref, foldMax_ref]
  exact fin_max _ lowest_lt (fun m => fin132 hA n R m)

/-- The exponentials are positive real numbers, and so is their sum. -/
theorem pos153 (n : Fin 4) (R : Fin 4096) (m : Fin 256) : ∃ r : ℝ, 0 < r ∧ val_main_v153 (F := Ideal) A.proj A.kv (ix3 n R m) = r := by
  obtain ⟨x, hx⟩ := fin132 hA n R m
  obtain ⟨y, hy⟩ := fin140 hA n R
  rw [exp_ref, hx, hy, ← EReal.coe_sub, Ideal.exp_coe]
  exact ⟨_, Real.exp_pos _, rfl⟩

theorem pos155 (n : Fin 4) (R : Fin 4096) : ∃ r : ℝ, 0 < r ∧ val_main_v155 (F := Ideal) A.proj A.kv (ix3 n R 0) = r := by
  choose e h0 he using fun m => pos153 hA n R m
  refine ⟨∑ m, e m, Finset.sum_pos (fun m _ => h0 m) ⟨0, Finset.mem_univ _⟩, ?_⟩
  rw [sum_ref, coe_sum]
  exact Finset.sum_congr rfl fun m _ => he m

theorem prob_ref (n : Fin 4) (R : Fin 4096) (m : Fin 256) : val_main_v157 (F := Ideal) A.proj A.kv (ix3 n R m) = Ideal.div (val_main_v153 (F := Ideal) A.proj A.kv (ix3 n R m)) (val_main_v155 (F := Ideal) A.proj A.kv (ix3 n R 0)) := by
  pointwise! [val_main_v157, val_main_v156]

theorem fin157 (n : Fin 4) (R : Fin 4096) (m : Fin 256) : IsFin (val_main_v157 (F := Ideal) A.proj A.kv (ix3 n R m)) := by
  obtain ⟨x, -, hx⟩ := pos153 hA n R m
  obtain ⟨y, h0, hy⟩ := pos155 hA n R
  rw [prob_ref hA, hx, hy]
  exact (IsFin.coe x).div h0.ne'

theorem fin163 (R : Fin 4096) (b : Fin 1024) : IsFin (val_main_v163 (F := Ideal) A.proj A.kv (ix2 R b)) := by
  rw [oo_ref]
  exact IsFin.sum _ fun m _ => (fin157 hA _ _ _).mul (fin10 hA _ _)

theorem fin165 (R : Fin 4096) (b : Fin 1024) : IsFin (val_main_v165 (F := Ideal) A.proj A.kv (ix2 R b)) := by
  pointwise [val_main_v165]
  exact (fin163 hA R b).mul (fin164_0 hA R b)

theorem fin176 (R : Fin 4096) : IsFin (val_main_v176 (F := Ideal) A.proj A.poolW A.poolS (ix2 R 0)) ∧ IsFin (val_main_v177 (F := Ideal) A.proj A.poolW A.poolS (ix2 R 0)) := by
  pointwise [val_main_v177, val_main_v176, val_main_v175, val_main_v173, val_main_v171, val_main_v170, val_main_v169, val_main_cst_30, val_main_v172,
    val_main_cst_31, val_main_v174, val_main_cst_32]
  rw [width1]
  exact fin_scale (by norm_num) fun k => fin87 hA R k
theorem fin191 (R : Fin 4096) : IsFin (val_main_v191 (F := Ideal) A.proj A.lnG A.lnB A.sguW A.sguB (ix2 R 0)) ∧ IsFin (val_main_v192 (F := Ideal) A.proj A.lnG A.lnB A.sguW A.sguB (ix2 R 0)) := by
  pointwise [val_main_v192, val_main_v191, val_main_v190, val_main_v188, val_main_v186, val_main_v185, val_main_v184, val_main_cst_34, val_main_v187,
    val_main_cst_35, val_main_v189, val_main_cst_36]
  rw [width1]
  exact fin_scale (by norm_num) fun k => fin126 hA R k
theorem fin206 (R : Fin 4096) : IsFin (val_main_v206 (F := Ideal) A.proj A.kv (ix2 R 0)) ∧ IsFin (val_main_v207 (F := Ideal) A.proj A.kv (ix2 R 0)) := by
  pointwise [val_main_v207, val_main_v206, val_main_v205, val_main_v203, val_main_v201, val_main_v200, val_main_v199, val_main_cst_38, val_main_v202,
    val_main_cst_39, val_main_v204, val_main_cst_40]
  rw [width1]
  exact fin_scale (by norm_num) fun k => fin165 hA R k

theorem fin181 (R : Fin 4096) (b : Fin 1024) : IsFin (val_main_v181 (F := Ideal) A.proj A.poolW A.poolS (ix2 R b)) := by
  pointwise [val_main_v181, val_main_v180]
  exact (fin87 hA R b).mul (fin176 hA R).1
theorem fin196 (R : Fin 4096) (b : Fin 1024) : IsFin (val_main_v196 (F := Ideal) A.proj A.lnG A.lnB A.sguW A.sguB (ix2 R b)) := by
  pointwise [val_main_v196, val_main_v195]
  exact (fin126 hA R b).mul (fin191 hA R).1
theorem fin211 (R : Fin 4096) (b : Fin 1024) : IsFin (val_main_v211 (F := Ideal) A.proj A.kv (ix2 R b)) := by
  pointwise [val_main_v211, val_main_v210]
  exact (fin165 hA R b).mul (fin206 hA R).1
theorem fin183 (R : Fin 4096) (b : Fin 1024) : IsFin (val_main_v183 (F := Ideal) A.proj A.poolW A.poolS A.gains (ix2 R b)) := by
  pointwise [val_main_v183, val_main_v182, val_main_v166]
  exact (fin181 hA R b).mul (hA.gains _)
theorem fin198 (R : Fin 4096) (b : Fin 1024) : IsFin (val_main_v198 (F := Ideal) A.proj A.lnG A.lnB A.sguW A.sguB A.gains (ix2 R b)) := by
  pointwise [val_main_v198, val_main_v197, val_main_v167]
  exact (fin196 hA R b).mul (hA.gains _)
theorem fin213 (R : Fin 4096) (b : Fin 1024) : IsFin (val_main_v213 (F := Ideal) A.proj A.kv A.gains (ix2 R b)) := by
  pointwise [val_main_v213, val_main_v212, val_main_v168]
  exact (fin211 hA R b).mul (hA.gains _)

theorem fin214 (R : Fin 4096) (e : Fin 3072) : IsFin (val_main_v214 (F := Ideal) A.proj A.kv A.poolW A.poolS A.lnG A.lnB A.sguW A.sguB A.gains (ix2 R e)) := by
  rcases Nat.lt_or_ge e.val 1024 with h | h
  · rw [catA_ref (A := A) R ⟨e.val, h⟩ e rfl]
    exact fin183 hA _ _
  rcases Nat.lt_or_ge e.val 2048 with h2 | h2
  · rw [catB_ref (A := A) R ⟨e.val - 1024, by omega⟩ e (by dsimp only; omega)]
    exact fin198 hA _ _
  · rw [catC_ref (A := A) R ⟨e.val - 2048, by omega⟩ e (by dsimp only; omega)]
    exact fin213 hA _ _

theorem fin215 (R : Fin 4096) (b : Fin 2048) : IsFin (val_main_v215 (F := Ideal) A.proj A.kv A.poolW A.poolS A.lnG A.lnB A.sguW A.sguB A.gains A.wOut (ix2 R b)) := by
  pointwise [val_main_v215]
  exact IsFin.sum _ fun k _ => (fin214 hA _ _).mul (hA.wOut _)

theorem fin223 (R : Fin 4096) : IsFin (val_main_v223 (F := Ideal) A.proj A.kv A.poolW A.poolS A.lnG A.lnB A.sguW A.sguB A.gains A.wOut (ix2 R 0)) ∧ IsFin (val_main_v224 (F := Ideal) A.proj A.kv A.poolW A.poolS A.lnG A.lnB A.sguW A.sguB A.gains A.wOut (ix2 R 0)) := by
  pointwise [val_main_v224, val_main_v223, val_main_v222, val_main_v220, val_main_v218, val_main_v217, val_main_v216, val_main_cst_42, val_main_v219,
    val_main_cst_43, val_main_v221, val_main_cst_44]
  rw [width2]
  exact fin_scale (by norm_num) fun k => fin215 hA R k

theorem fin228 (R : Fin 4096) (b : Fin 2048) : IsFin (val_main_v228 (F := Ideal) A.proj A.kv A.poolW A.poolS A.lnG A.lnB A.sguW A.sguB A.gains A.wOut (ix2 R b)) := by
  pointwise [val_main_v228, val_main_v227]
  exact (fin215 hA R b).mul (fin223 hA R).1

theorem fin232 (R : Fin 4096) (b : Fin 2048) : IsFin (val_main_v232 (F := Ideal) A.x A.target A.proj A.kv A.poolW A.poolS A.lnG A.lnB A.sguW A.sguB A.gains A.wOut A.post (ix2 R b)) := by
  pointwise [val_main_v232, val_main_v231, val_main_v230, val_main_v229]
  exact ((hA.x _).add ((fin228 hA R b).mul (hA.post _))).sub (hA.target _)

theorem fin246 (R : Fin 4096) (b : Fin 2048) : IsFin (val_main_v246 (F := Ideal) A.x A.target A.proj A.kv A.poolW A.poolS A.lnG A.lnB A.sguW A.sguB A.gains A.wOut A.post (ix2 R b)) := by
  pointwise [val_main_v246, val_main_v245, val_main_v244, val_main_v242, val_main_v241, val_main_cst_51, val_main_cst_52, val_main_v243,
    val_main_cst_53, val_main_v235, val_main_v234, val_main_cst_46]
  exact fin_inv_width.mul (fin_two.mul (fin232 hA R b))

theorem fin265 (R : Fin 4096) (b : Fin 2048) : IsFin (val_main_v265 (F := Ideal) A.x A.target A.proj A.kv A.poolW A.poolS A.lnG A.lnB A.sguW A.sguB A.gains A.wOut A.post (ix2 R b)) := by
  pointwise [val_main_v265, val_main_v263, val_main_v256, val_main_v251, val_main_v250, val_main_v255, val_main_v262, val_main_v261, val_main_v260,
    val_main_v259, val_main_v257, val_main_v254, val_main_v253, val_main_v252, val_main_cst_55, val_main_v226, val_main_v225, val_main_cst_45,
    val_main_v258, val_main_cst_56, val_main_cst_57, val_main_v264]
  exact fin_norm (by norm_num) width2 ((fin246 hA R b).mul (hA.post _)) (fin223 hA R).1 (fin215 hA R b)
    (fun k => (fin215 hA R k).mul ((fin246 hA R k).mul (hA.post _))) (fin223 hA R).2

theorem fin266 (R : Fin 4096) (k : Fin 3072) : IsFin (val_main_v266 (F := Ideal) A.x A.target A.proj A.kv A.poolW A.poolS A.lnG A.lnB A.sguW A.sguB A.gains A.wOut A.post (ix2 R k)) := by
  rw [dy_ref]
  exact IsFin.sum _ fun j _ => (fin265 hA R j).mul (hA.wOut _)

theorem fin267 (R : Fin 4096) (k : Fin 1024) : IsFin (val_main_v267 (F := Ideal) A.x A.target A.proj A.kv A.poolW A.poolS A.lnG A.lnB A.sguW A.sguB A.gains A.wOut A.post (ix2 R k)) := by
  pointwise [val_main_v267]
  exact fin266 hA _ _
theorem fin268 (R : Fin 4096) (k : Fin 1024) : IsFin (val_main_v268 (F := Ideal) A.x A.target A.proj A.kv A.poolW A.poolS A.lnG A.lnB A.sguW A.sguB A.gains A.wOut A.post (ix2 R k)) := by
  pointwise [val_main_v268]
  exact fin266 hA _ _
theorem fin269 (R : Fin 4096) (k : Fin 1024) : IsFin (val_main_v269 (F := Ideal) A.x A.target A.proj A.kv A.poolW A.poolS A.lnG A.lnB A.sguW A.sguB A.gains A.wOut A.post (ix2 R k)) := by
  pointwise [val_main_v269]
  exact fin266 hA _ _

theorem fin326 (R : Fin 4096) (b : Fin 1024) : IsFin (val_main_v326 (F := Ideal) A.x A.target A.proj A.kv A.poolW A.poolS A.lnG A.lnB A.sguW A.sguB A.gains A.wOut A.post (ix2 R b)) := by
  pointwise [val_main_v326, val_main_v324, val_main_v317, val_main_v312, val_main_v311, val_main_v166, val_main_v316, val_main_v323, val_main_v322,
    val_main_v321, val_main_v320, val_main_v318, val_main_v315, val_main_v314, val_main_v313, val_main_cst_67, val_main_v179, val_main_v178,
    val_main_cst_33, val_main_v319, val_main_cst_68, val_main_cst_69, val_main_v325]
  exact fin_norm (by norm_num) width1 ((fin267 hA R b).mul (hA.gains _)) (fin176 hA R).1 (fin87 hA R b)
    (fun k => (fin87 hA R k).mul ((fin267 hA R k).mul (hA.gains _))) (fin176 hA R).2
theorem fin307 (R : Fin 4096) (b : Fin 1024) : IsFin (val_main_v307 (F := Ideal) A.x A.target A.proj A.kv A.poolW A.poolS A.lnG A.lnB A.sguW A.sguB A.gains A.wOut A.post (ix2 R b)) := by
  pointwise [val_main_v307, val_main_v305, val_main_v298, val_main_v293, val_main_v292, val_main_v167, val_main_v297, val_main_v304, val_main_v303,
    val_main_v302, val_main_v301, val_main_v299, val_main_v296, val_main_v295, val_main_v294, val_main_cst_63, val_main_v194, val_main_v193,
    val_main_cst_37, val_main_v300, val_main_cst_64, val_main_cst_65, val_main_v306]
  exact fin_norm (by norm_num) width1 ((fin268 hA R b).mul (hA.gains _)) (fin191 hA R).1 (fin126 hA R b)
    (fun k => (fin126 hA R k).mul ((fin268 hA R k).mul (hA.gains _))) (fin191 hA R).2
theorem fin288 (R : Fin 4096) (b : Fin 1024) : IsFin (val_main_v288 (F := Ideal) A.x A.target A.proj A.kv A.poolW A.poolS A.lnG A.lnB A.sguW A.sguB A.gains A.wOut A.post (ix2 R b)) := by
  pointwise [val_main_v288, val_main_v286, val_main_v279, val_main_v274, val_main_v273, val_main_v168, val_main_v278, val_main_v285, val_main_v284,
    val_main_v283, val_main_v282, val_main_v280, val_main_v277, val_main_v276, val_main_v275, val_main_cst_59, val_main_v209, val_main_v208,
    val_main_cst_41, val_main_v281, val_main_cst_60, val_main_cst_61, val_main_v287]
  exact fin_norm (by norm_num) width1 ((fin269 hA R b).mul (hA.gains _)) (fin206 hA R).1 (fin165 hA R b)
    (fun k => (fin165 hA R k).mul ((fin269 hA R k).mul (hA.gains _))) (fin206 hA R).2

theorem fin328 (R : Fin 4096) (b : Fin 1024) : IsFin (val_main_v328 (F := Ideal) A.x A.target A.proj A.kv A.poolW A.poolS A.lnG A.lnB A.sguW A.sguB A.gains A.wOut A.post (ix2 R b)) := by
  pointwise [val_main_v328]
  exact (fin163 hA R b).mul (fin288 hA R b)
theorem fin329 (R : Fin 4096) (b : Fin 1024) : IsFin (val_main_v329 (F := Ideal) A.x A.target A.proj A.kv A.poolW A.poolS A.lnG A.lnB A.sguW A.sguB A.gains A.wOut A.post (ix2 R b)) := by
  pointwise [val_main_v329]
  exact (fin288 hA R b).mul (fin164_0 hA R b)
theorem fin402 (R : Fin 4096) (b : Fin 1024) : IsFin (val_main_v402 (F := Ideal) A.x A.target A.proj A.kv A.poolW A.poolS A.lnG A.lnB A.sguW A.sguB A.gains A.wOut A.post (ix2 R b)) := by
  pointwise [val_main_v402]
  exact (fin85 hA R b).mul (fin326 hA R b)
theorem fin357 (R : Fin 4096) (b : Fin 1024) : IsFin (val_main_v357 (F := Ideal) A.x A.target A.proj A.kv A.poolW A.poolS A.lnG A.lnB A.sguW A.sguB A.gains A.wOut A.post (ix2 R b)) := by
  pointwise [val_main_v357]
  exact (fin124 hA R b).mul (fin307 hA R b)
theorem fin360 (R : Fin 4096) (b : Fin 1024) : IsFin (val_main_v360 (F := Ideal) A.x A.target A.proj A.kv A.poolW A.poolS A.lnG A.lnB A.sguW A.sguB A.gains A.wOut A.post (ix2 R b)) := by
  pointwise [val_main_v360, val_main_v358]
  exact (fin4 hA R b).mul ((fin307 hA R b).mul (fin125_0 hA R b))

end Values

end Tile

end Cert.KernelIdeal.Mix

end

end
-- ==== Proof.MixSilu.lean ====
/- The gradients through the gates of one tile of the mixing kernel, read against the reference. -/
module

public import proofs.«01_k».proof.Proof.MixOut
public import proofs.«01_k».proof.Proof.MixFin
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

/-- The gradient of `x * sigmoid x`, the way the tile forms it. -/
theorem silu_back {d x s : EReal} (hd : IsFin d) (hx : IsFin x) (hs : IsFin s) : d * (s * (1 + x * (1 - s))) = d * s + x * d * (s * (1 - s)) := by
  obtain ⟨d, rfl⟩ := hd
  obtain ⟨x, rfl⟩ := hx
  obtain ⟨s, rfl⟩ := hs
  norm_cast
  ring

theorem sigA_at (h : Reads A T i X) (a : Fin 128) (b : Fin 1024) : sigA X (ix2 a b) = val_main_v86_2 (F := Ideal) A.proj (ix2 (row T a) b) := by
  pointwise [val_main_v86_2, val_main_call1_v4, val_main_call1_cst_0, val_main_call1_v3, val_main_call1_v2, val_main_call1_cst, val_main_call1_v1,
    val_main_call1_v0]
  rw [← ga_at h]
  unfold sigA
  pointwise [k0_pay50]
  rfl

theorem sigB_at (h : Reads A T i X) (a : Fin 128) (b : Fin 1024) : sigB X (ix2 a b) = val_main_v125_2 (F := Ideal) A.proj (ix2 (row T a) b) := by
  pointwise [val_main_v125_2, val_main_call4_v4, val_main_call4_cst_0, val_main_call4_v3, val_main_call4_v2, val_main_call4_cst, val_main_call4_v1,
    val_main_call4_v0]
  rw [← gb_at h]
  unfold sigB
  pointwise [k0_pay74]
  rfl

theorem sigC_at (h : Reads A T i X) (a : Fin 128) (b : Fin 1024) : sigC X (ix2 a b) = val_main_v164_2 (F := Ideal) A.proj (ix2 (row T a) b) := by
  pointwise [val_main_v164_2, val_main_call5_v4, val_main_call5_cst_0, val_main_call5_v3, val_main_call5_v2, val_main_call5_cst, val_main_call5_v1,
    val_main_call5_v0]
  rw [← gc_at h]
  unfold sigC
  pointwise [k0_pay93]
  rfl

theorem dga_at (h : Reads A T i X) (hA : A.Real) (hw : Weights A w wt) (a : Fin 128) (b : Fin 1024) :
    dga i X w wt (ix2 a b) = val_main_v404 (F := Ideal) A.x A.target A.proj A.kv A.poolW A.poolS A.lnG A.lnB A.sguW A.sguB A.gains A.wOut A.post (ix2 (row T a) b) := by
  have e : dga i X w wt (ix2 a b) = val_main_v402 (F := Ideal) A.x A.target A.proj A.kv A.poolW A.poolS A.lnG A.lnB A.sguW A.sguB A.gains A.wOut A.post (ix2 (row T a) b) * (val_main_v86_2 (F := Ideal) A.proj (ix2 (row T a) b) * (1 + val_main_v3 (F := Ideal) A.proj (ix2 (row T a) b) * (1 - val_main_v86_2 (F := Ideal) A.proj (ix2 (row T a) b)))) := by
    rw [← sigA_at h, ← ga_at h]
    pointwise [val_main_v402]
    rw [← dbA_at h hA hw, ← scaled_at h hA]
    unfold dga
    pointwise [k0_pay125]
    exact congrArg (· * _) (mul_comm (G := EReal) _ _)
  rw [e, silu_back (fin402 hA _ _) (fin3 hA _ _) (fin86_2 hA _ _)]
  pointwise [val_main_v404, val_main_call9_v1, val_main_call9_v2, val_main_call9_v0, val_main_v86_1, val_main_call1_v7, val_main_call1_v6,
    val_main_call1_cst_1]

theorem dgb_at (h : Reads A T i X) (hA : A.Real) (hw : Weights A w wt) (a : Fin 128) (b : Fin 1024) :
    dgb i X w wt (ix2 a b) = val_main_v359 (F := Ideal) A.x A.target A.proj A.kv A.poolW A.poolS A.lnG A.lnB A.sguW A.sguB A.gains A.wOut A.post (ix2 (row T a) b) := by
  have e : dgb i X w wt (ix2 a b) = val_main_v357 (F := Ideal) A.x A.target A.proj A.kv A.poolW A.poolS A.lnG A.lnB A.sguW A.sguB A.gains A.wOut A.post (ix2 (row T a) b) * (val_main_v125_2 (F := Ideal) A.proj (ix2 (row T a) b) * (1 + val_main_v6 (F := Ideal) A.proj (ix2 (row T a) b) * (1 - val_main_v125_2 (F := Ideal) A.proj (ix2 (row T a) b)))) := by
    rw [← sigB_at h, ← gb_at h]
    pointwise [val_main_v357]
    rw [← dbB_at h hA hw, ← gated_at h]
    unfold dgb
    pointwise [k0_pay156]
    exact congrArg (· * _) (mul_comm (G := EReal) _ _)
  rw [e, silu_back (fin357 hA _ _) (fin6 hA _ _) (fin125_2 hA _ _)]
  pointwise [val_main_v359, val_main_call7_v1, val_main_call7_v2, val_main_call7_v0, val_main_v125_1, val_main_call4_v7, val_main_call4_v6,
    val_main_call4_cst_1]

theorem dgc_at (h : Reads A T i X) (hA : A.Real) (hw : Weights A w wt) (a : Fin 128) (b : Fin 1024) :
    dgc i X w wt (ix2 a b) = val_main_v330 (F := Ideal) A.x A.target A.proj A.kv A.poolW A.poolS A.lnG A.lnB A.sguW A.sguB A.gains A.wOut A.post (ix2 (row T a) b) := by
  have e : dgc i X w wt (ix2 a b) = val_main_v328 (F := Ideal) A.x A.target A.proj A.kv A.poolW A.poolS A.lnG A.lnB A.sguW A.sguB A.gains A.wOut A.post (ix2 (row T a) b) * (val_main_v164_2 (F := Ideal) A.proj (ix2 (row T a) b) * (1 + val_main_v8 (F := Ideal) A.proj (ix2 (row T a) b) * (1 - val_main_v164_2 (F := Ideal) A.proj (ix2 (row T a) b)))) := by
    rw [← sigC_at h, ← gc_at h]
    pointwise [val_main_v328]
    rw [← dbC_at h hA hw, ← oo_at h]
    unfold dgc
    pointwise [k0_pay190]
    exact congrArg (· * _) (mul_comm (G := EReal) _ _)
  rw [e, silu_back (fin328 hA _ _) (fin8 hA _ _) (fin164_2 hA _ _)]
  pointwise [val_main_v330, val_main_call6_v1, val_main_call6_v2, val_main_call6_v0, val_main_v164_1, val_main_call5_v7, val_main_call5_v6,
    val_main_call5_cst_1]

theorem duu_at (h : Reads A T i X) (hA : A.Real) (hw : Weights A w wt) (a : Fin 128) (b : Fin 1024) :
    duu i X w wt (ix2 a b) = val_main_v361 (F := Ideal) A.x A.target A.proj A.kv A.poolW A.poolS A.lnG A.lnB A.sguW A.sguB A.gains A.wOut A.post (ix2 (row T a) b) := by
  pointwise [val_main_v361, val_main_v358]
  rw [← dbB_at h hA hw, ← gate_at h, ← siluB_at h]
  unfold duu
  pointwise [k0_pay157, k0_pay155]

theorem dgate_at (h : Reads A T i X) (hA : A.Real) (hw : Weights A w wt) (a : Fin 128) (b : Fin 1024) :
    dgate i X w wt (ix2 a b) = val_main_v360 (F := Ideal) A.x A.target A.proj A.kv A.poolW A.poolS A.lnG A.lnB A.sguW A.sguB A.gains A.wOut A.post (ix2 (row T a) b) := by
  pointwise [val_main_v360, val_main_v358]
  rw [← dbB_at h hA hw, ← uu_at h, ← siluB_at h]
  unfold dgate
  pointwise [k0_pay158, k0_pay155]
  exact mul_comm (G := EReal) _ _

theorem doo_at (h : Reads A T i X) (hA : A.Real) (hw : Weights A w wt) (a : Fin 128) (b : Fin 1024) :
    doo i X w wt (ix2 a b) = val_main_v329 (F := Ideal) A.x A.target A.proj A.kv A.poolW A.poolS A.lnG A.lnB A.sguW A.sguB A.gains A.wOut A.post (ix2 (row T a) b) := by
  pointwise [val_main_v329]
  rw [← dbC_at h hA hw, ← siluC_at h]
  unfold doo
  pointwise [k0_pay189]

end Tile

end Cert.KernelIdeal.Mix

end

end
-- ==== Proof.MixAtt.lean ====
/- The gradients through the attention of one tile of the mixing kernel, read against the reference. -/
module

public import proofs.«01_k».proof.Proof.MixOut
public import proofs.«01_k».proof.Proof.MixSilu
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

/-- The gradient through the softmax: with `e` the exponentials and `S` their sum. -/
theorem soft_back {n : ℕ} {S : EReal} {e d : Fin n → EReal} (c : EReal) (hS : ∃ r : ℝ, 0 < r ∧ S = r) (he : ∀ k, IsFin (e k)) (hd : ∀ k,
    IsFin (d k)) (m : Fin n) :
    Ideal.div (e m) S * (d m - ∑ k, d k * Ideal.div (e k) S) * c
      = (Ideal.div (d m) S + -∑ k, d k * Ideal.div 1 (S * S) * e k) * e m * c := by
  obtain ⟨S, h0, rfl⟩ := hS
  choose e' he using he
  choose d' hd using hd
  obtain rfl : e = fun k => (e' k : EReal) := funext he
  obtain rfl : d = fun k => (d' k : EReal) := funext hd
  have hq : Ideal.div 1 ((S : EReal) * S) = ((1 / (S * S) : ℝ) : EReal) := by
    rw [← EReal.coe_mul, Ideal.div_coe (by positivity), one_mul]
  simp only [hq, Ideal.div_coe h0.ne']
  simp only [← coe_sum, ← EReal.coe_mul, ← EReal.coe_sub, ← EReal.coe_neg, ← EReal.coe_add]
  refine congrArg (· * c) ?_
  refine congrArg _ ?_
  have hs : ∑ k, d' k * (1 / (S * S)) * e' k = (∑ k, d' k * (e' k * (1 / S))) * (1 / S) := by
    rw [Finset.sum_mul]
    exact Finset.sum_congr rfl fun k _ => by field_simp
  rw [hs]
  ring

theorem dp_ref (n : Fin 4) (R : Fin 4096) (m : Fin 256) : val_main_v333 (F := Ideal) A.x A.target A.proj A.kv A.poolW A.poolS A.lnG A.lnB A.sguW A.sguB A.gains A.wOut A.post (ix3 n R m)
    = ∑ d : Fin 256, val_main_v329 (F := Ideal) A.x A.target A.proj A.kv A.poolW A.poolS A.lnG A.lnB A.sguW A.sguB A.gains A.wOut A.post (ix2 R ⟨n.val * 256 + d.val, by omega⟩) * val_main_v10 (F := Ideal) A.kv (ix2 m ⟨n.val * 256 + d.val, by omega⟩) := by
  pointwise! [val_main_v333, val_main_v332, val_main_v331, val_main_v129]

theorem fin333 (hA : A.Real) (n : Fin 4) (R : Fin 4096) (m : Fin 256) : IsFin (val_main_v333 (F := Ideal) A.x A.target A.proj A.kv A.poolW A.poolS A.lnG A.lnB A.sguW A.sguB A.gains A.wOut A.post (ix3 n R m)) := by
  rw [dp_ref]
  exact IsFin.sum _ fun d _ => (fin329 hA _ _).mul (fin10 hA _ _)

theorem ds_ref (hA : A.Real) (n : Fin 4) (R : Fin 4096) (m : Fin 256) : val_main_v349 (F := Ideal) A.x A.target A.proj A.kv A.poolW A.poolS A.lnG A.lnB A.sguW A.sguB A.gains A.wOut A.post (ix3 n R m)
    = val_main_v157 (F := Ideal) A.proj A.kv (ix3 n R m) * (val_main_v333 (F := Ideal) A.x A.target A.proj A.kv A.poolW A.poolS A.lnG A.lnB A.sguW A.sguB A.gains A.wOut A.post (ix3 n R m) - ∑ k, val_main_v333 (F := Ideal) A.x A.target A.proj A.kv A.poolW A.poolS A.lnG A.lnB A.sguW A.sguB A.gains A.wOut A.post (ix3 n R k) * val_main_v157 (F := Ideal) A.proj A.kv (ix3 n R k)) * Ideal.ofBits .f32 0x3D800000#32 := by
  simp only [prob_ref hA]
  rw [soft_back _ (pos155 hA n R) (fun k => (pos153 hA n R k).imp fun _ h => h.2) (fun k => fin333 hA n R k)]
  pointwise! [val_main_v349, val_main_v347, val_main_v346, val_main_v343, val_main_v342, val_main_v345, val_main_v344, val_main_v341, val_main_v340,
    val_main_v339, val_main_v338, val_main_v337, val_main_v336, val_main_v160, val_main_v159, val_main_cst_29, val_main_v158, val_main_cst_70,
    val_main_cst_71, val_main_v348, val_main_cst_72]
  rw [Fin.sum_univ_one]

theorem dq_ref (R : Fin 4096) (b : Fin 1024) : val_main_v356 (F := Ideal) A.x A.target A.proj A.kv A.poolW A.poolS A.lnG A.lnB A.sguW A.sguB A.gains A.wOut A.post (ix2 R b) = ∑ m, val_main_v349 (F := Ideal) A.x A.target A.proj A.kv A.poolW A.poolS A.lnG A.lnB A.sguW A.sguB A.gains A.wOut A.post (ix3 ⟨b.val / 256, by omega⟩ R m) * val_main_v9 (F := Ideal) A.kv (ix2 m b) := by
  pointwise! [val_main_v356, val_main_v353, val_main_v352, val_main_v128]

theorem dk_ref (m : Fin 256) (b : Fin 1024) : val_main_v355 (F := Ideal) A.x A.target A.proj A.kv A.poolW A.poolS A.lnG A.lnB A.sguW A.sguB A.gains A.wOut A.post (ix2 m b) = ∑ R, val_main_v349 (F := Ideal) A.x A.target A.proj A.kv A.poolW A.poolS A.lnG A.lnB A.sguW A.sguB A.gains A.wOut A.post (ix3 ⟨b.val / 256, by omega⟩ R m) * val_main_v7 (F := Ideal) A.proj (ix2 R b) := by
  pointwise! [val_main_v355, val_main_v351, val_main_v350, val_main_v127]

theorem dv_ref (m : Fin 256) (b : Fin 1024) : val_main_v354 (F := Ideal) A.x A.target A.proj A.kv A.poolW A.poolS A.lnG A.lnB A.sguW A.sguB A.gains A.wOut A.post (ix2 m b) = ∑ R, val_main_v157 (F := Ideal) A.proj A.kv (ix3 ⟨b.val / 256, by omega⟩ R m) * val_main_v329 (F := Ideal) A.x A.target A.proj A.kv A.poolW A.poolS A.lnG A.lnB A.sguW A.sguB A.gains A.wOut A.post (ix2 R b) := by
  pointwise! [val_main_v354, val_main_v335, val_main_v334, val_main_v332, val_main_v331]

theorem value_at (h : Reads A T i X) (m : Fin 256) (b : Fin 1024) (e : Fin 2048) (he : e.val = 1024 + b.val) : X.i5 (ix2 e m) = val_main_v10 (F := Ideal) A.kv (ix2 m b) := by
  rw [h.kvT, value_ref]
  exact congrArg (fun c => A.kv (ix2 m c)) (Fin.ext he)

theorem keys_at (h : Reads A T i X) (m : Fin 256) (b : Fin 1024) (e : Fin 2048) (he : e.val = b.val) : X.i4 (ix2 m e) = val_main_v9 (F := Ideal) A.kv (ix2 m b) := by
  rw [h.kv, key_ref]
  exact congrArg (fun c => A.kv (ix2 m c)) (Fin.ext he)

/-- The gradient of the attention weights of head `n`, with the head's columns at `f` and the rows of the values at `g`. -/
theorem dp_at (h : Reads A T i X) (hA : A.Real) (hw : Weights A w wt) (n : Fin 4) (f g : Fin 256 → ℕ) (hf : ∀ x, f x = n.val * 256 + x.val)
    (hg : ∀ x, g x = 1024 + (n.val * 256 + x.val)) (a : Fin 128) (m : Fin 256) :
    ∑ x, doo i X w wt (ix2 a ⟨f x, by rw [hf]; omega⟩) * X.i5 (ix2 ⟨g x,
    by rw [hg]; omega⟩ m) = val_main_v333 (F := Ideal) A.x A.target A.proj A.kv A.poolW A.poolS A.lnG A.lnB A.sguW A.sguB A.gains A.wOut A.post (ix3 n (row T a) m) := by
  rw [dp_ref]
  refine Finset.sum_congr rfl fun x _ => ?_
  rw [doo_at h hA hw, value_at h m ⟨n.val * 256 + x.val, by omega⟩ _ (hg x)]
  exact congrArg (fun c => val_main_v329 (F := Ideal) A.x A.target A.proj A.kv A.poolW A.poolS A.lnG A.lnB A.sguW A.sguB A.gains A.wOut A.post (ix2 (row T a) c) * _) (Fin.ext (hf x))

theorem ds0_at (h : Reads A T i X) (hA : A.Real) (hw : Weights A w wt) (a : Fin 128) (m : Fin 256) :
    ds0 i X w wt (ix2 a m) = val_main_v349 (F := Ideal) A.x A.target A.proj A.kv A.poolW A.poolS A.lnG A.lnB A.sguW A.sguB A.gains A.wOut A.post (ix3 0 (row T a) m) := by
  rw [ds_ref hA]
  simp only [← dp_at h hA hw 0 (fun x => x.val) (fun x => 1024 + x.val) (by simp) (by simp), ← p0_at h]
  unfold ds0 doo
  pointwise [k0_pay193, k0_pay191]

def ds1 (i : grid0.Coords) (X : Ins Ideal) (w : FVec Ideal S3072x2048 .bf16) (wt : FVec Ideal S2048x3072 .bf16) : FVec Ideal S128x256 .bf16 :=
  k0_pay198 (p1 X) (doo i X w wt) (View.ld X.i5 (Rect.unit (s := S2048x256) ![1280, 0] S256x256.size inb_S2048x256_S256x256_1280_0))
def ds2 (i : grid0.Coords) (X : Ins Ideal) (w : FVec Ideal S3072x2048 .bf16) (wt : FVec Ideal S2048x3072 .bf16) : FVec Ideal S128x256 .bf16 :=
  k0_pay204 (doo2 i X w wt) (p2f X) (View.ld X.i5 (Rect.unit (s := S2048x256) ![1536, 0] S256x256.size inb_S2048x256_S256x256_1536_0))
def ds3 (i : grid0.Coords) (X : Ins Ideal) (w : FVec Ideal S3072x2048 .bf16) (wt : FVec Ideal S2048x3072 .bf16) : FVec Ideal S128x256 .bf16 :=
  k0_pay212 (p3f X) (dp3 i X w wt)

theorem ds1_at (h : Reads A T i X) (hA : A.Real) (hw : Weights A w wt) (a : Fin 128) (m : Fin 256) :
    ds1 i X w wt (ix2 a m) = val_main_v349 (F := Ideal) A.x A.target A.proj A.kv A.poolW A.poolS A.lnG A.lnB A.sguW A.sguB A.gains A.wOut A.post (ix3 1 (row T a) m) := by
  rw [ds_ref hA]
  simp only [← dp_at h hA hw 1 (fun x => 256 + x.val) (fun x => 1280 + x.val) (by simp) (by intro x; simp; omega), ← p1_at h]
  unfold ds1
  pointwise [k0_pay198, k0_pay196]

theorem ds2_at (h : Reads A T i X) (hA : A.Real) (hw : Weights A w wt) (a : Fin 128) (m : Fin 256) :
    ds2 i X w wt (ix2 a m) = val_main_v349 (F := Ideal) A.x A.target A.proj A.kv A.poolW A.poolS A.lnG A.lnB A.sguW A.sguB A.gains A.wOut A.post (ix3 2 (row T a) m) := by
  rw [ds_ref hA]
  simp only [← dp_at h hA hw 2 (fun x => 512 + x.val) (fun x => 1536 + x.val) (by simp) (by intro x; simp; omega), ← p2_at h]
  unfold ds2 doo2 p2f
  pointwise [k0_pay204, k0_pay201, k0_pay202]

theorem ds3_at (h : Reads A T i X) (hA : A.Real) (hw : Weights A w wt) (a : Fin 128) (m : Fin 256) :
    ds3 i X w wt (ix2 a m) = val_main_v349 (F := Ideal) A.x A.target A.proj A.kv A.poolW A.poolS A.lnG A.lnB A.sguW A.sguB A.gains A.wOut A.post (ix3 3 (row T a) m) := by
  rw [ds_ref hA]
  simp only [← dp_at h hA hw 3 (fun x => 768 + x.val) (fun x => 1792 + x.val) (by simp) (by intro x; simp; omega), ← p3_at h]
  unfold ds3 dp3 p3f
  pointwise [k0_pay212, k0_pay209, k0_pay208, k0_pay207]

theorem dq_head (h : Reads A T i X) (R : Fin 4096) (n : Fin 4) (b : Fin 256) (s : Fin 256 → EReal) (hs : ∀ m,
    s m = val_main_v349 (F := Ideal) A.x A.target A.proj A.kv A.poolW A.poolS A.lnG A.lnB A.sguW A.sguB A.gains A.wOut A.post (ix3 n R m)) (e : Fin 2048)
    (he : e.val = n.val * 256 + b.val) : ∑ m,
    s m * X.i4 (ix2 m e) = val_main_v356 (F := Ideal) A.x A.target A.proj A.kv A.poolW A.poolS A.lnG A.lnB A.sguW A.sguB A.gains A.wOut A.post (ix2 R ⟨n.val * 256 + b.val, by omega⟩) := by
  rw [dq_ref]
  refine Finset.sum_congr rfl fun m _ => ?_
  rw [hs, keys_at h m ⟨n.val * 256 + b.val, by omega⟩ e he]
  exact congrArg (fun z => val_main_v349 (F := Ideal) A.x A.target A.proj A.kv A.poolW A.poolS A.lnG A.lnB A.sguW A.sguB A.gains A.wOut A.post (ix3 z R m) * _) (Fin.ext (by dsimp only; omega))

theorem dq0_at (h : Reads A T i X) (hA : A.Real) (hw : Weights A w wt) (a : Fin 128) (b : Fin 256) :
    dq0 i X w wt (ix2 a b) = val_main_v356 (F := Ideal) A.x A.target A.proj A.kv A.poolW A.poolS A.lnG A.lnB A.sguW A.sguB A.gains A.wOut A.post (ix2 (row T a) ⟨(0 : Fin 4).val * 256 + b.val, by omega⟩) := by
  rw [← dq_head h (row T a) 0 b _ (ds0_at h hA hw a) ⟨b.val, by omega⟩ (by simp)]
  unfold dq0 ds0
  pointwise [k0_pay194]
theorem dq1_at (h : Reads A T i X) (hA : A.Real) (hw : Weights A w wt) (a : Fin 128) (b : Fin 256) :
    dq1 i X w wt (ix2 a b) = val_main_v356 (F := Ideal) A.x A.target A.proj A.kv A.poolW A.poolS A.lnG A.lnB A.sguW A.sguB A.gains A.wOut A.post (ix2 (row T a) ⟨(1 : Fin 4).val * 256 + b.val, by omega⟩) := by
  rw [← dq_head h (row T a) 1 b _ (ds1_at h hA hw a) ⟨256 + b.val, by omega⟩ (by simp)]
  unfold dq1 ds1
  pointwise [k0_pay199]
theorem dq2_at (h : Reads A T i X) (hA : A.Real) (hw : Weights A w wt) (a : Fin 128) (b : Fin 256) :
    dq2 i X w wt (ix2 a b) = val_main_v356 (F := Ideal) A.x A.target A.proj A.kv A.poolW A.poolS A.lnG A.lnB A.sguW A.sguB A.gains A.wOut A.post (ix2 (row T a) ⟨(2 : Fin 4).val * 256 + b.val, by omega⟩) := by
  rw [← dq_head h (row T a) 2 b _ (ds2_at h hA hw a) ⟨512 + b.val, by omega⟩ (by simp)]
  unfold dq2 ds2
  pointwise [k0_pay205]

/-- The tile's part of a column of the gradient of the keys, head by head. -/
theorem dk_head (h : Reads A T i X) (n : Fin 4) (m b : Fin 256) (s : Fin 128 → EReal) (hs : ∀ a,
    s a = val_main_v349 (F := Ideal) A.x A.target A.proj A.kv A.poolW A.poolS A.lnG A.lnB A.sguW A.sguB A.gains A.wOut A.post (ix3 n (row T a) m)) (e : Fin 1024)
    (he : e.val = n.val * 256 + b.val) : ∑ a, s a * qq X (ix2 a e) = ∑ a,
    val_main_v349 (F := Ideal) A.x A.target A.proj A.kv A.poolW A.poolS A.lnG A.lnB A.sguW A.sguB A.gains A.wOut A.post (ix3 ⟨e.val / 256,
    by omega⟩ (row T a) m) * val_main_v7 (F := Ideal) A.proj (ix2 (row T a) e) := by
  refine Finset.sum_congr rfl fun a _ => ?_
  rw [hs, qq_at h]
  exact congrArg (fun z => val_main_v349 (F := Ideal) A.x A.target A.proj A.kv A.poolW A.poolS A.lnG A.lnB A.sguW A.sguB A.gains A.wOut A.post (ix3 z (row T a) m) * _) (Fin.ext (by dsimp only; omega))

theorem dv_head (h : Reads A T i X) (hA : A.Real) (hw : Weights A w wt) (n : Fin 4) (m b : Fin 256) (s : Fin 128 → EReal) (hs : ∀ a,
    s a = val_main_v157 (F := Ideal) A.proj A.kv (ix3 n (row T a) m)) (e : Fin 1024)
    (he : e.val = n.val * 256 + b.val) : ∑ a, s a * doo i X w wt (ix2 a e) = ∑ a, val_main_v157 (F := Ideal) A.proj A.kv (ix3 ⟨e.val / 256,
    by omega⟩ (row T a) m) * val_main_v329 (F := Ideal) A.x A.target A.proj A.kv A.poolW A.poolS A.lnG A.lnB A.sguW A.sguB A.gains A.wOut A.post (ix2 (row T a) e) := by
  refine Finset.sum_congr rfl fun a _ => ?_
  rw [hs, doo_at h hA hw]
  exact congrArg (fun z => val_main_v157 (F := Ideal) A.proj A.kv (ix3 z (row T a) m) * _) (Fin.ext (by dsimp only; omega))

end Tile

end Cert.KernelIdeal.Mix

end

end
-- ==== Proof.MixGate.lean ====
/- The gradient through the causal products of one tile of the mixing kernel, read against the reference. -/
module

public import proofs.«01_k».proof.Proof.MixOut
public import proofs.«01_k».proof.Proof.MixAtt
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

theorem dz_ref (R : Fin 4096) (b : Fin 1024) : val_main_v372 (F := Ideal) A.x A.target A.proj A.kv A.poolW A.poolS A.lnG A.lnB A.sguW A.sguB A.gains A.wOut A.post (ix2 R b) = ∑ k : Fin 128, (if R.val % 128 ≤ k.val then A.sguW (ix3 ⟨b.val / 128, by omega⟩ k ⟨R.val % 128, by omega⟩) else 0) *
    val_main_v360 (F := Ideal) A.x A.target A.proj A.kv A.poolW A.poolS A.lnG A.lnB A.sguW A.sguB A.gains A.wOut A.post (ix2 ⟨R.val / 128 * 128 + k.val, by omega⟩ b) := by
  pointwise! [val_main_v372, val_main_v370, val_main_v369, val_main_v367, val_main_v362, val_main_v116_0, val_main_v116_1, val_main_v114,
    val_main_v113, val_main_call2_v4, val_main_call2_v2, val_main_call2_v0, val_main_call2_v1, val_main_call2_c, val_main_call2_v3, val_main_v112,
    val_main_c, val_main_call2_v5, val_main_call2_c_0, val_main_v115, val_main_cst_18]
  refine Finset.sum_congr rfl fun k _ => ?_
  rw [causal k.val k ⟨R.val % 128, by omega⟩ rfl]
  split_ifs
  · exact mul_comm (G := EReal) _ _
  · exact (zero_mul _).symm

theorem fin372 (hA : A.Real) (R : Fin 4096) (b : Fin 1024) : IsFin (val_main_v372 (F := Ideal) A.x A.target A.proj A.kv A.poolW A.poolS A.lnG A.lnB A.sguW A.sguB A.gains A.wOut A.post (ix2 R b)) := by
  rw [dz_ref]
  exact IsFin.sum _ fun k _ => IsFin.mul (by split_ifs; exacts [hA.sguW _, IsFin.zero]) (fin360 hA _ _)

/-- The transposed causal sum over the rows of the chunk, at head `n` and column `b`. -/
def headBack (i : grid0.Coords) (X : Ins Ideal) (w : FVec Ideal S3072x2048 .bf16) (wt : FVec Ideal S2048x3072 .bf16) (n : Fin 8) (a : Fin 128) (b : Fin 1024) : EReal :=
  ∑ k, X.i13 (ix3 n a k) * dgate16 i X w wt (ix2 k b)

theorem headBack_eq (i : grid0.Coords) (X : Ins Ideal) (w : FVec Ideal S3072x2048 .bf16) (wt : FVec Ideal S2048x3072 .bf16) (n : Fin 8) (a : Fin 128) (b b' : Fin 1024)
    (hb : b'.val = b.val) (hn : b.val / 128 = n.val) : headBack i X w wt n a b' = headBack i X w wt ⟨b.val / 128, by omega⟩ a b := by
  obtain rfl : b' = b := Fin.ext hb
  exact congrArg (fun n => headBack i X w wt n a b') (Fin.ext hn.symm)

theorem dv0_at (i : grid0.Coords) (X : Ins Ideal) (w : FVec Ideal S3072x2048 .bf16) (wt : FVec Ideal S2048x3072 .bf16) (a e : Fin 128) :
    dv0 i X w wt (ix2 a e) = headBack i X w wt 0 a ⟨e.val, by omega⟩ := by
  pointwise [dv0, k0_pay159, k0_pay160, dgate16, headBack]

theorem dv1_at (i : grid0.Coords) (X : Ins Ideal) (w : FVec Ideal S3072x2048 .bf16) (wt : FVec Ideal S2048x3072 .bf16) (a e : Fin 128) :
    dv1 i X w wt (ix2 a e) = headBack i X w wt 1 a ⟨128 + e.val, by omega⟩ := by
  pointwise [dv1, k0_pay162, headBack]

theorem dv2_at (i : grid0.Coords) (X : Ins Ideal) (w : FVec Ideal S3072x2048 .bf16) (wt : FVec Ideal S2048x3072 .bf16) (a e : Fin 128) :
    dv2 i X w wt (ix2 a e) = headBack i X w wt 2 a ⟨256 + e.val, by omega⟩ := by
  pointwise [dv2, k0_pay164, headBack]

theorem dv3_at (i : grid0.Coords) (X : Ins Ideal) (w : FVec Ideal S3072x2048 .bf16) (wt : FVec Ideal S2048x3072 .bf16) (a e : Fin 128) :
    dv3 i X w wt (ix2 a e) = headBack i X w wt 3 a ⟨384 + e.val, by omega⟩ := by
  pointwise [dv3, k0_pay167, headBack]

theorem dv4_at (i : grid0.Coords) (X : Ins Ideal) (w : FVec Ideal S3072x2048 .bf16) (wt : FVec Ideal S2048x3072 .bf16) (a e : Fin 128) :
    dv4 i X w wt (ix2 a e) = headBack i X w wt 4 a ⟨512 + e.val, by omega⟩ := by
  pointwise [dv4, k0_pay169, headBack]

theorem dv5_at (i : grid0.Coords) (X : Ins Ideal) (w : FVec Ideal S3072x2048 .bf16) (wt : FVec Ideal S2048x3072 .bf16) (a e : Fin 128) :
    dv5 i X w wt (ix2 a e) = headBack i X w wt 5 a ⟨640 + e.val, by omega⟩ := by
  pointwise [dv5, k0_pay172, m5t, k0_pay171, headBack]

theorem dv6_at (i : grid0.Coords) (X : Ins Ideal) (w : FVec Ideal S3072x2048 .bf16) (wt : FVec Ideal S2048x3072 .bf16) (a e : Fin 128) :
    dv6 i X w wt (ix2 a e) = headBack i X w wt 6 a ⟨768 + e.val, by omega⟩ := by
  pointwise [dv6, k0_pay174, headBack]

theorem dv7_at (i : grid0.Coords) (X : Ins Ideal) (w : FVec Ideal S3072x2048 .bf16) (wt : FVec Ideal S2048x3072 .bf16) (a e : Fin 128) :
    dv7 i X w wt (ix2 a e) = headBack i X w wt 7 a ⟨896 + e.val, by omega⟩ := by
  pointwise [dv7, k0_pay176, headBack]

/-- The gradient of the normed rows that enter the gating. -/
def dz (i : grid0.Coords) (X : Ins Ideal) (w : FVec Ideal S3072x2048 .bf16) (wt : FVec Ideal S2048x3072 .bf16) : FVec Ideal S128x1024 .f32 :=
  k0_pay181 (dv0 i X w wt) (dv1 i X w wt) (dv2 i X w wt) (dv3 i X w wt) (dv4 i X w wt) (dv5 i X w wt) (dv6 i X w wt) (dv7 i X w wt)

theorem dz_sum (a : Fin 128) (b : Fin 1024) : dz i X w wt (ix2 a b) = headBack i X w wt ⟨b.val / 128, by omega⟩ a b := by
  pointwise [dz, k0_pay181]
  split
  · rw [dv0_at]; exact headBack_eq i X w wt 0 a b _ (by first | rfl | (dsimp only; omega)) (by show b.val / 128 = 0; omega)
  split
  · rw [dv1_at]; exact headBack_eq i X w wt 1 a b _ (by first | rfl | (dsimp only; omega)) (by show b.val / 128 = 1; omega)
  split
  · rw [dv2_at]; exact headBack_eq i X w wt 2 a b _ (by first | rfl | (dsimp only; omega)) (by show b.val / 128 = 2; omega)
  split
  · rw [dv3_at]; exact headBack_eq i X w wt 3 a b _ (by first | rfl | (dsimp only; omega)) (by show b.val / 128 = 3; omega)
  split
  · rw [dv4_at]; exact headBack_eq i X w wt 4 a b _ (by first | rfl | (dsimp only; omega)) (by show b.val / 128 = 4; omega)
  split
  · rw [dv5_at]; exact headBack_eq i X w wt 5 a b _ (by first | rfl | (dsimp only; omega)) (by show b.val / 128 = 5; omega)
  split
  · rw [dv6_at]; exact headBack_eq i X w wt 6 a b _ (by first | rfl | (dsimp only; omega)) (by show b.val / 128 = 6; omega)
  · rw [dv7_at]; exact headBack_eq i X w wt 7 a b _ (by first | rfl | (dsimp only; omega)) (by show b.val / 128 = 7; omega)

theorem dgate16_at (h : Reads A T i X) (hA : A.Real) (hw : Weights A w wt) (a : Fin 128) (b : Fin 1024) :
    dgate16 i X w wt (ix2 a b) = val_main_v360 (F := Ideal) A.x A.target A.proj A.kv A.poolW A.poolS A.lnG A.lnB A.sguW A.sguB A.gains A.wOut A.post (ix2 (row T a) b) := by
  rw [← dgate_at h hA hw]
  unfold dgate16 dgate
  pointwise [k0_pay159]

theorem dz_at (h : Reads A T i X) (hA : A.Real) (hw : Weights A w wt) (a : Fin 128) (b : Fin 1024) :
    dz i X w wt (ix2 a b) = val_main_v372 (F := Ideal) A.x A.target A.proj A.kv A.poolW A.poolS A.lnG A.lnB A.sguW A.sguB A.gains A.wOut A.post (ix2 (row T a) b) := by
  rw [dz_sum, headBack, dz_ref]
  simp only [row_mod, row_mod_val, row_div, h.sguWT, dgate16_at h hA hw]

/-- The gradient through the removal of the mean. -/
theorem mean_back {n : ℕ} {N : ℝ} (hN : 0 < N) {s M : EReal} (hs : IsFin s) (hM : IsFin M) {y c : Fin n → EReal} (hy : ∀ k, IsFin (y k)) (hc : ∀ k,
    IsFin (c k))
    (h0 : ∑ k, c k = 0) (b : Fin n) : s * (y b - Ideal.div (∑ k, y k) N - c b * s * M)
      = s * (y b - c b * s * M) + Ideal.div (∑ k, -(s * (y k - c k * s * M))) N := by
  obtain ⟨s, rfl⟩ := hs
  obtain ⟨M, rfl⟩ := hM
  choose y' hy using hy
  choose c' hc using hc
  obtain rfl : y = fun k => (y' k : EReal) := funext hy
  obtain rfl : c = fun k => (c' k : EReal) := funext hc
  have h0' : ∑ k, c' k = 0 := by
    simp only [← coe_sum] at h0
    exact_mod_cast h0
  simp only [Ideal.div_coe hN.ne', ← coe_sum, ← EReal.coe_mul, ← EReal.coe_sub, ← EReal.coe_neg, ← EReal.coe_add]
  refine congrArg _ ?_
  have e : ∑ k, -(s * (y' k - c' k * s * M)) = -(s * ∑ k, y' k) := by
    have : ∀ k, -(s * (y' k - c' k * s * M)) = -s * y' k + s * s * M * c' k := fun k => by ring
    simp only [this, Finset.sum_add_distrib, ← Finset.mul_sum, h0']
    ring
  rw [e]
  ring

theorem centre_sum (hA : A.Real) (R : Fin 4096) : ∑ b, val_main_v93 (F := Ideal) A.proj (ix2 R b) = 0 := by
  choose x hx using fun b => fin5 hA R b
  have e : ∀ b, val_main_v93 (F := Ideal) A.proj (ix2 R b) = ((x b - (∑ k, x k) * (1 / 1024) : ℝ) : EReal) := fun b => by
    pointwise [val_main_v93, val_main_v92, val_main_v91, val_main_v89, val_main_v88, val_main_cst_12, val_main_v90, val_main_cst_13]
    simp only [hx, width1, ← coe_sum]
    rw [Ideal.div_coe (by norm_num), ← EReal.coe_mul, ← EReal.coe_sub]
  simp only [e, ← coe_sum]
  rw [← EReal.coe_zero]
  refine congrArg _ ?_
  rw [Finset.sum_sub_distrib, Finset.sum_const, Finset.card_univ, Fintype.card_fin, nsmul_eq_mul]
  push_cast
  ring

theorem dvv_at (h : Reads A T i X) (hA : A.Real) (hw : Weights A w wt) (a : Fin 128) (b : Fin 1024) :
    dvv i X w wt (ix2 a b) = val_main_v401 (F := Ideal) A.x A.target A.proj A.kv A.poolW A.poolS A.lnG A.lnB A.sguW A.sguB A.gains A.wOut A.post (ix2 (row T a) b) := by
  have hr : val_main_v101 (F := Ideal) A.proj (ix2 (row T a) 0) = Ideal.rsqrt (val_main_v100 (F := Ideal) A.proj (ix2 (row T a) 0)) := by pointwise [val_main_v101]
  have hn : ∀ x, val_main_v106 (F := Ideal) A.proj (ix2 (row T a) x) = val_main_v93 (F := Ideal) A.proj (ix2 (row T a) x) * Ideal.rsqrt (val_main_v100 (F := Ideal) A.proj (ix2 (row T a) 0)) := fun x => by
    pointwise [val_main_v106, val_main_v105, val_main_v101]
  have hm : val_main_v100 (F := Ideal) A.proj (ix2 (row T a) 0) = Ideal.div (∑ j : Fin 1024,
    val_main_v93 (F := Ideal) A.proj (ix2 (row T a) j) * val_main_v93 (F := Ideal) A.proj (ix2 (row T a) j)) (Ideal.ofBits .f32 1149239296#32)
      + Ideal.ofBits .f32 897988541#32 := by pointwise [val_main_v100, val_main_v98, val_main_v96, val_main_v95, val_main_v94, val_main_cst_14,
    val_main_v97, val_main_cst_15, val_main_v99, val_main_cst_16]
  have e : dvv i X w wt (ix2 a b) = rsV X (ix2 a 0) * (dz i X w wt (ix2 a b) * X.i9 (ix2 0 b)
      - Ideal.div (∑ k, dz i X w wt (ix2 a k) * X.i9 (ix2 0 k)) (Ideal.ofBits .f32 1149239296#32)
      - nrmV X (ix2 a b) * Ideal.div (∑ k, dz i X w wt (ix2 a k) * X.i9 (ix2 0 k) * nrmV X (ix2 a k)) (Ideal.ofBits .f32 1149239296#32)) := by
    unfold dvv dhat dln dz
    pointwise [k0_pay188, k0_pay187, k0_pay186, k0_pay185]
  have hs : IsFin (Ideal.rsqrt (val_main_v100 (F := Ideal) A.proj (ix2 (row T a) 0))) := hr ▸ (fin101 hA (row T a)).1
  simp only [e, rsV_at h, nrmV_at h, dz_at h hA hw, h.lnG, hr, hn]
  have hy : ∀ k, IsFin (val_main_v372 (F := Ideal) A.x A.target A.proj A.kv A.poolW A.poolS A.lnG A.lnB A.sguW A.sguB A.gains A.wOut A.post (ix2 (row T a) k) * A.lnG (ix2 0 k)) := fun k => (fin372 hA _ _).mul (hA.lnG _)
  have hM : IsFin (Ideal.div (∑ k, val_main_v372 (F := Ideal) A.x A.target A.proj A.kv A.poolW A.poolS A.lnG A.lnB A.sguW A.sguB A.gains A.wOut A.post (ix2 (row T a) k) * A.lnG (ix2 0 k) * (val_main_v93 (F := Ideal) A.proj (ix2 (row T a) k) * Ideal.rsqrt (val_main_v100 (F := Ideal) A.proj (ix2 (row T a) 0)))) (Ideal.ofBits .f32 1149239296#32)) := by
    rw [width1]
    exact (IsFin.sum _ fun k _ => (hy k).mul ((fin93 hA _ _).mul hs)).div (by norm_num)
  have key := mean_back (N := 1024) (by norm_num) hs hM hy (fun k => fin93 hA (row T a) k) (centre_sum hA (row T a)) b
  rw [← width1] at key
  refine key.trans ?_
  have back := fun k => norm_back 1024 (by norm_num) _ width1 (fun j => val_main_v93 (F := Ideal) A.proj (ix2 (row T a) j)) (fun j => val_main_v372 (F := Ideal) A.x A.target A.proj A.kv A.poolW A.poolS A.lnG A.lnB A.sguW A.sguB A.gains A.wOut A.post (ix2 (row T a) j) * A.lnG (ix2 0 j)) _ hm
    (val_main_v93 (F := Ideal) A.proj (ix2 (row T a) k)) (val_main_v372 (F := Ideal) A.x A.target A.proj A.kv A.poolW A.poolS A.lnG A.lnB A.sguW A.sguB A.gains A.wOut A.post (ix2 (row T a) k) * A.lnG (ix2 0 k))
  simp only [back]
  pointwise [val_main_v401, val_main_v393, val_main_v391, val_main_v384, val_main_v379, val_main_v378, val_main_v383, val_main_v101, val_main_v390,
    val_main_v389, val_main_v388, val_main_v387, val_main_v385, val_main_v382, val_main_v381, val_main_v380, val_main_cst_77, val_main_v104,
    val_main_v103, val_main_cst_17, val_main_v102, val_main_v386, val_main_cst_78, val_main_cst_79, val_main_v392, val_main_v400, val_main_v399,
    val_main_v398, val_main_v396, val_main_v395, val_main_v394, val_main_cst_80, val_main_v397, val_main_cst_81, val_main_cst_82]
  simp only [Fin.sum_univ_one]

end Tile

end Cert.KernelIdeal.Mix

end

end
-- ==== Proof.MixPoolB.lean ====
/- The gradient through the moving means of one tile of the mixing kernel, read against the reference. -/
module

public import proofs.«01_k».proof.Proof.MixOut
public import proofs.«01_k».proof.Proof.MixGate
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

theorem dd_ref (R : Fin 4096) (g : Fin 4) (c : Fin 256) : val_main_v413 (F := Ideal) A.x A.target A.proj A.kv A.poolW A.poolS A.lnG A.lnB A.sguW A.sguB A.gains A.wOut A.post (ix3 R g c) = ∑ e : Fin 256, val_main_v409 (F := Ideal) A.x A.target A.proj A.kv A.poolW A.poolS A.lnG A.lnB A.sguW A.sguB A.gains A.wOut A.post (ix2 R ⟨g.val * 256 + e.val, by omega⟩) * A.poolW (ix3 g c e) := by
  pointwise! [val_main_v413, val_main_v412, val_main_v411, val_main_v410]

theorem fin409 (hA : A.Real) (R : Fin 4096) (b : Fin 1024) : IsFin (val_main_v409 (F := Ideal) A.x A.target A.proj A.kv A.poolW A.poolS A.lnG A.lnB A.sguW A.sguB A.gains A.wOut A.post (ix2 R b)) := by
  pointwise [val_main_v409, val_main_v403, val_main_v408]
  exact ((fin326 hA R b).mul (fin86_0 hA R b)).mul (hA.poolS _)

theorem fin413 (hA : A.Real) (R : Fin 4096) (g : Fin 4) (c : Fin 256) : IsFin (val_main_v413 (F := Ideal) A.x A.target A.proj A.kv A.poolW A.poolS A.lnG A.lnB A.sguW A.sguB A.gains A.wOut A.post (ix3 R g c)) := by
  rw [dd_ref]
  exact IsFin.sum _ fun e _ => (fin409 hA _ _).mul (hA.poolW _)

theorem dmix_at (h : Reads A T i X) (hA : A.Real) (hw : Weights A w wt) (a : Fin 128) (b : Fin 1024) :
    dmix i X w wt (ix2 a b) = val_main_v409 (F := Ideal) A.x A.target A.proj A.kv A.poolW A.poolS A.lnG A.lnB A.sguW A.sguB A.gains A.wOut A.post (ix2 (row T a) b) := by
  pointwise [val_main_v409, val_main_v403, val_main_v408]
  rw [← dbA_at h hA hw, ← siluA_at h, ← h.poolS]
  unfold dmix
  pointwise [k0_pay127, k0_pay124]

def back2 (i : grid0.Coords) (X : Ins Ideal) (w : FVec Ideal S3072x2048 .bf16) (wt : FVec Ideal S2048x3072 .bf16) : FVec Ideal S128x256 .f32 :=
  k0_pay143 (dmix i X w wt) (View.ld X.i7 (Rect.unit (s := S4x256x256) ![2, 0, 0] S1x256x256.size inb_S4x256x256_S1x256x256_2_0_0))

theorem back_head (h : Reads A T i X) (hA : A.Real) (hw : Weights A w wt) (g : Fin 4) (f : Fin 256 → ℕ) (hf : ∀ x,
    f x = g.val * 256 + x.val) (a : Fin 128) (c : Fin 256) :
    ∑ x, dmix i X w wt (ix2 a ⟨f x, by rw [hf]; omega⟩) * X.i7 (ix3 g x c) = val_main_v413 (F := Ideal) A.x A.target A.proj A.kv A.poolW A.poolS A.lnG A.lnB A.sguW A.sguB A.gains A.wOut A.post (ix3 (row T a) g c) := by
  rw [dd_ref]
  refine Finset.sum_congr rfl fun x _ => ?_
  rw [dmix_at h hA hw, h.poolWT]
  exact congrArg (fun c => val_main_v409 (F := Ideal) A.x A.target A.proj A.kv A.poolW A.poolS A.lnG A.lnB A.sguW A.sguB A.gains A.wOut A.post (ix2 (row T a) c) * _) (Fin.ext (hf x))

theorem back0_at (h : Reads A T i X) (hA : A.Real) (hw : Weights A w wt) (a : Fin 128) (c : Fin 256) :
    back0 i X w wt (ix2 a c) = val_main_v413 (F := Ideal) A.x A.target A.proj A.kv A.poolW A.poolS A.lnG A.lnB A.sguW A.sguB A.gains A.wOut A.post (ix3 (row T a) 0 c) := by
  rw [← back_head h hA hw 0 (fun x => x.val) (by simp)]
  unfold back0 dmix
  pointwise [k0_pay129, k0_pay128]
theorem back1_at (h : Reads A T i X) (hA : A.Real) (hw : Weights A w wt) (a : Fin 128) (c : Fin 256) :
    back1 i X w wt (ix2 a c) = val_main_v413 (F := Ideal) A.x A.target A.proj A.kv A.poolW A.poolS A.lnG A.lnB A.sguW A.sguB A.gains A.wOut A.post (ix3 (row T a) 1 c) := by
  rw [← back_head h hA hw 1 (fun x => 256 + x.val) (by simp)]
  unfold back1
  pointwise [k0_pay136, k0_pay135]
theorem back2_at (h : Reads A T i X) (hA : A.Real) (hw : Weights A w wt) (a : Fin 128) (c : Fin 256) :
    back2 i X w wt (ix2 a c) = val_main_v413 (F := Ideal) A.x A.target A.proj A.kv A.poolW A.poolS A.lnG A.lnB A.sguW A.sguB A.gains A.wOut A.post (ix3 (row T a) 2 c) := by
  rw [← back_head h hA hw 2 (fun x => 512 + x.val) (by simp)]
  unfold back2
  pointwise [k0_pay143, k0_pay142]
theorem back3_at (h : Reads A T i X) (hA : A.Real) (hw : Weights A w wt) (a : Fin 128) (c : Fin 256) :
    back3 i X w wt (ix2 a c) = val_main_v413 (F := Ideal) A.x A.target A.proj A.kv A.poolW A.poolS A.lnG A.lnB A.sguW A.sguB A.gains A.wOut A.post (ix3 (row T a) 3 c) := by
  rw [← back_head h hA hw 3 (fun x => 768 + x.val) (by simp)]
  unfold back3
  pointwise [k0_pay149, k0_pay148]

/-- A column of the gradient of the pooled rows of group `g`; zero after the last row. -/
def dcol (A : Args) (g : Fin 4) (c : Fin 256) (n : ℕ) : ℝ := if h : n < 4096 then (val_main_v413 (F := Ideal) A.x A.target A.proj A.kv A.poolW A.poolS A.lnG A.lnB A.sguW A.sguB A.gains A.wOut A.post (ix3 ⟨n, h⟩ g c)).toReal else 0

/-- The same, divided by the number of rows in the window of `w` rows. -/
def share (A : Args) (w : ℕ) (g : Fin 4) (c : Fin 256) (n : ℕ) : ℝ := dcol A g c n * (1 / min (1 + (n : ℝ)) w)

theorem dcol_at (hA : A.Real) (R : Fin 4096) (g : Fin 4) (c : Fin 256) : val_main_v413 (F := Ideal) A.x A.target A.proj A.kv A.poolW A.poolS A.lnG A.lnB A.sguW A.sguB A.gains A.wOut A.post (ix3 R g c) = (dcol A g c R.val : EReal) := by
  rw [dcol, dif_pos R.isLt]
  exact (fin413 hA R g c).eq

theorem share_end (w : ℕ) (g : Fin 4) (c : Fin 256) (n : ℕ) (h : 4096 ≤ n) : share A w g c n = 0 := by
  rw [share, dcol, dif_neg (by omega), zero_mul]

/-- The sum over the rows from `R` on of the differences over `w` rows is a sum over `w` rows. -/
theorem window_back (E : ℕ → ℝ) (N w : ℕ) (hE : ∀ n, N ≤ n → E n = 0) (R : ℕ) :
    pre (fun n => E n - E (n + w)) N - pre (fun n => E n - E (n + w)) R = ∑ k ∈ Finset.range w, E (R + k) := by
  have e : ∀ n, pre (fun n => E n - E (n + w)) n = ∑ k ∈ Finset.range w, E k - ∑ k ∈ Finset.range w, E (n + k) := fun n => by
    unfold pre
    induction n with
    | zero => simp
    | succ n ih =>
      rw [Finset.sum_range_succ, ih]
      have s := Finset.sum_range_succ (fun k => E (n + k)) w
      have s' := Finset.sum_range_succ' (fun k => E (n + k)) w
      rw [s] at s'
      have t : ∑ k ∈ Finset.range w, E (n + (k + 1)) = ∑ k ∈ Finset.range w, E (n + 1 + k) :=
        Finset.sum_congr rfl fun k _ => congrArg E (by omega)
      rw [t] at s'
      simp only [Nat.add_zero] at s'
      linarith
  rw [e, e, Finset.sum_eq_zero fun k _ => hE (N + k) (by omega)]
  ring

theorem share_eq (hA : A.Real) (w : ℕ) (hw : 0 < w) (n : ℕ) (hn : n < 4096) (g : Fin 4) (c : Fin 256) :
    Ideal.div (val_main_v413 (F := Ideal) A.x A.target A.proj A.kv A.poolW A.poolS A.lnG A.lnB A.sguW A.sguB A.gains A.wOut A.post (ix3 ⟨n,
    hn⟩ g c)) (min (1 + ((n : ℝ) : EReal)) ((w : ℝ) : EReal)) = (share A w g c n : EReal) := by
  have e : min (1 + ((n : ℝ) : EReal)) ((w : ℝ) : EReal) = ((min (1 + (n : ℝ)) w : ℝ) : EReal) := by
    rw [EReal.coe_strictMono.monotone.map_min]; rfl
  rw [dcol_at hA, e, Ideal.div_coe (count_pos n w hw), share, EReal.coe_mul]

theorem share_step (hA : A.Real) (w : ℕ) (hw : 0 < w) (R : Fin 4096) (g : Fin 4) (c : Fin 256) :
    (Ideal.div (val_main_v413 (F := Ideal) A.x A.target A.proj A.kv A.poolW A.poolS A.lnG A.lnB A.sguW A.sguB A.gains A.wOut A.post (ix3 R g c)) (min (1 + ((R.val : ℝ) : EReal)) ((w : ℝ) : EReal))
      + if h : w + R.val < 4096 then -Ideal.div (val_main_v413 (F := Ideal) A.x A.target A.proj A.kv A.poolW A.poolS A.lnG A.lnB A.sguW A.sguB A.gains A.wOut A.post (ix3 ⟨w + R.val, h⟩ g c)) (min (1 + (((w + R.val : ℕ) : ℝ) : EReal)) ((w : ℝ) : EReal)) else 0)
      = ((share A w g c R.val - share A w g c (R.val + w) : ℝ) : EReal) := by
  rw [share_eq hA w hw R.val R.isLt, Nat.add_comm R.val w]
  split
  · next h => rw [share_eq hA w hw _ h, ← EReal.coe_neg, ← EReal.coe_add, sub_eq_add_neg]
  · next h => rw [share_end w g c (w + R.val) (by omega), sub_zero, add_zero]

theorem share0_ref (hA : A.Real) (R : Fin 4096) (c : Fin 256) : val_main_v477 (F := Ideal) A.x A.target A.proj A.kv A.poolW A.poolS A.lnG A.lnB A.sguW A.sguB A.gains A.wOut A.post (ix3 R 0 c) = ((share A 2 0 c R.val - share A 2 0 c (R.val + 2) : ℝ) : EReal) := by
  rw [← share_step hA 2 (by decide)]
  pointwise [val_main_v477, val_main_v463, val_main_v449, val_main_v435, val_main_v434, val_main_v433, val_main_v428, val_main_v423, val_main_v422,
    val_main_v427, val_main_v69, val_main_v68, val_main_v15, val_main_v14, val_main_cst, val_main_v13, val_main_v67, val_main_cst_11, val_main_v432,
    val_main_v431, val_main_v429, val_main_cst_85, val_main_cst_86, val_main_v448, val_main_v447, val_main_v446, val_main_v441, val_main_v421,
    val_main_v420, val_main_v440, val_main_v54, val_main_v53, val_main_v52, val_main_cst_8, val_main_v445, val_main_v444, val_main_v442,
    val_main_cst_88, val_main_cst_89, val_main_v462, val_main_v461, val_main_v460, val_main_v455, val_main_v419, val_main_v418, val_main_v454,
    val_main_v39, val_main_v38, val_main_v37, val_main_cst_5, val_main_v459, val_main_v458, val_main_v456, val_main_cst_91, val_main_cst_92,
    val_main_v476, val_main_v475, val_main_v474, val_main_v469, val_main_v417, val_main_v416, val_main_v468, val_main_v24, val_main_v23,
    val_main_v22, val_main_cst_2, val_main_v473, val_main_v472, val_main_v470, val_main_cst_94, val_main_cst_95]
  simp only [of_row _ (show R.val < 2147483648 by omega), of_row _ (show 2 + R.val < 2147483648 by omega), two]
  split
  · next h => rw [dif_pos (by omega)]
  · next h => rw [dif_neg (by omega)]
theorem after0_ref (R : Fin 4096) (c : Fin 256) : val_main_v467 (F := Ideal) A.x A.target A.proj A.kv A.poolW A.poolS A.lnG A.lnB A.sguW A.sguB A.gains A.wOut A.post (ix3 R 0 c) = -val_main_v413 (F := Ideal) A.x A.target A.proj A.kv A.poolW A.poolS A.lnG A.lnB A.sguW A.sguB A.gains A.wOut A.post (ix3 R 0 c) := by
  pointwise [val_main_v467, val_main_v453, val_main_v439, val_main_v426, val_main_v425, val_main_v424, val_main_v423, val_main_v422, val_main_cst_84,
    val_main_v438, val_main_v437, val_main_v436, val_main_v421, val_main_v420, val_main_cst_87, val_main_v452, val_main_v451, val_main_v450,
    val_main_v419, val_main_v418, val_main_cst_90, val_main_v466, val_main_v465, val_main_v464, val_main_v417, val_main_v416, val_main_cst_93]

theorem share1_ref (hA : A.Real) (R : Fin 4096) (c : Fin 256) : val_main_v477 (F := Ideal) A.x A.target A.proj A.kv A.poolW A.poolS A.lnG A.lnB A.sguW A.sguB A.gains A.wOut A.post (ix3 R 1 c) = ((share A 4 1 c R.val - share A 4 1 c (R.val + 4) : ℝ) : EReal) := by
  rw [← share_step hA 4 (by decide)]
  pointwise [val_main_v477, val_main_v463, val_main_v449, val_main_v435, val_main_v434, val_main_v433, val_main_v428, val_main_v423, val_main_v422,
    val_main_v427, val_main_v69, val_main_v68, val_main_v15, val_main_v14, val_main_cst, val_main_v13, val_main_v67, val_main_cst_11, val_main_v432,
    val_main_v431, val_main_v429, val_main_cst_85, val_main_cst_86, val_main_v448, val_main_v447, val_main_v446, val_main_v441, val_main_v421,
    val_main_v420, val_main_v440, val_main_v54, val_main_v53, val_main_v52, val_main_cst_8, val_main_v445, val_main_v444, val_main_v442,
    val_main_cst_88, val_main_cst_89, val_main_v462, val_main_v461, val_main_v460, val_main_v455, val_main_v419, val_main_v418, val_main_v454,
    val_main_v39, val_main_v38, val_main_v37, val_main_cst_5, val_main_v459, val_main_v458, val_main_v456, val_main_cst_91, val_main_cst_92,
    val_main_v476, val_main_v475, val_main_v474, val_main_v469, val_main_v417, val_main_v416, val_main_v468, val_main_v24, val_main_v23,
    val_main_v22, val_main_cst_2, val_main_v473, val_main_v472, val_main_v470, val_main_cst_94, val_main_cst_95]
  simp only [of_row _ (show R.val < 2147483648 by omega), of_row _ (show 4 + R.val < 2147483648 by omega), four]
  split
  · next h => rw [dif_pos (by omega)]
  · next h => rw [dif_neg (by omega)]
theorem after1_ref (R : Fin 4096) (c : Fin 256) : val_main_v467 (F := Ideal) A.x A.target A.proj A.kv A.poolW A.poolS A.lnG A.lnB A.sguW A.sguB A.gains A.wOut A.post (ix3 R 1 c) = -val_main_v413 (F := Ideal) A.x A.target A.proj A.kv A.poolW A.poolS A.lnG A.lnB A.sguW A.sguB A.gains A.wOut A.post (ix3 R 1 c) := by
  pointwise [val_main_v467, val_main_v453, val_main_v439, val_main_v426, val_main_v425, val_main_v424, val_main_v423, val_main_v422, val_main_cst_84,
    val_main_v438, val_main_v437, val_main_v436, val_main_v421, val_main_v420, val_main_cst_87, val_main_v452, val_main_v451, val_main_v450,
    val_main_v419, val_main_v418, val_main_cst_90, val_main_v466, val_main_v465, val_main_v464, val_main_v417, val_main_v416, val_main_cst_93]

theorem share2_ref (hA : A.Real) (R : Fin 4096) (c : Fin 256) : val_main_v477 (F := Ideal) A.x A.target A.proj A.kv A.poolW A.poolS A.lnG A.lnB A.sguW A.sguB A.gains A.wOut A.post (ix3 R 2 c) = ((share A 8 2 c R.val - share A 8 2 c (R.val + 8) : ℝ) : EReal) := by
  rw [← share_step hA 8 (by decide)]
  pointwise [val_main_v477, val_main_v463, val_main_v449, val_main_v435, val_main_v434, val_main_v433, val_main_v428, val_main_v423, val_main_v422,
    val_main_v427, val_main_v69, val_main_v68, val_main_v15, val_main_v14, val_main_cst, val_main_v13, val_main_v67, val_main_cst_11, val_main_v432,
    val_main_v431, val_main_v429, val_main_cst_85, val_main_cst_86, val_main_v448, val_main_v447, val_main_v446, val_main_v441, val_main_v421,
    val_main_v420, val_main_v440, val_main_v54, val_main_v53, val_main_v52, val_main_cst_8, val_main_v445, val_main_v444, val_main_v442,
    val_main_cst_88, val_main_cst_89, val_main_v462, val_main_v461, val_main_v460, val_main_v455, val_main_v419, val_main_v418, val_main_v454,
    val_main_v39, val_main_v38, val_main_v37, val_main_cst_5, val_main_v459, val_main_v458, val_main_v456, val_main_cst_91, val_main_cst_92,
    val_main_v476, val_main_v475, val_main_v474, val_main_v469, val_main_v417, val_main_v416, val_main_v468, val_main_v24, val_main_v23,
    val_main_v22, val_main_cst_2, val_main_v473, val_main_v472, val_main_v470, val_main_cst_94, val_main_cst_95]
  simp only [of_row _ (show R.val < 2147483648 by omega), of_row _ (show 8 + R.val < 2147483648 by omega), eight]
  split
  · next h => rw [dif_pos (by omega)]
  · next h => rw [dif_neg (by omega)]
theorem after2_ref (R : Fin 4096) (c : Fin 256) : val_main_v467 (F := Ideal) A.x A.target A.proj A.kv A.poolW A.poolS A.lnG A.lnB A.sguW A.sguB A.gains A.wOut A.post (ix3 R 2 c) = -val_main_v413 (F := Ideal) A.x A.target A.proj A.kv A.poolW A.poolS A.lnG A.lnB A.sguW A.sguB A.gains A.wOut A.post (ix3 R 2 c) := by
  pointwise [val_main_v467, val_main_v453, val_main_v439, val_main_v426, val_main_v425, val_main_v424, val_main_v423, val_main_v422, val_main_cst_84,
    val_main_v438, val_main_v437, val_main_v436, val_main_v421, val_main_v420, val_main_cst_87, val_main_v452, val_main_v451, val_main_v450,
    val_main_v419, val_main_v418, val_main_cst_90, val_main_v466, val_main_v465, val_main_v464, val_main_v417, val_main_v416, val_main_cst_93]

theorem share3_ref (hA : A.Real) (R : Fin 4096) (c : Fin 256) : val_main_v477 (F := Ideal) A.x A.target A.proj A.kv A.poolW A.poolS A.lnG A.lnB A.sguW A.sguB A.gains A.wOut A.post (ix3 R 3 c) = ((share A 16 3 c R.val - share A 16 3 c (R.val + 16) : ℝ) : EReal) := by
  rw [← share_step hA 16 (by decide)]
  pointwise [val_main_v477, val_main_v463, val_main_v449, val_main_v435, val_main_v434, val_main_v433, val_main_v428, val_main_v423, val_main_v422,
    val_main_v427, val_main_v69, val_main_v68, val_main_v15, val_main_v14, val_main_cst, val_main_v13, val_main_v67, val_main_cst_11, val_main_v432,
    val_main_v431, val_main_v429, val_main_cst_85, val_main_cst_86, val_main_v448, val_main_v447, val_main_v446, val_main_v441, val_main_v421,
    val_main_v420, val_main_v440, val_main_v54, val_main_v53, val_main_v52, val_main_cst_8, val_main_v445, val_main_v444, val_main_v442,
    val_main_cst_88, val_main_cst_89, val_main_v462, val_main_v461, val_main_v460, val_main_v455, val_main_v419, val_main_v418, val_main_v454,
    val_main_v39, val_main_v38, val_main_v37, val_main_cst_5, val_main_v459, val_main_v458, val_main_v456, val_main_cst_91, val_main_cst_92,
    val_main_v476, val_main_v475, val_main_v474, val_main_v469, val_main_v417, val_main_v416, val_main_v468, val_main_v24, val_main_v23,
    val_main_v22, val_main_cst_2, val_main_v473, val_main_v472, val_main_v470, val_main_cst_94, val_main_cst_95]
  simp only [of_row _ (show R.val < 2147483648 by omega), of_row _ (show 16 + R.val < 2147483648 by omega), sixteen]
  split
  · next h => rw [dif_pos (by omega)]
  · next h => rw [dif_neg (by omega)]
theorem after3_ref (R : Fin 4096) (c : Fin 256) : val_main_v467 (F := Ideal) A.x A.target A.proj A.kv A.poolW A.poolS A.lnG A.lnB A.sguW A.sguB A.gains A.wOut A.post (ix3 R 3 c) = -val_main_v413 (F := Ideal) A.x A.target A.proj A.kv A.poolW A.poolS A.lnG A.lnB A.sguW A.sguB A.gains A.wOut A.post (ix3 R 3 c) := by
  pointwise [val_main_v467, val_main_v453, val_main_v439, val_main_v426, val_main_v425, val_main_v424, val_main_v423, val_main_v422, val_main_cst_84,
    val_main_v438, val_main_v437, val_main_v436, val_main_v421, val_main_v420, val_main_cst_87, val_main_v452, val_main_v451, val_main_v450,
    val_main_v419, val_main_v418, val_main_cst_90, val_main_v466, val_main_v465, val_main_v464, val_main_v417, val_main_v416, val_main_cst_93]

/-- The gradient of the pooled columns: the shares of the following rows less the row's own gradient. -/
def behind (A : Args) (w : ℕ) (g : Fin 4) (c : Fin 256) (n : ℕ) : ℝ := ∑ k ∈ Finset.range w, share A w g c (n + k) - dcol A g c n

theorem behind_eq (hA : A.Real) (w : ℕ) (R : Fin 4096) (g : Fin 4) (c : Fin 256)
    (hs : ∀ R, val_main_v477 (F := Ideal) A.x A.target A.proj A.kv A.poolW A.poolS A.lnG A.lnB A.sguW A.sguB A.gains A.wOut A.post (ix3 R g c) = ((share A w g c R.val - share A w g c (R.val + w) : ℝ) : EReal))
    (ha : val_main_v467 (F := Ideal) A.x A.target A.proj A.kv A.poolW A.poolS A.lnG A.lnB A.sguW A.sguB A.gains A.wOut A.post (ix3 R g c) = -val_main_v413 (F := Ideal) A.x A.target A.proj A.kv A.poolW A.poolS A.lnG A.lnB A.sguW A.sguB A.gains A.wOut A.post (ix3 R g c)) : val_main_v479 (F := Ideal) A.x A.target A.proj A.kv A.poolW A.poolS A.lnG A.lnB A.sguW A.sguB A.gains A.wOut A.post (ix3 R g c) = (behind A w g c R.val : EReal) := by
  have e : val_main_v478 (F := Ideal) A.x A.target A.proj A.kv A.poolW A.poolS A.lnG A.lnB A.sguW A.sguB A.gains A.wOut A.post (ix3 R g c) = ((∑ k ∈ Finset.range w, share A w g c (R.val + k) : ℝ) : EReal) := by
    rw [← window_back (share A w g c) 4096 w (share_end w g c) R.val]
    have z : ∀ j, val_main_call10_call0_v0 (F := Ideal) j = 0 := fun j => by
      pointwise [val_main_call10_call0_v0, val_main_call10_call0_cst]
    unfold val_main_v478 Host.reduceWindowAdd
    rw [z]
    generalize val_main_v477 (F := Ideal) A.x A.target A.proj A.kv A.poolW A.poolS A.lnG A.lnB A.sguW A.sguB A.gains A.wOut A.post = x at hs ⊢
    exact window_high 4095 rfl x (fun n => share A w g c n - share A w g c (n + w)) _ R g c hs
  have e' : val_main_v479 (F := Ideal) A.x A.target A.proj A.kv A.poolW A.poolS A.lnG A.lnB A.sguW A.sguB A.gains A.wOut A.post (ix3 R g c) = val_main_v467 (F := Ideal) A.x A.target A.proj A.kv A.poolW A.poolS A.lnG A.lnB A.sguW A.sguB A.gains A.wOut A.post (ix3 R g c) + val_main_v478 (F := Ideal) A.x A.target A.proj A.kv A.poolW A.poolS A.lnG A.lnB A.sguW A.sguB A.gains A.wOut A.post (ix3 R g c) := by
    pointwise [val_main_v479]
  rw [e', e, ha, dcol_at hA, ← EReal.coe_neg, ← EReal.coe_add, behind]
  exact congrArg _ (by ring)

theorem share0_at (h : Reads A T i X) (hA : A.Real) (hw : Weights A w wt) (a : Fin 128) (c : Fin 256) :
    k0_pay132 (k0_pay34 i) (back0 i X w wt) (ix2 a c) = (share A 2 0 c (row T a).val : EReal) := by
  pointwise [k0_pay132]
  rw [back0_at h hA hw, count2_at h, dcol_at hA, share, EReal.coe_mul]
theorem share1_at (h : Reads A T i X) (hA : A.Real) (hw : Weights A w wt) (a : Fin 128) (c : Fin 256) :
    mulf (back1 i X w wt) (broadcastTo S128x256 (k0_pay35 i) broadcasts_S128x1_S128x256) (ix2 a c) = (share A 4 1 c (row T a).val : EReal) := by
  pointwise
  rw [back1_at h hA hw, count4_at h, dcol_at hA, share, EReal.coe_mul]
theorem share2_at (h : Reads A T i X) (hA : A.Real) (hw : Weights A w wt) (a : Fin 128) (c : Fin 256) :
    mulf (back2 i X w wt) (broadcastTo S128x256 (k0_pay36 i) broadcasts_S128x1_S128x256) (ix2 a c) = (share A 8 2 c (row T a).val : EReal) := by
  pointwise
  rw [back2_at h hA hw, count8_at h, dcol_at hA, share, EReal.coe_mul]
theorem share3_at (h : Reads A T i X) (hA : A.Real) (hw : Weights A w wt) (a : Fin 128) (c : Fin 256) :
    mulf (back3 i X w wt) (broadcastTo S128x256 (k0_pay37 i) broadcasts_S128x1_S128x256) (ix2 a c) = (share A 16 3 c (row T a).val : EReal) := by
  pointwise
  rw [back3_at h hA hw, count16_at h, dcol_at hA, share, EReal.coe_mul]

/-- The tile's shares followed by the first shares of the next tile. -/
def follow (e : FVec Ideal S128x256 .f32) (s : FVec Ideal S16x256 .f32) : FVec Ideal S144x256 .f32 :=
  concatenate S144x256 0 [⟨S128x256, e⟩, ⟨S16x256, s⟩] concatenates_S128x256_S16x256_S144x256_d0

theorem follow_at (e : FVec Ideal S128x256 .f32) (s : FVec Ideal S16x256 .f32) (c : Fin 256) (E : ℕ → ℝ) (o : ℕ)
    (he : ∀ a : Fin 128, e (ix2 a c) = (E (o + a.val) : EReal)) (hs : ∀ r : Fin 16, s (ix2 r c) = (E (o + 128 + r.val) : EReal))
    (n : ℕ) (hn : n < 144) : follow e s (ix2 ⟨n, hn⟩ c) = (E (o + n) : EReal) := by
  pointwise [follow]
  split
  · exact he ⟨n, by omega⟩
  · refine (hs ⟨n - 128, by omega⟩).trans (congrArg (fun n => (E n : EReal)) (by dsimp only; omega))

def grown1 (v : FVec Ideal S144x256 .f32) : FVec Ideal S144x256 .f32 := addf v (dynamicRotate 0 143#32 none v rotates_S144x256_d0)
theorem grow1 (c : Fin 256) (v : FVec Ideal S144x256 .f32) (E : ℕ → ℝ) (o m : ℕ) (hm : m ≤ 144) (hv : ∀ n, n < m → ∀ hn, v (ix2 ⟨n,
    hn⟩ c) = (E (o + n) : EReal)) :
    ∀ n, n < m - 1 → ∀ hn, grown1 v (ix2 ⟨n, hn⟩ c) = ((E (o + n) + E (o + n + 1) : ℝ) : EReal) := by
  intro n hk hn
  pointwise [grown1]
  rw [EReal.coe_add]
  refine congrArg₂ (· + ·) (hv n (by omega) _) ((congrArg v ?_).trans (hv (n + 1) (by omega) (by omega)))
  exact congrArg (fun n => ix2 n c) (Fin.ext (by dsimp only; omega))

def grown2 (v : FVec Ideal S144x256 .f32) : FVec Ideal S144x256 .f32 := addf v (dynamicRotate 0 142#32 none v rotates_S144x256_d0)
theorem grow2 (c : Fin 256) (v : FVec Ideal S144x256 .f32) (E : ℕ → ℝ) (o m : ℕ) (hm : m ≤ 144) (hv : ∀ n, n < m → ∀ hn, v (ix2 ⟨n,
    hn⟩ c) = (E (o + n) : EReal)) :
    ∀ n, n < m - 2 → ∀ hn, grown2 v (ix2 ⟨n, hn⟩ c) = ((E (o + n) + E (o + n + 2) : ℝ) : EReal) := by
  intro n hk hn
  pointwise [grown2]
  rw [EReal.coe_add]
  refine congrArg₂ (· + ·) (hv n (by omega) _) ((congrArg v ?_).trans (hv (n + 2) (by omega) (by omega)))
  exact congrArg (fun n => ix2 n c) (Fin.ext (by dsimp only; omega))

def grown4 (v : FVec Ideal S144x256 .f32) : FVec Ideal S144x256 .f32 := addf v (dynamicRotate 0 140#32 none v rotates_S144x256_d0)
theorem grow4 (c : Fin 256) (v : FVec Ideal S144x256 .f32) (E : ℕ → ℝ) (o m : ℕ) (hm : m ≤ 144) (hv : ∀ n, n < m → ∀ hn, v (ix2 ⟨n,
    hn⟩ c) = (E (o + n) : EReal)) :
    ∀ n, n < m - 4 → ∀ hn, grown4 v (ix2 ⟨n, hn⟩ c) = ((E (o + n) + E (o + n + 4) : ℝ) : EReal) := by
  intro n hk hn
  pointwise [grown4]
  rw [EReal.coe_add]
  refine congrArg₂ (· + ·) (hv n (by omega) _) ((congrArg v ?_).trans (hv (n + 4) (by omega) (by omega)))
  exact congrArg (fun n => ix2 n c) (Fin.ext (by dsimp only; omega))

def grown8 (v : FVec Ideal S144x256 .f32) : FVec Ideal S144x256 .f32 := addf v (dynamicRotate 0 136#32 none v rotates_S144x256_d0)
theorem grow8 (c : Fin 256) (v : FVec Ideal S144x256 .f32) (E : ℕ → ℝ) (o m : ℕ) (hm : m ≤ 144) (hv : ∀ n, n < m → ∀ hn, v (ix2 ⟨n,
    hn⟩ c) = (E (o + n) : EReal)) :
    ∀ n, n < m - 8 → ∀ hn, grown8 v (ix2 ⟨n, hn⟩ c) = ((E (o + n) + E (o + n + 8) : ℝ) : EReal) := by
  intro n hk hn
  pointwise [grown8]
  rw [EReal.coe_add]
  refine congrArg₂ (· + ·) (hv n (by omega) _) ((congrArg v ?_).trans (hv (n + 8) (by omega) (by omega)))
  exact congrArg (fun n => ix2 n c) (Fin.ext (by dsimp only; omega))

/-- The carried rows hold the shares of the sixteen rows from row `o` on. -/
structure Carry (A : Args) (o : ℕ) (s : FVec Ideal S16x1024 .f32) : Prop where
  c0 : ∀ (r : Fin 16) (c : Fin 256), s (ix2 r ⟨c.val, by omega⟩) = (share A 2 0 c (o + r.val) : EReal)
  c1 : ∀ (r : Fin 16) (c : Fin 256), s (ix2 r ⟨256 + c.val, by omega⟩) = (share A 4 1 c (o + r.val) : EReal)
  c2 : ∀ (r : Fin 16) (c : Fin 256), s (ix2 r ⟨512 + c.val, by omega⟩) = (share A 8 2 c (o + r.val) : EReal)
  c3 : ∀ (r : Fin 16) (c : Fin 256), s (ix2 r ⟨768 + c.val, by omega⟩) = (share A 16 3 c (o + r.val) : EReal)

/-- Each group of the carried rows. -/
def carried0 (s : FVec Ideal S16x1024 .f32) : FVec Ideal S16x256 .f32 := View.ld (Val := Elt Ideal) (e' := .f32) s (Rect.unit (s := S16x1024) ![0,
    0] S16x256.size inb_S16x1024_S16x256_0_0)
def carried1 (s : FVec Ideal S16x1024 .f32) : FVec Ideal S16x256 .f32 := View.ld (Val := Elt Ideal) (e' := .f32) s (Rect.unit (s := S16x1024) ![0,
    256] S16x256.size inb_S16x1024_S16x256_0_256)
def carried2 (s : FVec Ideal S16x1024 .f32) : FVec Ideal S16x256 .f32 := View.ld (Val := Elt Ideal) (e' := .f32) s (Rect.unit (s := S16x1024) ![0,
    512] S16x256.size inb_S16x1024_S16x256_0_512)
def carried3 (s : FVec Ideal S16x1024 .f32) : FVec Ideal S16x256 .f32 := View.ld (Val := Elt Ideal) (e' := .f32) s (Rect.unit (s := S16x1024) ![0,
    768] S16x256.size inb_S16x1024_S16x256_0_768)
/-- The gradient of the pooled columns of each group, and of the four side by side. -/
def pool0 (i : grid0.Coords) (X : Ins Ideal) (w : FVec Ideal S3072x2048 .bf16) (wt : FVec Ideal S2048x3072 .bf16) (s : FVec Ideal S16x1024 .f32) : FVec Ideal S128x256 .f32 :=
  k0_pay134 (k0_pay34 i) (back0 i X w wt) (carried0 s)
def pool1 (i : grid0.Coords) (X : Ins Ideal) (w : FVec Ideal S3072x2048 .bf16) (wt : FVec Ideal S2048x3072 .bf16) (s : FVec Ideal S16x1024 .f32) : FVec Ideal S128x256 .f32 :=
  k0_pay141 (back1 i X w wt) (k0_pay140 (k0_pay35 i) (dmix i X w wt) (View.ld X.i7 (Rect.unit (s := S4x256x256) ![1, 0,
    0] S1x256x256.size inb_S4x256x256_S1x256x256_1_0_0)) (carried1 s))
def pool2 (i : grid0.Coords) (X : Ins Ideal) (w : FVec Ideal S3072x2048 .bf16) (wt : FVec Ideal S2048x3072 .bf16) (s : FVec Ideal S16x1024 .f32) : FVec Ideal S128x256 .f32 :=
  k0_pay147 (k0_pay36 i) (dmix i X w wt) (View.ld X.i7 (Rect.unit (s := S4x256x256) ![2, 0,
    0] S1x256x256.size inb_S4x256x256_S1x256x256_2_0_0)) (carried2 s)
def dpool (i : grid0.Coords) (X : Ins Ideal) (w : FVec Ideal S3072x2048 .bf16) (wt : FVec Ideal S2048x3072 .bf16) (s : FVec Ideal S16x1024 .f32) : FVec Ideal S128x1024 .f32 :=
  k0_pay154 (k0_pay37 i) (pool0 i X w wt s) (pool1 i X w wt s) (pool2 i X w wt s) (back3 i X w wt) (carried3 s)

theorem behind_sum {w : ℕ} {g : Fin 4} {c : Fin 256} (R : Fin 4096) (b : Fin 1024) (hb : b.val = 256 * g.val + c.val)
    (e : val_main_v479 (F := Ideal) A.x A.target A.proj A.kv A.poolW A.poolS A.lnG A.lnB A.sguW A.sguB A.gains A.wOut A.post (ix3 R g c) = (behind A w g c R.val : EReal)) : val_main_v480 (F := Ideal) A.x A.target A.proj A.kv A.poolW A.poolS A.lnG A.lnB A.sguW A.sguB A.gains A.wOut A.post (ix2 R b) = (behind A w g c R.val : EReal) := by
  rw [← e]
  pointwise [val_main_v480]
  exact congrArg₂ (fun g c => val_main_v479 (F := Ideal) A.x A.target A.proj A.kv A.poolW A.poolS A.lnG A.lnB A.sguW A.sguB A.gains A.wOut A.post (ix3 R g c)) (Fin.ext (by dsimp only; omega)) (Fin.ext (by dsimp only; omega))

theorem behind_at (hA : A.Real) {w : ℕ} {g : Fin 4} {c : Fin 256} {v : FVec Ideal S144x256 .f32} {b : FVec Ideal S128x256 .f32} {o : ℕ} {f : ℕ → ℝ} (a : Fin 128)
    (hv : ∀ n, n < 129 → ∀ hn, v (ix2 ⟨n,
    hn⟩ c) = (f (o + n) : EReal)) (hb : b (ix2 a c) = val_main_v413 (F := Ideal) A.x A.target A.proj A.kv A.poolW A.poolS A.lnG A.lnB A.sguW A.sguB A.gains A.wOut A.post (ix3 (row T a) g c)) (ho : o = 128 * T.val)
    (hf : f (o + a.val) = ∑ k ∈ Finset.range w, share A w g c ((o + a.val) + k)) :
    subf (extractStridedSlice S128x256 ![0, 0] v slices_S144x256_o0_0_S128x256) b (ix2 a c) = (behind A w g c (row T a).val : EReal) := by
  have e : subf (extractStridedSlice S128x256 ![0, 0] v slices_S144x256_o0_0_S128x256) b (ix2 a c) = v (ix2 ⟨a.val, by omega⟩ c) - b (ix2 a c) := by
    pointwise
  rw [e, hv a.val (by omega), hb, dcol_at hA, hf, ← EReal.coe_sub, ho]
  rfl

theorem beside0 (p0 p1 p2 p3 : FVec Ideal S128x256 .f32) (a : Fin 128) (c : Fin 256) :
    concatenate S128x1024 1 [⟨S128x256, p0⟩, ⟨S128x256, p1⟩, ⟨S128x256, p2⟩, ⟨S128x256,
    p3⟩] concatenates_S128x256_S128x256_S128x256_S128x256_S128x1024_d1 (ix2 a ⟨c.val, by omega⟩) = p0 (ix2 a c) := by
  pointwise

theorem beside1 (p0 p1 p2 p3 : FVec Ideal S128x256 .f32) (a : Fin 128) (c : Fin 256) :
    concatenate S128x1024 1 [⟨S128x256, p0⟩, ⟨S128x256, p1⟩, ⟨S128x256, p2⟩, ⟨S128x256,
    p3⟩] concatenates_S128x256_S128x256_S128x256_S128x256_S128x1024_d1 (ix2 a ⟨256 + c.val, by omega⟩) = p1 (ix2 a c) := by
  pointwise

theorem beside2 (p0 p1 p2 p3 : FVec Ideal S128x256 .f32) (a : Fin 128) (c : Fin 256) :
    concatenate S128x1024 1 [⟨S128x256, p0⟩, ⟨S128x256, p1⟩, ⟨S128x256, p2⟩, ⟨S128x256,
    p3⟩] concatenates_S128x256_S128x256_S128x256_S128x256_S128x1024_d1 (ix2 a ⟨512 + c.val, by omega⟩) = p2 (ix2 a c) := by
  pointwise
  rw [dif_neg (by omega), dif_neg (by omega), dif_pos (by omega)]
  exact congrArg (fun x => p2 (ix2 a x)) (Fin.ext (by dsimp only; omega))

theorem beside3 (p0 p1 p2 p3 : FVec Ideal S128x256 .f32) (a : Fin 128) (c : Fin 256) :
    concatenate S128x1024 1 [⟨S128x256, p0⟩, ⟨S128x256, p1⟩, ⟨S128x256, p2⟩, ⟨S128x256,
    p3⟩] concatenates_S128x256_S128x256_S128x256_S128x256_S128x1024_d1 (ix2 a ⟨768 + c.val, by omega⟩) = p3 (ix2 a c) := by
  pointwise
  rw [dif_neg (by omega), dif_neg (by omega), dif_neg (by omega)]
  exact congrArg (fun x => p3 (ix2 a x)) (Fin.ext (by dsimp only; omega))

/-- The sums of two, four, eight and sixteen following terms, by doubling. -/
def sum2 (E : ℕ → ℝ) (n : ℕ) : ℝ := E n + E (n + 1)
def sum4 (E : ℕ → ℝ) (n : ℕ) : ℝ := sum2 E n + sum2 E (n + 2)
def sum8 (E : ℕ → ℝ) (n : ℕ) : ℝ := sum4 E n + sum4 E (n + 4)
def sum16 (E : ℕ → ℝ) (n : ℕ) : ℝ := sum8 E n + sum8 E (n + 8)

theorem pool0_at (h : Reads A T i X) (hA : A.Real) (hw : Weights A w wt) {s : FVec Ideal S16x1024 .f32} (hs : Carry A (128 * T.val + 128) s) (a : Fin 128) (c : Fin 256) :
    pool0 i X w wt s (ix2 a c) = val_main_v480 (F := Ideal) A.x A.target A.proj A.kv A.poolW A.poolS A.lnG A.lnB A.sguW A.sguB A.gains A.wOut A.post (ix2 (row T a) ⟨c.val, by omega⟩) := by
  rw [behind_sum (g := 0) (c := c) _ _ (by simp) (behind_eq hA 2 _ 0 c (fun R => share0_ref hA R c) (after0_ref _ c))]
  have f0 := follow_at _ (carried0 s) c (share A 2 0 c) (128 * T.val) (fun a => share0_at h hA hw a c) (fun r => by
    refine Eq.trans ?_ (hs.c0 r c)
    pointwise [carried0])
  have f1 := grow1 c _ (share A 2 0 c) (128 * T.val) 144 (by decide) (fun n _ hn => f0 n hn)
  exact behind_at (o := 128 * T.val) (f := sum2 (share A 2 0 c)) hA a (fun n k hn => f1 n (by omega) hn) (back0_at h hA hw a c) rfl (by
    simp only [sum2, sum4, sum8, sum16, Finset.sum_range_succ, Finset.sum_range_zero, Nat.add_assoc, Nat.reduceAdd, Nat.add_zero]
    ring)

theorem pool1_at (h : Reads A T i X) (hA : A.Real) (hw : Weights A w wt) {s : FVec Ideal S16x1024 .f32} (hs : Carry A (128 * T.val + 128) s) (a : Fin 128) (c : Fin 256) :
    pool1 i X w wt s (ix2 a c) = val_main_v480 (F := Ideal) A.x A.target A.proj A.kv A.poolW A.poolS A.lnG A.lnB A.sguW A.sguB A.gains A.wOut A.post (ix2 (row T a) ⟨256 + c.val, by omega⟩) := by
  rw [behind_sum (g := 1) (c := c) _ _ (by simp) (behind_eq hA 4 _ 1 c (fun R => share1_ref hA R c) (after1_ref _ c))]
  have f0 := follow_at _ (carried1 s) c (share A 4 1 c) (128 * T.val) (fun a => share1_at h hA hw a c) (fun r => by
    refine Eq.trans ?_ (hs.c1 r c)
    pointwise [carried1])
  have f1 := grow1 c _ (share A 4 1 c) (128 * T.val) 144 (by decide) (fun n _ hn => f0 n hn)
  have f2 := grow2 c _ (sum2 (share A 4 1 c)) (128 * T.val) 143 (by decide) (fun n k hn => f1 n k hn)
  exact behind_at (o := 128 * T.val) (f := sum4 (share A 4 1 c)) hA a (fun n k hn => f2 n (by omega) hn) (back1_at h hA hw a c) rfl (by
    simp only [sum2, sum4, sum8, sum16, Finset.sum_range_succ, Finset.sum_range_zero, Nat.add_assoc, Nat.reduceAdd, Nat.add_zero]
    ring)

theorem pool2_at (h : Reads A T i X) (hA : A.Real) (hw : Weights A w wt) {s : FVec Ideal S16x1024 .f32} (hs : Carry A (128 * T.val + 128) s) (a : Fin 128) (c : Fin 256) :
    pool2 i X w wt s (ix2 a c) = val_main_v480 (F := Ideal) A.x A.target A.proj A.kv A.poolW A.poolS A.lnG A.lnB A.sguW A.sguB A.gains A.wOut A.post (ix2 (row T a) ⟨512 + c.val, by omega⟩) := by
  rw [behind_sum (g := 2) (c := c) _ _ (by simp) (behind_eq hA 8 _ 2 c (fun R => share2_ref hA R c) (after2_ref _ c))]
  have f0 := follow_at _ (carried2 s) c (share A 8 2 c) (128 * T.val) (fun a => share2_at h hA hw a c) (fun r => by
    refine Eq.trans ?_ (hs.c2 r c)
    pointwise [carried2])
  have f1 := grow1 c _ (share A 8 2 c) (128 * T.val) 144 (by decide) (fun n _ hn => f0 n hn)
  have f2 := grow2 c _ (sum2 (share A 8 2 c)) (128 * T.val) 143 (by decide) (fun n k hn => f1 n k hn)
  have f3 := grow4 c _ (sum4 (share A 8 2 c)) (128 * T.val) 141 (by decide) (fun n k hn => f2 n k hn)
  exact behind_at (o := 128 * T.val) (f := sum8 (share A 8 2 c)) hA a (fun n k hn => f3 n (by omega) hn) (back2_at h hA hw a c) rfl (by
    simp only [sum2, sum4, sum8, sum16, Finset.sum_range_succ, Finset.sum_range_zero, Nat.add_assoc, Nat.reduceAdd, Nat.add_zero]
    ring)

theorem pool3_at (h : Reads A T i X) (hA : A.Real) (hw : Weights A w wt) {s : FVec Ideal S16x1024 .f32} (hs : Carry A (128 * T.val + 128) s) (a : Fin 128) (c : Fin 256) :
    dpool i X w wt s (ix2 a ⟨768 + c.val,
    by omega⟩) = val_main_v480 (F := Ideal) A.x A.target A.proj A.kv A.poolW A.poolS A.lnG A.lnB A.sguW A.sguB A.gains A.wOut A.post (ix2 (row T a) ⟨768 + c.val, by omega⟩) := by
  rw [behind_sum (g := 3) (c := c) _ _ (by simp) (behind_eq hA 16 _ 3 c (fun R => share3_ref hA R c) (after3_ref _ c))]
  have f0 := follow_at _ (carried3 s) c (share A 16 3 c) (128 * T.val) (fun a => share3_at h hA hw a c) (fun r => by
    refine Eq.trans ?_ (hs.c3 r c)
    pointwise [carried3])
  have f1 := grow1 c _ (share A 16 3 c) (128 * T.val) 144 (by decide) (fun n _ hn => f0 n hn)
  have f2 := grow2 c _ (sum2 (share A 16 3 c)) (128 * T.val) 143 (by decide) (fun n k hn => f1 n k hn)
  have f3 := grow4 c _ (sum4 (share A 16 3 c)) (128 * T.val) 141 (by decide) (fun n k hn => f2 n k hn)
  have f4 := grow8 c _ (sum8 (share A 16 3 c)) (128 * T.val) 137 (by decide) (fun n k hn => f3 n k hn)
  have e : dpool i X w wt s = concatenate S128x1024 1 [⟨S128x256, pool0 i X w wt s⟩, ⟨S128x256, pool1 i X w wt s⟩, ⟨S128x256, pool2 i X w wt s⟩,
      ⟨S128x256, subf (extractStridedSlice S128x256 ![0,
    0] (grown8 (grown4 (grown2 (grown1 (follow (mulf (back3 i X w wt) (broadcastTo S128x256 (k0_pay37 i) broadcasts_S128x1_S128x256)) (carried3 s)))))) slices_S144x256_o0_0_S128x256) (back3 i X w wt)⟩] concatenates_S128x256_S128x256_S128x256_S128x256_S128x1024_d1 := rfl
  rw [e, beside3]
  exact behind_at (o := 128 * T.val) (f := sum16 (share A 16 3 c)) hA a (fun n k hn => f4 n (by omega) hn) (back3_at h hA hw a c) rfl (by
    simp only [sum2, sum4, sum8, sum16, Finset.sum_range_succ, Finset.sum_range_zero, Nat.add_assoc, Nat.reduceAdd, Nat.add_zero]
    ring)

theorem four_cases (b : Fin 1024) : (∃ c : Fin 256, b = ⟨c.val, by omega⟩) ∨ (∃ c : Fin 256, b = ⟨256 + c.val, by omega⟩) ∨ (∃ c : Fin 256,
    b = ⟨512 + c.val, by omega⟩) ∨ ∃ c : Fin 256, b = ⟨768 + c.val, by omega⟩ := by
  have z : b.val < 256 ∨ (256 ≤ b.val ∧ b.val < 512) ∨ (512 ≤ b.val ∧ b.val < 768) ∨ 768 ≤ b.val := by omega
  obtain z | z | z | z := z
  · exact .inl ⟨⟨b.val, z⟩, rfl⟩
  · exact .inr (.inl ⟨⟨b.val - 256, by omega⟩, Fin.ext (by dsimp only; omega)⟩)
  · exact .inr (.inr (.inl ⟨⟨b.val - 512, by omega⟩, Fin.ext (by dsimp only; omega)⟩))
  · exact .inr (.inr (.inr ⟨⟨b.val - 768, by omega⟩, Fin.ext (by dsimp only; omega)⟩))

theorem dpool_at (h : Reads A T i X) (hA : A.Real) (hw : Weights A w wt) {s : FVec Ideal S16x1024 .f32} (hs : Carry A (128 * T.val + 128) s) (a : Fin 128) (b : Fin 1024) :
    dpool i X w wt s (ix2 a b) = val_main_v480 (F := Ideal) A.x A.target A.proj A.kv A.poolW A.poolS A.lnG A.lnB A.sguW A.sguB A.gains A.wOut A.post (ix2 (row T a) b) := by
  have e : dpool i X w wt s = concatenate S128x1024 1 [⟨S128x256, pool0 i X w wt s⟩, ⟨S128x256, pool1 i X w wt s⟩, ⟨S128x256, pool2 i X w wt s⟩,
      ⟨S128x256, subf (extractStridedSlice S128x256 ![0,
    0] (grown8 (grown4 (grown2 (grown1 (follow (mulf (back3 i X w wt) (broadcastTo S128x256 (k0_pay37 i) broadcasts_S128x1_S128x256)) (carried3 s)))))) slices_S144x256_o0_0_S128x256) (back3 i X w wt)⟩] concatenates_S128x256_S128x256_S128x256_S128x256_S128x1024_d1 := rfl
  obtain ⟨c, rfl⟩ | ⟨c, rfl⟩ | ⟨c, rfl⟩ | ⟨c, rfl⟩ := four_cases b
  · exact (congrFun e _).trans ((beside0 _ _ _ _ a c).trans (pool0_at h hA hw hs a c))
  · exact (congrFun e _).trans ((beside1 _ _ _ _ a c).trans (pool1_at h hA hw hs a c))
  · exact (congrFun e _).trans ((beside2 _ _ _ _ a c).trans (pool2_at h hA hw hs a c))
  · exact pool3_at h hA hw hs a c

/-- The rows carried to the tile above: the first sixteen rows of each group's shares. -/
def carryOn (i : grid0.Coords) (X : Ins Ideal) (w : FVec Ideal S3072x2048 .bf16) (wt : FVec Ideal S2048x3072 .bf16) : FVec Ideal S16x1024 .f32 :=
  k0_pay153 (k0_pay37 i) (k0_pay133 (k0_pay34 i) (back0 i X w wt))
    (k0_pay139 (k0_pay35 i) (dmix i X w wt) (View.ld X.i7 (Rect.unit (s := S4x256x256) ![1, 0, 0] S1x256x256.size inb_S4x256x256_S1x256x256_1_0_0)))
    (k0_pay146 (k0_pay36 i) (dmix i X w wt) (View.ld X.i7 (Rect.unit (s := S4x256x256) ![2, 0,
    0] S1x256x256.size inb_S4x256x256_S1x256x256_2_0_0))) (back3 i X w wt)

theorem first_at (e0 e1 e2 e3 : FVec Ideal S128x256 .f32) (E : Fin 4 → Fin 256 → ℕ → ℝ)
    (h0 : ∀ a c, e0 (ix2 a c) = (E 0 c (row T a).val : EReal)) (h1 : ∀ a c, e1 (ix2 a c) = (E 1 c (row T a).val : EReal))
    (h2 : ∀ a c, e2 (ix2 a c) = (E 2 c (row T a).val : EReal)) (h3 : ∀ a c, e3 (ix2 a c) = (E 3 c (row T a).val : EReal))
    (s : FVec Ideal S16x1024 .f32)
    (hs : s = shapeCast S16x1024 (concatenate S16x1024 1 [⟨S16x256, extractStridedSlice S16x256 ![0, 0] e0 slices_S128x256_o0_0_S16x256⟩,
      ⟨S16x256, extractStridedSlice S16x256 ![0, 0] e1 slices_S128x256_o0_0_S16x256⟩, ⟨S16x256, extractStridedSlice S16x256 ![0,
    0] e2 slices_S128x256_o0_0_S16x256⟩,
      ⟨S16x256, extractStridedSlice S16x256 ![0,
    0] e3 slices_S128x256_o0_0_S16x256⟩] concatenates_S16x256_S16x256_S16x256_S16x256_S16x1024_d1) shapeCasts_S16x1024_S16x1024)
    (r : Fin 16) (c : Fin 256) :
    s (ix2 r ⟨c.val, by omega⟩) = (E 0 c (128 * T.val + r.val) : EReal) ∧ s (ix2 r ⟨256 + c.val, by omega⟩) = (E 1 c (128 * T.val + r.val) : EReal)
      ∧ s (ix2 r ⟨512 + c.val, by omega⟩) = (E 2 c (128 * T.val + r.val) : EReal) ∧ s (ix2 r ⟨768 + c.val,
    by omega⟩) = (E 3 c (128 * T.val + r.val) : EReal) := by
  have f0 := h0 ⟨r.val, by omega⟩ c
  have f1 := h1 ⟨r.val, by omega⟩ c
  have f2 := h2 ⟨r.val, by omega⟩ c
  have f3 := h3 ⟨r.val, by omega⟩ c
  subst hs
  refine ⟨Eq.trans ?_ f0, Eq.trans ?_ f1, Eq.trans ?_ f2, Eq.trans ?_ f3⟩
  · pointwise
  · pointwise
  · pointwise
    rw [dif_neg (by omega), dif_neg (by omega), dif_pos (by omega)]
    exact congrArg (fun x => e2 (ix2 _ x)) (Fin.ext (by dsimp only; omega))
  · pointwise
    rw [dif_neg (by omega), dif_neg (by omega), dif_neg (by omega)]
    exact congrArg (fun x => e3 (ix2 _ x)) (Fin.ext (by dsimp only; omega))

theorem carryOn_at (h : Reads A T i X) (hA : A.Real) (hw : Weights A w wt) : Carry A (128 * T.val) (carryOn i X w wt) := by
  have f := first_at (T := T) _ _ _ _ (fun g c n => share A (2 ^ (g.val + 1)) g c n) (fun a c => share0_at h hA hw a c) (fun a c => share1_at h hA hw a c)
    (fun a c => share2_at h hA hw a c) (fun a c => share3_at h hA hw a c) (carryOn i X w wt) rfl
  exact ⟨fun r c => (f r c).1, fun r c => (f r c).2.1, fun r c => (f r c).2.2.1, fun r c => (f r c).2.2.2⟩

theorem carry_zero (s : FVec Ideal S16x1024 .f32) (hs : ∀ j, s j = 0) : Carry A 4096 s :=
  ⟨fun r c => by rw [hs, share_end _ _ _ _ (by omega), EReal.coe_zero], fun r c => by rw [hs, share_end _ _ _ _ (by omega), EReal.coe_zero],
    fun r c => by rw [hs, share_end _ _ _ _ (by omega), EReal.coe_zero], fun r c => by rw [hs, share_end _ _ _ _ (by omega), EReal.coe_zero]⟩

end Tile

end Cert.KernelIdeal.Mix

end

end
-- ==== Proof.MixNext.lean ====
/- What one tile of the mixing kernel leaves in each of its accumulators. -/
module

public import proofs.«01_k».proof.Proof.MixOut
public import proofs.«01_k».proof.Proof.MixPoolB
public import proofs.«01_k».proof.Proof.NormGrad
public import proofs.«01_k».proof.Proof.Gen.ReferenceIdeal.Read
import Idealize.ShloMosaic.Lib.Pointwise
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

/-- A whole array just stored, read back through a rectangle. -/
theorem readCov_all {sig : RefSig} {κ : Kind} {sp : Space} {s : Shape} {e : EltTy} (v : View sig κ sp s e)
    (Z : s.Idx → Elt Ideal e) (L : List (View.Piece (Elt Ideal) s e)) (r : Rect s) :
    v.readCov (⟨Rect.whole s, Z⟩ :: L) r.toLoadRect = View.ld Z r := by
  rw [View.readCov_eq_canon']
  funext j
  have e := View.canon_cons_emb (Val := Elt Ideal) (Rect.whole s) Z L (r.idx j)
  rw [Rect.emb_whole_apply] at e
  exact e

/-- A whole array just stored is the array. -/
theorem whole_canon {s : Shape} {e : EltTy} (Z : s.Idx → Elt Ideal e) (L : List (View.Piece (Elt Ideal) s e)) :
    View.canon (⟨Rect.whole s, Z⟩ :: L) = Z := by
  funext y
  have h := View.canon_cons_emb (Val := Elt Ideal) (Rect.whole s) Z L y
  rw [Rect.emb_whole_apply] at h
  exact h

/-- A rectangle just stored, read back. -/
theorem readCov_hit {sig : RefSig} {κ : Kind} {sp : Space} {s : Shape} {e : EltTy} (v : View sig κ sp s e) (r : Rect s) (w : r.shape.Idx → Elt Ideal e)
    (L : List (View.Piece (Elt Ideal) s e)) : v.readCov (⟨r, w⟩ :: L) r.toLoadRect = w := by
  rw [View.readCov_eq_canon']
  funext j
  exact View.canon_cons_emb (Val := Elt Ideal) r w L j

/-- The tile's addition to the gradient of each pooled mixing matrix, and the four of them as stored. -/
def mixW0 (i : grid0.Coords) (X : Ins Ideal) (w : FVec Ideal S3072x2048 .bf16) (wt : FVec Ideal S2048x3072 .bf16) (p : FVec Ideal S4x256x256 .f32) : FVec Ideal S1x256x256 .f32 :=
  k0_pay131 (d0 i X) (dscale i X w wt) (k0_pay130 (View.ld (Val := Elt Ideal) (e' := .f32) p (Rect.unit (s := S4x256x256) ![0, 0,
    0] S1x256x256.size inb_S4x256x256_S1x256x256_0_0_0)))
def mixW1 (i : grid0.Coords) (X : Ins Ideal) (w : FVec Ideal S3072x2048 .bf16) (wt : FVec Ideal S2048x3072 .bf16) (p : FVec Ideal S4x256x256 .f32) : FVec Ideal S1x256x256 .f32 :=
  k0_pay137 (d1 i X) (dmix i X w wt) (View.ld (Val := Elt Ideal) (e' := .f32) p (Rect.unit (s := S4x256x256) ![1, 0,
    0] S1x256x256.size inb_S4x256x256_S1x256x256_1_0_0))
def mixW2 (i : grid0.Coords) (X : Ins Ideal) (w : FVec Ideal S3072x2048 .bf16) (wt : FVec Ideal S2048x3072 .bf16) (p : FVec Ideal S4x256x256 .f32) : FVec Ideal S1x256x256 .f32 :=
  k0_pay144 (d2 i X) (dmix i X w wt) (View.ld (Val := Elt Ideal) (e' := .f32) p (Rect.unit (s := S4x256x256) ![2, 0,
    0] S1x256x256.size inb_S4x256x256_S1x256x256_2_0_0))
def mixW3 (i : grid0.Coords) (X : Ins Ideal) (w : FVec Ideal S3072x2048 .bf16) (wt : FVec Ideal S2048x3072 .bf16) (p : FVec Ideal S4x256x256 .f32) : FVec Ideal S1x256x256 .f32 :=
  k0_pay151 (k0_pay150 (d3 i X) (dmix i X w wt) (View.ld (Val := Elt Ideal) (e' := .f32) p (Rect.unit (s := S4x256x256) ![3, 0,
    0] S1x256x256.size inb_S4x256x256_S1x256x256_3_0_0)))
def mixWPieces (i : grid0.Coords) (X : Ins Ideal) (w : FVec Ideal S3072x2048 .bf16) (wt : FVec Ideal S2048x3072 .bf16) (p : FVec Ideal S4x256x256 .f32) : List (View.Piece (Elt Ideal) S4x256x256 .f32) :=
  [⟨(Rect.unit (s := S4x256x256) ![3, 0, 0] S1x256x256.size inb_S4x256x256_S1x256x256_3_0_0), mixW3 i X w wt p⟩,
    ⟨(Rect.unit (s := S4x256x256) ![2, 0, 0] S1x256x256.size inb_S4x256x256_S1x256x256_2_0_0), mixW2 i X w wt p⟩,
    ⟨(Rect.unit (s := S4x256x256) ![1, 0, 0] S1x256x256.size inb_S4x256x256_S1x256x256_1_0_0), mixW1 i X w wt p⟩,
    ⟨(Rect.unit (s := S4x256x256) ![0, 0, 0] S1x256x256.size inb_S4x256x256_S1x256x256_0_0_0), mixW0 i X w wt p⟩]

/-- The tile's addition to the gradient of each gate matrix, and the eight of them as stored. -/
def gateW0 (i : grid0.Coords) (X : Ins Ideal) (w : FVec Ideal S3072x2048 .bf16) (wt : FVec Ideal S2048x3072 .bf16) (p : FVec Ideal S8x128x128 .f32) : FVec Ideal S1x128x128 .f32 :=
  k0_pay161 (vn X) (dgate16 i X w wt) (View.ld (Val := Elt Ideal) (e' := .f32) p (Rect.unit (s := S8x128x128) ![0, 0,
    0] S1x128x128.size inb_S8x128x128_S1x128x128_0_0_0))
def gateW1 (i : grid0.Coords) (X : Ins Ideal) (w : FVec Ideal S3072x2048 .bf16) (wt : FVec Ideal S2048x3072 .bf16) (p : FVec Ideal S8x128x128 .f32) : FVec Ideal S1x128x128 .f32 :=
  k0_pay163 (vn X) (dgate16 i X w wt) (View.ld (Val := Elt Ideal) (e' := .f32) p (Rect.unit (s := S8x128x128) ![1, 0,
    0] S1x128x128.size inb_S8x128x128_S1x128x128_1_0_0))
def gateW2 (i : grid0.Coords) (X : Ins Ideal) (w : FVec Ideal S3072x2048 .bf16) (wt : FVec Ideal S2048x3072 .bf16) (p : FVec Ideal S8x128x128 .f32) : FVec Ideal S1x128x128 .f32 :=
  k0_pay166 (k0_pay165 (vn X) (dgate16 i X w wt) (View.ld (Val := Elt Ideal) (e' := .f32) p (Rect.unit (s := S8x128x128) ![2, 0,
    0] S1x128x128.size inb_S8x128x128_S1x128x128_2_0_0)))
def gateW3 (i : grid0.Coords) (X : Ins Ideal) (w : FVec Ideal S3072x2048 .bf16) (wt : FVec Ideal S2048x3072 .bf16) (p : FVec Ideal S8x128x128 .f32) : FVec Ideal S1x128x128 .f32 :=
  k0_pay168 (vn X) (dgate16 i X w wt) (View.ld (Val := Elt Ideal) (e' := .f32) p (Rect.unit (s := S8x128x128) ![3, 0,
    0] S1x128x128.size inb_S8x128x128_S1x128x128_3_0_0))
def gateW4 (i : grid0.Coords) (X : Ins Ideal) (w : FVec Ideal S3072x2048 .bf16) (wt : FVec Ideal S2048x3072 .bf16) (p : FVec Ideal S8x128x128 .f32) : FVec Ideal S1x128x128 .f32 :=
  k0_pay170 (vn X) (dgate16 i X w wt) (View.ld (Val := Elt Ideal) (e' := .f32) p (Rect.unit (s := S8x128x128) ![4, 0,
    0] S1x128x128.size inb_S8x128x128_S1x128x128_4_0_0))
def gateW5 (i : grid0.Coords) (X : Ins Ideal) (w : FVec Ideal S3072x2048 .bf16) (wt : FVec Ideal S2048x3072 .bf16) (p : FVec Ideal S8x128x128 .f32) : FVec Ideal S1x128x128 .f32 :=
  k0_pay173 (vn X) (dgate16 i X w wt) (View.ld (Val := Elt Ideal) (e' := .f32) p (Rect.unit (s := S8x128x128) ![5, 0,
    0] S1x128x128.size inb_S8x128x128_S1x128x128_5_0_0))
def gateW6 (i : grid0.Coords) (X : Ins Ideal) (w : FVec Ideal S3072x2048 .bf16) (wt : FVec Ideal S2048x3072 .bf16) (p : FVec Ideal S8x128x128 .f32) : FVec Ideal S1x128x128 .f32 :=
  k0_pay175 (vn X) (dgate16 i X w wt) (View.ld (Val := Elt Ideal) (e' := .f32) p (Rect.unit (s := S8x128x128) ![6, 0,
    0] S1x128x128.size inb_S8x128x128_S1x128x128_6_0_0))
def gateW7 (i : grid0.Coords) (X : Ins Ideal) (w : FVec Ideal S3072x2048 .bf16) (wt : FVec Ideal S2048x3072 .bf16) (p : FVec Ideal S8x128x128 .f32) : FVec Ideal S1x128x128 .f32 :=
  k0_pay180 (k0_pay177 (View.ld (Val := Elt Ideal) (e' := .f32) p (Rect.unit (s := S8x128x128) ![7, 0,
    0] S1x128x128.size inb_S8x128x128_S1x128x128_7_0_0))) (k0_pay178 (dgate16 i X w wt)) (k0_pay179 (vn X))
def gateWPieces (i : grid0.Coords) (X : Ins Ideal) (w : FVec Ideal S3072x2048 .bf16) (wt : FVec Ideal S2048x3072 .bf16) (p : FVec Ideal S8x128x128 .f32) : List (View.Piece (Elt Ideal) S8x128x128 .f32) :=
  [⟨(Rect.unit (s := S8x128x128) ![7, 0, 0] S1x128x128.size inb_S8x128x128_S1x128x128_7_0_0), gateW7 i X w wt p⟩,
    ⟨(Rect.unit (s := S8x128x128) ![6, 0, 0] S1x128x128.size inb_S8x128x128_S1x128x128_6_0_0), gateW6 i X w wt p⟩,
    ⟨(Rect.unit (s := S8x128x128) ![5, 0, 0] S1x128x128.size inb_S8x128x128_S1x128x128_5_0_0), gateW5 i X w wt p⟩,
    ⟨(Rect.unit (s := S8x128x128) ![4, 0, 0] S1x128x128.size inb_S8x128x128_S1x128x128_4_0_0), gateW4 i X w wt p⟩,
    ⟨(Rect.unit (s := S8x128x128) ![3, 0, 0] S1x128x128.size inb_S8x128x128_S1x128x128_3_0_0), gateW3 i X w wt p⟩,
    ⟨(Rect.unit (s := S8x128x128) ![2, 0, 0] S1x128x128.size inb_S8x128x128_S1x128x128_2_0_0), gateW2 i X w wt p⟩,
    ⟨(Rect.unit (s := S8x128x128) ![1, 0, 0] S1x128x128.size inb_S8x128x128_S1x128x128_1_0_0), gateW1 i X w wt p⟩,
    ⟨(Rect.unit (s := S8x128x128) ![0, 0, 0] S1x128x128.size inb_S8x128x128_S1x128x128_0_0_0), gateW0 i X w wt p⟩]

/-- The tile's addition to the gradients of the keys and values of each head, as stored. -/
def keyV0 (i : grid0.Coords) (X : Ins Ideal) (w : FVec Ideal S3072x2048 .bf16) (wt : FVec Ideal S2048x3072 .bf16) (p : FVec Ideal S256x2048 .f32) : FVec Ideal S256x256 .f32 :=
  k0_pay195 (k0_pay81 (qq X)) (ds0 i X w wt) (View.ld (Val := Elt Ideal) (e' := .f32) p (Rect.unit (s := S256x2048) ![0,
    0] S256x256.size inb_S256x2048_S256x256_0_0)) (constant S256x256 .f32 0x00000000#32)
def keyV256 (i : grid0.Coords) (X : Ins Ideal) (w : FVec Ideal S3072x2048 .bf16) (wt : FVec Ideal S2048x3072 .bf16) (p : FVec Ideal S256x2048 .f32) : FVec Ideal S256x256 .f32 :=
  k0_pay200 (k0_pay84 (qq X)) (p1 X) (doo i X w wt) (View.ld X.i5 (Rect.unit (s := S2048x256) ![1280,
    0] S256x256.size inb_S2048x256_S256x256_1280_0)) (View.ld (Val := Elt Ideal) (e' := .f32) p (Rect.unit (s := S256x2048) ![0,
    256] S256x256.size inb_S256x2048_S256x256_0_256))
def keyV512 (i : grid0.Coords) (X : Ins Ideal) (w : FVec Ideal S3072x2048 .bf16) (wt : FVec Ideal S2048x3072 .bf16) (p : FVec Ideal S256x2048 .f32) : FVec Ideal S256x256 .f32 :=
  k0_pay206 (k0_pay87 (qq X)) (doo2 i X w wt) (p2f X) (View.ld X.i5 (Rect.unit (s := S2048x256) ![1536,
    0] S256x256.size inb_S2048x256_S256x256_1536_0)) (View.ld (Val := Elt Ideal) (e' := .f32) p (Rect.unit (s := S256x2048) ![0,
    512] S256x256.size inb_S256x2048_S256x256_0_512))
def keyV768 (i : grid0.Coords) (X : Ins Ideal) (w : FVec Ideal S3072x2048 .bf16) (wt : FVec Ideal S2048x3072 .bf16) (p : FVec Ideal S256x2048 .f32) : FVec Ideal S256x256 .f32 :=
  k0_pay213 (q3 X) (p3f X) (dp3 i X w wt) (View.ld (Val := Elt Ideal) (e' := .f32) p (Rect.unit (s := S256x2048) ![0,
    768] S256x256.size inb_S256x2048_S256x256_0_768))
def keyV1024 (i : grid0.Coords) (X : Ins Ideal) (w : FVec Ideal S3072x2048 .bf16) (wt : FVec Ideal S2048x3072 .bf16) (p : FVec Ideal S256x2048 .f32) : FVec Ideal S256x256 .f32 :=
  k0_pay192 (p0 X) (siluC X) (dbC i X w wt) (View.ld (Val := Elt Ideal) (e' := .f32) p (Rect.unit (s := S256x2048) ![0,
    1024] S256x256.size inb_S256x2048_S256x256_0_1024))
def keyV1280 (i : grid0.Coords) (X : Ins Ideal) (w : FVec Ideal S3072x2048 .bf16) (wt : FVec Ideal S2048x3072 .bf16) (p : FVec Ideal S256x2048 .f32) : FVec Ideal S256x256 .f32 :=
  k0_pay197 (p1 X) (doo i X w wt) (View.ld (Val := Elt Ideal) (e' := .f32) p (Rect.unit (s := S256x2048) ![0,
    1280] S256x256.size inb_S256x2048_S256x256_0_1280))
def keyV1536 (i : grid0.Coords) (X : Ins Ideal) (w : FVec Ideal S3072x2048 .bf16) (wt : FVec Ideal S2048x3072 .bf16) (p : FVec Ideal S256x2048 .f32) : FVec Ideal S256x256 .f32 :=
  k0_pay203 (p2 X) (doo2 i X w wt) (View.ld (Val := Elt Ideal) (e' := .f32) p (Rect.unit (s := S256x2048) ![0,
    1536] S256x256.size inb_S256x2048_S256x256_0_1536))
def keyV1792 (i : grid0.Coords) (X : Ins Ideal) (w : FVec Ideal S3072x2048 .bf16) (wt : FVec Ideal S2048x3072 .bf16) (p : FVec Ideal S256x2048 .f32) : FVec Ideal S256x256 .f32 :=
  k0_pay211 (View.ld (Val := Elt Ideal) (e' := .f32) p (Rect.unit (s := S256x2048) ![0,
    1792] S256x256.size inb_S256x2048_S256x256_0_1792)) (doo3 i X w wt)
def keyVPieces (i : grid0.Coords) (X : Ins Ideal) (w : FVec Ideal S3072x2048 .bf16) (wt : FVec Ideal S2048x3072 .bf16) (p : FVec Ideal S256x2048 .f32) : List (View.Piece (Elt Ideal) S256x2048 .f32) :=
  [⟨(Rect.unit (s := S256x2048) ![0, 768] S256x256.size inb_S256x2048_S256x256_0_768), keyV768 i X w wt p⟩,
    ⟨(Rect.unit (s := S256x2048) ![0, 1792] S256x256.size inb_S256x2048_S256x256_0_1792), keyV1792 i X w wt p⟩,
    ⟨(Rect.unit (s := S256x2048) ![0, 512] S256x256.size inb_S256x2048_S256x256_0_512), keyV512 i X w wt p⟩,
    ⟨(Rect.unit (s := S256x2048) ![0, 1536] S256x256.size inb_S256x2048_S256x256_0_1536), keyV1536 i X w wt p⟩,
    ⟨(Rect.unit (s := S256x2048) ![0, 256] S256x256.size inb_S256x2048_S256x256_0_256), keyV256 i X w wt p⟩,
    ⟨(Rect.unit (s := S256x2048) ![0, 1280] S256x256.size inb_S256x2048_S256x256_0_1280), keyV1280 i X w wt p⟩,
    ⟨(Rect.unit (s := S256x2048) ![0, 0] S256x256.size inb_S256x2048_S256x256_0_0), keyV0 i X w wt p⟩,
    ⟨(Rect.unit (s := S256x2048) ![0, 1024] S256x256.size inb_S256x2048_S256x256_0_1024), keyV1024 i X w wt p⟩]

/-- The three branches of the tile side by side, as stored. -/
def branches (i : grid0.Coords) (X : Ins Ideal) : FVec Ideal S128x3072 .bf16 :=
  View.canon (Val := Elt Ideal) (e := .bf16) [⟨(Rect.unit (s := S128x3072) ![0, 2048] S128x1024.size inb_S128x3072_S128x1024_0_2048),
    k0_pay101 (yC X)⟩, ⟨(Rect.unit (s := S128x3072) ![0, 1024] S128x1024.size inb_S128x3072_S128x1024_0_1024), k0_pay100 (yB X)⟩,
    ⟨(Rect.unit (s := S128x3072) ![0, 0] S128x1024.size inb_S128x3072_S128x1024_0_0), yA16 i X⟩]

/-- The gradient of the tile's projected rows, side by side. -/
def dproj (i : grid0.Coords) (X : Ins Ideal) (w : FVec Ideal S3072x2048 .bf16) (wt : FVec Ideal S2048x3072 .bf16) (s : FVec Ideal S16x1024 .f32) : FVec Ideal S128x7168 .bf16 :=
  k0_pay214 (dga i X w wt) (dpool i X w wt s) (dgb i X w wt) (duu i X w wt) (dvv i X w wt) (dgc i X w wt) (dq0 i X w wt) (dq1 i X w wt) (dq2 i X w wt) (p3f X) (dp3 i X w wt)
    (View.ld X.i4 (Rect.unit (s := S256x2048) ![0, 768] S256x256.size inb_S256x2048_S256x256_0_768))

/-- The running sums of the row-wise gradients after one more tile. -/
def gainsNext (i : grid0.Coords) (X : Ins Ideal) (w : FVec Ideal S3072x2048 .bf16) (wt : FVec Ideal S2048x3072 .bf16) (p : FVec Ideal S1x3072 .f32) : FVec Ideal S1x3072 .f32 := k0_pay123 (dgA i X w wt) (dgB i X w wt) (dgC i X w wt) p
def scaleNext (i : grid0.Coords) (X : Ins Ideal) (w : FVec Ideal S3072x2048 .bf16) (wt : FVec Ideal S2048x3072 .bf16) (p : FVec Ideal S1x1024 .f32) : FVec Ideal S1x1024 .f32 := k0_pay126 (mixed i X) (siluA X) (dbA i X w wt) p
def lnGNext (i : grid0.Coords) (X : Ins Ideal) (w : FVec Ideal S3072x2048 .bf16) (wt : FVec Ideal S2048x3072 .bf16) (p : FVec Ideal S1x1024 .f32) : FVec Ideal S1x1024 .f32 :=
  k0_pay183 (nrmV X) (dv0 i X w wt) (dv1 i X w wt) (dv2 i X w wt) (dv3 i X w wt) (dv4 i X w wt) (dv5 i X w wt) (dv6 i X w wt) (dv7 i X w wt) p
def lnBNext (i : grid0.Coords) (X : Ins Ideal) (w : FVec Ideal S3072x2048 .bf16) (wt : FVec Ideal S2048x3072 .bf16) (p : FVec Ideal S1x1024 .f32) : FVec Ideal S1x1024 .f32 :=
  k0_pay184 (dv0 i X w wt) (dv1 i X w wt) (dv2 i X w wt) (dv3 i X w wt) (dv4 i X w wt) (dv5 i X w wt) (dv6 i X w wt) (dv7 i X w wt) p
def gateSum (i : grid0.Coords) (X : Ins Ideal) (w : FVec Ideal S3072x2048 .bf16) (wt : FVec Ideal S2048x3072 .bf16) (p : FVec Ideal S128x1024 .f32) : FVec Ideal S128x1024 .f32 := k0_pay182 (dgate i X w wt) p
def lossNext (i : grid0.Coords) (X : Ins Ideal) (w : FVec Ideal S3072x2048 .bf16) (p : FVec Ideal S1x128 .f32) : FVec Ideal S1x128 .f32 := k0_pay108 (k0_pay106 p) (errSq i X w)
def postNext (i : grid0.Coords) (X : Ins Ideal) (w : FVec Ideal S3072x2048 .bf16) (p : FVec Ideal S1x2048 .f32) : FVec Ideal S1x2048 .f32 := k0_pay110 (nrmO i X w) (err i X w) p

/-- The gradient of each gate matrix cut to its lower triangle, as stored last. -/
def gateM0 (i : grid0.Coords) (X : Ins Ideal) (w : FVec Ideal S3072x2048 .bf16) (wt : FVec Ideal S2048x3072 .bf16) (p : FVec Ideal S8x128x128 .f32) : FVec Ideal S1x128x128 .f32 :=
  k0_pay14 (gateW0 i X w wt p)
def gateM1 (i : grid0.Coords) (X : Ins Ideal) (w : FVec Ideal S3072x2048 .bf16) (wt : FVec Ideal S2048x3072 .bf16) (p : FVec Ideal S8x128x128 .f32) : FVec Ideal S1x128x128 .f32 :=
  k0_pay16 (gateW1 i X w wt p)
def gateM2 (i : grid0.Coords) (X : Ins Ideal) (w : FVec Ideal S3072x2048 .bf16) (wt : FVec Ideal S2048x3072 .bf16) (p : FVec Ideal S8x128x128 .f32) : FVec Ideal S1x128x128 .f32 :=
  k0_pay19 k0_pay13 (k0_pay18 (gateW2 i X w wt p))
def gateM3 (i : grid0.Coords) (X : Ins Ideal) (w : FVec Ideal S3072x2048 .bf16) (wt : FVec Ideal S2048x3072 .bf16) (p : FVec Ideal S8x128x128 .f32) : FVec Ideal S1x128x128 .f32 :=
  k0_pay21 k0_pay13 (gateW3 i X w wt p)
def gateM4 (i : grid0.Coords) (X : Ins Ideal) (w : FVec Ideal S3072x2048 .bf16) (wt : FVec Ideal S2048x3072 .bf16) (p : FVec Ideal S8x128x128 .f32) : FVec Ideal S1x128x128 .f32 :=
  k0_pay24 (k0_pay23 k0_pay13 (gateW4 i X w wt p))
def gateM5 (i : grid0.Coords) (X : Ins Ideal) (w : FVec Ideal S3072x2048 .bf16) (wt : FVec Ideal S2048x3072 .bf16) (p : FVec Ideal S8x128x128 .f32) : FVec Ideal S1x128x128 .f32 :=
  k0_pay26 k0_pay13 (gateW5 i X w wt p)
def gateM6 (i : grid0.Coords) (X : Ins Ideal) (w : FVec Ideal S3072x2048 .bf16) (wt : FVec Ideal S2048x3072 .bf16) (p : FVec Ideal S8x128x128 .f32) : FVec Ideal S1x128x128 .f32 :=
  k0_pay28 k0_pay13 (gateW6 i X w wt p)
def gateM7 (i : grid0.Coords) (X : Ins Ideal) (w : FVec Ideal S3072x2048 .bf16) (wt : FVec Ideal S2048x3072 .bf16) (p : FVec Ideal S8x128x128 .f32) : FVec Ideal S1x128x128 .f32 :=
  k0_pay2 k0_pay13 (gateW7 i X w wt p)
def gateMPieces (i : grid0.Coords) (X : Ins Ideal) (w : FVec Ideal S3072x2048 .bf16) (wt : FVec Ideal S2048x3072 .bf16) (p : FVec Ideal S8x128x128 .f32) : List (View.Piece (Elt Ideal) S8x128x128 .f32) :=
  [⟨(Rect.unit (s := S8x128x128) ![7, 0, 0] S1x128x128.size inb_S8x128x128_S1x128x128_7_0_0), gateM7 i X w wt p⟩,
    ⟨(Rect.unit (s := S8x128x128) ![6, 0, 0] S1x128x128.size inb_S8x128x128_S1x128x128_6_0_0), gateM6 i X w wt p⟩,
    ⟨(Rect.unit (s := S8x128x128) ![5, 0, 0] S1x128x128.size inb_S8x128x128_S1x128x128_5_0_0), gateM5 i X w wt p⟩,
    ⟨(Rect.unit (s := S8x128x128) ![4, 0, 0] S1x128x128.size inb_S8x128x128_S1x128x128_4_0_0), gateM4 i X w wt p⟩,
    ⟨(Rect.unit (s := S8x128x128) ![3, 0, 0] S1x128x128.size inb_S8x128x128_S1x128x128_3_0_0), gateM3 i X w wt p⟩,
    ⟨(Rect.unit (s := S8x128x128) ![2, 0, 0] S1x128x128.size inb_S8x128x128_S1x128x128_2_0_0), gateM2 i X w wt p⟩,
    ⟨(Rect.unit (s := S8x128x128) ![1, 0, 0] S1x128x128.size inb_S8x128x128_S1x128x128_1_0_0), gateM1 i X w wt p⟩,
    ⟨(Rect.unit (s := S8x128x128) ![0, 0, 0] S1x128x128.size inb_S8x128x128_S1x128x128_0_0_0), gateM0 i X w wt p⟩]

/-- The gradient of each group's gate bias: the group's columns of the summed gate gradient, added up. -/
def bias0 (q : FVec Ideal S128x1024 .f32) : FVec Ideal S1x128 .f32 :=
  k0_pay15 (View.ld (Val := Elt Ideal) (e' := .f32) q (Rect.unit (s := S128x1024) ![0, 0] S128x128.size inb_S128x1024_S128x128_0_0))
def bias1 (q : FVec Ideal S128x1024 .f32) : FVec Ideal S1x128 .f32 :=
  k0_pay17 (View.ld (Val := Elt Ideal) (e' := .f32) q (Rect.unit (s := S128x1024) ![0, 128] S128x128.size inb_S128x1024_S128x128_0_128))
def bias2 (q : FVec Ideal S128x1024 .f32) : FVec Ideal S1x128 .f32 :=
  k0_pay20 (View.ld (Val := Elt Ideal) (e' := .f32) q (Rect.unit (s := S128x1024) ![0, 256] S128x128.size inb_S128x1024_S128x128_0_256))
def bias3 (q : FVec Ideal S128x1024 .f32) : FVec Ideal S1x128 .f32 :=
  k0_pay22 (View.ld (Val := Elt Ideal) (e' := .f32) q (Rect.unit (s := S128x1024) ![0, 384] S128x128.size inb_S128x1024_S128x128_0_384))
def bias4 (q : FVec Ideal S128x1024 .f32) : FVec Ideal S1x128 .f32 :=
  k0_pay25 (View.ld (Val := Elt Ideal) (e' := .f32) q (Rect.unit (s := S128x1024) ![0, 512] S128x128.size inb_S128x1024_S128x128_0_512))
def bias5 (q : FVec Ideal S128x1024 .f32) : FVec Ideal S1x128 .f32 :=
  k0_pay27 (View.ld (Val := Elt Ideal) (e' := .f32) q (Rect.unit (s := S128x1024) ![0, 640] S128x128.size inb_S128x1024_S128x128_0_640))
def bias6 (q : FVec Ideal S128x1024 .f32) : FVec Ideal S1x128 .f32 :=
  k0_pay1 (k0_pay29 (View.ld (Val := Elt Ideal) (e' := .f32) q (Rect.unit (s := S128x1024) ![0, 768] S128x128.size inb_S128x1024_S128x128_0_768)))
def bias7 (q : FVec Ideal S128x1024 .f32) : FVec Ideal S1x128 .f32 :=
  k0_pay3 (View.ld (Val := Elt Ideal) (e' := .f32) q (Rect.unit (s := S128x1024) ![0, 896] S128x128.size inb_S128x1024_S128x128_0_896))
def biasPieces (q : FVec Ideal S128x1024 .f32) : List (View.Piece (Elt Ideal) S8x128 .f32) :=
  [⟨(Rect.unit (s := S8x128) ![7, 0] S1x128.size inb_S8x128_S1x128_7_0), bias7 q⟩,
    ⟨(Rect.unit (s := S8x128) ![6, 0] S1x128.size inb_S8x128_S1x128_6_0), bias6 q⟩,
    ⟨(Rect.unit (s := S8x128) ![5, 0] S1x128.size inb_S8x128_S1x128_5_0), bias5 q⟩,
    ⟨(Rect.unit (s := S8x128) ![4, 0] S1x128.size inb_S8x128_S1x128_4_0), bias4 q⟩,
    ⟨(Rect.unit (s := S8x128) ![3, 0] S1x128.size inb_S8x128_S1x128_3_0), bias3 q⟩,
    ⟨(Rect.unit (s := S8x128) ![2, 0] S1x128.size inb_S8x128_S1x128_2_0), bias2 q⟩,
    ⟨(Rect.unit (s := S8x128) ![1, 0] S1x128.size inb_S8x128_S1x128_1_0), bias1 q⟩,
    ⟨(Rect.unit (s := S8x128) ![0, 0] S1x128.size inb_S8x128_S1x128_0_0), bias0 q⟩]

end Tile

end Cert.KernelIdeal.Mix

end

end
-- ==== Proof.MixSums.lean ====
/- What one tile of the mixing kernel adds to each sum over the rows. -/
module

public import proofs.«01_k».proof.Proof.MixOut
public import proofs.«01_k».proof.Proof.MixNext
public import proofs.«01_k».proof.Proof.NormGrad
public import proofs.«01_k».proof.Proof.Gen.ReferenceIdeal.Read
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

/-- What one tile adds to each sum over the rows. -/
def lossPart (A : Args) (T : Fin 32) : EReal := Ideal.ofBits .f32 1056964608#32 * ∑ a : Fin 128,
    val_main_v238 (F := Ideal) A.x A.target A.proj A.kv A.poolW A.poolS A.lnG A.lnB A.sguW A.sguB A.gains A.wOut A.post (ix1 (row T a))
def postPart (A : Args) (T : Fin 32) (b : Fin 2048) : EReal := ∑ a : Fin 128,
    val_main_v247 (F := Ideal) A.x A.target A.proj A.kv A.poolW A.poolS A.lnG A.lnB A.sguW A.sguB A.gains A.wOut A.post (ix2 (row T a) b)
def gainsPart (A : Args) (T : Fin 32) (b : Fin 3072) : EReal :=
  if h : b.val < 1024 then ∑ a : Fin 128,
    val_main_v308 (F := Ideal) A.x A.target A.proj A.kv A.poolW A.poolS A.lnG A.lnB A.sguW A.sguB A.gains A.wOut A.post (ix2 (row T a) ⟨b.val, h⟩)
  else if h' : b.val - 1024 < 1024 then ∑ a : Fin 128,
    val_main_v289 (F := Ideal) A.x A.target A.proj A.kv A.poolW A.poolS A.lnG A.lnB A.sguW A.sguB A.gains A.wOut A.post (ix2 (row T a) ⟨b.val - 1024,
    h'⟩)
  else ∑ a : Fin 128, val_main_v270 (F := Ideal) A.x A.target A.proj A.kv A.poolW A.poolS A.lnG A.lnB A.sguW A.sguB A.gains A.wOut A.post (ix2 (row T a) ⟨b.val - 1024 - 1024, by omega⟩)
def scalePart (A : Args) (T : Fin 32) (b : Fin 1024) : EReal := ∑ a : Fin 128,
    val_main_v405 (F := Ideal) A.x A.target A.proj A.kv A.poolW A.poolS A.lnG A.lnB A.sguW A.sguB A.gains A.wOut A.post (ix2 (row T a) b)
def lnGPart (A : Args) (T : Fin 32) (b : Fin 1024) : EReal := ∑ a : Fin 128,
    val_main_v375 (F := Ideal) A.x A.target A.proj A.kv A.poolW A.poolS A.lnG A.lnB A.sguW A.sguB A.gains A.wOut A.post (ix2 (row T a) b)
def lnBPart (A : Args) (T : Fin 32) (b : Fin 1024) : EReal := ∑ a : Fin 128,
    val_main_v372 (F := Ideal) A.x A.target A.proj A.kv A.poolW A.poolS A.lnG A.lnB A.sguW A.sguB A.gains A.wOut A.post (ix2 (row T a) b)

theorem lossNext_at (h : Reads A T i X) (hA : A.Real) (hw : Weights A w wt) (p : FVec Ideal S1x128 .f32) (b : Fin 128) :
    lossNext i X w p (ix2 0 b) = p (ix2 0 b) + lossPart A T := by
  unfold lossNext
  rw [loss_at h hA hw, lossPart]
  pointwise [k0_pay106]

theorem postNext_at (h : Reads A T i X) (hA : A.Real) (hw : Weights A w wt) (p : FVec Ideal S1x2048 .f32) (b : Fin 2048) :
    postNext i X w p (ix2 0 b) = p (ix2 0 b) + postPart A T b := by
  unfold postNext
  rw [gpost_at h hA hw]
  rfl

theorem gainsNext_at (h : Reads A T i X) (hA : A.Real) (hw : Weights A w wt) (p : FVec Ideal S1x3072 .f32) (b : Fin 3072) :
    gainsNext i X w wt p (ix2 0 b) = p (ix2 0 b) + gainsPart A T b := by
  unfold gainsPart gainsNext
  simp only [← dgA_at h hA hw, ← dgB_at h hA hw, ← dgC_at h hA hw]
  pointwise [k0_pay123]

theorem scaleNext_at (h : Reads A T i X) (hA : A.Real) (hw : Weights A w wt) (p : FVec Ideal S1x1024 .f32) (b : Fin 1024) :
    scaleNext i X w wt p (ix2 0 b) = p (ix2 0 b) + scalePart A T b := by
  unfold scalePart scaleNext
  have e : ∀ a, val_main_v405 (F := Ideal) A.x A.target A.proj A.kv A.poolW A.poolS A.lnG A.lnB A.sguW A.sguB A.gains A.wOut A.post (ix2 (row T a) b) = mixed i X (ix2 a b) * (dbA i X w wt (ix2 a b) * siluA X (ix2 a b)) := fun a => by
    pointwise [val_main_v405, val_main_v403]
    simp only [← mixed_at h hA, ← dbA_at h hA hw, ← siluA_at h]
  simp only [e]
  pointwise [k0_pay126, k0_pay124]
  exact congrArg _ (Finset.sum_congr rfl fun a _ => mul_comm (G := EReal) _ _)

theorem lnGNext_at (h : Reads A T i X) (hA : A.Real) (hw : Weights A w wt) (p : FVec Ideal S1x1024 .f32) (b : Fin 1024) :
    lnGNext i X w wt p (ix2 0 b) = p (ix2 0 b) + lnGPart A T b := by
  unfold lnGPart lnGNext
  have e : ∀ a, val_main_v375 (F := Ideal) A.x A.target A.proj A.kv A.poolW A.poolS A.lnG A.lnB A.sguW A.sguB A.gains A.wOut A.post (ix2 (row T a) b) = nrmV X (ix2 a b) * dz i X w wt (ix2 a b) := fun a => by
    pointwise [val_main_v375]
    rw [← nrmV_at h, ← dz_at h hA hw]
  simp only [e]
  unfold dz
  pointwise [k0_pay183]
  exact congrArg _ (Finset.sum_congr rfl fun a _ => mul_comm (G := EReal) _ _)

theorem lnBNext_at (h : Reads A T i X) (hA : A.Real) (hw : Weights A w wt) (p : FVec Ideal S1x1024 .f32) (b : Fin 1024) :
    lnBNext i X w wt p (ix2 0 b) = p (ix2 0 b) + lnBPart A T b := by
  unfold lnBPart lnBNext
  simp only [← dz_at h hA hw]
  unfold dz
  pointwise [k0_pay184]

theorem gateSum_at (h : Reads A T i X) (hA : A.Real) (hw : Weights A w wt) (p : FVec Ideal S128x1024 .f32) (a : Fin 128) (b : Fin 1024) :
    gateSum i X w wt p (ix2 a b) = p (ix2 a b) + val_main_v360 (F := Ideal) A.x A.target A.proj A.kv A.poolW A.poolS A.lnG A.lnB A.sguW A.sguB A.gains A.wOut A.post (ix2 (row T a) b) := by
  unfold gateSum
  rw [← dgate_at h hA hw]
  pointwise [k0_pay182]

/-- What one tile adds to the gradient of each pooled mixing matrix. -/
def mixWPart (A : Args) (T : Fin 32) (g : Fin 4) (e f : Fin 256) : EReal :=
  ∑ a : Fin 128, val_main_v411 (F := Ideal) A.x A.target A.proj A.kv A.poolW A.poolS A.lnG A.lnB A.sguW A.sguB A.gains A.wOut A.post (ix3 g f (row T a)) * val_main_v80 (F := Ideal) A.proj (ix3 (row T a) g e)

theorem back_ref (R : Fin 4096) (g : Fin 4) (f : Fin 256) : val_main_v411 (F := Ideal) A.x A.target A.proj A.kv A.poolW A.poolS A.lnG A.lnB A.sguW A.sguB A.gains A.wOut A.post (ix3 g f R) = val_main_v409 (F := Ideal) A.x A.target A.proj A.kv A.poolW A.poolS A.lnG A.lnB A.sguW A.sguB A.gains A.wOut A.post (ix2 R ⟨g.val * 256 + f.val, by omega⟩) := by
  pointwise! [val_main_v411, val_main_v410]

theorem mixW0_at (h : Reads A T i X) (hA : A.Real) (hw : Weights A w wt) (p : FVec Ideal S4x256x256 .f32) (e f : Fin 256) :
    mixW0 i X w wt p (ix3 0 e f) = p (ix3 0 e f) + mixWPart A T 0 e f := by
  unfold mixWPart
  have e1 : ∀ a, val_main_v80 (F := Ideal) A.proj (ix3 (row T a) 0 e) = d0 i X (ix2 a e) := fun a => by rw [stack_ref]; exact (d0_at h hA a e).symm
  simp only [e1, back_ref, ← dmix_at h hA hw]
  unfold mixW0 dscale dmix
  pointwise! [k0_pay131, k0_pay130, k0_pay128, k0_pay127]

theorem mixW1_at (h : Reads A T i X) (hA : A.Real) (hw : Weights A w wt) (p : FVec Ideal S4x256x256 .f32) (e f : Fin 256) :
    mixW1 i X w wt p (ix3 0 e f) = p (ix3 1 e f) + mixWPart A T 1 e f := by
  unfold mixWPart
  have e1 : ∀ a, val_main_v80 (F := Ideal) A.proj (ix3 (row T a) 1 e) = d1 i X (ix2 a e) := fun a => by rw [stack_ref]; exact (d1_at h hA a e).symm
  simp only [e1, back_ref, ← dmix_at h hA hw]
  unfold mixW1
  pointwise! [k0_pay137, k0_pay135]

theorem mixW2_at (h : Reads A T i X) (hA : A.Real) (hw : Weights A w wt) (p : FVec Ideal S4x256x256 .f32) (e f : Fin 256) :
    mixW2 i X w wt p (ix3 0 e f) = p (ix3 2 e f) + mixWPart A T 2 e f := by
  unfold mixWPart
  have e1 : ∀ a, val_main_v80 (F := Ideal) A.proj (ix3 (row T a) 2 e) = d2 i X (ix2 a e) := fun a => by rw [stack_ref]; exact (d2_at h hA a e).symm
  simp only [e1, back_ref, ← dmix_at h hA hw]
  unfold mixW2
  pointwise! [k0_pay144, k0_pay142]

theorem mixW3_at (h : Reads A T i X) (hA : A.Real) (hw : Weights A w wt) (p : FVec Ideal S4x256x256 .f32) (e f : Fin 256) :
    mixW3 i X w wt p (ix3 0 e f) = p (ix3 3 e f) + mixWPart A T 3 e f := by
  unfold mixWPart
  have e1 : ∀ a, val_main_v80 (F := Ideal) A.proj (ix3 (row T a) 3 e) = d3 i X (ix2 a e) := fun a => by rw [stack_ref]; exact (d3_at h hA a e).symm
  simp only [e1, back_ref, ← dmix_at h hA hw]
  unfold mixW3
  pointwise! [k0_pay151, k0_pay150, k0_pay148]

/-- What one tile adds to the gradient of each gate matrix, above the diagonal too. -/
def gateWPart (A : Args) (T : Fin 32) (g : Fin 8) (a k : Fin 128) : EReal :=
  ∑ c : Fin 128, val_main_v360 (F := Ideal) A.x A.target A.proj A.kv A.poolW A.poolS A.lnG A.lnB A.sguW A.sguB A.gains A.wOut A.post (ix2 (row T a) ⟨g.val * 128 + c.val, by omega⟩) * val_main_v110 (F := Ideal) A.proj A.lnG A.lnB (ix2 (row T k) ⟨g.val * 128 + c.val, by omega⟩)

theorem gateW0_at (h : Reads A T i X) (hA : A.Real) (hw : Weights A w wt) (p : FVec Ideal S8x128x128 .f32) (a k : Fin 128) :
    gateW0 i X w wt p (ix3 0 a k) = p (ix3 0 a k) + gateWPart A T 0 a k := by
  unfold gateWPart gateW0
  simp only [← dgate16_at h hA hw, ← vn_at h]
  pointwise! [k0_pay161]

theorem gateW1_at (h : Reads A T i X) (hA : A.Real) (hw : Weights A w wt) (p : FVec Ideal S8x128x128 .f32) (a k : Fin 128) :
    gateW1 i X w wt p (ix3 0 a k) = p (ix3 1 a k) + gateWPart A T 1 a k := by
  unfold gateWPart gateW1
  simp only [← dgate16_at h hA hw, ← vn_at h]
  pointwise! [k0_pay163]

theorem gateW2_at (h : Reads A T i X) (hA : A.Real) (hw : Weights A w wt) (p : FVec Ideal S8x128x128 .f32) (a k : Fin 128) :
    gateW2 i X w wt p (ix3 0 a k) = p (ix3 2 a k) + gateWPart A T 2 a k := by
  unfold gateWPart gateW2
  simp only [← dgate16_at h hA hw, ← vn_at h]
  pointwise! [k0_pay166, k0_pay165]

theorem gateW3_at (h : Reads A T i X) (hA : A.Real) (hw : Weights A w wt) (p : FVec Ideal S8x128x128 .f32) (a k : Fin 128) :
    gateW3 i X w wt p (ix3 0 a k) = p (ix3 3 a k) + gateWPart A T 3 a k := by
  unfold gateWPart gateW3
  simp only [← dgate16_at h hA hw, ← vn_at h]
  pointwise! [k0_pay168]

theorem gateW4_at (h : Reads A T i X) (hA : A.Real) (hw : Weights A w wt) (p : FVec Ideal S8x128x128 .f32) (a k : Fin 128) :
    gateW4 i X w wt p (ix3 0 a k) = p (ix3 4 a k) + gateWPart A T 4 a k := by
  unfold gateWPart gateW4
  simp only [← dgate16_at h hA hw, ← vn_at h]
  pointwise! [k0_pay170]

theorem gateW5_at (h : Reads A T i X) (hA : A.Real) (hw : Weights A w wt) (p : FVec Ideal S8x128x128 .f32) (a k : Fin 128) :
    gateW5 i X w wt p (ix3 0 a k) = p (ix3 5 a k) + gateWPart A T 5 a k := by
  unfold gateWPart gateW5
  simp only [← dgate16_at h hA hw, ← vn_at h]
  pointwise! [k0_pay173]

theorem gateW6_at (h : Reads A T i X) (hA : A.Real) (hw : Weights A w wt) (p : FVec Ideal S8x128x128 .f32) (a k : Fin 128) :
    gateW6 i X w wt p (ix3 0 a k) = p (ix3 6 a k) + gateWPart A T 6 a k := by
  unfold gateWPart gateW6
  simp only [← dgate16_at h hA hw, ← vn_at h]
  pointwise! [k0_pay175]

theorem gateW7_at (h : Reads A T i X) (hA : A.Real) (hw : Weights A w wt) (p : FVec Ideal S8x128x128 .f32) (a k : Fin 128) :
    gateW7 i X w wt p (ix3 0 a k) = p (ix3 7 a k) + gateWPart A T 7 a k := by
  unfold gateWPart gateW7
  simp only [← dgate16_at h hA hw, ← vn_at h]
  pointwise! [k0_pay180, k0_pay177, k0_pay178, k0_pay179]

/-- What one tile adds to the gradients of the keys (first half) and the values (second half). -/
def keyPart (A : Args) (T : Fin 32) (m : Fin 256) (b : Fin 1024) : EReal :=
  ∑ a : Fin 128, val_main_v349 (F := Ideal) A.x A.target A.proj A.kv A.poolW A.poolS A.lnG A.lnB A.sguW A.sguB A.gains A.wOut A.post (ix3 ⟨b.val / 256, by omega⟩ (row T a) m) * val_main_v7 (F := Ideal) A.proj (ix2 (row T a) b)
def valuePart (A : Args) (T : Fin 32) (m : Fin 256) (b : Fin 1024) : EReal :=
  ∑ a : Fin 128, val_main_v157 (F := Ideal) A.proj A.kv (ix3 ⟨b.val / 256,
    by omega⟩ (row T a) m) * val_main_v329 (F := Ideal) A.x A.target A.proj A.kv A.poolW A.poolS A.lnG A.lnB A.sguW A.sguB A.gains A.wOut A.post (ix2 (row T a) b)

theorem keyV0_at (h : Reads A T i X) (hA : A.Real) (hw : Weights A w wt) (p : FVec Ideal S256x2048 .f32) (m b : Fin 256) :
    keyV0 i X w wt p (ix2 m b) = p (ix2 m ⟨0 + b.val, by omega⟩) + keyPart A T m ⟨0 + b.val, by omega⟩ := by
  rw [keyPart, ← dk_head h 0 m b (fun a => ds0 i X w wt (ix2 a m)) (fun a => ds0_at h hA hw a m) ⟨0 + b.val, by omega⟩ (by simp)]
  unfold keyV0
  pointwise! [k0_pay195, k0_pay81]

theorem keyV256_at (h : Reads A T i X) (hA : A.Real) (hw : Weights A w wt) (p : FVec Ideal S256x2048 .f32) (m b : Fin 256) :
    keyV256 i X w wt p (ix2 m b) = p (ix2 m ⟨256 + b.val, by omega⟩) + keyPart A T m ⟨256 + b.val, by omega⟩ := by
  rw [keyPart, ← dk_head h 1 m b (fun a => ds1 i X w wt (ix2 a m)) (fun a => ds1_at h hA hw a m) ⟨256 + b.val, by omega⟩ (by simp)]
  unfold keyV256 ds1
  pointwise! [k0_pay200, k0_pay84]

theorem keyV512_at (h : Reads A T i X) (hA : A.Real) (hw : Weights A w wt) (p : FVec Ideal S256x2048 .f32) (m b : Fin 256) :
    keyV512 i X w wt p (ix2 m b) = p (ix2 m ⟨512 + b.val, by omega⟩) + keyPart A T m ⟨512 + b.val, by omega⟩ := by
  rw [keyPart, ← dk_head h 2 m b (fun a => ds2 i X w wt (ix2 a m)) (fun a => ds2_at h hA hw a m) ⟨512 + b.val, by omega⟩ (by simp)]
  unfold keyV512 ds2
  pointwise! [k0_pay206, k0_pay87]

theorem keyV768_at (h : Reads A T i X) (hA : A.Real) (hw : Weights A w wt) (p : FVec Ideal S256x2048 .f32) (m b : Fin 256) :
    keyV768 i X w wt p (ix2 m b) = p (ix2 m ⟨768 + b.val, by omega⟩) + keyPart A T m ⟨768 + b.val, by omega⟩ := by
  rw [keyPart, ← dk_head h 3 m b (fun a => ds3 i X w wt (ix2 a m)) (fun a => ds3_at h hA hw a m) ⟨768 + b.val, by omega⟩ (by simp)]
  unfold keyV768 ds3 q3
  pointwise! [k0_pay213, k0_pay90]

theorem keyV1024_at (h : Reads A T i X) (hA : A.Real) (hw : Weights A w wt) (p : FVec Ideal S256x2048 .f32) (m b : Fin 256) :
    keyV1024 i X w wt p (ix2 m b) = p (ix2 m ⟨1024 + b.val, by omega⟩) + valuePart A T m ⟨0 + b.val, by omega⟩ := by
  rw [valuePart, ← dv_head h hA hw 0 m b (fun a => p0 X (ix2 a m)) (fun a => p0_at h a m) ⟨0 + b.val, by omega⟩ (by simp)]
  unfold keyV1024 doo
  pointwise! [k0_pay192, k0_pay191]

theorem keyV1280_at (h : Reads A T i X) (hA : A.Real) (hw : Weights A w wt) (p : FVec Ideal S256x2048 .f32) (m b : Fin 256) :
    keyV1280 i X w wt p (ix2 m b) = p (ix2 m ⟨1280 + b.val, by omega⟩) + valuePart A T m ⟨256 + b.val, by omega⟩ := by
  rw [valuePart, ← dv_head h hA hw 1 m b (fun a => p1 X (ix2 a m)) (fun a => p1_at h a m) ⟨256 + b.val, by omega⟩ (by simp)]
  unfold keyV1280
  pointwise! [k0_pay197, k0_pay196]

theorem keyV1536_at (h : Reads A T i X) (hA : A.Real) (hw : Weights A w wt) (p : FVec Ideal S256x2048 .f32) (m b : Fin 256) :
    keyV1536 i X w wt p (ix2 m b) = p (ix2 m ⟨1536 + b.val, by omega⟩) + valuePart A T m ⟨512 + b.val, by omega⟩ := by
  rw [valuePart, ← dv_head h hA hw 2 m b (fun a => p2 X (ix2 a m)) (fun a => p2_at h a m) ⟨512 + b.val, by omega⟩ (by simp)]
  unfold keyV1536 doo2
  pointwise! [k0_pay203, k0_pay201]

theorem keyV1792_at (h : Reads A T i X) (hA : A.Real) (hw : Weights A w wt) (p : FVec Ideal S256x2048 .f32) (m b : Fin 256) :
    keyV1792 i X w wt p (ix2 m b) = p (ix2 m ⟨1792 + b.val, by omega⟩) + valuePart A T m ⟨768 + b.val, by omega⟩ := by
  rw [valuePart, ← dv_head h hA hw 3 m b (fun a => p3 X (ix2 a m)) (fun a => p3_at h a m) ⟨768 + b.val, by omega⟩ (by simp)]
  unfold keyV1792 doo3
  pointwise! [k0_pay211, k0_pay210, k0_pay207]

end Tile

end Cert.KernelIdeal.Mix

end

end
-- ==== Proof.MixStack.lean ====
/- What one tile of the mixing kernel leaves in the arrays it stores in parts. -/
module

public import proofs.«01_k».proof.Proof.MixOut
public import proofs.«01_k».proof.Proof.MixSums
public import proofs.«01_k».proof.Proof.NormGrad
public import proofs.«01_k».proof.Proof.Gen.ReferenceIdeal.Read
import Idealize.ShloMosaic.Lib.Pointwise
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

/-- Storing a slab of a stack agrees with a function on the stack once it does so entry by entry. -/
theorem slab {G B C : ℕ} (g : Fin G) (inb : ∀ d, (![g.val, 0, 0] : Fin 3 → ℕ) d + (![1, B, C] : Fin 3 → ℕ) d ≤ (⟨3, ![G, B, C]⟩ : Shape).size d)
    (f : (⟨3, ![1, B, C]⟩ : Shape).Idx → EReal) (H : (⟨3, ![G, B, C]⟩ : Shape).Idx → EReal) (h : ∀ (b : Fin B) (c : Fin C),
    f (ix3 0 b c) = H (ix3 g b c))
    (x : (⟨3, ![1, B, C]⟩ : Shape).Idx) : f x = H ((Rect.unit (s := ⟨3, ![G, B, C]⟩) ![g.val, 0, 0] ![1, B, C] inb).emb x) := by
  have hz : (x 0 : Fin 1).val < 1 := (x 0 : Fin 1).isLt
  refine (congrArg f (eq_ix3 x)).trans ?_
  rw [show x 0 = (0 : Fin 1) from Subsingleton.elim (α := Fin 1) _ _]
  refine (h (x 1) (x 2)).trans (congrArg H (funext fun d => Fin.ext ?_))
  rw [Rect.emb_apply]
  match d with
  | 0 => show g.val = g.val + 1 * (x 0 : Fin 1).val; omega
  | 1 => show (x 1 : Fin B).val = 0 + 1 * (x 1 : Fin B).val; omega
  | 2 => show (x 2 : Fin C).val = 0 + 1 * (x 2 : Fin C).val; omega

/-- The same for a block of columns. -/
theorem strip {B C D : ℕ} (o : ℕ) (inb : ∀ d, (![0, o] : Fin 2 → ℕ) d + (![B, C] : Fin 2 → ℕ) d ≤ (⟨2, ![B, D]⟩ : Shape).size d)
    (f : (⟨2, ![B, C]⟩ : Shape).Idx → EReal) (H : (⟨2, ![B, D]⟩ : Shape).Idx → EReal) (hD : o + C ≤ D)
    (h : ∀ (b : Fin B) (c : Fin C), f (ix2 b c) = H (ix2 b ⟨o + c.val, by omega⟩))
    (x : (⟨2, ![B, C]⟩ : Shape).Idx) : f x = H ((Rect.unit (s := ⟨2, ![B, D]⟩) ![0, o] ![B, C] inb).emb x) := by
  refine (congrArg f (eq_ix2 x)).trans ((h (x 0) (x 1)).trans (congrArg H (funext fun d => Fin.ext ?_)))
  rw [Rect.emb_apply]
  match d with
  | 0 => show (x 0 : Fin B).val = 0 + 1 * (x 0 : Fin B).val; omega
  | 1 => show o + (x 1 : Fin C).val = o + 1 * (x 1 : Fin C).val; omega

/-- The same for one row. -/
theorem line {B C : ℕ} (g : Fin B) (inb : ∀ d, (![g.val, 0] : Fin 2 → ℕ) d + (![1, C] : Fin 2 → ℕ) d ≤ (⟨2, ![B, C]⟩ : Shape).size d)
    (f : (⟨2, ![1, C]⟩ : Shape).Idx → EReal) (H : (⟨2, ![B, C]⟩ : Shape).Idx → EReal) (h : ∀ c : Fin C, f (ix2 0 c) = H (ix2 g c))
    (x : (⟨2, ![1, C]⟩ : Shape).Idx) : f x = H ((Rect.unit (s := ⟨2, ![B, C]⟩) ![g.val, 0] ![1, C] inb).emb x) := by
  have hz : (x 0 : Fin 1).val < 1 := (x 0 : Fin 1).isLt
  refine (congrArg f (eq_ix2 x)).trans ?_
  rw [show x 0 = (0 : Fin 1) from Subsingleton.elim (α := Fin 1) _ _]
  refine (h (x 1)).trans (congrArg H (funext fun d => Fin.ext ?_))
  rw [Rect.emb_apply]
  match d with
  | 0 => show g.val = g.val + 1 * (x 0 : Fin 1).val; omega
  | 1 => show (x 1 : Fin C).val = 0 + 1 * (x 1 : Fin C).val; omega

theorem mixW_next (h : Reads A T i X) (hA : A.Real) (hw : Weights A w wt) (p : FVec Ideal S4x256x256 .f32) (L : List (View.Piece (Elt Ideal) S4x256x256 .f32)) (g : Fin 4) (e f : Fin 256) :
    View.canon (mixWPieces i X w wt p ++ L) (ix3 g e f) = p (ix3 g e f) + mixWPart A T g e f := by
  let H : S4x256x256.Idx → EReal := fun y => p y + mixWPart A T (y 0) (y 1) (y 2)
  refine View.canon_append_of_piecesOf (Val := Elt Ideal) H L (mixWPieces i X w wt p) ?_ (ix3 g e f)
    (View.cover_of_tiledL (mixWPieces i X w wt p) S1x256x256.size (by sl_kernel_rfl) (ix3 g e f))
  exact ⟨slab (G := 4) (B := 256) (C := 256) 3 inb_S4x256x256_S1x256x256_3_0_0 (mixW3 i X w wt p) H fun b c => mixW3_at h hA hw p b c,
    slab (G := 4) (B := 256) (C := 256) 2 inb_S4x256x256_S1x256x256_2_0_0 (mixW2 i X w wt p) H fun b c => mixW2_at h hA hw p b c,
    slab (G := 4) (B := 256) (C := 256) 1 inb_S4x256x256_S1x256x256_1_0_0 (mixW1 i X w wt p) H fun b c => mixW1_at h hA hw p b c,
    slab (G := 4) (B := 256) (C := 256) 0 inb_S4x256x256_S1x256x256_0_0_0 (mixW0 i X w wt p) H fun b c => mixW0_at h hA hw p b c, trivial⟩

theorem gateW_next (h : Reads A T i X) (hA : A.Real) (hw : Weights A w wt) (p : FVec Ideal S8x128x128 .f32) (L : List (View.Piece (Elt Ideal) S8x128x128 .f32)) (g : Fin 8) (a k : Fin 128) :
    View.canon (gateWPieces i X w wt p ++ L) (ix3 g a k) = p (ix3 g a k) + gateWPart A T g a k := by
  let H : S8x128x128.Idx → EReal := fun y => p y + gateWPart A T (y 0) (y 1) (y 2)
  refine View.canon_append_of_piecesOf (Val := Elt Ideal) H L (gateWPieces i X w wt p) ?_ (ix3 g a k)
    (View.cover_of_tiledL (gateWPieces i X w wt p) S1x128x128.size (by sl_kernel_rfl) (ix3 g a k))
  exact ⟨slab (G := 8) (B := 128) (C := 128) 7 inb_S8x128x128_S1x128x128_7_0_0 (gateW7 i X w wt p) H fun b c => gateW7_at h hA hw p b c,
    slab (G := 8) (B := 128) (C := 128) 6 inb_S8x128x128_S1x128x128_6_0_0 (gateW6 i X w wt p) H fun b c => gateW6_at h hA hw p b c,
    slab (G := 8) (B := 128) (C := 128) 5 inb_S8x128x128_S1x128x128_5_0_0 (gateW5 i X w wt p) H fun b c => gateW5_at h hA hw p b c,
    slab (G := 8) (B := 128) (C := 128) 4 inb_S8x128x128_S1x128x128_4_0_0 (gateW4 i X w wt p) H fun b c => gateW4_at h hA hw p b c,
    slab (G := 8) (B := 128) (C := 128) 3 inb_S8x128x128_S1x128x128_3_0_0 (gateW3 i X w wt p) H fun b c => gateW3_at h hA hw p b c,
    slab (G := 8) (B := 128) (C := 128) 2 inb_S8x128x128_S1x128x128_2_0_0 (gateW2 i X w wt p) H fun b c => gateW2_at h hA hw p b c,
    slab (G := 8) (B := 128) (C := 128) 1 inb_S8x128x128_S1x128x128_1_0_0 (gateW1 i X w wt p) H fun b c => gateW1_at h hA hw p b c,
    slab (G := 8) (B := 128) (C := 128) 0 inb_S8x128x128_S1x128x128_0_0_0 (gateW0 i X w wt p) H fun b c => gateW0_at h hA hw p b c, trivial⟩

/-- What one tile adds to the gradient of the memory's keys and values. -/
def kvPart (A : Args) (T : Fin 32) (m : Fin 256) (b : Fin 2048) : EReal :=
  if h : b.val < 1024 then keyPart A T m ⟨b.val, h⟩ else valuePart A T m ⟨b.val - 1024, by omega⟩

theorem kvPart_key (A : Args) (T : Fin 32) (m : Fin 256) (o : ℕ) (c : Fin 256) (ho : o + 256 ≤ 1024) (hb : o + c.val < 2048) :
    kvPart A T m ⟨o + c.val, hb⟩ = keyPart A T m ⟨o + c.val, by omega⟩ := dif_pos _

theorem kvPart_value (A : Args) (T : Fin 32) (m : Fin 256) (o o' : ℕ) (c : Fin 256) (ho : o = 1024 + o') (ho' : o' + 256 ≤ 1024) (hb : o + c.val < 2048) :
    kvPart A T m ⟨o + c.val, hb⟩ = valuePart A T m ⟨o' + c.val, by omega⟩ :=
  (dif_neg (by dsimp only; omega)).trans (congrArg (valuePart A T m) (Fin.ext (by dsimp only; omega)))

theorem keyV_next (h : Reads A T i X) (hA : A.Real) (hw : Weights A w wt) (p : FVec Ideal S256x2048 .f32) (L : List (View.Piece (Elt Ideal) S256x2048 .f32)) (m : Fin 256) (b : Fin 2048) :
    View.canon (keyVPieces i X w wt p ++ L) (ix2 m b) = p (ix2 m b) + kvPart A T m b := by
  let H : S256x2048.Idx → EReal := fun y => p y + kvPart A T (y 0) (y 1)
  refine View.canon_append_of_piecesOf (Val := Elt Ideal) H L (keyVPieces i X w wt p) ?_ (ix2 m b)
    (View.cover_of_tiledL (keyVPieces i X w wt p) S256x256.size (by sl_kernel_rfl) (ix2 m b))
  have key : ∀ o (f : FVec Ideal S256x256 .f32) (ho : o + 256 ≤ 1024), (∀ m c : Fin 256, f (ix2 m c) = p (ix2 m ⟨o + c.val,
    by omega⟩) + keyPart A T m ⟨o + c.val, by omega⟩) →
      ∀ b c : Fin 256, f (ix2 b c) = p (ix2 b ⟨o + c.val, by omega⟩) + kvPart A T b ⟨o + c.val, by omega⟩ := fun o f ho hf b c => by
    rw [hf, kvPart_key A T b o c ho]
  have val : ∀ o o' (f : FVec Ideal S256x256 .f32) (ho : o = 1024 + o') (ho' : o' + 256 ≤ 1024), (∀ m c : Fin 256, f (ix2 m c) = p (ix2 m ⟨o + c.val,
    by omega⟩) + valuePart A T m ⟨o' + c.val, by omega⟩) →
      ∀ b c : Fin 256, f (ix2 b c) = p (ix2 b ⟨o + c.val, by omega⟩) + kvPart A T b ⟨o + c.val, by omega⟩ := fun o o' f ho ho' hf b c => by
    rw [hf, kvPart_value A T b o o' c ho ho']
  exact ⟨strip (B := 256) (C := 256) (D := 2048) 768 inb_S256x2048_S256x256_0_768 (keyV768 i X w wt p) H (by norm_num) (key 768 _ (by norm_num) fun m c => keyV768_at h hA hw p m c), strip (B := 256) (C := 256) (D := 2048) 1792 inb_S256x2048_S256x256_0_1792 (keyV1792 i X w wt p) H (by norm_num) (val 1792 768 _ (by norm_num) (by norm_num) fun m c => keyV1792_at h hA hw p m c), strip (B := 256) (C := 256) (D := 2048) 512 inb_S256x2048_S256x256_0_512 (keyV512 i X w wt p) H (by norm_num) (key 512 _ (by norm_num) fun m c => keyV512_at h hA hw p m c), strip (B := 256) (C := 256) (D := 2048) 1536 inb_S256x2048_S256x256_0_1536 (keyV1536 i X w wt p) H (by norm_num) (val 1536 512 _ (by norm_num) (by norm_num) fun m c => keyV1536_at h hA hw p m c), strip (B := 256) (C := 256) (D := 2048) 256 inb_S256x2048_S256x256_0_256 (keyV256 i X w wt p) H (by norm_num) (key 256 _ (by norm_num) fun m c => keyV256_at h hA hw p m c), strip (B := 256) (C := 256) (D := 2048) 1280 inb_S256x2048_S256x256_0_1280 (keyV1280 i X w wt p) H (by norm_num) (val 1280 256 _ (by norm_num) (by norm_num) fun m c => keyV1280_at h hA hw p m c), strip (B := 256) (C := 256) (D := 2048) 0 inb_S256x2048_S256x256_0_0 (keyV0 i X w wt p) H (by norm_num) (key 0 _ (by norm_num) fun m c => keyV0_at h hA hw p m c), strip (B := 256) (C := 256) (D := 2048) 1024 inb_S256x2048_S256x256_0_1024 (keyV1024 i X w wt p) H (by norm_num) (val 1024 0 _ (by norm_num) (by norm_num) fun m c => keyV1024_at h hA hw p m c), trivial⟩

/-- The reference's three branches of a row, side by side. -/
def branchRef (A : Args) (R : Fin 4096) (b : Fin 3072) : EReal :=
  if h : b.val < 1024 then val_main_v183 (F := Ideal) A.proj A.poolW A.poolS A.gains (ix2 R ⟨b.val, h⟩)
  else if h' : b.val - 1024 < 1024 then val_main_v198 (F := Ideal) A.proj A.lnG A.lnB A.sguW A.sguB A.gains (ix2 R ⟨b.val - 1024, h'⟩)
  else val_main_v213 (F := Ideal) A.proj A.kv A.gains (ix2 R ⟨b.val - 1024 - 1024, by omega⟩)

theorem branchRef_a (A : Args) (R : Fin 4096) (c : Fin 1024) (hb : 0 + c.val < 3072) : branchRef A R ⟨0 + c.val,
    hb⟩ = val_main_v183 (F := Ideal) A.proj A.poolW A.poolS A.gains (ix2 R c) :=
  (dif_pos (by dsimp only; omega)).trans (congrArg (fun z => val_main_v183 (F := Ideal) A.proj A.poolW A.poolS A.gains (ix2 R z)) (Fin.ext (by dsimp only; omega)))
theorem branchRef_b (A : Args) (R : Fin 4096) (c : Fin 1024) (hb : 1024 + c.val < 3072) : branchRef A R ⟨1024 + c.val,
    hb⟩ = val_main_v198 (F := Ideal) A.proj A.lnG A.lnB A.sguW A.sguB A.gains (ix2 R c) := by
  unfold branchRef
  rw [dif_neg (by dsimp only; omega), dif_pos (by dsimp only; omega)]
  exact congrArg (fun z => val_main_v198 (F := Ideal) A.proj A.lnG A.lnB A.sguW A.sguB A.gains (ix2 R z)) (Fin.ext (by dsimp only; omega))
theorem branchRef_c (A : Args) (R : Fin 4096) (c : Fin 1024) (hb : 2048 + c.val < 3072) : branchRef A R ⟨2048 + c.val,
    hb⟩ = val_main_v213 (F := Ideal) A.proj A.kv A.gains (ix2 R c) := by
  unfold branchRef
  rw [dif_neg (by dsimp only; omega), dif_neg (by dsimp only; omega)]
  exact congrArg (fun z => val_main_v213 (F := Ideal) A.proj A.kv A.gains (ix2 R z)) (Fin.ext (by dsimp only; omega))

theorem branches_ref (R : Fin 4096) (b : Fin 3072) : val_main_v483 (F := Ideal) A.proj A.kv A.poolW A.poolS A.lnG A.lnB A.sguW A.sguB A.gains (ix2 R b) = branchRef A R b := by
  unfold branchRef
  pointwise [val_main_v483, val_main_v214]

theorem branches_at (h : Reads A T i X) (hA : A.Real) (a : Fin 128) (b : Fin 3072) : branches i X (ix2 a b) = val_main_v483 (F := Ideal) A.proj A.kv A.poolW A.poolS A.lnG A.lnB A.sguW A.sguB A.gains (ix2 (row T a) b) := by
  rw [branches_ref]
  let H : S128x3072.Idx → EReal := fun y => branchRef A (row T (y 0)) (y 1)
  unfold branches
  refine View.canon_append_of_piecesOf (Val := Elt Ideal) (e := .bf16) (s := S128x3072) H [] [_, _,
    _] ?_ (ix2 a b) (View.cover_of_tiledL (s := S128x3072) _ S128x1024.size (by sl_kernel_rfl) (ix2 a b))
  refine ⟨strip (B := 128) (C := 1024) (D := 3072) 2048 inb_S128x3072_S128x1024_0_2048 (k0_pay101 (yC X)) H (by norm_num) fun a c => ?_,
    strip (B := 128) (C := 1024) (D := 3072) 1024 inb_S128x3072_S128x1024_0_1024 (k0_pay100 (yB X)) H (by norm_num) fun a c => ?_,
    strip (B := 128) (C := 1024) (D := 3072) 0 inb_S128x3072_S128x1024_0_0 (yA16 i X) H (by norm_num) fun a c => ?_, trivial⟩
  · refine Eq.trans ?_ (branchRef_c A (row T a) c _).symm
    rw [← yC_at h]
    pointwise [k0_pay101]
  · refine Eq.trans ?_ (branchRef_b A (row T a) c _).symm
    rw [← yB_at h]
    pointwise [k0_pay100]
  · refine Eq.trans ?_ (branchRef_a A (row T a) c _).symm
    rw [← yA_at h hA]
    unfold yA16
    pointwise [k0_pay99]

end Tile

end Cert.KernelIdeal.Mix

end

end
-- ==== Proof.MixLast.lean ====
/- What the last grid point of the mixing kernel stores: the gate gradients cut to their lower triangle and the bias gradients. -/
module

public import proofs.«01_k».proof.Proof.MixOut
public import proofs.«01_k».proof.Proof.MixStack
public import proofs.«01_k».proof.Proof.NormGrad
public import proofs.«01_k».proof.Proof.Gen.ReferenceIdeal.Read
import Idealize.ShloMosaic.Lib.Pointwise
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

theorem diag : ∀ a k : Fin 128, IntOp.cmpi .sge (BitVec.ofNat 32 a.val) (BitVec.ofNat 32 k.val) = if k.val ≤ a.val then 1#1 else 0#1 := by
  decide +kernel

/-- What a gate gradient's slab leaves once the part above the diagonal is cut off. -/
def keep (a k : Fin 128) (v : EReal) : EReal := if k.val ≤ a.val then v else 0

theorem keep_select (a k : Fin 128) (v z : EReal) (hz : z = 0) :
    Scalar.select (IntOp.cmpi .sge (BitVec.ofNat 32 a.val) (BitVec.ofNat 32 k.val)) v z = keep a k v := by
  rw [diag, keep, hz]; split <;> rfl

theorem gateM0_at (h : Reads A T i X) (hA : A.Real) (hw : Weights A w wt) (p : FVec Ideal S8x128x128 .f32) (a k : Fin 128) :
    gateM0 i X w wt p (ix3 0 a k) = keep a k (p (ix3 0 a k) + gateWPart A T 0 a k) := by
  unfold gateM0
  pointwise [k0_pay14, k0_pay13]
  rw [keep_select a k _ _ (by simp [Ideal.ofBits, Ideal.ieee]), gateW0_at h hA hw]

theorem gateM1_at (h : Reads A T i X) (hA : A.Real) (hw : Weights A w wt) (p : FVec Ideal S8x128x128 .f32) (a k : Fin 128) :
    gateM1 i X w wt p (ix3 0 a k) = keep a k (p (ix3 1 a k) + gateWPart A T 1 a k) := by
  unfold gateM1
  pointwise [k0_pay16, k0_pay13]
  rw [keep_select a k _ _ (by simp [Ideal.ofBits, Ideal.ieee]), gateW1_at h hA hw]

theorem gateM2_at (h : Reads A T i X) (hA : A.Real) (hw : Weights A w wt) (p : FVec Ideal S8x128x128 .f32) (a k : Fin 128) :
    gateM2 i X w wt p (ix3 0 a k) = keep a k (p (ix3 2 a k) + gateWPart A T 2 a k) := by
  unfold gateM2
  pointwise [k0_pay19, k0_pay18, k0_pay13]
  rw [keep_select a k _ _ (by simp [Ideal.ofBits, Ideal.ieee]), gateW2_at h hA hw]

theorem gateM3_at (h : Reads A T i X) (hA : A.Real) (hw : Weights A w wt) (p : FVec Ideal S8x128x128 .f32) (a k : Fin 128) :
    gateM3 i X w wt p (ix3 0 a k) = keep a k (p (ix3 3 a k) + gateWPart A T 3 a k) := by
  unfold gateM3
  pointwise [k0_pay21, k0_pay13]
  rw [keep_select a k _ _ (by simp [Ideal.ofBits, Ideal.ieee]), gateW3_at h hA hw]

theorem gateM4_at (h : Reads A T i X) (hA : A.Real) (hw : Weights A w wt) (p : FVec Ideal S8x128x128 .f32) (a k : Fin 128) :
    gateM4 i X w wt p (ix3 0 a k) = keep a k (p (ix3 4 a k) + gateWPart A T 4 a k) := by
  unfold gateM4
  pointwise [k0_pay24, k0_pay23, k0_pay13]
  rw [keep_select a k _ _ (by simp [Ideal.ofBits, Ideal.ieee]), gateW4_at h hA hw]

theorem gateM5_at (h : Reads A T i X) (hA : A.Real) (hw : Weights A w wt) (p : FVec Ideal S8x128x128 .f32) (a k : Fin 128) :
    gateM5 i X w wt p (ix3 0 a k) = keep a k (p (ix3 5 a k) + gateWPart A T 5 a k) := by
  unfold gateM5
  pointwise [k0_pay26, k0_pay13]
  rw [keep_select a k _ _ (by simp [Ideal.ofBits, Ideal.ieee]), gateW5_at h hA hw]

theorem gateM6_at (h : Reads A T i X) (hA : A.Real) (hw : Weights A w wt) (p : FVec Ideal S8x128x128 .f32) (a k : Fin 128) :
    gateM6 i X w wt p (ix3 0 a k) = keep a k (p (ix3 6 a k) + gateWPart A T 6 a k) := by
  unfold gateM6
  pointwise [k0_pay28, k0_pay13]
  rw [keep_select a k _ _ (by simp [Ideal.ofBits, Ideal.ieee]), gateW6_at h hA hw]

theorem gateM7_at (h : Reads A T i X) (hA : A.Real) (hw : Weights A w wt) (p : FVec Ideal S8x128x128 .f32) (a k : Fin 128) :
    gateM7 i X w wt p (ix3 0 a k) = keep a k (p (ix3 7 a k) + gateWPart A T 7 a k) := by
  unfold gateM7
  pointwise [k0_pay2, k0_pay13]
  rw [keep_select a k _ _ (by simp [Ideal.ofBits, Ideal.ieee]), gateW7_at h hA hw]

theorem gateM_at (h : Reads A T i X) (hA : A.Real) (hw : Weights A w wt) (p : FVec Ideal S8x128x128 .f32) (L : List (View.Piece (Elt Ideal) S8x128x128 .f32)) (g : Fin 8) (a k : Fin 128) :
    View.canon (gateMPieces i X w wt p ++ L) (ix3 g a k) = keep a k (p (ix3 g a k) + gateWPart A T g a k) := by
  let H : S8x128x128.Idx → EReal := fun y => keep (y 1) (y 2) (p y + gateWPart A T (y 0) (y 1) (y 2))
  refine View.canon_append_of_piecesOf (Val := Elt Ideal) H L (gateMPieces i X w wt p) ?_ (ix3 g a k)
    (View.cover_of_tiledL (gateMPieces i X w wt p) S1x128x128.size (by sl_kernel_rfl) (ix3 g a k))
  exact ⟨slab (G := 8) (B := 128) (C := 128) 7 inb_S8x128x128_S1x128x128_7_0_0 (gateM7 i X w wt p) H fun b c => gateM7_at h hA hw p b c,
    slab (G := 8) (B := 128) (C := 128) 6 inb_S8x128x128_S1x128x128_6_0_0 (gateM6 i X w wt p) H fun b c => gateM6_at h hA hw p b c,
    slab (G := 8) (B := 128) (C := 128) 5 inb_S8x128x128_S1x128x128_5_0_0 (gateM5 i X w wt p) H fun b c => gateM5_at h hA hw p b c,
    slab (G := 8) (B := 128) (C := 128) 4 inb_S8x128x128_S1x128x128_4_0_0 (gateM4 i X w wt p) H fun b c => gateM4_at h hA hw p b c,
    slab (G := 8) (B := 128) (C := 128) 3 inb_S8x128x128_S1x128x128_3_0_0 (gateM3 i X w wt p) H fun b c => gateM3_at h hA hw p b c,
    slab (G := 8) (B := 128) (C := 128) 2 inb_S8x128x128_S1x128x128_2_0_0 (gateM2 i X w wt p) H fun b c => gateM2_at h hA hw p b c,
    slab (G := 8) (B := 128) (C := 128) 1 inb_S8x128x128_S1x128x128_1_0_0 (gateM1 i X w wt p) H fun b c => gateM1_at h hA hw p b c,
    slab (G := 8) (B := 128) (C := 128) 0 inb_S8x128x128_S1x128x128_0_0_0 (gateM0 i X w wt p) H fun b c => gateM0_at h hA hw p b c, trivial⟩

theorem bias0_at (q : FVec Ideal S128x1024 .f32) (a : Fin 128) : bias0 q (ix2 0 a) = ∑ c : Fin 128, q (ix2 a ⟨0 + c.val, by omega⟩) := by
  pointwise [bias0, k0_pay15]

theorem bias1_at (q : FVec Ideal S128x1024 .f32) (a : Fin 128) : bias1 q (ix2 0 a) = ∑ c : Fin 128, q (ix2 a ⟨128 + c.val, by omega⟩) := by
  pointwise [bias1, k0_pay17]

theorem bias2_at (q : FVec Ideal S128x1024 .f32) (a : Fin 128) : bias2 q (ix2 0 a) = ∑ c : Fin 128, q (ix2 a ⟨256 + c.val, by omega⟩) := by
  pointwise [bias2, k0_pay20]

theorem bias3_at (q : FVec Ideal S128x1024 .f32) (a : Fin 128) : bias3 q (ix2 0 a) = ∑ c : Fin 128, q (ix2 a ⟨384 + c.val, by omega⟩) := by
  pointwise [bias3, k0_pay22]

theorem bias4_at (q : FVec Ideal S128x1024 .f32) (a : Fin 128) : bias4 q (ix2 0 a) = ∑ c : Fin 128, q (ix2 a ⟨512 + c.val, by omega⟩) := by
  pointwise [bias4, k0_pay25]

theorem bias5_at (q : FVec Ideal S128x1024 .f32) (a : Fin 128) : bias5 q (ix2 0 a) = ∑ c : Fin 128, q (ix2 a ⟨640 + c.val, by omega⟩) := by
  pointwise [bias5, k0_pay27]

theorem bias6_at (q : FVec Ideal S128x1024 .f32) (a : Fin 128) : bias6 q (ix2 0 a) = ∑ c : Fin 128, q (ix2 a ⟨768 + c.val, by omega⟩) := by
  pointwise [bias6, k0_pay1, k0_pay29]

theorem bias7_at (q : FVec Ideal S128x1024 .f32) (a : Fin 128) : bias7 q (ix2 0 a) = ∑ c : Fin 128, q (ix2 a ⟨896 + c.val, by omega⟩) := by
  pointwise [bias7, k0_pay3]

theorem bias_at (q : FVec Ideal S128x1024 .f32) (g : Fin 8) (a : Fin 128) :
    View.canon (biasPieces q) (ix2 g a) = ∑ c : Fin 128, q (ix2 a ⟨128 * g.val + c.val, by omega⟩) := by
  let H : S8x128.Idx → EReal := fun y => ∑ c : Fin 128, q (ix2 (y 1) ⟨128 * (y 0 : Fin 8).val + c.val,
    by have h8 : (y 0 : Fin 8).val < 8 := (y 0 : Fin 8).isLt; omega⟩)
  refine View.canon_append_of_piecesOf (Val := Elt Ideal) H [] (biasPieces q) ?_ (ix2 g a)
    (View.cover_of_tiledL (biasPieces q) S1x128.size (by sl_kernel_rfl) (ix2 g a)) |> Eq.trans (congrArg (fun L => View.canon L (ix2 g a)) (List.append_nil _).symm)
  exact ⟨line (B := 8) (C := 128) 7 inb_S8x128_S1x128_7_0 (bias7 q) H fun a => bias7_at q a,
    line (B := 8) (C := 128) 6 inb_S8x128_S1x128_6_0 (bias6 q) H fun a => bias6_at q a,
    line (B := 8) (C := 128) 5 inb_S8x128_S1x128_5_0 (bias5 q) H fun a => bias5_at q a,
    line (B := 8) (C := 128) 4 inb_S8x128_S1x128_4_0 (bias4 q) H fun a => bias4_at q a,
    line (B := 8) (C := 128) 3 inb_S8x128_S1x128_3_0 (bias3 q) H fun a => bias3_at q a,
    line (B := 8) (C := 128) 2 inb_S8x128_S1x128_2_0 (bias2 q) H fun a => bias2_at q a,
    line (B := 8) (C := 128) 1 inb_S8x128_S1x128_1_0 (bias1 q) H fun a => bias1_at q a,
    line (B := 8) (C := 128) 0 inb_S8x128_S1x128_0_0 (bias0 q) H fun a => bias0_at q a, trivial⟩

end Tile

end Cert.KernelIdeal.Mix

end

end
-- ==== Proof.MixTotal.lean ====
/- The sums over the sequence that the reference takes, cut into the tiles the kernel adds up. -/
module

public import proofs.«01_k».proof.Proof.MixStack
public import proofs.«01_k».proof.Proof.MixLast
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read Tile

/-- The tile of grid point `n`. -/
def tileOf (n : ℕ) : Fin 32 := ⟨31 - n, by omega⟩

/-- The sum over the tiles of the first `n + 1` grid points. -/
def tot (f : Fin 32 → EReal) : ℕ → EReal
  | 0 => f (tileOf 0)
  | n + 1 => tot f n + f (tileOf (n + 1))

theorem tot_range (f : Fin 32 → EReal) (n : ℕ) : tot f n = ∑ k ∈ Finset.range (n + 1), f (tileOf k) := by
  induction n with
  | zero => rw [zero_add, Finset.sum_range_one]; rfl
  | succ n ih => rw [Finset.sum_range_succ, ← ih]; rfl

/-- After the last grid point every tile has been added. -/
theorem tot_all (f : Fin 32 → EReal) : tot f 31 = ∑ T, f T := by
  rw [tot_range, Finset.sum_range]
  exact Fintype.sum_equiv Fin.revPerm _ _ fun k => congrArg f (Fin.ext (by simp [tileOf, Fin.rev]))

/-- Adding up rows tile by tile is adding up all rows. -/
theorem sum_tiles (f : Fin 4096 → EReal) : (∑ T : Fin 32, ∑ a : Fin 128, f (row T a)) = ∑ R : Fin 4096, f R := by
  rw [← Fintype.sum_prod_type']
  refine Fintype.sum_equiv (finProdFinEquiv (m := 32) (n := 128)) _ _ fun p => congrArg f (Fin.ext ?_)
  simp only [row, finProdFinEquiv_apply_val]; omega

variable {A : Args}

theorem half : Ideal.ofBits .f32 1056964608#32 = ((1 / 2 : ℝ) : EReal) := by
  simp [Ideal.ofBits, Ideal.ieee, -EReal.coe_mul]; norm_num

theorem half_sum (f : Fin 32 → EReal) (s : Finset (Fin 32)) : (∑ T ∈ s, ((1 / 2 : ℝ) : EReal) * f T) = ((1 / 2 : ℝ) : EReal) * ∑ T ∈ s, f T := by
  induction s using Finset.induction_on with
  | empty => simp
  | insert a s h ih => rw [Finset.sum_insert h, Finset.sum_insert h, ih,
    EReal.left_distrib_of_nonneg_of_ne_top (by exact_mod_cast (by norm_num : (0:ℝ) ≤ 1/2)) (EReal.coe_ne_top _)]

theorem loss_ref (b : Fin 128) : val_main_v486 (F := Ideal) A.x A.target A.proj A.kv A.poolW A.poolS A.lnG A.lnB A.sguW A.sguB A.gains A.wOut A.post (ix2 0 b) = tot (fun T => lossPart A T) 31 := by
  rw [tot_all]
  simp only [lossPart]
  rw [half, half_sum, sum_tiles (fun R => val_main_v238 (F := Ideal) A.x A.target A.proj A.kv A.poolW A.poolS A.lnG A.lnB A.sguW A.sguB A.gains A.wOut A.post (ix1 R))]
  pointwise! [val_main_v486, val_main_v240, val_main_cst_50, val_main_v239, val_main_cst_49]
  rw [← half]; try rfl

theorem post_ref (b : Fin 2048) : val_main_v249 (F := Ideal) A.x A.target A.proj A.kv A.poolW A.poolS A.lnG A.lnB A.sguW A.sguB A.gains A.wOut A.post (ix2 0 b) = tot (fun T => postPart A T b) 31 := by
  rw [tot_all]
  simp only [postPart]
  rw [sum_tiles (fun R => val_main_v247 (F := Ideal) A.x A.target A.proj A.kv A.poolW A.poolS A.lnG A.lnB A.sguW A.sguB A.gains A.wOut A.post (ix2 R b))]
  pointwise! [val_main_v249, val_main_v248, val_main_cst_54]

theorem gains_ref (b : Fin 3072) : val_main_v327 (F := Ideal) A.x A.target A.proj A.kv A.poolW A.poolS A.lnG A.lnB A.sguW A.sguB A.gains A.wOut A.post (ix2 0 b) = tot (fun T => gainsPart A T b) 31 := by
  rw [tot_all]
  simp only [gainsPart]
  split
  · rename_i h
    rw [sum_tiles (fun R => val_main_v308 (F := Ideal) A.x A.target A.proj A.kv A.poolW A.poolS A.lnG A.lnB A.sguW A.sguB A.gains A.wOut A.post (ix2 R ⟨b.val, h⟩))]
    pointwise! [val_main_v327, val_main_v310, val_main_v309, val_main_cst_66, val_main_v291, val_main_v290, val_main_cst_62, val_main_v272,
    val_main_v271, val_main_cst_58]
    rw [dif_pos (by omega)]
  · rename_i h
    split
    · rename_i h'
      rw [sum_tiles (fun R => val_main_v289 (F := Ideal) A.x A.target A.proj A.kv A.poolW A.poolS A.lnG A.lnB A.sguW A.sguB A.gains A.wOut A.post (ix2 R ⟨b.val - 1024, h'⟩))]
      pointwise! [val_main_v327, val_main_v310, val_main_v309, val_main_cst_66, val_main_v291, val_main_v290, val_main_cst_62, val_main_v272,
    val_main_v271, val_main_cst_58]
      rw [dif_neg (by omega), dif_pos (by omega)]
    · rename_i h'
      rw [sum_tiles (fun R => val_main_v270 (F := Ideal) A.x A.target A.proj A.kv A.poolW A.poolS A.lnG A.lnB A.sguW A.sguB A.gains A.wOut A.post (ix2 R ⟨b.val - 1024 - 1024, by omega⟩))]
      pointwise! [val_main_v327, val_main_v310, val_main_v309, val_main_cst_66, val_main_v291, val_main_v290, val_main_cst_62, val_main_v272,
    val_main_v271, val_main_cst_58]
      rw [dif_neg (by omega), dif_neg (by omega)]

theorem scale_ref (b : Fin 1024) : val_main_v407 (F := Ideal) A.x A.target A.proj A.kv A.poolW A.poolS A.lnG A.lnB A.sguW A.sguB A.gains A.wOut A.post (ix2 0 b) = tot (fun T => scalePart A T b) 31 := by
  rw [tot_all]
  simp only [scalePart]
  rw [sum_tiles (fun R => val_main_v405 (F := Ideal) A.x A.target A.proj A.kv A.poolW A.poolS A.lnG A.lnB A.sguW A.sguB A.gains A.wOut A.post (ix2 R b))]
  pointwise! [val_main_v407, val_main_v406, val_main_cst_83]

theorem lnG_ref (b : Fin 1024) : val_main_v377 (F := Ideal) A.x A.target A.proj A.kv A.poolW A.poolS A.lnG A.lnB A.sguW A.sguB A.gains A.wOut A.post (ix2 0 b) = tot (fun T => lnGPart A T b) 31 := by
  rw [tot_all]
  simp only [lnGPart]
  rw [sum_tiles (fun R => val_main_v375 (F := Ideal) A.x A.target A.proj A.kv A.poolW A.poolS A.lnG A.lnB A.sguW A.sguB A.gains A.wOut A.post (ix2 R b))]
  pointwise! [val_main_v377, val_main_v376, val_main_cst_76]

theorem lnB_ref (b : Fin 1024) : val_main_v374 (F := Ideal) A.x A.target A.proj A.kv A.poolW A.poolS A.lnG A.lnB A.sguW A.sguB A.gains A.wOut A.post (ix2 0 b) = tot (fun T => lnBPart A T b) 31 := by
  rw [tot_all]
  simp only [lnBPart]
  rw [sum_tiles (fun R => val_main_v372 (F := Ideal) A.x A.target A.proj A.kv A.poolW A.poolS A.lnG A.lnB A.sguW A.sguB A.gains A.wOut A.post (ix2 R b))]
  pointwise! [val_main_v374, val_main_v373, val_main_cst_75]

theorem pool_ref (g : Fin 4) (e f : Fin 256) : val_main_v415 (F := Ideal) A.x A.target A.proj A.kv A.poolW A.poolS A.lnG A.lnB A.sguW A.sguB A.gains A.wOut A.post (ix3 g e f) = tot (fun T => mixWPart A T g e f) 31 := by
  rw [tot_all]
  simp only [mixWPart]
  rw [sum_tiles (fun R => val_main_v411 (F := Ideal) A.x A.target A.proj A.kv A.poolW A.poolS A.lnG A.lnB A.sguW A.sguB A.gains A.wOut A.post (ix3 g f R) * val_main_v80 (F := Ideal) A.proj (ix3 R g e))]
  pointwise! [val_main_v415, val_main_v414]

theorem gates_ref (g : Fin 8) (a k : Fin 128) : val_main_v371 (F := Ideal) A.x A.target A.proj A.kv A.poolW A.poolS A.lnG A.lnB A.sguW A.sguB A.gains A.wOut A.post (ix3 g a k) = keep a k (tot (fun T => gateWPart A T g a k) 31) := by
  rw [tot_all]
  simp only [gateWPart]
  pointwise! [val_main_v371, val_main_v116_1, val_main_v114, val_main_v113, val_main_call2_v4, val_main_call2_v2, val_main_call2_v0,
    val_main_call2_v1, val_main_call2_c, val_main_call2_v3, val_main_v112, val_main_c, val_main_call2_v5, val_main_call2_c_0, val_main_v368,
    val_main_v367, val_main_v362, val_main_v111, val_main_call8_v0, val_main_call8_cst]
  rw [causal a.val a k rfl, keep]
  simp only [show ∀ (x : Fin 32) (a : Fin 128), (⟨x.val * 128 + a.val, by omega⟩ : Fin 4096) = row x a from
    fun x a => Fin.ext (by simp only [row]; omega)]
  split <;> rfl

/-- Summing away the first and the last axis of a rank-4 array: the indices a sum runs over. -/
theorem outer_fiber {n0 n1 n2 n3 : ℕ} (h : (⟨4, ![n0, n1, n2, n3]⟩ : Shape).ReducesTo [0, 3] ⟨2, ![n1, n2]⟩) (a : Fin n1) (g : Fin n2)
    (i : (⟨4, ![n0, n1, n2, n3]⟩ : Shape).Idx) : h.drop i = ix2 a g ↔ ∃ k : Fin n3 × Fin n0, ix4 k.2 a g k.1 = i := by
  constructor
  · intro e
    refine ⟨(i 3, i 0), ?_⟩
    funext b; apply Fin.ext
    match b with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

theorem outer_sum {n0 n1 n2 n3 : ℕ} (h : (⟨4, ![n0, n1, n2, n3]⟩ : Shape).ReducesTo [0, 3] ⟨2, ![n1, n2]⟩) (f : (⟨4, ![n0, n1, n2,
    n3]⟩ : Shape).Idx → EReal)
    (a : Fin n1) (g : Fin n2) : Ideal.hostReduceAdd h f 0 (ix2 a g) = ∑ k : Fin n3, ∑ T : Fin n0, f (ix4 T a g k) := by
  have e : (∑ i ∈ Finset.univ.filter (fun i => h.drop i = ix2 a g), f i) = ∑ k : Fin n3, ∑ T : Fin n0, f (ix4 T a g k) := by
    refine (Finset.sum_filter_eq_sum_of_fiber _ (fun k : Fin n3 × Fin n0 => ix4 k.2 a g k.1)
      (fun _ _ e => Prod.ext (congrFun e 3) (congrFun e 0)) (outer_fiber h a g) f).trans ?_
    simp only [Fintype.sum_prod_type]
  exact (congrArg (0 + ·) e).trans (zero_add _)

theorem bias_ref (g : Fin 8) (a : Fin 128) : val_main_v366 (F := Ideal) A.x A.target A.proj A.kv A.poolW A.poolS A.lnG A.lnB A.sguW A.sguB A.gains A.wOut A.post (ix2 g a) = ∑ k : Fin 128, tot (fun T => val_main_v360 (F := Ideal) A.x A.target A.proj A.kv A.poolW A.poolS A.lnG A.lnB A.sguW A.sguB A.gains A.wOut A.post (ix2 (row T a) ⟨128 * g.val + k.val, by omega⟩)) 31 := by
  simp only [tot_all]
  pointwise! [val_main_v366, val_main_v365, val_main_v364, val_main_cst_74]
  refine (outer_sum (n0 := 1) (n1 := 128) (n2 := 8) (n3 := 1) _ _ a g).trans ?_
  rw [Fin.sum_univ_one, Fin.sum_univ_one]
  pointwise! [val_main_v363, val_main_cst_73]
  refine (outer_sum (n0 := 32) (n1 := 128) (n2 := 8) (n3 := 128) _ _ a g).trans ?_
  refine Finset.sum_congr rfl fun k _ => Finset.sum_congr rfl fun T _ => ?_
  pointwise! [val_main_v362]
  exact congrArg _ (congrArg₂ ix2 (Fin.ext (by simp only [row]; omega)) (Fin.ext (by dsimp only; omega)))

theorem mem_ref (m : Fin 256) (b : Fin 2048) : val_main_v481 (F := Ideal) A.x A.target A.proj A.kv A.poolW A.poolS A.lnG A.lnB A.sguW A.sguB A.gains A.wOut A.post (ix2 m b) = tot (fun T => kvPart A T m b) 31 := by
  rw [tot_all]
  simp only [kvPart]
  split
  · rename_i h
    simp only [keyPart]
    rw [sum_tiles (fun R => val_main_v349 (F := Ideal) A.x A.target A.proj A.kv A.poolW A.poolS A.lnG A.lnB A.sguW A.sguB A.gains A.wOut A.post (ix3 ⟨b.val / 256, by omega⟩ R m) * val_main_v7 (F := Ideal) A.proj (ix2 R ⟨b.val, h⟩))]
    refine Eq.trans ?_ (dk_ref m ⟨b.val, h⟩)
    pointwise! [val_main_v481]
    rw [dif_pos (by omega)]
  · rename_i h
    simp only [valuePart]
    rw [sum_tiles (fun R => val_main_v157 (F := Ideal) A.proj A.kv (ix3 ⟨(b.val - 1024) / 256,
    by omega⟩ R m) * val_main_v329 (F := Ideal) A.x A.target A.proj A.kv A.poolW A.poolS A.lnG A.lnB A.sguW A.sguB A.gains A.wOut A.post (ix2 R ⟨b.val - 1024, by omega⟩))]
    refine Eq.trans ?_ (dv_ref m ⟨b.val - 1024, by omega⟩)
    pointwise! [val_main_v481]
    rw [dif_neg (by omega)]

end Cert.KernelIdeal.Mix

end

end
-- ==== Proof.MixProj.lean ====
/- The gradient of the projected rows of one tile of the mixing kernel. -/
module

public import proofs.«01_k».proof.Proof.MixOut
public import proofs.«01_k».proof.Proof.MixStack
public import proofs.«01_k».proof.Proof.NormGrad
public import proofs.«01_k».proof.Proof.Gen.ReferenceIdeal.Read
import Idealize.ShloMosaic.Lib.Pointwise
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read

namespace Tile

variable {A : Args} {T : Fin 32} {i : grid0.Coords} {X : Ins Ideal}

variable {w : FVec Ideal S3072x2048 .bf16} {wt : FVec Ideal S2048x3072 .bf16}

/-- The gradient of the tile's queries, the four heads side by side. -/
def dqAll (i : grid0.Coords) (X : Ins Ideal) (w : FVec Ideal S3072x2048 .bf16) (wt : FVec Ideal S2048x3072 .bf16) : FVec Ideal S128x1024 .f32 :=
  concatenate S128x1024 1 [⟨S128x256, dq0 i X w wt⟩, ⟨S128x256, dq1 i X w wt⟩, ⟨S128x256, dq2 i X w wt⟩,
    ⟨S128x256, matmul (φ₂ := .bf16) dot_S128x256_S256x256_S128x256_1_0_0_1_n_n none (ds3 i X w wt) (View.ld (Val := Elt Ideal) (e' := .bf16) X.i4 (Rect.unit (s := S256x2048) ![0, 768] S256x256.size inb_S256x2048_S256x256_0_768)) (constant S128x256 .f32 0x00000000#32)⟩]
    concatenates_S128x256_S128x256_S128x256_S128x256_S128x1024_d1

theorem dproj_parts (i : grid0.Coords) (X : Ins Ideal) (w : FVec Ideal S3072x2048 .bf16) (wt : FVec Ideal S2048x3072 .bf16) (s : FVec Ideal S16x1024 .f32) :
    dproj i X w wt s = truncf .bf16 (concatenate S128x7168 1 [⟨S128x1024, dpool i X w wt s⟩, ⟨S128x1024, dga i X w wt⟩, ⟨S128x1024, duu i X w wt⟩,
    ⟨S128x1024, dvv i X w wt⟩,
      ⟨S128x1024, dgb i X w wt⟩, ⟨S128x1024, dqAll i X w wt⟩, ⟨S128x1024,
    dgc i X w wt⟩] concatenates_S128x1024_S128x1024_S128x1024_S128x1024_S128x1024_S128x1024_S128x1024_S128x7168_d1) bitsLt_bf16_f32 := rfl

theorem dq3_at (h : Reads A T i X) (hA : A.Real) (hw : Weights A w wt) (a : Fin 128) (b : Fin 256) :
    ∑ m, ds3 i X w wt (ix2 a m) * X.i4 (ix2 m ⟨768 + b.val,
    by omega⟩) = val_main_v356 (F := Ideal) A.x A.target A.proj A.kv A.poolW A.poolS A.lnG A.lnB A.sguW A.sguB A.gains A.wOut A.post (ix2 (row T a) ⟨(3 : Fin 4).val * 256 + b.val, by omega⟩) :=
  dq_head h (row T a) 3 b (fun m => ds3 i X w wt (ix2 a m)) (fun m => ds3_at h hA hw a m) ⟨768 + b.val, by omega⟩ rfl

theorem dqAll_at (h : Reads A T i X) (hA : A.Real) (hw : Weights A w wt) (a : Fin 128) (b : Fin 1024) :
    dqAll i X w wt (ix2 a b) = val_main_v356 (F := Ideal) A.x A.target A.proj A.kv A.poolW A.poolS A.lnG A.lnB A.sguW A.sguB A.gains A.wOut A.post (ix2 (row T a) b) := by
  obtain ⟨n, c, rfl⟩ : ∃ (n : Fin 4) (c : Fin 256), b = ⟨n.val * 256 + c.val, by omega⟩ := ⟨⟨b.val / 256, by omega⟩, ⟨b.val % 256, by omega⟩,
    Fin.ext (by dsimp only; omega)⟩
  unfold dqAll
  match n with
  | 0 => rw [← dq0_at h hA hw]; pointwise []
  | 1 => rw [← dq1_at h hA hw]; pointwise []
  | 2 =>
    rw [← dq2_at h hA hw]
    pointwise []
    rw [dif_neg (by omega), dif_neg (by omega), dif_pos (by omega)]
    exact congrArg (fun x => dq2 i X w wt (ix2 a x)) (Fin.ext (by dsimp only; omega))
  | 3 =>
    rw [← dq3_at h hA hw]
    pointwise []
    rw [dif_neg (by omega), dif_neg (by omega), dif_neg (by omega)]
    exact Finset.sum_congr rfl fun m _ => congrArg (fun x => ds3 i X w wt (ix2 a m) * X.i4 (ix2 m x)) (Fin.ext (by dsimp only; omega))

theorem dproj_at (h : Reads A T i X) (hA : A.Real) (hw : Weights A w wt) {s : FVec Ideal S16x1024 .f32} (hs : Carry A (128 * T.val + 128) s) (a : Fin 128) (b : Fin 7168) :
    dproj i X w wt s (ix2 a b) = val_main_v485 (F := Ideal) A.x A.target A.proj A.kv A.poolW A.poolS A.lnG A.lnB A.sguW A.sguB A.gains A.wOut A.post (ix2 (row T a) b) := by
  rw [dproj_parts]
  pointwise [val_main_v485, val_main_v482]
  simp only [dpool_at h hA hw hs, dga_at h hA hw, duu_at h hA hw, dvv_at h hA hw, dgb_at h hA hw, dqAll_at h hA hw, dgc_at h hA hw]

end Tile

end Cert.KernelIdeal.Mix

end

end
-- ==== Proof.MixReadA.lean ====
/- What the first step of the mixing kernel leaves in each array. -/
module

public import proofs.«01_k».proof.Proof.MixStep
public import proofs.«01_k».proof.Proof.MixNext
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Tile

variable (c : Dev nD) (i : grid0.Coords) (M : Mems) (X : Ins Ideal) (S : State Ideal c)
  (w0 : HbBuf0 (F := Ideal) c hbM0_0) (w1 : HbBuf0 (F := Ideal) c hbM0_1)

theorem A_o16 (hc0 : cond0_0 i) (hc1 : cond0_1 i) (hc2 : cond0_2 i) (hc3 : ¬cond0_3 i) : (runA c i M hc0 hc1 hc2 hc3 X S w0 w1).1.state.o16 = branches i X := by
  unfold Pieces.state runA
  dsimp only
  frame_out
  rfl

theorem A_o17 (hc0 : cond0_0 i) (hc1 : cond0_1 i) (hc2 : cond0_2 i) (hc3 : ¬cond0_3 i) : (runA c i M hc0 hc1 hc2 hc3 X S w0 w1).1.state.o17 = dout i X (runA.sl.dma0 c w0) := by
  unfold Pieces.state runA
  dsimp only
  frame_out
  simp (disch := decide) only [↓View.readCov_skip, ↓View.readCov_fill, readCov_all]
  rfl

theorem A_o18 (hc0 : cond0_0 i) (hc1 : cond0_1 i) (hc2 : cond0_2 i) (hc3 : ¬cond0_3 i) : (runA c i M hc0 hc1 hc2 hc3 X S w0 w1).1.state.o18 = dxo i X (runA.sl.dma0 c w0) := by
  unfold Pieces.state runA
  dsimp only
  frame_out
  simp (disch := decide) only [↓View.readCov_skip, ↓View.readCov_fill, readCov_all]
  rfl

theorem A_o19 (hc0 : cond0_0 i) (hc1 : cond0_1 i) (hc2 : cond0_2 i) (hc3 : ¬cond0_3 i) : (runA c i M hc0 hc1 hc2 hc3 X S w0 w1).1.state.o19 = dproj i X (runA.sl.dma0 c w0) (runA.sl.dma0_1 c w1) (k0_pay4 (F := Ideal)) := by
  unfold Pieces.state runA
  dsimp only
  frame_out
  simp (disch := decide) only [↓View.readCov_skip, ↓View.readCov_fill, readCov_all]
  rfl

theorem A_o20 (hc0 : cond0_0 i) (hc1 : cond0_1 i) (hc2 : cond0_2 i) (hc3 : ¬cond0_3 i) : (runA c i M hc0 hc1 hc2 hc3 X S w0 w1).1.state.o20 = lossNext i X (runA.sl.dma0 c w0) (k0_pay6 (F := Ideal)) := by
  unfold Pieces.state runA
  dsimp only
  frame_out
  simp (disch := decide) only [↓View.readCov_skip, ↓View.readCov_fill, readCov_all]
  rfl

theorem A_o21 (hc0 : cond0_0 i) (hc1 : cond0_1 i) (hc2 : cond0_2 i) (hc3 : ¬cond0_3 i) : (runA c i M hc0 hc1 hc2 hc3 X S w0 w1).1.state.o21 = postNext i X (runA.sl.dma0 c w0) (k0_pay7 (F := Ideal)) := by
  unfold Pieces.state runA
  dsimp only
  frame_out
  simp (disch := decide) only [↓View.readCov_skip, ↓View.readCov_fill, readCov_all]
  rfl

theorem A_o22 (hc0 : cond0_0 i) (hc1 : cond0_1 i) (hc2 : cond0_2 i) (hc3 : ¬cond0_3 i) : (runA c i M hc0 hc1 hc2 hc3 X S w0 w1).1.state.o22 = gainsNext i X (runA.sl.dma0 c w0) (runA.sl.dma0_1 c w1) (k0_pay8 (F := Ideal)) := by
  unfold Pieces.state runA
  dsimp only
  frame_out
  simp (disch := decide) only [↓View.readCov_skip, ↓View.readCov_fill, readCov_all]
  rfl

theorem A_o23 (hc0 : cond0_0 i) (hc1 : cond0_1 i) (hc2 : cond0_2 i) (hc3 : ¬cond0_3 i) : (runA c i M hc0 hc1 hc2 hc3 X S w0 w1).1.state.o23 = scaleNext i X (runA.sl.dma0 c w0) (runA.sl.dma0_1 c w1) (k0_pay9 (F := Ideal)) := by
  unfold Pieces.state runA
  dsimp only
  frame_out
  simp (disch := decide) only [↓View.readCov_skip, ↓View.readCov_fill, readCov_all]
  rfl

theorem A_o24 (hc0 : cond0_0 i) (hc1 : cond0_1 i) (hc2 : cond0_2 i) (hc3 : ¬cond0_3 i) : (runA c i M hc0 hc1 hc2 hc3 X S w0 w1).1.state.o24 = lnGNext i X (runA.sl.dma0 c w0) (runA.sl.dma0_1 c w1) (k0_pay10 (F := Ideal)) := by
  unfold Pieces.state runA
  dsimp only
  frame_out
  simp (disch := decide) only [↓View.readCov_skip, ↓View.readCov_fill, readCov_all]
  rfl

theorem A_o25 (hc0 : cond0_0 i) (hc1 : cond0_1 i) (hc2 : cond0_2 i) (hc3 : ¬cond0_3 i) : (runA c i M hc0 hc1 hc2 hc3 X S w0 w1).1.state.o25 = lnBNext i X (runA.sl.dma0 c w0) (runA.sl.dma0_1 c w1) (k0_pay11 (F := Ideal)) := by
  unfold Pieces.state runA
  dsimp only
  frame_out
  simp (disch := decide) only [↓View.readCov_skip, ↓View.readCov_fill, readCov_all]
  rfl

theorem A_s0 (hc0 : cond0_0 i) (hc1 : cond0_1 i) (hc2 : cond0_2 i) (hc3 : ¬cond0_3 i) : (runA c i M hc0 hc1 hc2 hc3 X S w0 w1).1.state.s0 = carryOn i X (runA.sl.dma0 c w0) (runA.sl.dma0_1 c w1) := by
  unfold Pieces.state runA
  dsimp only
  frame_out
  simp (disch := decide) only [↓View.readCov_skip, ↓View.readCov_fill, readCov_all]
  rfl

theorem A_s1 (hc0 : cond0_0 i) (hc1 : cond0_1 i) (hc2 : cond0_2 i) (hc3 : ¬cond0_3 i) : (runA c i M hc0 hc1 hc2 hc3 X S w0 w1).1.state.s1 = gateSum i X (runA.sl.dma0 c w0) (runA.sl.dma0_1 c w1) (k0_pay5 (F := Ideal)) := by
  unfold Pieces.state runA
  dsimp only
  frame_out
  simp (disch := decide) only [↓View.readCov_skip, ↓View.readCov_fill, readCov_all]
  rfl

theorem A_s2 (hc0 : cond0_0 i) (hc1 : cond0_1 i) (hc2 : cond0_2 i) (hc3 : ¬cond0_3 i) : (runA c i M hc0 hc1 hc2 hc3 X S w0 w1).1.state.s2 = View.canon (mixWPieces i X (runA.sl.dma0 c w0) (runA.sl.dma0_1 c w1) (k0_pay30 (F := Ideal) k0_pay12) ++ [⟨Rect.unit (s := S4x256x256) ![0, 0, 0] S4x256x256.size inb_S4x256x256_S4x256x256_0_0_0, (k0_pay30 (F := Ideal) k0_pay12)⟩]) := by
  unfold Pieces.state runA
  dsimp only
  frame_out
  simp (disch := decide) only [↓View.readCov_skip, ↓View.readCov_fill, readCov_all]
  unfold mixWPieces
  simp only [List.cons_append, List.nil_append]
  rfl

theorem A_s3 (hc0 : cond0_0 i) (hc1 : cond0_1 i) (hc2 : cond0_2 i) (hc3 : ¬cond0_3 i) : (runA c i M hc0 hc1 hc2 hc3 X S w0 w1).1.state.s3 = View.canon (gateWPieces i X (runA.sl.dma0 c w0) (runA.sl.dma0_1 c w1) (k0_pay31 (F := Ideal)) ++ [⟨Rect.unit (s := S8x128x128) ![0, 0, 0] S8x128x128.size inb_S8x128x128_S8x128x128_0_0_0, (k0_pay31 (F := Ideal))⟩]) := by
  unfold Pieces.state runA
  dsimp only
  frame_out
  simp (disch := decide) only [↓View.readCov_skip, ↓View.readCov_fill, readCov_all]
  unfold gateWPieces
  simp only [List.cons_append, List.nil_append]
  rfl

theorem A_s4 (hc0 : cond0_0 i) (hc1 : cond0_1 i) (hc2 : cond0_2 i) (hc3 : ¬cond0_3 i) : (runA c i M hc0 hc1 hc2 hc3 X S w0 w1).1.state.s4 = View.canon (keyVPieces i X (runA.sl.dma0 c w0) (runA.sl.dma0_1 c w1) (k0_pay32 (F := Ideal)) ++ [⟨Rect.unit (s := S256x2048) ![0, 0] S256x2048.size inb_S256x2048_S256x2048_0_0, (k0_pay32 (F := Ideal))⟩]) := by
  unfold Pieces.state runA
  dsimp only
  frame_out
  simp (disch := decide) only [↓View.readCov_skip, ↓View.readCov_fill, readCov_all]
  unfold keyVPieces
  simp only [List.cons_append, List.nil_append]
  rfl

theorem A_s5 (hc0 : cond0_0 i) (hc1 : cond0_1 i) (hc2 : cond0_2 i) (hc3 : ¬cond0_3 i) : (runA c i M hc0 hc1 hc2 hc3 X S w0 w1).1.state.s5 = (runA.sl.dma0 c w0) := by
  unfold Pieces.state runA
  dsimp only
  frame_out
  refine (View.read_writes_eq_canon _ _ _ (View.cover_of_tiledL _ S3072x2048.size (by sl_kernel_rfl))).trans ?_
  exact whole_canon _ _

theorem A_s6 (hc0 : cond0_0 i) (hc1 : cond0_1 i) (hc2 : cond0_2 i) (hc3 : ¬cond0_3 i) : (runA c i M hc0 hc1 hc2 hc3 X S w0 w1).1.state.s6 = (runA.sl.dma0_1 c w1) := by
  unfold Pieces.state runA
  dsimp only
  frame_out
  refine (View.read_writes_eq_canon _ _ _ (View.cover_of_tiledL _ S2048x3072.size (by sl_kernel_rfl))).trans ?_
  exact whole_canon _ _

end Cert.KernelIdeal.Mix

end

end
-- ==== Proof.MixReadB.lean ====
/- What the middle step of the mixing kernel leaves in each array. -/
module

public import proofs.«01_k».proof.Proof.MixStep
public import proofs.«01_k».proof.Proof.MixNext
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Tile

variable (c : Dev nD) (i : grid0.Coords) (M : Mems) (X : Ins Ideal) (S : State Ideal c)
  (w0 : HbBuf0 (F := Ideal) c hbM0_0) (w1 : HbBuf0 (F := Ideal) c hbM0_1)

theorem B_o16 (hc0 : ¬cond0_0 i) (hc1 : ¬cond0_1 i) (hc2 : ¬cond0_2 i) (hc3 : ¬cond0_3 i) : (runB c i M hc0 hc1 hc2 hc3 X S w0 w1).1.state.o16 = branches i X := by
  unfold Pieces.state runB
  dsimp only
  frame_out
  rfl

theorem B_o17 (hc0 : ¬cond0_0 i) (hc1 : ¬cond0_1 i) (hc2 : ¬cond0_2 i) (hc3 : ¬cond0_3 i) : (runB c i M hc0 hc1 hc2 hc3 X S w0 w1).1.state.o17 = dout i X S.s5 := by
  unfold Pieces.state runB
  dsimp only
  frame_out
  rfl

theorem B_o18 (hc0 : ¬cond0_0 i) (hc1 : ¬cond0_1 i) (hc2 : ¬cond0_2 i) (hc3 : ¬cond0_3 i) : (runB c i M hc0 hc1 hc2 hc3 X S w0 w1).1.state.o18 = dxo i X S.s5 := by
  unfold Pieces.state runB
  dsimp only
  frame_out
  rfl

theorem B_o19 (hc0 : ¬cond0_0 i) (hc1 : ¬cond0_1 i) (hc2 : ¬cond0_2 i) (hc3 : ¬cond0_3 i) : (runB c i M hc0 hc1 hc2 hc3 X S w0 w1).1.state.o19 = dproj i X S.s5 S.s6 S.s0 := by
  unfold Pieces.state runB
  dsimp only
  frame_out
  rfl

theorem B_o20 (hc0 : ¬cond0_0 i) (hc1 : ¬cond0_1 i) (hc2 : ¬cond0_2 i) (hc3 : ¬cond0_3 i) : (runB c i M hc0 hc1 hc2 hc3 X S w0 w1).1.state.o20 = lossNext i X S.s5 S.o20 := by
  unfold Pieces.state runB
  dsimp only
  frame_out
  rfl

theorem B_o21 (hc0 : ¬cond0_0 i) (hc1 : ¬cond0_1 i) (hc2 : ¬cond0_2 i) (hc3 : ¬cond0_3 i) : (runB c i M hc0 hc1 hc2 hc3 X S w0 w1).1.state.o21 = postNext i X S.s5 S.o21 := by
  unfold Pieces.state runB
  dsimp only
  frame_out
  rfl

theorem B_o22 (hc0 : ¬cond0_0 i) (hc1 : ¬cond0_1 i) (hc2 : ¬cond0_2 i) (hc3 : ¬cond0_3 i) : (runB c i M hc0 hc1 hc2 hc3 X S w0 w1).1.state.o22 = gainsNext i X S.s5 S.s6 S.o22 := by
  unfold Pieces.state runB
  dsimp only
  frame_out
  rfl

theorem B_o23 (hc0 : ¬cond0_0 i) (hc1 : ¬cond0_1 i) (hc2 : ¬cond0_2 i) (hc3 : ¬cond0_3 i) : (runB c i M hc0 hc1 hc2 hc3 X S w0 w1).1.state.o23 = scaleNext i X S.s5 S.s6 S.o23 := by
  unfold Pieces.state runB
  dsimp only
  frame_out
  rfl

theorem B_o24 (hc0 : ¬cond0_0 i) (hc1 : ¬cond0_1 i) (hc2 : ¬cond0_2 i) (hc3 : ¬cond0_3 i) : (runB c i M hc0 hc1 hc2 hc3 X S w0 w1).1.state.o24 = lnGNext i X S.s5 S.s6 S.o24 := by
  unfold Pieces.state runB
  dsimp only
  frame_out
  rfl

theorem B_o25 (hc0 : ¬cond0_0 i) (hc1 : ¬cond0_1 i) (hc2 : ¬cond0_2 i) (hc3 : ¬cond0_3 i) : (runB c i M hc0 hc1 hc2 hc3 X S w0 w1).1.state.o25 = lnBNext i X S.s5 S.s6 S.o25 := by
  unfold Pieces.state runB
  dsimp only
  frame_out
  rfl

theorem B_s0 (hc0 : ¬cond0_0 i) (hc1 : ¬cond0_1 i) (hc2 : ¬cond0_2 i) (hc3 : ¬cond0_3 i) : (runB c i M hc0 hc1 hc2 hc3 X S w0 w1).1.state.s0 = carryOn i X S.s5 S.s6 := by
  unfold Pieces.state runB
  dsimp only
  frame_out
  rfl

theorem B_s1 (hc0 : ¬cond0_0 i) (hc1 : ¬cond0_1 i) (hc2 : ¬cond0_2 i) (hc3 : ¬cond0_3 i) : (runB c i M hc0 hc1 hc2 hc3 X S w0 w1).1.state.s1 = gateSum i X S.s5 S.s6 S.s1 := by
  unfold Pieces.state runB
  dsimp only
  frame_out
  rfl

theorem B_s2 (hc0 : ¬cond0_0 i) (hc1 : ¬cond0_1 i) (hc2 : ¬cond0_2 i) (hc3 : ¬cond0_3 i) : (runB c i M hc0 hc1 hc2 hc3 X S w0 w1).1.state.s2 = View.canon (mixWPieces i X S.s5 S.s6 S.s2) := by
  unfold Pieces.state runB
  dsimp only
  frame_out
  rfl

theorem B_s3 (hc0 : ¬cond0_0 i) (hc1 : ¬cond0_1 i) (hc2 : ¬cond0_2 i) (hc3 : ¬cond0_3 i) : (runB c i M hc0 hc1 hc2 hc3 X S w0 w1).1.state.s3 = View.canon (gateWPieces i X S.s5 S.s6 S.s3) := by
  unfold Pieces.state runB
  dsimp only
  frame_out
  rfl

theorem B_s4 (hc0 : ¬cond0_0 i) (hc1 : ¬cond0_1 i) (hc2 : ¬cond0_2 i) (hc3 : ¬cond0_3 i) : (runB c i M hc0 hc1 hc2 hc3 X S w0 w1).1.state.s4 = View.canon (keyVPieces i X S.s5 S.s6 S.s4) := by
  unfold Pieces.state runB
  dsimp only
  frame_out
  rfl

theorem B_s5 (hc0 : ¬cond0_0 i) (hc1 : ¬cond0_1 i) (hc2 : ¬cond0_2 i) (hc3 : ¬cond0_3 i) : (runB c i M hc0 hc1 hc2 hc3 X S w0 w1).1.state.s5 = S.s5 := by
  unfold Pieces.state runB
  dsimp only
  frame_out

theorem B_s6 (hc0 : ¬cond0_0 i) (hc1 : ¬cond0_1 i) (hc2 : ¬cond0_2 i) (hc3 : ¬cond0_3 i) : (runB c i M hc0 hc1 hc2 hc3 X S w0 w1).1.state.s6 = S.s6 := by
  unfold Pieces.state runB
  dsimp only
  frame_out

end Cert.KernelIdeal.Mix

end

end
-- ==== Proof.MixReadC.lean ====
/- What the last step of the mixing kernel leaves in each array. -/
module

public import proofs.«01_k».proof.Proof.MixStep
public import proofs.«01_k».proof.Proof.MixNext
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem

namespace Cert.KernelIdeal.Mix

open Cert.KernelIdeal Cert.KernelIdeal.Gen Tile

variable (c : Dev nD) (i : grid0.Coords) (M : Mems) (X : Ins Ideal) (S : State Ideal c)
  (w0 : HbBuf0 (F := Ideal) c hbM0_0) (w1 : HbBuf0 (F := Ideal) c hbM0_1)

theorem C_o16 (hc0 : ¬cond0_0 i) (hc1 : ¬cond0_1 i) (hc2 : ¬cond0_2 i) (hc3 : cond0_3 i) : (runC c i M hc0 hc1 hc2 hc3 X S w0 w1).1.state.o16 = branches i X := by
  unfold Pieces.state runC
  dsimp only
  frame_out
  rfl

theorem C_o17 (hc0 : ¬cond0_0 i) (hc1 : ¬cond0_1 i) (hc2 : ¬cond0_2 i) (hc3 : cond0_3 i) : (runC c i M hc0 hc1 hc2 hc3 X S w0 w1).1.state.o17 = dout i X S.s5 := by
  unfold Pieces.state runC
  dsimp only
  frame_out
  rfl

theorem C_o18 (hc0 : ¬cond0_0 i) (hc1 : ¬cond0_1 i) (hc2 : ¬cond0_2 i) (hc3 : cond0_3 i) : (runC c i M hc0 hc1 hc2 hc3 X S w0 w1).1.state.o18 = dxo i X S.s5 := by
  unfold Pieces.state runC
  dsimp only
  frame_out
  rfl

theorem C_o19 (hc0 : ¬cond0_0 i) (hc1 : ¬cond0_1 i) (hc2 : ¬cond0_2 i) (hc3 : cond0_3 i) : (runC c i M hc0 hc1 hc2 hc3 X S w0 w1).1.state.o19 = dproj i X S.s5 S.s6 S.s0 := by
  unfold Pieces.state runC
  dsimp only
  frame_out
  rfl

theorem C_o20 (hc0 : ¬cond0_0 i) (hc1 : ¬cond0_1 i) (hc2 : ¬cond0_2 i) (hc3 : cond0_3 i) : (runC c i M hc0 hc1 hc2 hc3 X S w0 w1).1.state.o20 = lossNext i X S.s5 S.o20 := by
  unfold Pieces.state runC
  dsimp only
  frame_out
  rfl

theorem C_o21 (hc0 : ¬cond0_0 i) (hc1 : ¬cond0_1 i) (hc2 : ¬cond0_2 i) (hc3 : cond0_3 i) : (runC c i M hc0 hc1 hc2 hc3 X S w0 w1).1.state.o21 = postNext i X S.s5 S.o21 := by
  unfold Pieces.state runC
  dsimp only
  frame_out
  rfl

theorem C_o22 (hc0 : ¬cond0_0 i) (hc1 : ¬cond0_1 i) (hc2 : ¬cond0_2 i) (hc3 : cond0_3 i) : (runC c i M hc0 hc1 hc2 hc3 X S w0 w1).1.state.o22 = gainsNext i X S.s5 S.s6 S.o22 := by
  unfold Pieces.state runC
  dsimp only
  frame_out
  rfl

theorem C_o23 (hc0 : ¬cond0_0 i) (hc1 : ¬cond0_1 i) (hc2 : ¬cond0_2 i) (hc3 : cond0_3 i) : (runC c i M hc0 hc1 hc2 hc3 X S w0 w1).1.state.o23 = scaleNext i X S.s5 S.s6 S.o23 := by
  unfold Pieces.state runC
  dsimp only
  frame_out
  rfl

theorem C_o24 (hc0 : ¬cond0_0 i) (hc1 : ¬cond0_1 i) (hc2 : ¬cond0_2 i) (hc3 : cond0_3 i) : (runC c i M hc0 hc1 hc2 hc3 X S w0 w1).1.state.o24 = lnGNext i X S.s5 S.s6 S.o24 := by
  unfold Pieces.state runC
  dsimp only
  frame_out
  rfl

theorem C_o25 (hc0 : ¬cond0_0 i) (hc1 : ¬cond0_1 i) (hc2 : ¬cond0_2 i) (hc3 : cond0_3 i) : (runC c i M hc0 hc1 hc2 hc3 X S w0 w1).1.state.o25 = lnBNext i X S.s5 S.s6 S.o25 := by
  unfold Pieces.state runC
  dsimp only
  frame_out
  rfl

theorem C_s0 (hc0 : ¬cond0_0 i) (hc1 : ¬cond0_1 i) (hc2 : ¬cond0_2 i) (hc3 : cond0_3 i) : (runC c i M hc0 hc1 hc2 hc3 X S w0 w1).1.state.s0 = carryOn i X S.s5 S.s6 := by
  unfold Pieces.state runC
  dsimp only
  frame_out
  rfl

theorem C_s1 (hc0 : ¬cond0_0 i) (hc1 : ¬cond0_1 i) (hc2 : ¬cond0_2 i) (hc3 : cond0_3 i) : (runC c i M hc0 hc1 hc2 hc3 X S w0 w1).1.state.s1 = gateSum i X S.s5 S.s6 S.s1 := by
  unfold Pieces.state runC
  dsimp only
  frame_out
  rfl

theorem C_s2 (hc0 : ¬cond0_0 i) (hc1 : ¬cond0_1 i) (hc2 : ¬cond0_2 i) (hc3 : cond0_3 i) : (runC c i M hc0 hc1 hc2 hc3 X S w0 w1).1.state.s2 = View.canon (mixWPieces i X S.s5 S.s6 S.s2) := by
  unfold Pieces.state runC
  dsimp only
  frame_out
  rfl

theorem C_s4 (hc0 : ¬cond0_0 i) (hc1 : ¬cond0_1 i) (hc2 : ¬cond0_2 i) (hc3 : cond0_3 i) : (runC c i M hc0 hc1 hc2 hc3 X S w0 w1).1.state.s4 = View.canon (keyVPieces i X S.s5 S.s6 S.s4) := by
  unfold Pieces.state runC
  dsimp only
  frame_out
  rfl

theorem C_s5 (hc0 : ¬cond0_0 i) (hc1 : ¬cond0_1 i) (hc2 : ¬cond0_2 i) (hc3 : cond0_3 i) : (runC c i M hc0 hc1 hc2 hc3 X S w0 w1).1.state.s5 = S.s5 := by
  unfold Pieces.state runC
  dsimp only
  frame_out

theorem C_s6 (hc0 : ¬cond0_0 i) (hc1 : ¬cond0_1 i) (hc2 : ¬cond0_2 i) (hc3 : cond0_3 i) : (runC c i M hc0 hc1 hc2 hc3 X S w0 w1).1.state.s6 = S.s6 := by
  unfold Pieces.state runC
  dsimp only
  frame_out

theorem C_g2 (hc0 : ¬cond0_0 i) (hc1 : ¬cond0_1 i) (hc2 : ¬cond0_2 i) (hc3 : cond0_3 i) : (runC c i M hc0 hc1 hc2 hc3 X S w0 w1).1.state.g2 = View.canon (mixWPieces i X S.s5 S.s6 S.s2) := by
  unfold Pieces.state runC
  dsimp only
  frame_out
  refine (View.write_whole_univ _ _ _).trans ?_
  refine Eq.trans ?_ ((View.read_writes_eq_canon M.s2.view (M.hs2.unread S.s2) _ (View.cover_of_tiledL _ S1x256x256.size (by sl_kernel_rfl))))
  rfl

theorem C_g4 (hc0 : ¬cond0_0 i) (hc1 : ¬cond0_1 i) (hc2 : ¬cond0_2 i) (hc3 : cond0_3 i) : (runC c i M hc0 hc1 hc2 hc3 X S w0 w1).1.state.g4 = View.canon (keyVPieces i X S.s5 S.s6 S.s4) := by
  unfold Pieces.state runC
  dsimp only
  frame_out
  refine (View.write_whole_univ _ _ _).trans ?_
  refine Eq.trans ?_ ((View.read_writes_eq_canon M.s4.view (M.hs4.unread S.s4) _ (View.cover_of_tiledL _ S256x256.size (by sl_kernel_rfl))))
  rfl

theorem C_g3 (hc0 : ¬cond0_0 i) (hc1 : ¬cond0_1 i) (hc2 : ¬cond0_2 i) (hc3 : cond0_3 i) : (runC c i M hc0 hc1 hc2 hc3 X S w0 w1).1.state.g3 = View.canon (gateMPieces i X S.s5 S.s6 S.s3 ++ gateWPieces i X S.s5 S.s6 S.s3) := by
  unfold Pieces.state runC
  dsimp only
  frame_out
  refine (View.write_whole_univ _ _ _).trans ?_
  refine Eq.trans ?_ (View.read_writes_eq_canon M.s3.view (M.hs3.unread S.s3) _ (View.cover_of_tiledL _ S1x128x128.size (by sl_kernel_rfl)))
  simp (disch := decide) only [↓View.readCov_skip, ↓readCov_hit]
  rfl

theorem C_o26 (hc0 : ¬cond0_0 i) (hc1 : ¬cond0_1 i) (hc2 : ¬cond0_2 i) (hc3 : cond0_3 i) : (runC c i M hc0 hc1 hc2 hc3 X S w0 w1).1.state.o26 = View.canon (biasPieces (gateSum i X S.s5 S.s6 S.s1)) := by
  unfold Pieces.state runC
  dsimp only
  frame_out
  refine (View.read_writes_eq_canon M.o26.view (M.ho26.unread S.o26) _ (View.cover_of_tiledL _ S1x128.size (by sl_kernel_rfl))).trans ?_
  simp (disch := decide) only [↓View.readCov_skip, ↓View.readCov_fill]
  rfl

end Cert.KernelIdeal.Mix

end

end
-- ==== Proof.MixInv.lean ====
/- The mixing kernel over its grid: what the state holds after each grid point, against the reference. -/
module

public import proofs.«01_k».proof.Proof.MixIn
public import proofs.«01_k».proof.Proof.MixLast
public import proofs.«01_k».proof.Proof.MixTotal
public import proofs.«01_k».proof.Proof.MixProj
public import proofs.«01_k».proof.Proof.MixReadA
public import proofs.«01_k».proof.Proof.MixReadB
public import proofs.«01_k».proof.Proof.MixReadC
import Idealize.ShloMosaic.Lib.Pointwise

@[expose] public section

set_option maxRecDepth 16384

noncomputable section

open Idealize.ShloMosaic Idealize.ShloMosaic.TcCoe Idealize.SL.Sem

namespace Cert.KernelIdeal.Mix

open Cert.KernelIdeal Cert.KernelIdeal.Gen Cert.ReferenceIdeal.Read Tile

variable {c : Dev nD}

/-- What the state holds after grid point `n`, the gate gradient apart. -/
structure Holds (A : Args) (n : ℕ) (S : State Ideal c) : Prop where
  y : ∀ (a : Fin 128) (b : Fin 3072), S.o16 (ix2 a b) = val_main_v483 (F := Ideal) A.proj A.kv A.poolW A.poolS A.lnG A.lnB A.sguW A.sguB A.gains (ix2 (row (tileOf n) a) b)
  dout : ∀ (a : Fin 128) (b : Fin 2048), S.o17 (ix2 a b) = val_main_v265 (F := Ideal) A.x A.target A.proj A.kv A.poolW A.poolS A.lnG A.lnB A.sguW A.sguB A.gains A.wOut A.post (ix2 (row (tileOf n) a) b)
  dxo : ∀ (a : Fin 128) (b : Fin 2048), S.o18 (ix2 a b) = val_main_v246 (F := Ideal) A.x A.target A.proj A.kv A.poolW A.poolS A.lnG A.lnB A.sguW A.sguB A.gains A.wOut A.post (ix2 (row (tileOf n) a) b)
  dproj : ∀ (a : Fin 128) (b : Fin 7168),
    S.o19 (ix2 a b) = val_main_v485 (F := Ideal) A.x A.target A.proj A.kv A.poolW A.poolS A.lnG A.lnB A.sguW A.sguB A.gains A.wOut A.post (ix2 (row (tileOf n) a) b)
  loss : ∀ b : Fin 128, S.o20 (ix2 0 b) = tot (fun T => lossPart A T) n
  post : ∀ b : Fin 2048, S.o21 (ix2 0 b) = tot (fun T => postPart A T b) n
  gains : ∀ b : Fin 3072, S.o22 (ix2 0 b) = tot (fun T => gainsPart A T b) n
  scale : ∀ b : Fin 1024, S.o23 (ix2 0 b) = tot (fun T => scalePart A T b) n
  lnG : ∀ b : Fin 1024, S.o24 (ix2 0 b) = tot (fun T => lnGPart A T b) n
  lnB : ∀ b : Fin 1024, S.o25 (ix2 0 b) = tot (fun T => lnBPart A T b) n
  carry : Carry A (128 * (31 - n)) S.s0
  gate : ∀ (a : Fin 128) (b : Fin 1024), S.s1 (ix2 a b) = tot (fun T => val_main_v360 (F := Ideal) A.x A.target A.proj A.kv A.poolW A.poolS A.lnG A.lnB A.sguW A.sguB A.gains A.wOut A.post (ix2 (row T a) b)) n
  pool : ∀ (g : Fin 4) (e f : Fin 256), S.s2 (ix3 g e f) = tot (fun T => mixWPart A T g e f) n
  mem : ∀ (m : Fin 256) (b : Fin 2048), S.s4 (ix2 m b) = tot (fun T => kvPart A T m b) n
  weights : Weights A S.s5 S.s6

/-- The gate gradient after grid point `n`. -/
def Gates (A : Args) (n : ℕ) (S : State Ideal c) : Prop :=
  ∀ (g : Fin 8) (a k : Fin 128), S.s3 (ix3 g a k) = tot (fun T => gateWPart A T g a k) n

variable {A : Args} {i : grid0.Coords} {M : Mems} {X : Ins Ideal}

theorem ofBits_zero : Ideal.ofBits .f32 0#32 = 0 := by simp [Ideal.ofBits, Ideal.ieee]

theorem zero_4 (j : S16x1024.Idx) : (k0_pay4 (F := Ideal)) j = 0 := by
  unfold k0_pay4
  pointwise []

theorem zero_5 (j : S128x1024.Idx) : (k0_pay5 (F := Ideal)) j = 0 := by
  unfold k0_pay5
  pointwise []

theorem zero_6 (j : S1x128.Idx) : (k0_pay6 (F := Ideal)) j = 0 := by
  unfold k0_pay6
  pointwise []

theorem zero_7 (j : S1x2048.Idx) : (k0_pay7 (F := Ideal)) j = 0 := by
  unfold k0_pay7
  pointwise []

theorem zero_8 (j : S1x3072.Idx) : (k0_pay8 (F := Ideal)) j = 0 := by
  unfold k0_pay8
  pointwise []

theorem zero_9 (j : S1x1024.Idx) : (k0_pay9 (F := Ideal)) j = 0 := by
  unfold k0_pay9
  pointwise []

theorem zero_10 (j : S1x1024.Idx) : (k0_pay10 (F := Ideal)) j = 0 := by
  unfold k0_pay10
  pointwise []

theorem zero_11 (j : S1x1024.Idx) : (k0_pay11 (F := Ideal)) j = 0 := by
  unfold k0_pay11
  pointwise []

theorem zero_31 (j : S8x128x128.Idx) : (k0_pay31 (F := Ideal)) j = 0 := by
  unfold k0_pay31
  pointwise []

theorem zero_32 (j : S256x2048.Idx) : (k0_pay32 (F := Ideal)) j = 0 := by
  unfold k0_pay32
  pointwise []

theorem zero_30 (j : S4x256x256.Idx) : (k0_pay30 (F := Ideal) k0_pay12) j = 0 := by
  unfold k0_pay30 k0_pay12
  pointwise []

theorem first (n : ℕ) (hn : n = 0) (h : Reads A (tileOf n) i X) (hA : A.Real) (S : State Ideal c) {w0 : HbBuf0 (F := Ideal) c hbM0_0} {w1 : HbBuf0 (F := Ideal) c hbM0_1}
    (hw : Weights A (runA.sl.dma0 c w0) (runA.sl.dma0_1 c w1)) (hc0 : cond0_0 i) (hc1 : cond0_1 i) (hc2 : cond0_2 i) (hc3 : ¬cond0_3 i) :
    Holds A n (runA c i M hc0 hc1 hc2 hc3 X S w0 w1).1.state ∧ Gates A n (runA c i M hc0 hc1 hc2 hc3 X S w0 w1).1.state := by
  subst hn
  refine ⟨⟨?_, ?_, ?_, ?_, ?_, ?_, ?_, ?_, ?_, ?_, ?_, ?_, ?_, ?_, ?_⟩, ?_⟩
  · intro a b; rw [A_o16, branches_at h hA]
  · intro a b; rw [A_o17, dout_at h hA hw]
  · intro a b; rw [A_o18, dxo_at h hA hw]
  · intro a b; rw [A_o19]; exact dproj_at h hA hw (carry_zero _ zero_4) a b
  · intro b; rw [A_o20, lossNext_at h hA hw, zero_6, zero_add]; rfl
  · intro b; rw [A_o21, postNext_at h hA hw, zero_7, zero_add]; rfl
  · intro b; rw [A_o22, gainsNext_at h hA hw, zero_8, zero_add]; rfl
  · intro b; rw [A_o23, scaleNext_at h hA hw, zero_9, zero_add]; rfl
  · intro b; rw [A_o24, lnGNext_at h hA hw, zero_10, zero_add]; rfl
  · intro b; rw [A_o25, lnBNext_at h hA hw, zero_11, zero_add]; rfl
  · rw [A_s0]; exact carryOn_at h hA hw
  · intro a b; rw [A_s1, gateSum_at h hA hw, zero_5, zero_add]; rfl
  · intro g e f; rw [A_s2]; exact (mixW_next h hA hw _ _ g e f).trans (by rw [zero_30, zero_add]; rfl)
  · intro m b; rw [A_s4]; exact (keyV_next h hA hw _ _ m b).trans (by rw [zero_32, zero_add]; rfl)
  · rw [A_s5, A_s6]; exact hw
  · intro g a k; rw [A_s3]; exact (gateW_next h hA hw _ _ g a k).trans (by rw [zero_31, zero_add]; rfl)

theorem middle (n : ℕ) (hn : n + 1 < 32) (h : Reads A (tileOf (n + 1)) i X) (hA : A.Real) {S : State Ideal c} (w0 : HbBuf0 (F := Ideal) c hbM0_0) (w1 : HbBuf0 (F := Ideal) c hbM0_1)
    (ih : Holds A n S) (ig : Gates A n S) (hc0 : ¬cond0_0 i) (hc1 : ¬cond0_1 i) (hc2 : ¬cond0_2 i) (hc3 : ¬cond0_3 i) :
    Holds A (n + 1) (runB c i M hc0 hc1 hc2 hc3 X S w0 w1).1.state ∧ Gates A (n + 1) (runB c i M hc0 hc1 hc2 hc3 X S w0 w1).1.state := by
  have hw := ih.weights
  have hs : Carry A (128 * (tileOf (n + 1)).val + 128) S.s0 := by
    rw [show 128 * (tileOf (n + 1)).val + 128 = 128 * (31 - n) by simp only [tileOf]; omega]
    exact ih.carry
  refine ⟨⟨?_, ?_, ?_, ?_, ?_, ?_, ?_, ?_, ?_, ?_, ?_, ?_, ?_, ?_, ?_⟩, ?_⟩
  · intro a b; rw [B_o16, branches_at h hA]
  · intro a b; rw [B_o17, dout_at h hA hw]
  · intro a b; rw [B_o18, dxo_at h hA hw]
  · intro a b; rw [B_o19]; exact dproj_at h hA hw hs a b
  · intro b; rw [B_o20, lossNext_at h hA hw, ih.loss]; rfl
  · intro b; rw [B_o21, postNext_at h hA hw, ih.post]; rfl
  · intro b; rw [B_o22, gainsNext_at h hA hw, ih.gains]; rfl
  · intro b; rw [B_o23, scaleNext_at h hA hw, ih.scale]; rfl
  · intro b; rw [B_o24, lnGNext_at h hA hw, ih.lnG]; rfl
  · intro b; rw [B_o25, lnBNext_at h hA hw, ih.lnB]; rfl
  · rw [B_s0]; exact carryOn_at h hA hw
  · intro a b; rw [B_s1, gateSum_at h hA hw, ih.gate]; rfl
  · intro g e f; rw [B_s2, ← List.append_nil (mixWPieces _ _ _ _ _)]; exact (mixW_next h hA hw _ _ g e f).trans (by rw [ih.pool]; rfl)
  · intro m b; rw [B_s4, ← List.append_nil (keyVPieces _ _ _ _ _)]; exact (keyV_next h hA hw _ _ m b).trans (by rw [ih.mem]; rfl)
  · rw [B_s5, B_s6]; exact hw
  · intro g a k; rw [B_s3, ← List.append_nil (gateWPieces _ _ _ _ _)]; exact (gateW_next h hA hw _ _ g a k).trans (by rw [ig g a k]; rfl)

theorem last (n : ℕ) (hn : n + 1 < 32) (h : Reads A (tileOf (n + 1)) i X) (hA : A.Real) {S : State Ideal c} (w0 : HbBuf0 (F := Ideal) c hbM0_0) (w1 : HbBuf0 (F := Ideal) c hbM0_1)
    (ih : Holds A n S) (hc0 : ¬cond0_0 i) (hc1 : ¬cond0_1 i) (hc2 : ¬cond0_2 i) (hc3 : cond0_3 i) :
    Holds A (n + 1) (runC c i M hc0 hc1 hc2 hc3 X S w0 w1).1.state := by
  have hw := ih.weights
  have hs : Carry A (128 * (tileOf (n + 1)).val + 128) S.s0 := by
    rw [show 128 * (tileOf (n + 1)).val + 128 = 128 * (31 - n) by simp only [tileOf]; omega]
    exact ih.carry
  refine ⟨?_, ?_, ?_, ?_, ?_, ?_, ?_, ?_, ?_, ?_, ?_, ?_, ?_, ?_, ?_⟩
  · intro a b; rw [C_o16, branches_at h hA]
  · intro a b; rw [C_o17, dout_at h hA hw]
  · intro a b; rw [C_o18, dxo_at h hA hw]
  · intro a b; rw [C_o19]; exact dproj_at h hA hw hs a b
  · intro b; rw [C_o20, lossNext_at h hA hw, ih.loss]; rfl
  · intro b; rw [C_o21, postNext_at h hA hw, ih.post]; rfl
  · intro b; rw [C_o22, gainsNext_at h hA hw, ih.gains]; rfl
  · intro b; rw [C_o23, scaleNext_at h hA hw, ih.scale]; rfl
  · intro b; rw [C_o24, lnGNext_at h hA hw, ih.lnG]; rfl
  · intro b; rw [C_o25, lnBNext_at h hA hw, ih.lnB]; rfl
  · rw [C_s0]; exact carryOn_at h hA hw
  · intro a b; rw [C_s1, gateSum_at h hA hw, ih.gate]; rfl
  · intro g e f; rw [C_s2, ← List.append_nil (mixWPieces _ _ _ _ _)]; exact (mixW_next h hA hw _ _ g e f).trans (by rw [ih.pool]; rfl)
  · intro m b; rw [C_s4, ← List.append_nil (keyVPieces _ _ _ _ _)]; exact (keyV_next h hA hw _ _ m b).trans (by rw [ih.mem]; rfl)
  · rw [C_s5, C_s6]; exact hw

/-- What the last grid point leaves besides: the gradients it copies out and the bias gradient. -/
structure Ends (A : Args) (S : State Ideal c) : Prop where
  pool : ∀ (g : Fin 4) (e f : Fin 256), (S.g2 : FVec Ideal S4x256x256 .f32) (ix3 g e f) = tot (fun T => mixWPart A T g e f) 31
  gates : ∀ (g : Fin 8) (a k : Fin 128), (S.g3 : FVec Ideal S8x128x128 .f32) (ix3 g a k) = keep a k (tot (fun T => gateWPart A T g a k) 31)
  mem : ∀ (m : Fin 256) (b : Fin 2048), (S.g4 : FVec Ideal S256x2048 .f32) (ix2 m b) = tot (fun T => kvPart A T m b) 31
  bias : ∀ (g : Fin 8) (a : Fin 128), S.o26 (ix2 g a) = ∑ k : Fin 128,
    tot (fun T => val_main_v360 (F := Ideal) A.x A.target A.proj A.kv A.poolW A.poolS A.lnG A.lnB A.sguW A.sguB A.gains A.wOut A.post (ix2 (row T a) ⟨128 * g.val + k.val, by omega⟩)) 31

theorem last_ends (h : Reads A (tileOf 31) i X) (hA : A.Real) {S : State Ideal c} (w0 : HbBuf0 (F := Ideal) c hbM0_0) (w1 : HbBuf0 (F := Ideal) c hbM0_1)
    (ih : Holds A 30 S) (ig : Gates A 30 S) (hc0 : ¬cond0_0 i) (hc1 : ¬cond0_1 i) (hc2 : ¬cond0_2 i) (hc3 : cond0_3 i) :
    Ends A (runC c i M hc0 hc1 hc2 hc3 X S w0 w1).1.state := by
  have hw := ih.weights
  refine ⟨?_, ?_, ?_, ?_⟩
  · intro g e f; rw [C_g2, ← List.append_nil (mixWPieces _ _ _ _ _)]; exact (mixW_next h hA hw _ _ g e f).trans (by rw [ih.pool]; rfl)
  · intro g a k; rw [C_g3]; exact (gateM_at h hA hw _ _ g a k).trans (by rw [ig g a k]; rfl)
  · intro m b; rw [C_g4, ← List.append_nil (keyVPieces _ _ _ _ _)]; exact (keyV_next h hA hw _ _ m b).trans (by rw [ih.mem]; rfl)
  · intro g a
    rw [C_o26]
    refine (bias_at _ g a).trans (Finset.sum_congr rfl fun k _ => ?_)
    rw [gateSum_at h hA hw, ih.gate]; rfl

variable (m : (ℓ : Loc nD τ sig) → Buf (Elt Ideal) ℓ) (c : Dev nD)

theorem tile_eq (t : Fin cfg0.N) : tile t = tileOf t.val := rfl

theorem step_first (t : Fin cfg0.N) (h : t.val = 0) (hA : (argsOf m c).Real) (S : State Ideal c) :
    Holds (argsOf m c) t.val (stepAt m c t S) ∧ Gates (argsOf m c) t.val (stepAt m c t S) := by
  have h0 : t.val % 32 = 0 := by omega
  rw [stepAt, dif_pos h0]
  exact first t.val h (reads m c t) hA _ (weights m c) _ _ _ _

theorem step_next (t : Fin cfg0.N) (n : ℕ) (h : t.val = n + 1) (hA : (argsOf m c).Real) (S : State Ideal c)
    (ih : Holds (argsOf m c) n S) (ig : Gates (argsOf m c) n S) :
    Holds (argsOf m c) (n + 1) (stepAt m c t S) ∧ (n + 1 < 31 → Gates (argsOf m c) (n + 1) (stepAt m c t S))
      ∧ (n + 1 = 31 → Ends (argsOf m c) (stepAt m c t S)) := by
  have h32 := lt32 t
  have hr : Reads (argsOf m c) (tileOf (n + 1)) (grid0.coords t) (inAt m c t) := by
    rw [← h]; exact reads m c t
  have h0 : ¬t.val % 32 = 0 := by omega
  rw [stepAt, dif_neg h0]
  by_cases h3 : t.val % 32 = 31
  · rw [dif_pos h3]
    obtain rfl : n = 30 := by omega
    exact ⟨last 30 (by decide) hr hA _ _ ih _ _ _ _, fun h => absurd h (by decide), fun _ => last_ends hr hA _ _ ih ig _ _ _ _⟩
  · rw [dif_neg h3]
    have := middle n (by omega) hr hA (V m c main_v8) (V m c main_v11) ih ig (M := mems t)
      (fun h => h0 ((hcond0_0 t).mp h)) (fun h => h0 ((hcond0_1 t).mp h)) (fun h => h0 ((hcond0_2 t).mp h)) (fun h => h3 ((hcond0_3 t).mp h))
    exact ⟨this.1, fun _ => this.2, fun h => by omega⟩

theorem holds (hA : (argsOf m c).Real) (n : ℕ) : ∀ hn : n < cfg0.N, Holds (argsOf m c) n (st m c n hn) ∧ (n < 31 → Gates (argsOf m c) n (st m c n hn))
    ∧ (n = 31 → Ends (argsOf m c) (st m c n hn)) := by
  induction n with
  | zero =>
    intro hn
    have := step_first m c ⟨0, hn⟩ rfl hA (State.blank c (V m c main_v14_10) (V m c main_v14_11) (V m c main_v14_13))
    exact ⟨this.1, fun _ => this.2, fun h => absurd h (by decide)⟩
  | succ n ih =>
    intro hn
    have h32 : n + 1 < 32 := lt32 ⟨n + 1, hn⟩
    obtain ⟨i0, i1, -⟩ := ih (Nat.lt_of_succ_lt hn)
    exact step_next m c ⟨n + 1, hn⟩ n rfl hA _ i0 (i1 (by omega))

end Cert.KernelIdeal.Mix

end

end
-- ==== Proof.MixArr.lean ====
/- What the mixing kernel leaves in its fourteen results: the reference's. -/
module

public import proofs.«01_k».proof.Proof.MixInv
import Idealize.ShloMosaic.Lib.Pointwise
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Tile

variable (m : (ℓ : Loc nD τ sig) → Buf (Elt Ideal) ℓ) (c : Dev nD)

theorem lt_points : 31 < cfg0.N := lt_of_lt_of_eq (by decide) (show 32 = cfg0.N from N_0.symm)

theorem at_last (t : Fin cfg0.N) (h : t.val = 31) : st m c t.val t.isLt = stLast m c := by
  obtain ⟨n, hn⟩ := t
  obtain rfl : n = 31 := h
  rfl

theorem dout_cast (A : Args) (R : Fin 4096) (b : Fin 2048) : val_main_v484 (F := Ideal) A.x A.target A.proj A.kv A.poolW A.poolS A.lnG A.lnB A.sguW A.sguB A.gains A.wOut A.post (ix2 R b) = val_main_v265 (F := Ideal) A.x A.target A.proj A.kv A.poolW A.poolS A.lnG A.lnB A.sguW A.sguB A.gains A.wOut A.post (ix2 R b) := rfl

theorem final_y (hA : (argsOf m c).Real) : (dats m 0 c).arrAt 16 cfg0.N = (val_main_v483 (F := Ideal) (argsOf m c).proj (argsOf m c).kv (argsOf m c).poolW (argsOf m c).poolS (argsOf m c).lnG (argsOf m c).lnB (argsOf m c).sguW (argsOf m c).sguB (argsOf m c).gains) := by
  refine (dats m 0 c).arrAt_eq_of_covers 16 _ (by decide +kernel) fun t hf y => ?_
  have h32 := lt32 t
  blk_simp
  rw [after_16]
  refine (congrArg (st m c t.val t.isLt).o16 (eq_ix2 y)).trans ((((holds m c hA t.val t.isLt).1.y _ _)).trans ?_)
  blk_point [idx_out t, row, tileOf]

theorem final_dout (hA : (argsOf m c).Real) : (dats m 0 c).arrAt 17 cfg0.N = (val_main_v484 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 17 _ (by decide +kernel) fun t hf y => ?_
  have h32 := lt32 t
  blk_simp
  rw [after_17]
  refine (congrArg (st m c t.val t.isLt).o17 (eq_ix2 y)).trans ((((holds m c hA t.val t.isLt).1.dout _ _).trans (dout_cast _ _ _).symm).trans ?_)
  blk_point [idx_out t, row, tileOf]

theorem final_dxo (hA : (argsOf m c).Real) : (dats m 0 c).arrAt 18 cfg0.N = (val_main_v246 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 18 _ (by decide +kernel) fun t hf y => ?_
  have h32 := lt32 t
  blk_simp
  rw [after_18]
  refine (congrArg (st m c t.val t.isLt).o18 (eq_ix2 y)).trans ((((holds m c hA t.val t.isLt).1.dxo _ _)).trans ?_)
  blk_point [idx_out t, row, tileOf]

theorem final_dproj (hA : (argsOf m c).Real) : (dats m 0 c).arrAt 19 cfg0.N = (val_main_v485 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 19 _ (by decide +kernel) fun t hf y => ?_
  have h32 := lt32 t
  blk_simp
  rw [after_19]
  refine (congrArg (st m c t.val t.isLt).o19 (eq_ix2 y)).trans ((((holds m c hA t.val t.isLt).1.dproj _ _)).trans ?_)
  blk_point [idx_out t, row, tileOf]

theorem last_loss (hA : (argsOf m c).Real) : (stLast m c).o20 = (val_main_v486 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  obtain rfl : i0 = 0 := Subsingleton.elim _ _
  exact ((holds m c hA 31 lt_points).1.loss i1).trans (loss_ref i1).symm

theorem last_post (hA : (argsOf m c).Real) : (stLast m c).o21 = (val_main_v249 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  obtain rfl : i0 = 0 := Subsingleton.elim _ _
  exact ((holds m c hA 31 lt_points).1.post i1).trans (post_ref i1).symm

theorem last_gains (hA : (argsOf m c).Real) : (stLast m c).o22 = (val_main_v327 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  obtain rfl : i0 = 0 := Subsingleton.elim _ _
  exact ((holds m c hA 31 lt_points).1.gains i1).trans (gains_ref i1).symm

theorem last_scale (hA : (argsOf m c).Real) : (stLast m c).o23 = (val_main_v407 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  obtain rfl : i0 = 0 := Subsingleton.elim _ _
  exact ((holds m c hA 31 lt_points).1.scale i1).trans (scale_ref i1).symm

theorem last_lnG (hA : (argsOf m c).Real) : (stLast m c).o24 = (val_main_v377 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  obtain rfl : i0 = 0 := Subsingleton.elim _ _
  exact ((holds m c hA 31 lt_points).1.lnG i1).trans (lnG_ref i1).symm

theorem last_lnB (hA : (argsOf m c).Real) : (stLast m c).o25 = (val_main_v374 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  obtain rfl : i0 = 0 := Subsingleton.elim _ _
  exact ((holds m c hA 31 lt_points).1.lnB i1).trans (lnB_ref i1).symm

theorem last_bias (hA : (argsOf m c).Real) : (stLast m c).o26 = (val_main_v366 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  funext i
  idx_vars i
  exact (((holds m c hA 31 lt_points).2.2 rfl).bias i0 i1).trans (bias_ref i0 i1).symm

theorem final_loss (hA : (argsOf m c).Real) : (dats m 0 c).arrAt 20 cfg0.N = (val_main_v486 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 20 _ (by decide +kernel) fun t hf y => ?_
  have h32 := lt32 t
  have h31 : t.val = 31 := by have := (flush0_20 t).mp hf; omega
  blk_simp
  rw [after_20]
  refine (congrArg (fun S : State Ideal c => S.o20 y) (at_last m c t h31)).trans ((congrFun (last_loss m c hA) y).trans ?_)
  blk_point [idx_out t]

theorem final_post (hA : (argsOf m c).Real) : (dats m 0 c).arrAt 21 cfg0.N = (val_main_v249 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 21 _ (by decide +kernel) fun t hf y => ?_
  have h32 := lt32 t
  have h31 : t.val = 31 := by have := (flush0_21 t).mp hf; omega
  blk_simp
  rw [after_21]
  refine (congrArg (fun S : State Ideal c => S.o21 y) (at_last m c t h31)).trans ((congrFun (last_post m c hA) y).trans ?_)
  blk_point [idx_out t]

theorem final_gains (hA : (argsOf m c).Real) : (dats m 0 c).arrAt 22 cfg0.N = (val_main_v327 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 22 _ (by decide +kernel) fun t hf y => ?_
  have h32 := lt32 t
  have h31 : t.val = 31 := by have := (flush0_22 t).mp hf; omega
  blk_simp
  rw [after_22]
  refine (congrArg (fun S : State Ideal c => S.o22 y) (at_last m c t h31)).trans ((congrFun (last_gains m c hA) y).trans ?_)
  blk_point [idx_out t]

theorem final_scale (hA : (argsOf m c).Real) : (dats m 0 c).arrAt 23 cfg0.N = (val_main_v407 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 23 _ (by decide +kernel) fun t hf y => ?_
  have h32 := lt32 t
  have h31 : t.val = 31 := by have := (flush0_23 t).mp hf; omega
  blk_simp
  rw [after_23]
  refine (congrArg (fun S : State Ideal c => S.o23 y) (at_last m c t h31)).trans ((congrFun (last_scale m c hA) y).trans ?_)
  blk_point [idx_out t]

theorem final_lnG (hA : (argsOf m c).Real) : (dats m 0 c).arrAt 24 cfg0.N = (val_main_v377 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 24 _ (by decide +kernel) fun t hf y => ?_
  have h32 := lt32 t
  have h31 : t.val = 31 := by have := (flush0_24 t).mp hf; omega
  blk_simp
  rw [after_24]
  refine (congrArg (fun S : State Ideal c => S.o24 y) (at_last m c t h31)).trans ((congrFun (last_lnG m c hA) y).trans ?_)
  blk_point [idx_out t]

theorem final_lnB (hA : (argsOf m c).Real) : (dats m 0 c).arrAt 25 cfg0.N = (val_main_v374 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 25 _ (by decide +kernel) fun t hf y => ?_
  have h32 := lt32 t
  have h31 : t.val = 31 := by have := (flush0_25 t).mp hf; omega
  blk_simp
  rw [after_25]
  refine (congrArg (fun S : State Ideal c => S.o25 y) (at_last m c t h31)).trans ((congrFun (last_lnB m c hA) y).trans ?_)
  blk_point [idx_out t]

theorem final_bias (hA : (argsOf m c).Real) : (dats m 0 c).arrAt 26 cfg0.N = (val_main_v366 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (dats m 0 c).arrAt_eq_of_covers 26 _ (by decide +kernel) fun t hf y => ?_
  have h32 := lt32 t
  have h31 : t.val = 31 := by have := (flush0_26 t).mp hf; omega
  blk_simp
  rw [after_26]
  refine (congrArg (fun S : State Ideal c => S.o26 y) (at_last m c t h31)).trans ((congrFun (last_bias m c hA) y).trans ?_)
  blk_point [idx_out t]

theorem final_pool (hA : (argsOf m c).Real) : ends m c main_v14_10 = (val_main_v415 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  rw [ends_2]
  funext i
  idx_vars i
  exact (((holds m c hA 31 lt_points).2.2 rfl).pool i0 i1 i2).trans (pool_ref i0 i1 i2).symm

theorem final_gates (hA : (argsOf m c).Real) : ends m c main_v14_11 = (val_main_v371 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  rw [ends_3]
  funext i
  idx_vars i
  exact (((holds m c hA 31 lt_points).2.2 rfl).gates i0 i1 i2).trans (gates_ref i0 i1 i2).symm

theorem final_mem (hA : (argsOf m c).Real) : ends m c main_v14_13 = (val_main_v481 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  rw [ends_4]
  funext i
  idx_vars i
  exact (((holds m c hA 31 lt_points).2.2 rfl).mem i0 i1).trans (mem_ref i0 i1).symm

end Cert.KernelIdeal.Mix

end

end
-- ==== Proof.MixClaim.lean ====
/- The mixing call computes what the reference computes. -/
module

public import proofs.«01_k».proof.Defs
public import proofs.«01_k».proof.Proof.MixPre
public import proofs.«01_k».proof.Proof.MixArr
public import proofs.«01_k».proof.Proof.Gen.ReferenceIdeal.Run
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem

namespace Cert.KernelIdeal.Mix

open Cert.KernelIdeal Cert.KernelIdeal.Gen Tile

section Kernel

variable (m : (ℓ : Loc nD τ sig) → Buf (Elt Ideal) ℓ)

set_option maxHeartbeats 4000000 in
/-- The kernel's fourteen results, on finite arguments. -/
theorem run_values (ρ : Dev nD → PrngReg) (hA : ∀ c, (argsOf m c).Real) :
    θ_run (defs (F := Ideal)) (onTc (τ := τ) (main (F := Ideal))) ⟨m, fun _ => 0, ρ⟩ (fun r => ∀ c : Dev nD,
      r.2.mem ((c.tc : Thread nD τ).loc main_v14_0) = Cert.ReferenceIdeal.Read.val_main_v483 (F := Ideal) (argsOf m c).proj (argsOf m c).kv (argsOf m c).poolW (argsOf m c).poolS (argsOf m c).lnG (argsOf m c).lnB (argsOf m c).sguW (argsOf m c).sguB (argsOf m c).gains
      ∧ r.2.mem ((c.tc : Thread nD τ).loc main_v14_1) = Cert.ReferenceIdeal.Read.val_main_v484 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_2) = Cert.ReferenceIdeal.Read.val_main_v246 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_3) = Cert.ReferenceIdeal.Read.val_main_v485 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_4) = Cert.ReferenceIdeal.Read.val_main_v486 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_5) = Cert.ReferenceIdeal.Read.val_main_v249 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_6) = Cert.ReferenceIdeal.Read.val_main_v327 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_7) = Cert.ReferenceIdeal.Read.val_main_v407 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_8) = Cert.ReferenceIdeal.Read.val_main_v377 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_9) = Cert.ReferenceIdeal.Read.val_main_v374 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_10) = Cert.ReferenceIdeal.Read.val_main_v415 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_11) = Cert.ReferenceIdeal.Read.val_main_v371 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_12) = Cert.ReferenceIdeal.Read.val_main_v366 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post
      ∧ r.2.mem ((c.tc : Thread nD τ).loc main_v14_13) = Cert.ReferenceIdeal.Read.val_main_v481 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post) := by
  refine (θ_run _ _ _).mono (fun r h c => ?_) (run_all m ρ)
  obtain ⟨h, -⟩ := h
  exact ⟨((h.1 c).1 16).trans (final_y m c (hA c)),
    ((h.1 c).1 17).trans (final_dout m c (hA c)),
    ((h.1 c).1 18).trans (final_dxo m c (hA c)),
    ((h.1 c).1 19).trans (final_dproj m c (hA c)),
    ((h.1 c).1 20).trans (final_loss m c (hA c)),
    ((h.1 c).1 21).trans (final_post m c (hA c)),
    ((h.1 c).1 22).trans (final_gains m c (hA c)),
    ((h.1 c).1 23).trans (final_scale m c (hA c)),
    ((h.1 c).1 24).trans (final_lnG m c (hA c)),
    ((h.1 c).1 25).trans (final_lnB m c (hA c)),
    (h.2 c main_v14_10 (by decide)).trans (final_pool m c (hA c)),
    (h.2 c main_v14_11 (by decide)).trans (final_gates m c (hA c)),
    ((h.1 c).1 26).trans (final_bias m c (hA c)),
    (h.2 c main_v14_13 (by decide)).trans (final_mem m c (hA c))⟩

end Kernel

end Cert.KernelIdeal.Mix

namespace Cert.Mix

open Cert.KernelIdeal.Mix Cert.KernelIdeal.Mix.Tile

/-- The reference's arguments. -/
def refArgs (m' : (ℓ : Loc Cert.ReferenceIdeal.nD Cert.ReferenceIdeal.τ Cert.ReferenceIdeal.sig) → Buf (Elt Ideal) ℓ) (c : Dev Cert.ReferenceIdeal.nD) : Args :=
  ⟨(m' ((c.tc : Thread Cert.ReferenceIdeal.nD Cert.ReferenceIdeal.τ).loc Cert.ReferenceIdeal.main_arg0)),
    (m' ((c.tc : Thread Cert.ReferenceIdeal.nD Cert.ReferenceIdeal.τ).loc Cert.ReferenceIdeal.main_arg1)),
    (m' ((c.tc : Thread Cert.ReferenceIdeal.nD Cert.ReferenceIdeal.τ).loc Cert.ReferenceIdeal.main_arg2)),
    (m' ((c.tc : Thread Cert.ReferenceIdeal.nD Cert.ReferenceIdeal.τ).loc Cert.ReferenceIdeal.main_arg3)),
    (m' ((c.tc : Thread Cert.ReferenceIdeal.nD Cert.ReferenceIdeal.τ).loc Cert.ReferenceIdeal.main_arg4)),
    (m' ((c.tc : Thread Cert.ReferenceIdeal.nD Cert.ReferenceIdeal.τ).loc Cert.ReferenceIdeal.main_arg5)),
    (m' ((c.tc : Thread Cert.ReferenceIdeal.nD Cert.ReferenceIdeal.τ).loc Cert.ReferenceIdeal.main_arg6)),
    (m' ((c.tc : Thread Cert.ReferenceIdeal.nD Cert.ReferenceIdeal.τ).loc Cert.ReferenceIdeal.main_arg7)),
    (m' ((c.tc : Thread Cert.ReferenceIdeal.nD Cert.ReferenceIdeal.τ).loc Cert.ReferenceIdeal.main_arg8)),
    (m' ((c.tc : Thread Cert.ReferenceIdeal.nD Cert.ReferenceIdeal.τ).loc Cert.ReferenceIdeal.main_arg9)),
    (m' ((c.tc : Thread Cert.ReferenceIdeal.nD Cert.ReferenceIdeal.τ).loc Cert.ReferenceIdeal.main_arg10)),
    (m' ((c.tc : Thread Cert.ReferenceIdeal.nD Cert.ReferenceIdeal.τ).loc Cert.ReferenceIdeal.main_arg11)),
    (m' ((c.tc : Thread Cert.ReferenceIdeal.nD Cert.ReferenceIdeal.τ).loc Cert.ReferenceIdeal.main_arg12))⟩

variable (m' : (ℓ : Loc Cert.ReferenceIdeal.nD Cert.ReferenceIdeal.τ Cert.ReferenceIdeal.sig) → Buf (Elt Ideal) ℓ)

set_option maxHeartbeats 2000000 in
/-- The reference's fourteen results, and its arguments unchanged. -/
theorem reference_values (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v483) = Cert.ReferenceIdeal.Read.val_main_v483 (F := Ideal) (refArgs m' c).proj (refArgs m' c).kv (refArgs m' c).poolW (refArgs m' c).poolS (refArgs m' c).lnG (refArgs m' c).lnB (refArgs m' c).sguW (refArgs m' c).sguB (refArgs m' c).gains
      ∧ r.2.mem ((c.tc : Thread Cert.ReferenceIdeal.nD Cert.ReferenceIdeal.τ).loc Cert.ReferenceIdeal.main_v484) = Cert.ReferenceIdeal.Read.val_main_v484 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v246) = Cert.ReferenceIdeal.Read.val_main_v246 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v485) = Cert.ReferenceIdeal.Read.val_main_v485 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v486) = Cert.ReferenceIdeal.Read.val_main_v486 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v249) = Cert.ReferenceIdeal.Read.val_main_v249 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v327) = Cert.ReferenceIdeal.Read.val_main_v327 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v407) = Cert.ReferenceIdeal.Read.val_main_v407 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v377) = Cert.ReferenceIdeal.Read.val_main_v377 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v374) = Cert.ReferenceIdeal.Read.val_main_v374 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v415) = Cert.ReferenceIdeal.Read.val_main_v415 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v371) = Cert.ReferenceIdeal.Read.val_main_v371 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v366) = Cert.ReferenceIdeal.Read.val_main_v366 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_v481) = Cert.ReferenceIdeal.Read.val_main_v481 (F := Ideal) (refArgs m' c).x (refArgs m' c).target (refArgs m' c).proj (refArgs m' c).kv (refArgs m' c).poolW (refArgs m' c).poolS (refArgs m' c).lnG (refArgs m' c).lnB (refArgs m' c).sguW (refArgs m' c).sguB (refArgs m' c).gains (refArgs m' c).wOut (refArgs m' c).post
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) := by
  refine (θ_run _ _ _).mono (fun r h c => ?_) (Cert.ReferenceIdeal.Value.run (F := Ideal) m' g')
  obtain ⟨h0, h1, h2, h3, h4, h5, h6, h7, h8, h9, h10, h11, h12, h13, ha⟩ := h c
  exact ⟨h0.trans (Cert.ReferenceIdeal.Read.val_main_v483_eq _),
    h1.trans (Cert.ReferenceIdeal.Read.val_main_v484_eq _),
    h2.trans (Cert.ReferenceIdeal.Read.val_main_v246_eq _),
    h3.trans (Cert.ReferenceIdeal.Read.val_main_v485_eq _),
    h4.trans (Cert.ReferenceIdeal.Read.val_main_v486_eq _),
    h5.trans (Cert.ReferenceIdeal.Read.val_main_v249_eq _),
    h6.trans (Cert.ReferenceIdeal.Read.val_main_v327_eq _),
    h7.trans (Cert.ReferenceIdeal.Read.val_main_v407_eq _),
    h8.trans (Cert.ReferenceIdeal.Read.val_main_v377_eq _),
    h9.trans (Cert.ReferenceIdeal.Read.val_main_v374_eq _),
    h10.trans (Cert.ReferenceIdeal.Read.val_main_v415_eq _),
    h11.trans (Cert.ReferenceIdeal.Read.val_main_v371_eq _),
    h12.trans (Cert.ReferenceIdeal.Read.val_main_v366_eq _),
    h13.trans (Cert.ReferenceIdeal.Read.val_main_v481_eq _), ha⟩

/-- The mixing call's fourteen results are the reference's, on finite arguments. -/
theorem mix_algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hp hm
  have hA := real_of_pre m hp
  have eA : ∀ c, refArgs m' c = argsOf m c := fun c => by
    obtain ⟨e0, e1, e2, e3, e4, e5, e6, e7, e8, e9, e10, e11, e12⟩ := hm c
    unfold refArgs
    rw [e0, e1, e2, e3, e4, e5, e6, e7, e8, e9, e10, e11, e12]
    rfl
  refine ⟨fun c => Cert.ReferenceIdeal.Read.val_main_v483 (F := Ideal) (argsOf m c).proj (argsOf m c).kv (argsOf m c).poolW (argsOf m c).poolS (argsOf m c).lnG (argsOf m c).lnB (argsOf m c).sguW (argsOf m c).sguB (argsOf m c).gains,
    fun c => Cert.ReferenceIdeal.Read.val_main_v484 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v246 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v485 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v486 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v249 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v327 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v407 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v377 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v374 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v415 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v371 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v366 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    fun c => Cert.ReferenceIdeal.Read.val_main_v481 (F := Ideal) (argsOf m c).x (argsOf m c).target (argsOf m c).proj (argsOf m c).kv (argsOf m c).poolW (argsOf m c).poolS (argsOf m c).lnG (argsOf m c).lnB (argsOf m c).sguW (argsOf m c).sguB (argsOf m c).gains (argsOf m c).wOut (argsOf m c).post,
    (θ_run _ _ _).mono (fun r h c => ?_) (θ_run_and (run_values m g hA) (Cert.KernelIdeal.Mix.frame (F := Ideal) m g)),
    (θ_run _ _ _).mono (fun r h c => ?_) (reference_values m' g')⟩
  · obtain ⟨h0, h1, h2, h3, h4, h5, h6, h7, h8, h9, h10, h11, h12, h13⟩ := h.1 c
    exact ⟨h0, h1, h2, h3, h4, h5, h6, h7, h8, h9, h10, h11, h12, h13, h.2.1 c⟩
  · have h := h c
    rw [eA c] at h
    exact h

end Cert.Mix

end
-- ==== Proof.AdamRule.lean ====
/- One step of the optimiser, on numbers: the sum of the parts of a gradient, the two moments and the change of a weight. -/
module

public import Idealize.ShloMosaic.PureOps
public import Idealize.ShloMosaic.Lib.Pointwise

@[expose] public section

noncomputable section

open Idealize.ShloMosaic

namespace Cert.Adam

/-- The sum of the parts. -/
def total {n : ℕ} (p : Fin n → EReal) : EReal := ∑ k, p k

def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)

/-- The change of a weight. -/
def step (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

theorem total_four (p : Fin 4 → EReal) : p 0 + p 1 + p 2 + p 3 = total p := (Fin.sum_univ_four p).symm

theorem total_eight (p : Fin 8 → EReal) : p 0 + p 1 + p 2 + p 3 + p 4 + p 5 + p 6 + p 7 = total p := (Fin.sum_univ_eight p).symm

end Cert.Adam

end
-- ==== Proof.AdamValue.lean ====
/- The update of a weight's owned block: what the call leaves in its four results, and that the reference leaves the same. -/
module

public import proofs.«01_k».proof.Proof.AdamRule
public import proofs.«01_k».proof.Proof.Gen.Kernel4Ideal.Value
public import proofs.«01_k».proof.Proof.Gen.Reference4Ideal.Read
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Adam

open Cert.Kernel4Ideal Cert.Kernel4Ideal.Gen Cert.Adam

variable (m : (ℓ : Loc nD τ sig) → Buf (Elt Ideal) ℓ) (c : Dev nD)

abbrev P : FVec Ideal S4x2048x896 .bf16 := m ((c : Thread nD τ).loc main_arg0)
abbrev W : FVec Ideal S2048x896 .f32 := m ((c : Thread nD τ).loc main_arg1)
abbrev M : FVec Ideal S2048x896 .f32 := m ((c : Thread nD τ).loc main_arg2)
abbrev U : FVec Ideal S2048x896 .f32 := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt8 (t : Fin cfg0.N) : t.val < 8 := lt_of_lt_of_eq t.isLt (show cfg0.N = 8 from N_0)

/-- The row of the arrays that row `r` of a block is. -/
def row (t : Fin cfg0.N) (r : Fin 256) : Fin 2048 := ⟨t.val * 256 + r, by have := lt8 t; omega⟩

theorem blk_p (t : Fin cfg0.N) (n : Fin 4) (r : Fin 256) (k : Fin 896) : iblk m c 0 t (ix3 n r k) = P m c (ix3 n (row t r) k) := by
  blk_point [iblk, idx t, row]

theorem blk_w (t : Fin cfg0.N) (r : Fin 256) (k : Fin 896) : iblk m c 1 t (ix2 r k) = W m c (ix2 (row t r) k) := by
  blk_point [iblk, idx t, row]

theorem blk_m (t : Fin cfg0.N) (r : Fin 256) (k : Fin 896) : iblk m c 2 t (ix2 r k) = M m c (ix2 (row t r) k) := by
  blk_point [iblk, idx t, row]

theorem blk_u (t : Fin cfg0.N) (r : Fin 256) (k : Fin 896) : iblk m c 3 t (ix2 r k) = U m c (ix2 (row t r) k) := by
  blk_point [iblk, idx t, row]

section Blocks

variable (p : Vec Ideal S4x256x896 .bf16) (w a b : Vec Ideal S256x896 .f32) (r : Fin 256) (k : Fin 896)

theorem out_grad : out0_4 p w a b (ix2 r k) = total fun n => p (ix3 n r k) := by
  unfold out0_4
  rw [View.canon_unit_zero (by funext a; fin_cases a <;> rfl) inb_S256x896_S256x896_0_0]
  pointwise [k0_pay2]
  exact total_four fun n => p (ix3 n r k)

theorem out_first : out0_6 p w a b (ix2 r k) = first (total fun n => p (ix3 n r k)) (a (ix2 r k)) := by
  unfold out0_6
  rw [View.canon_unit_zero (by funext a; fin_cases a <;> rfl) inb_S256x896_S256x896_0_0, ← total_four]
  pointwise [k0_pay3, k0_pay2, first]

theorem out_second : out0_7 p w a b (ix2 r k) = second (total fun n => p (ix3 n r k)) (b (ix2 r k)) := by
  unfold out0_7
  rw [View.canon_unit_zero (by funext a; fin_cases a <;> rfl) inb_S256x896_S256x896_0_0, ← total_four]
  pointwise [k0_pay4, k0_pay2, second]

theorem out_step : out0_5 p w a b (ix2 r k) = step (total fun n => p (ix3 n r k)) (w (ix2 r k)) (a (ix2 r k)) (b (ix2 r k)) := by
  unfold out0_5
  rw [View.canon_unit_zero (by funext a; fin_cases a <;> rfl) inb_S256x896_S256x896_0_0, ← total_four]
  pointwise [k0_pay1, k0_pay5, k0_pay6, k0_pay3, k0_pay4, k0_pay2, first, second, step]

end Blocks

open Cert.Reference4Ideal.Read

section Reference

variable (p : FVec Ideal S4x2048x896 .bf16) (w a b : FVec Ideal S2048x896 .f32) (i : Fin 2048) (k : Fin 896)

theorem ref_grad : val_main_v1 (F := Ideal) p (ix2 i k) = total fun n => p (ix3 n i k) := by
  pointwise! [val_main_v1, val_main_v0, val_main_cst, total]

theorem ref_first : val_main_v6 (F := Ideal) p a (ix2 i k) = first (total fun n => p (ix3 n i k)) (a (ix2 i k)) := by
  rw [← ref_grad]
  pointwise! [val_main_v6, val_main_v5, val_main_v4, val_main_v3, val_main_v2, val_main_cst_0, val_main_cst_1, first]

theorem ref_second : val_main_v12 (F := Ideal) p b (ix2 i k) = second (total fun n => p (ix3 n i k)) (b (ix2 i k)) := by
  rw [← ref_grad]
  pointwise! [val_main_v12, val_main_v11, val_main_v10, val_main_v9, val_main_v8, val_main_v7, val_main_cst_2, val_main_cst_3, second]

theorem ref_step : val_main_v25 (F := Ideal) p w a b (ix2 i k)
    = step (total fun n => p (ix3 n i k)) (w (ix2 i k)) (a (ix2 i k)) (b (ix2 i k)) := by
  rw [step, ← ref_first, ← ref_second]
  pointwise! [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end Reference

/-- The four results, as functions of the arguments. -/
def GG : FVec Ideal S2048x896 .f32 := fun i => total fun n => P m c (ix3 n (i 0) (i 1))
def GM : FVec Ideal S2048x896 .f32 := fun i => first (total fun n => P m c (ix3 n (i 0) (i 1))) (M m c (ix2 (i 0) (i 1)))
def GU : FVec Ideal S2048x896 .f32 := fun i => second (total fun n => P m c (ix3 n (i 0) (i 1))) (U m c (ix2 (i 0) (i 1)))
def GD : FVec Ideal S2048x896 .f32 := fun i =>
  step (total fun n => P m c (ix3 n (i 0) (i 1))) (W m c (ix2 (i 0) (i 1))) (M m c (ix2 (i 0) (i 1))) (U m c (ix2 (i 0) (i 1)))

theorem blk_total (t : Fin cfg0.N) (r : Fin 256) (k : Fin 896) :
    (total fun n => iblk m c 0 t (ix3 n r k)) = total fun n => P m c (ix3 n (row t r) k) :=
  congrArg total (funext fun n => blk_p m c t n r k)

theorem final_grad : (dats m 0 c).arrAt 4 cfg0.N = GG m c := by
  refine (dats m 0 c).arrAt_eq_of_covers 4 _ (by decide +kernel) fun t hf y => ?_
  blk_simp
  rw [after0_4]
  refine (congrArg (out0_4 _ _ _ _) (eq_ix2 y)).trans ((out_grad _ _ _ _ _ _).trans ((blk_total m c t (y 0) (y 1)).trans ?_))
  blk_point [idx t, row, GG]

theorem final_step : (dats m 0 c).arrAt 5 cfg0.N = GD m c := by
  refine (dats m 0 c).arrAt_eq_of_covers 5 _ (by decide +kernel) fun t hf y => ?_
  blk_simp
  rw [after0_5]
  refine (congrArg (out0_5 _ _ _ _) (eq_ix2 y)).trans ((out_step _ _ _ _ _ _).trans ?_)
  rw [show (total fun n => iblk m c 0 t (ix3 n (y 0) (y 1))) = _ from blk_total m c t (y 0) (y 1),
    show iblk m c 1 t (ix2 (y 0) (y 1)) = _ from blk_w m c t (y 0) (y 1), show iblk m c 2 t (ix2 (y 0) (y 1)) = _ from blk_m m c t (y 0) (y 1),
    show iblk m c 3 t (ix2 (y 0) (y 1)) = _ from blk_u m c t (y 0) (y 1)]
  blk_point [idx t, row, GD]

theorem final_first : (dats m 0 c).arrAt 6 cfg0.N = GM m c := by
  refine (dats m 0 c).arrAt_eq_of_covers 6 _ (by decide +kernel) fun t hf y => ?_
  blk_simp
  rw [after0_6]
  refine (congrArg (out0_6 _ _ _ _) (eq_ix2 y)).trans ((out_first _ _ _ _ _ _).trans ?_)
  rw [show (total fun n => iblk m c 0 t (ix3 n (y 0) (y 1))) = _ from blk_total m c t (y 0) (y 1),
    show iblk m c 2 t (ix2 (y 0) (y 1)) = _ from blk_m m c t (y 0) (y 1)]
  blk_point [idx t, row, GM]

theorem final_second : (dats m 0 c).arrAt 7 cfg0.N = GU m c := by
  refine (dats m 0 c).arrAt_eq_of_covers 7 _ (by decide +kernel) fun t hf y => ?_
  blk_simp
  rw [after0_7]
  refine (congrArg (out0_7 _ _ _ _) (eq_ix2 y)).trans ((out_second _ _ _ _ _ _).trans ?_)
  rw [show (total fun n => iblk m c 0 t (ix3 n (y 0) (y 1))) = _ from blk_total m c t (y 0) (y 1),
    show iblk m c 3 t (ix2 (y 0) (y 1)) = _ from blk_u m c t (y 0) (y 1)]
  blk_point [idx t, row, GU]

theorem ref_eq_grad : val_main_v1 (F := Ideal) (P m c) = GG m c :=
  funext fun i => (congrArg _ (eq_ix2 i)).trans (ref_grad _ _ _)

theorem ref_eq_step : val_main_v25 (F := Ideal) (P m c) (W m c) (M m c) (U m c) = GD m c :=
  funext fun i => (congrArg _ (eq_ix2 i)).trans (ref_step _ _ _ _ _ _)

theorem ref_eq_first : val_main_v6 (F := Ideal) (P m c) (M m c) = GM m c :=
  funext fun i => (congrArg _ (eq_ix2 i)).trans (ref_first _ _ _ _)

theorem ref_eq_second : val_main_v12 (F := Ideal) (P m c) (U m c) = GU m c :=
  funext fun i => (congrArg _ (eq_ix2 i)).trans (ref_second _ _ _ _)

end Cert.Kernel4Ideal.Adam

end
-- ==== Proof.AdamPacked.lean ====
/- The update of the replicated scale of the first norm, packed in rows of lanes: the call leaves what the reference leaves. -/
module

public import proofs.«01_k».proof.Proof.AdamRule
public import proofs.«01_k».proof.Proof.Gen.Kernel5Ideal.Value
public import proofs.«01_k».proof.Proof.Gen.Reference5Ideal.Read
import Idealize.ShloMosaic.Lib.Pipeline.ValueKit
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Adam

open Cert.Kernel5Ideal Cert.Kernel5Ideal.Gen Cert.Kernel5Ideal.Value Cert.Adam

open Cert.Reference5Ideal.Read

variable (p : FVec Ideal S8x16x128 .f32) (w a b : FVec Ideal S16x128 .f32) (r : Fin 16) (k : Fin 128)

/-- The gradient: the sum of the devices' parts. -/
def grad : EReal := total fun n => p (ix3 n r k)

theorem out_grad : k0_pay6 (F := Ideal) p w a b (ix2 r k) = grad p r k := by
  pointwise [k0_pay6, k0_pay4]
  exact total_eight fun n => p (ix3 n r k)

theorem out_scaled : k0_pay7 (F := Ideal) p w a b (ix2 r k) = Ideal.ofBits .f32 0x3F666666#32 * a (ix2 r k) := by
  pointwise [k0_pay7, k0_pay5]

theorem out_first : G6 (F := Ideal) p w a b (ix2 r k) = first (grad p r k) (a (ix2 r k)) := by
  rw [first, ← out_scaled p w a b, ← out_grad p w a b]
  pointwise [k0_pay1]

theorem out_second : G7 (F := Ideal) p w a b (ix2 r k) = second (grad p r k) (b (ix2 r k)) := by
  rw [← out_grad p w a b]
  pointwise [k0_pay2, second]

theorem out_step : G5 (F := Ideal) p w a b (ix2 r k) = step (grad p r k) (w (ix2 r k)) (a (ix2 r k)) (b (ix2 r k)) := by
  rw [step, ← out_first p w a b, ← out_second p w a b]
  pointwise [k0_pay3]
  rfl

theorem ref_grad : val_main_v0 (F := Ideal) p (ix2 r k) = grad p r k := by
  pointwise! [val_main_v0, val_main_cst, grad, total]

theorem ref_first : val_main_v5 (F := Ideal) p a (ix2 r k) = first (grad p r k) (a (ix2 r k)) := by
  rw [← ref_grad]
  pointwise! [val_main_v5, val_main_v4, val_main_v3, val_main_v2, val_main_v1, val_main_cst_0, val_main_cst_1, first]

theorem ref_second : val_main_v11 (F := Ideal) p b (ix2 r k) = second (grad p r k) (b (ix2 r k)) := by
  rw [← ref_grad]
  pointwise! [val_main_v11, val_main_v10, val_main_v9, val_main_v8, val_main_v7, val_main_v6, val_main_cst_2, val_main_cst_3, second]

theorem ref_step : val_main_v24 (F := Ideal) p w a b (ix2 r k) = step (grad p r k) (w (ix2 r k)) (a (ix2 r k)) (b (ix2 r k)) := by
  rw [step, ← ref_first, ← ref_second]
  pointwise! [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8]

theorem eq_grad : val_main_v0 (F := Ideal) p = G4 (F := Ideal) p w a b :=
  funext fun i => (congrArg _ (eq_ix2 i)).trans ((ref_grad p (i 0) (i 1)).trans
    ((out_grad p w a b (i 0) (i 1)).symm.trans (congrArg (G4 (F := Ideal) p w a b) (eq_ix2 i)).symm))

theorem eq_step : val_main_v24 (F := Ideal) p w a b = G5 (F := Ideal) p w a b :=
  funext fun i => (congrArg _ (eq_ix2 i)).trans ((ref_step p w a b (i 0) (i 1)).trans
    ((out_step p w a b (i 0) (i 1)).symm.trans (congrArg (G5 (F := Ideal) p w a b) (eq_ix2 i)).symm))

theorem eq_first : val_main_v5 (F := Ideal) p a = G6 (F := Ideal) p w a b :=
  funext fun i => (congrArg _ (eq_ix2 i)).trans ((ref_first p a (i 0) (i 1)).trans
    ((out_first p w a b (i 0) (i 1)).symm.trans (congrArg (G6 (F := Ideal) p w a b) (eq_ix2 i)).symm))

theorem eq_second : val_main_v11 (F := Ideal) p b = G7 (F := Ideal) p w a b :=
  funext fun i => (congrArg _ (eq_ix2 i)).trans ((ref_second p b (i 0) (i 1)).trans
    ((out_second p w a b (i 0) (i 1)).symm.trans (congrArg (G7 (F := Ideal) p w a b) (eq_ix2 i)).symm))

end Cert.Kernel5Ideal.Adam

end
-- ==== Proof.WgValue.lean ====
/- What the weight-gradient call leaves in its result, at the ideal instance: the accumulated products put together over the
   arguments. -/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Wg

open Cert.Kernel6Ideal Cert.Kernel6Ideal.Gen

section Steps

variable {F : FTy → Type} [FloatOps F]
variable (m : (ℓ : Loc nD τ sig) → Buf (Elt F) ℓ) (c : Dev nD)

theorem held (x : Vec F S2048x1792 .f32) : View.read (Elt F) (View.whole cc0_scratch0) ((Memref.isWhole_whole cc0_scratch0).unread x) = x :=
  (Memref.isWhole_whole cc0_scratch0).read_unread x

/-- The two contents after the grid point before `t`. -/
abbrev prev (t : Fin cfg0.N) := outsAt0 m c (t.val - 1) (Nat.lt_of_le_of_lt (Nat.sub_le _ _) t.isLt)

theorem acc_first (t : Fin cfg0.N) (h : t.val % 4 = 0) :
    (outsAt0 m c t.val t.isLt).2 = k0_pay2 k0_pay1 (iblk m c 0 t) (iblk m c 1 t) := by
  rw [outsAt0_A m c t h (by omega)]; dsimp only; frame_out

theorem acc_next (t : Fin cfg0.N) (h : ¬t.val % 4 = 0) :
    (outsAt0 m c t.val t.isLt).2 = k0_pay2 (prev m c t).2 (iblk m c 0 t) (iblk m c 1 t) := by
  by_cases h3 : t.val % 4 = 3
  · rw [outsAt0_C m c t h h3]; dsimp only; frame_out; rw [held]
  · rw [outsAt0_B m c t h h3]; dsimp only; frame_out; rw [held]

end Steps

variable (m : (ℓ : Loc nD τ sig) → Buf (Elt Ideal) ℓ) (c : Dev nD)

/-- The two halves of the columns, as stored. -/
theorem halves (Z : FVec Ideal S2048x1792 .f32) (q : Fin 2) (r : Fin 2048) (k : Fin 896) :
    View.canon (Val := Elt Ideal) (e := .bf16)
      [⟨Rect.unit (s := S2x2048x896) ![1, 0, 0] S1x2048x896.size inb_S2x2048x896_S1x2048x896_1_0_0,
          k0_pay4 (F := Ideal) (View.ld Z (Rect.unit (s := S2048x1792) ![0, 896] S2048x896.size inb_S2048x1792_S2048x896_0_896))⟩,
        ⟨Rect.unit (s := S2x2048x896) ![0, 0, 0] S1x2048x896.size inb_S2x2048x896_S1x2048x896_0_0_0,
          k0_pay3 (F := Ideal) (View.ld Z (Rect.unit (s := S2048x1792) ![0, 0] S2048x896.size inb_S2048x1792_S2048x896_0_0))⟩] (ix3 q r k)
      = Z (ix2 r ⟨q.val * 896 + k.val, by omega⟩) := by
  canon_tiles x h
  all_goals
    have e0 : q.val = _ := h0
    have e1 : r.val = _ := h1
    have e2 : k.val = _ := h2
    open_payloads
    pointwise
    blk_ext
    all_goals omega

theorem block (t : Fin cfg0.N) (h : t.val % 4 = 3) (q : Fin 2) (r : Fin 2048) (k : Fin 896) :
    (outsAt0 m c t.val t.isLt).1 (ix3 q r k) = (outsAt0 m c t.val t.isLt).2 (ix2 r ⟨q.val * 896 + k.val, by omega⟩) := by
  rw [acc_next m c t (by omega)]
  refine Eq.trans ?_ (halves (k0_pay2 (prev m c t).2 (iblk m c 0 t) (iblk m c 1 t)) q r k)
  rw [outsAt0_C m c t (by omega) h]; dsimp only; frame_out; rw [held]
  simp only [View.readCov_eq_canon']
  rw [View.canon_unit_zero (by funext a; fin_cases a <;> rfl) inb_S2048x1792_S2048x1792_0_0]

abbrev DP : FVec Ideal S4096x7168 .f32 := m ((c : Thread nD τ).loc main_arg0)
abbrev X : FVec Ideal S4096x2048 .f32 := m ((c : Thread nD τ).loc main_arg1)
abbrev GN : FVec Ideal S1x2048 .f32 := m ((c : Thread nD τ).loc main_arg2)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem lt16 (t : Fin cfg0.N) : t.val < 16 := lt_of_lt_of_eq t.isLt (show cfg0.N = 16 from N_0)

/-- The row of the arrays that row `r` of a block is. -/
def row (t : Fin cfg0.N) (r : Fin 1024) : Fin 4096 := ⟨t.val % 4 * 1024 + r, by omega⟩
/-- The column of the projection that column `e` of a block is. -/
def col (t : Fin cfg0.N) (e : Fin 1792) : Fin 7168 := ⟨t.val / 4 * 1792 + e, by have := lt16 t; omega⟩

/-- The normalised input, scaled. -/
def H (i : Fin 4096) (k : Fin 2048) : EReal :=
  X m c (ix2 i k) * Ideal.rsqrt (Ideal.div (∑ x, X m c (ix2 i x) * X m c (ix2 i x)) (Ideal.ofBits .f32 1157627904#32) + Ideal.ofBits .f32 897988541#32)
    * GN m c (ix2 0 k)

theorem entry_dp : V m c main_v13 = truncf .bf16 (DP m c) facts.bitsLt_bf16_f32 := rfl
theorem entry_h (i : Fin 4096) (k : Fin 2048) : V m c main_v12 (ix2 i k) = H m c i k := by
  show FloatOps.truncf .bf16 facts.bitsLt_bf16_f32 (FloatOps.mulf (FloatOps.mulf (X m c (ix2 i k)) (broadcastInDim S4096x2048 ![0, 1]
    facts.bcast_S4096x1_S4096x2048_0_1 (Host.rsqrt (addf (Host.divf (broadcastInDim S4096x1 ![0] facts.bcast_S4096_S4096x1_0
      (Host.reduceAdd (mulf (X m c) (X m c)) (constant S_ .f32 0x00000000#32) facts.reducesTo_S4096x2048_S4096_d1 facts.h_S_))
      (broadcastInDim S4096x1 ![] facts.bcast_S_S4096x1 (constant S_ .f32 0x45000000#32)))
      (broadcastInDim S4096x1 ![] facts.bcast_S_S4096x1 (constant S_ .f32 0x358637BD#32)))) (ix2 i k)))
    (broadcastInDim S4096x2048 ![0, 1] facts.bcast_S1x2048_S4096x2048_0_1 (GN m c) (ix2 i k))) = _
  pointwise! [H]

theorem blk_dp (t : Fin cfg0.N) (r : Fin 1024) (e : Fin 1792) : iblk m c 1 t (ix2 r e) = DP m c (ix2 (row t r) (col t e)) := by
  blk_point [iblk, idx t, entry_dp, row, col]

theorem blk_h (t : Fin cfg0.N) (r : Fin 1024) (k : Fin 2048) : iblk m c 0 t (ix2 r k) = H m c (row t r) k := by
  rw [← entry_h]
  blk_point [iblk, idx t, row]

/-- The gradient of the weights, entry by entry. -/
def DW (e : Fin 7168) (k : Fin 2048) : EReal := ∑ i : Fin 4096, H m c i k * DP m c (ix2 i e)

theorem acc_full (t : Fin cfg0.N) (h : t.val % 4 = 3) (k : Fin 2048) (e : Fin 1792) :
    (outsAt0 m c t.val t.isLt).2 (ix2 k e) = DW m c (col t e) k := by
  refine (Pipeline.eq_sum_fin_of_reset_step_apply_of_flush (fun n hn => (outsAt0 m c n hn).2) 4 (fun _ => (0 : EReal))
    (fun t i => ∑ r : Fin 1024, H m c (row t r) (i 0) * DP m c (ix2 (row t r) (col t (i 1)))) ?_ ?_ t h (ix2 k e)).trans ?_
  · intro t h i
    idx_vars i
    rw [acc_first m c t h]
    pointwise [k0_pay2, k0_pay1]
    simp only [blk_dp, blk_h]
  · intro t h i
    idx_vars i
    rw [acc_next m c t h]
    pointwise [k0_pay2]
    simp only [blk_dp, blk_h]
  · rw [zero_add, DW]
    refine Fin.sum_mul_add_congr (M := EReal) fun s r hl => ?_
    have e0 : row ⟨4 * (t.val / 4) + s.val, Pipeline.run_point_lt_of_flush t h s⟩ r = ⟨s.val * 1024 + r.val, hl⟩ := Fin.ext (by simp only [row]; omega)
    have e1 : col ⟨4 * (t.val / 4) + s.val, Pipeline.run_point_lt_of_flush t h s⟩ e = col t e := Fin.ext (by simp only [col]; omega)
    show H m c (row _ r) k * DP m c (ix2 (row _ r) (col _ e)) = _
    rw [e0, e1]

/-- The result: the blocks of columns of the gradient. -/
def G : FVec Ideal S8x2048x896 .bf16 := fun i => DW m c ⟨(i 0).val * 896 + (i 2).val, by have h0 : (i 0).val < 8 := (i 0).isLt; have h2 : (i 2).val < 896 := (i 2).isLt; omega⟩ (i 1)

theorem final : (dats m 0 c).arrAt 2 cfg0.N = G m c := by
  refine (dats m 0 c).arrAt_eq_of_covers 2 _ (by decide +kernel) fun t hf y => ?_
  have h : t.val % 4 = 3 := (flush0_2 t).mp hf
  blk_simp
  rw [after0_2]
  refine (congrArg (outsAt0 m c t.val t.isLt).1 (eq_ix3 y)).trans ((block m c t h _ _ _).trans ((acc_full m c t h _ _).trans ?_))
  blk_point [idx t, col, G]

open Cert.Reference6Ideal.Read

theorem ref_eq : val_main_v19 (F := Ideal) (DP m c) (X m c) (GN m c) = G m c := by
  funext i
  idx_vars i
  show _ = ∑ j : Fin 4096, H m c j i1 * DP m c (ix2 j ⟨i0.val * 896 + i2.val, _⟩)
  pointwise! [val_main_v19, val_main_v18, val_main_v17, val_main_v16, val_main_v15, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, H]

end Cert.Kernel6Ideal.Wg

end
-- ==== Proof.PairValue.lean ====
module

public import proofs.«01_k».proof.Proof.Gen.Kernel7.Frame
public import proofs.«01_k».proof.Proof.Gen.Kernel7Ideal.Frame
public import proofs.«01_k».proof.Proof.Gen.Reference7Ideal.Read
public import Idealize.ShloMosaic.Lib.Pointwise
public import Idealize.ShloMosaic.Lib.Pipeline.ValueKit

@[expose] public section

set_option maxRecDepth 16384

noncomputable section

namespace Cert.Kernel7.Pair

open Cert.Kernel7 Cert.Kernel7.Gen Idealize.ShloMosaic Idealize.ShloMosaic.TcCoe Idealize.SL.Sem

variable {F : FTy → Type} [FloatOps F] (m : (ℓ : Loc nD τ sig) → Buf (Elt F) ℓ)

/-- The table of one word, which is 0. -/
def zeros : pre0.Contents (Elt F) := fun | ⟨0, _⟩ => fun _ => 0#32 | ⟨_ + 1, h⟩ => absurd h (by simp)

theorem tbl_eq : tbl m = zeros := by
  funext j x
  match j with
  | ⟨0, _⟩ => rfl

/-- The block of this core's half at a point: the point's shard, whole. -/
theorem place (i : grid0.Coords) : cc0_transform_0 inb_S1_S1_0 numel1_S1 (zeros (F := F)) i = ![(BitVec.ofNat 32 (i 0).val).toNat, 0, 0, 0] := rfl

theorem place_inb : ∀ (i : grid0.Coords) a, ((![(BitVec.ofNat 32 (i 0).val).toNat, 0, 0, 0] : Fin 4 → Nat) a + 1) * S1x1x2048x896.size a
    ≤ S4x2x2048x896.size a := by
  decide +kernel

theorem inb (i : grid0.Coords) : ∀ a, (cc0_transform_0 inb_S1_S1_0 numel1_S1 (zeros (F := F)) i a + 1) * S1x1x2048x896.size a
    ≤ S4x2x2048x896.size a := by
  rw [place]
  exact place_inb i

/-- The block the table places lies inside its array. -/
theorem ok : Ok m := by
  unfold Ok
  rw [tbl_eq]
  exact fun i => ⟨inb i, .inr (Affine.block_words_dvd (of_decide_eq_true rfl) (by decide))⟩

end Cert.Kernel7.Pair

namespace Cert.Kernel7Ideal.Pair

open Cert.Kernel7Ideal Cert.Kernel7Ideal.Gen Idealize.ShloMosaic Idealize.ShloMosaic.TcCoe Idealize.SL.Sem
open Idealize.ShloMosaic.Pipeline (Dat)

section
variable {F : FTy → Type} [FloatOps F] (m : (ℓ : Loc nD τ sig) → Buf (Elt F) ℓ)

/-- The table of one word, which is 0. -/
def zeros : pre0.Contents (Elt F) := fun | ⟨0, _⟩ => fun _ => 0#32 | ⟨_ + 1, h⟩ => absurd h (by simp)

theorem tbl_eq : tbl m = zeros := by
  funext j x
  match j with
  | ⟨0, _⟩ => rfl

/-- The block of this core's half at a point: the point's shard, whole. -/
theorem place (i : grid0.Coords) : cc0_transform_0 inb_S1_S1_0 numel1_S1 (zeros (F := F)) i = ![(BitVec.ofNat 32 (i 0).val).toNat, 0, 0, 0] := rfl

theorem place_inb : ∀ (i : grid0.Coords) a, ((![(BitVec.ofNat 32 (i 0).val).toNat, 0, 0, 0] : Fin 4 → Nat) a + 1) * S1x1x2048x896.size a
    ≤ S4x2x2048x896.size a := by
  decide +kernel

theorem inb (i : grid0.Coords) : ∀ a, (cc0_transform_0 inb_S1_S1_0 numel1_S1 (zeros (F := F)) i a + 1) * S1x1x2048x896.size a
    ≤ S4x2x2048x896.size a := by
  rw [place]
  exact place_inb i

/-- The block the table places lies inside its array. -/
theorem ok_zeros : ok0 (F := F) zeros :=
  fun i => ⟨inb i, .inr (Affine.block_words_dvd (of_decide_eq_true rfl) (by decide))⟩

theorem ok : Ok m := by
  unfold Ok
  rw [tbl_eq]
  exact ok_zeros

end

section
variable (m : (ℓ : Loc nD τ sig) → Buf (Elt Ideal) ℓ) (c : Dev nD)

abbrev A : FVec Ideal S4x2x2048x896 .bf16 := m ((c : Thread nD τ).loc main_arg0)
abbrev B : FVec Ideal S4x2048x896 .bf16 := m ((c : Thread nD τ).loc main_arg1)

/-- The sum of this core's half and its sibling's, shard by shard. -/
def G : FVec Ideal S4x2048x896 .bf16 := fun i => (A m c (ix4 (i 0) 0 (i 1) (i 2)) + B m c i : EReal)

/-- The result's blocks cover it, whatever the table holds. -/
theorem covers (a : (pcfg0 (F := Ideal)).Adm) : ((cfg0 a).win 2).Covers :=
  (by decide +kernel : ((cfg0 (F := Ideal) ⟨zeros, ok_zeros⟩).win 2).Covers)

theorem coord : ∀ t : Fin grid0.N, (BitVec.ofNat 32 ((grid0.coords t) 0).val).toNat = t.val := by decide +kernel

/-- The shard of a point. -/
abbrev shard (t : Fin (cfgM m (ok m)).N) : Fin 4 := ⟨t.val, t.isLt⟩

theorem index0 (t : Fin (cfgM m (ok m)).N) : ((cfgM m (ok m)).win 0).index t = ![t.val, 0, 0, 0] := by
  show cc0_transform_0 inb_S1_S1_0 numel1_S1 (tbl m) (grid0.coords t) = _
  rw [tbl_eq, place, coord]

theorem index1 (t : Fin (cfgM m (ok m)).N) : ((cfgM m (ok m)).win 1).index t = ![t.val, 0, 0] := by
  show (![(BitVec.ofNat 32 ((grid0.coords t) 0).val).toNat, 0, 0] : Fin 3 → Nat) = _
  rw [coord]

theorem index2 (t : Fin (cfgM m (ok m)).N) : ((cfgM m (ok m)).win 2).index t = ![t.val, 0, 0] := by
  show (![(BitVec.ofNat 32 ((grid0.coords t) 0).val).toNat, 0, 0] : Fin 3 → Nat) = _
  rw [coord]

theorem emb0 (t : Fin (cfgM m (ok m)).N) (y : S1x1x2048x896.Idx) :
    (((cfgM m (ok m)).win 0).rect t).emb y = (ix4 (shard m t) 0 (y 2) (y 3) : S4x2x2048x896.Idx) := by
  funext a
  refine Fin.ext ((Pipeline.Window.rect_emb_val _ t y a).trans ?_)
  rw [index0]
  change Fin 4 at a
  match a with
  | 0 => show t.val * 1 + (y 0).val = t.val; have h : (y 0).val < 1 := (y 0).isLt; omega
  | 1 => show 0 * 1 + (y 1).val = 0; have h : (y 1).val < 1 := (y 1).isLt; omega
  | 2 => show 0 * 2048 + (y 2).val = (y 2).val; omega
  | 3 => show 0 * 896 + (y 3).val = (y 3).val; omega

theorem emb1 (t : Fin (cfgM m (ok m)).N) (y : S1x2048x896.Idx) :
    (((cfgM m (ok m)).win 1).rect t).emb y = (ix3 (shard m t) (y 1) (y 2) : S4x2048x896.Idx) := by
  funext a
  refine Fin.ext ((Pipeline.Window.rect_emb_val _ t y a).trans ?_)
  rw [index1]
  change Fin 3 at a
  match a with
  | 0 => show t.val * 1 + (y 0).val = t.val; have h : (y 0).val < 1 := (y 0).isLt; omega
  | 1 => show 0 * 2048 + (y 1).val = (y 1).val; omega
  | 2 => show 0 * 896 + (y 2).val = (y 2).val; omega

theorem emb2 (t : Fin (cfgM m (ok m)).N) (y : S1x2048x896.Idx) :
    (((cfgM m (ok m)).win 2).rect t).emb y = (ix3 (shard m t) (y 1) (y 2) : S4x2048x896.Idx) := by
  funext a
  refine Fin.ext ((Pipeline.Window.rect_emb_val _ t y a).trans ?_)
  rw [index2]
  change Fin 3 at a
  match a with
  | 0 => show t.val * 1 + (y 0).val = t.val; have h : (y 0).val < 1 := (y 0).isLt; omega
  | 1 => show 0 * 2048 + (y 1).val = (y 1).val; omega
  | 2 => show 0 * 896 + (y 2).val = (y 2).val; omega

theorem blk0 (t : Fin (cfgM m (ok m)).N) (y : S1x1x2048x896.Idx) : iblk m (ok m) c 0 t y = A m c (ix4 (shard m t) 0 (y 2) (y 3)) :=
  (congrArg (A m c) (emb0 m t y) : A m c ((((cfgM m (ok m)).win 0).rect t).emb y) = _)

theorem blk1 (t : Fin (cfgM m (ok m)).N) (y : S1x2048x896.Idx) : iblk m (ok m) c 1 t y = B m c (ix3 (shard m t) (y 1) (y 2)) :=
  (congrArg (B m c) (emb1 m t y) : B m c ((((cfgM m (ok m)).win 1).rect t).emb y) = _)

theorem pay (v : Vec Ideal S1x1x2048x896 .bf16) (w : Vec Ideal S1x2048x896 .bf16) (i0 : Fin 1) (i1 : Fin 2048) (i2 : Fin 896) :
    k0_pay1 v w (ix3 i0 i1 i2) = (v (ix4 0 0 i1 i2) + w (ix3 0 i1 i2) : EReal) := by
  pointwise! [k0_pay1]

theorem point (t : Fin (cfgM m (ok m)).N) (y : S1x2048x896.Idx) :
    outsAt0 m (ok m) c t y = G m c (ix3 (shard m t) (y 1) (y 2)) := by
  unfold outsAt0
  frame_out
  refine (congrFun (congrArg₂ k0_pay1 ((hs0_0 m (ok m) t).read_unread (iblk m (ok m) c 0 t)) ((hs0_1 m (ok m) t).read_unread (iblk m (ok m) c 1 t))) y).trans ?_
  idx_vars y
  exact (pay _ _ _ _ _).trans (congrArg₂ (fun a b : EReal => a + b) (blk0 m c t _) (blk1 m c t _))

theorem final : (dats m (ok m) 0 c).arrAt 2 (cfgM m (ok m)).N = G m c := by
  refine (dats m (ok m) 0 c).arrAt_eq_of_covers 2 _ (covers (adm m (ok m))) fun t hf y => ?_
  blk_simp
  rw [after0_2]
  exact (point m c t y).trans (congrArg (G m c) (emb2 m t y).symm)

/-- The run leaves the sum in the result and the arguments as they were. -/
theorem run (ρ : Dev nD → PrngReg) : θ_run defs (onTc (τ := τ) (main (F := Ideal))) ⟨m, fun _ => 0, ρ⟩ fun r => ∀ c : Dev nD,
    r.2.mem ((c : Thread nD τ).loc main_v1) = G m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩)
    (run_main m ρ (ok m))

open Cert.Reference7Ideal.Read

theorem ref_eq : val_main_v5 (F := Ideal) (A m c) (B m c) = G m c := by
  funext i
  idx_vars i
  pointwise! [val_main_v5, val_main_v4, val_main_v3, val_main_v2, val_main_v1, val_main_v0, G]

end

end Cert.Kernel7Ideal.Pair

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.KvClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.IgClaim
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.MixFrame
public import proofs.«01_k».proof.Proof.MixClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.AdamValue
public import proofs.«01_k».proof.Proof.AdamPacked
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.WgValue
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.PairValue
public import Idealize.ShloMosaic.Lib.Claim
public import Idealize.ShloMosaic.Adequacy
public import Idealize.ShloMosaic.Init

@[expose] public section

noncomputable section

namespace Cert.Proof

open Idealize.ShloMosaic Idealize.SL.Sem

/-- The reference runs, its arguments unchanged and every counter at zero. -/
theorem kv_reference_frame : Cert.quiescent_Reference2Ideal (hReference2Ideal := Cert.Reference2Ideal.Gen.facts) := by
  intro m g _
  hlo_run
  · exact fun _ => ⟨trivial, trivial, trivial, trivial⟩
  · exact funext fun γ : GSem Cert.Reference2Ideal.nD Cert.Reference2Ideal.τ Cert.Reference2Ideal.sig =>
      ((by decide : ∀ sm : SemLoc Cert.Reference2Ideal.sig, False) γ.2).elim

/-- The kernel's results are the reference's. -/
theorem kv_algebraic : Cert.algebraic_Kernel2Ideal_Reference2Ideal (hKernel2Ideal := Cert.Kernel2Ideal.Gen.facts)
    (hReference2Ideal := Cert.Reference2Ideal.Gen.facts) := by
  intro m g m' g' _ hm
  refine ⟨fun c => (Cert.Kernel2Ideal.Gen.dat0 (Cert.Kernel2Ideal.Gen.V1 m g) c).arrAt 4 Cert.Kernel2Ideal.cfg0.N,
    fun c => (Cert.Kernel2Ideal.Gen.dat0 (Cert.Kernel2Ideal.Gen.V1 m g) c).arrAt 5 Cert.Kernel2Ideal.cfg0.N,
    fun c => (Cert.Kernel2Ideal.Gen.dat1 (Cert.Kernel2Ideal.Gen.V2 m g) c).arrAt 4 Cert.Kernel2Ideal.cfg1.N,
    fun c => (Cert.Kernel2Ideal.Gen.dat1 (Cert.Kernel2Ideal.Gen.V2 m g) c).arrAt 5 Cert.Kernel2Ideal.cfg1.N, (θ_run _ _ _).mono (fun r h c => ?_) (Cert.Kernel2Ideal.Kv.run_arrays (F := Ideal) m g),
    (θ_run _ _ _).mono (fun r h c => ?_) (Cert.Reference2Ideal.Value.run (F := Ideal) m' g')⟩
  · exact h c
  · obtain ⟨h1, h2, h3, h4, ha⟩ := h c
    obtain ⟨e0, e1, e2, e3⟩ := hm c
    refine ⟨(h1.trans (Cert.Reference2Ideal.Read.val_main_v21_eq _ _ _)).trans ?_,
      (h2.trans (Cert.Reference2Ideal.Read.val_main_v23_eq _ _ _)).trans ?_,
      (h3.trans (Cert.Reference2Ideal.Read.val_main_v25_eq _ _ _)).trans ?_,
      (h4.trans (Cert.Reference2Ideal.Read.val_main_v26_eq _ _ _)).trans ?_, ha⟩
    · rw [e1, e2, e3]; exact (Cert.Kv.final_1 m g c).symm
    · rw [e1, e2, e3]; exact (Cert.Kv.final_2 m g c).symm
    · rw [e0, e1, e2]; exact (Cert.Kv.final_3 m g c).symm
    · rw [e0, e1, e3]; exact (Cert.Kv.final_4 m g c).symm

theorem ig_reference_frame : Cert.quiescent_Reference3Ideal (hReference3Ideal := Cert.Reference3Ideal.Gen.facts) := by
  intro m g _
  hlo_run
  · exact fun _ => ⟨trivial, trivial, trivial, trivial, trivial⟩
  · exact funext fun γ : GSem Cert.Reference3Ideal.nD Cert.Reference3Ideal.τ Cert.Reference3Ideal.sig =>
      ((by decide : ∀ sm : SemLoc Cert.Reference3Ideal.sig, False) γ.2).elim

/-- The last grid point ends the walk over the blocks of a row. -/
theorem ig_last : ((Fin.last Cert.Kernel3Ideal.cfg0.N).val - 1) % 32 = 31 := by
  rw [Fin.val_last, show Cert.Kernel3Ideal.cfg0.N = 32 from Cert.Kernel3Ideal.Gen.N_0]

theorem ig_last_lt : (Fin.last Cert.Kernel3Ideal.cfg0.N).val - 1 < Cert.Kernel3Ideal.cfg0.N := by
  rw [Fin.val_last, show Cert.Kernel3Ideal.cfg0.N = 32 from Cert.Kernel3Ideal.Gen.N_0]; decide

/-- The gradient of the layer's input and the gradient of the norm's scale are the reference's. -/
theorem ig_algebraic : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Kernel3Ideal.Ig.GX m c, fun c i => Cert.Kernel3Ideal.Ig.DG m c (i 2),
    (θ_run _ _ _).mono (fun r h c => ?_) (Cert.Kernel3Ideal.Value.run_blocks (F := Ideal) m g),
    (θ_run _ _ _).mono (fun r h c => ?_) (Cert.Reference3Ideal.Value.run (F := Ideal) m' g')⟩
  · obtain ⟨h1, a0, a1, a2, a3, a4, h2⟩ := h c
    exact ⟨h1.trans (Cert.Kernel3Ideal.Ig.final_gx m c),
      h2.trans (Cert.Kernel3Ideal.Ig.final_dg m c ⟨(Fin.last Cert.Kernel3Ideal.cfg0.N).val - 1, ig_last_lt⟩ ig_last), a0, a1, a2, a3, a4⟩
  · obtain ⟨h1, h2, ha⟩ := h c
    obtain ⟨e0, e1, e2, e3, e4⟩ := hm c
    refine ⟨(h1.trans (Cert.Reference3Ideal.Read.val_main_v40_eq _ _)).trans ?_,
      (h2.trans (Cert.Reference3Ideal.Read.val_main_v41_eq _ _ _)).trans ?_, ha⟩
    · rw [e0, e1, e2, e3, e4]; exact (Cert.Ig.kernel_gx m c).symm
    · rw [e0, e1, e4]; exact (Cert.Ig.kernel_dg m c).symm

/-- The printed kernel and its idealisation are one text, so one statement. -/
theorem mix_frame_eq : Cert.quiescent_Kernel (hKernel := Cert.Kernel.Gen.facts) =
    (∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) ∧ r.2.sem = fun _ => 0)) := by
  sl_kernel_rfl

theorem mix_frame : Cert.quiescent_Kernel (hKernel := Cert.Kernel.Gen.facts) :=
  mix_frame_eq.mpr fun m ρ _ => Cert.KernelIdeal.Mix.frame (F := Bits) m ρ

set_option maxHeartbeats 8000000 in
/-- The mixing reference runs, its arguments unchanged and every counter at zero. -/
theorem mix_reference_frame : Cert.quiescent_ReferenceIdeal (hReferenceIdeal := Cert.ReferenceIdeal.Gen.facts) := by
  intro m g _
  hlo_run
  · exact fun _ => ⟨trivial, trivial, trivial, trivial, trivial, trivial, trivial, trivial, trivial, trivial, trivial, trivial, trivial⟩
  · exact funext fun γ : GSem Cert.ReferenceIdeal.nD Cert.ReferenceIdeal.τ Cert.ReferenceIdeal.sig =>
      ((by decide : ∀ sm : SemLoc Cert.ReferenceIdeal.sig, False) γ.2).elim

/-- The run of the reference ends and leaves its arguments. -/
theorem adam_reference_frame : Cert.quiescent_Reference4Ideal (hReference4Ideal := Cert.Reference4Ideal.Gen.facts) := by
  intro m g _
  hlo_run
  · exact fun _ => ⟨trivial, trivial, trivial, trivial⟩
  · exact funext fun γ : GSem Cert.Reference4Ideal.nD Cert.Reference4Ideal.τ Cert.Reference4Ideal.sig =>
      ((by decide : ∀ sm : SemLoc Cert.Reference4Ideal.sig, False) γ.2).elim

/-- The update of the input projection's block: the gradient summed over the chips, the change of the weight and its two moments. -/
theorem adam_algebraic : Cert.algebraic_Kernel4Ideal_Reference4Ideal (hKernel4Ideal := Cert.Kernel4Ideal.Gen.facts)
    (hReference4Ideal := Cert.Reference4Ideal.Gen.facts) := by
  intro m g m' g' _ hm
  refine ⟨fun c => Cert.Kernel4Ideal.Adam.GG m c, fun c => Cert.Kernel4Ideal.Adam.GD m c, fun c => Cert.Kernel4Ideal.Adam.GM m c,
    fun c => Cert.Kernel4Ideal.Adam.GU m c, (θ_run _ _ _).mono (fun r h c => ?_) (Cert.Kernel4Ideal.Value.run_blocks (F := Ideal) m g),
    (θ_run _ _ _).mono (fun r h c => ?_) (Cert.Reference4Ideal.Value.run (F := Ideal) m' g')⟩
  · obtain ⟨h1, h2, h3, h4, ha⟩ := h c
    exact ⟨h1.trans (Cert.Kernel4Ideal.Adam.final_grad m c), h2.trans (Cert.Kernel4Ideal.Adam.final_step m c),
      h3.trans (Cert.Kernel4Ideal.Adam.final_first m c), h4.trans (Cert.Kernel4Ideal.Adam.final_second m c), ha⟩
  · obtain ⟨h1, h2, h3, h4, ha⟩ := h c
    obtain ⟨e0, e1, e2, e3⟩ := hm c
    refine ⟨(h1.trans (Cert.Reference4Ideal.Read.val_main_v1_eq _)).trans ?_,
      (h2.trans (Cert.Reference4Ideal.Read.val_main_v25_eq _ _ _ _)).trans ?_,
      (h3.trans (Cert.Reference4Ideal.Read.val_main_v6_eq _ _)).trans ?_,
      (h4.trans (Cert.Reference4Ideal.Read.val_main_v12_eq _ _)).trans ?_, ha⟩
    · rw [e0]; exact Cert.Kernel4Ideal.Adam.ref_eq_grad m c
    · rw [e0, e1, e2, e3]; exact Cert.Kernel4Ideal.Adam.ref_eq_step m c
    · rw [e0, e2]; exact Cert.Kernel4Ideal.Adam.ref_eq_first m c
    · rw [e0, e3]; exact Cert.Kernel4Ideal.Adam.ref_eq_second m c

/-- The run of the reference ends and leaves its arguments. -/
theorem packed_reference_frame : Cert.quiescent_Reference5Ideal (hReference5Ideal := Cert.Reference5Ideal.Gen.facts) := by
  intro m g _
  hlo_run
  · exact fun _ => ⟨trivial, trivial, trivial, trivial⟩
  · exact funext fun γ : GSem Cert.Reference5Ideal.nD Cert.Reference5Ideal.τ Cert.Reference5Ideal.sig =>
      ((by decide : ∀ sm : SemLoc Cert.Reference5Ideal.sig, False) γ.2).elim

/-- The update of the first norm's scale, packed in rows of lanes. -/
theorem packed_algebraic : Cert.algebraic_Kernel5Ideal_Reference5Ideal (hKernel5Ideal := Cert.Kernel5Ideal.Gen.facts)
    (hReference5Ideal := Cert.Reference5Ideal.Gen.facts) := by
  intro m g m' g' _ hm
  refine ⟨_, _, _, _, (θ_run _ _ _).mono (fun r h c => h c) (Cert.Kernel5Ideal.Value.run (F := Ideal) m g),
    (θ_run _ _ _).mono (fun r h c => ?_) (Cert.Reference5Ideal.Value.run (F := Ideal) m' g')⟩
  obtain ⟨h1, h2, h3, h4, ha⟩ := h c
  obtain ⟨e0, e1, e2, e3⟩ := hm c
  refine ⟨(h1.trans (Cert.Reference5Ideal.Read.val_main_v0_eq _)).trans ?_,
    (h2.trans (Cert.Reference5Ideal.Read.val_main_v24_eq _ _ _ _)).trans ?_,
    (h3.trans (Cert.Reference5Ideal.Read.val_main_v5_eq _ _)).trans ?_,
    (h4.trans (Cert.Reference5Ideal.Read.val_main_v11_eq _ _)).trans ?_, ha⟩
  · rw [e0]; exact Cert.Kernel5Ideal.Adam.eq_grad _ _ _ _
  · rw [e0, e1, e2, e3]; exact Cert.Kernel5Ideal.Adam.eq_step _ _ _ _
  · rw [e0, e2]; exact Cert.Kernel5Ideal.Adam.eq_first _ _ _ _
  · rw [e0, e3]; exact Cert.Kernel5Ideal.Adam.eq_second _ _ _ _

/-- The reference of the weights' gradient runs, its arguments unchanged and every counter at zero. -/
theorem wg_reference_frame : Cert.quiescent_Reference6Ideal (hReference6Ideal := Cert.Reference6Ideal.Gen.facts) := by
  intro m g _
  hlo_run
  · exact fun _ => ⟨trivial, trivial, trivial, trivial⟩
  · exact funext fun γ : GSem Cert.Reference6Ideal.nD Cert.Reference6Ideal.τ Cert.Reference6Ideal.sig =>
      ((by decide : ∀ sm : SemLoc Cert.Reference6Ideal.sig, False) γ.2).elim

/-- The gradient of the input projection's weights is the reference's. -/
theorem wg_algebraic : Cert.algebraic_Kernel6Ideal_Reference6Ideal (hKernel6Ideal := Cert.Kernel6Ideal.Gen.facts)
    (hReference6Ideal := Cert.Reference6Ideal.Gen.facts) := by
  intro m g m' g' _ hm
  refine ⟨fun c => Cert.Kernel6Ideal.Wg.G m c,
    (θ_run _ _ _).mono (fun r h c => ?_) (Cert.Kernel6Ideal.Value.run_blocks (F := Ideal) m g),
    (θ_run _ _ _).mono (fun r h c => ?_) (Cert.Reference6Ideal.Value.run (F := Ideal) m' g')⟩
  · exact ⟨(h c).1.trans (Cert.Kernel6Ideal.Wg.final m c), (h c).2⟩
  · obtain ⟨e0, e1, e2, -⟩ := hm c
    refine ⟨((h c).1.trans (Cert.Reference6Ideal.Read.val_main_v19_eq _ _ _)).trans ?_, (h c).2⟩
    rw [e0, e1, e2]
    exact Cert.Kernel6Ideal.Wg.ref_eq m c

/-- The sum of the two cores' parts runs, its arguments unchanged and every counter at zero, at the device's own floats. -/
theorem pair_frame : Cert.quiescent_Kernel7 (hKernel7 := Cert.Kernel7.Gen.facts) := fun m g _ => Cert.Kernel7.Gen.frame m g (Cert.Kernel7.Pair.ok m)

/-- The same at exact real arithmetic. -/
theorem pair_ideal_frame : Cert.quiescent_Kernel7Ideal (hKernel7Ideal := Cert.Kernel7Ideal.Gen.facts) := fun m g _ =>
  Cert.Kernel7Ideal.Gen.frame m g (Cert.Kernel7Ideal.Pair.ok m)

/-- The reference of the sum of the two cores' parts runs, its arguments unchanged and every counter at zero. -/
theorem pair_reference_frame : Cert.quiescent_Reference7Ideal (hReference7Ideal := Cert.Reference7Ideal.Gen.facts) := by
  intro m g _
  hlo_run
  · exact fun _ => ⟨trivial, trivial⟩
  · exact funext fun γ : GSem Cert.Reference7Ideal.nD Cert.Reference7Ideal.τ Cert.Reference7Ideal.sig =>
      ((by decide : ∀ sm : SemLoc Cert.Reference7Ideal.sig, False) γ.2).elim

/-- The sum of the two cores' parts is the reference's. -/
theorem pair_algebraic : Cert.algebraic_Kernel7Ideal_Reference7Ideal (hKernel7Ideal := Cert.Kernel7Ideal.Gen.facts)
    (hReference7Ideal := Cert.Reference7Ideal.Gen.facts) := by
  intro m g m' g' _ hm
  refine ⟨fun c => Cert.Kernel7Ideal.Pair.G m c, Cert.Kernel7Ideal.Pair.run m g,
    (θ_run _ _ _).mono (fun r h c => ?_) (Cert.Reference7Ideal.Value.run (F := Ideal) m' g')⟩
  obtain ⟨e0, e1⟩ := hm c
  refine ⟨((h c).1.trans (Cert.Reference7Ideal.Read.val_main_v5_eq _ _)).trans ?_, (h c).2⟩
  rw [e0, e1]
  exact Cert.Kernel7Ideal.Pair.ref_eq m c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Mix.preFacts,
    mix_frame, fun m ρ _ => Cert.KernelIdeal.Mix.frame m ρ, fun m ρ _ => Cert.KernelIdeal.Mix.frame m ρ,
    mix_reference_frame, fun m g _ => mix_reference_frame m g trivial,
    fun m ρ _ => Cert.Kernel2.Gen.frame m ρ, fun m ρ _ => Cert.Kernel2Ideal.Gen.frame m ρ, kv_reference_frame,
    fun m ρ _ => Cert.Kernel3.Gen.frame m ρ, fun m ρ _ => Cert.Kernel3Ideal.Gen.frame m ρ, ig_reference_frame,
    fun m ρ _ => Cert.Kernel4.Gen.frame m ρ, fun m ρ _ => Cert.Kernel4Ideal.Gen.frame m ρ, adam_reference_frame,
    fun m ρ _ => Cert.Kernel5.Gen.frame m ρ, fun m ρ _ => Cert.Kernel5Ideal.Gen.frame m ρ, packed_reference_frame,
    fun m ρ _ => Cert.Kernel6.Gen.frame m ρ, fun m ρ _ => Cert.Kernel6Ideal.Gen.frame m ρ, wg_reference_frame,
    pair_frame, pair_ideal_frame, pair_reference_frame,
    trivial, Cert.Mix.mix_algebraic, trivial, kv_algebraic, trivial, ig_algebraic, trivial, adam_algebraic, trivial, packed_algebraic,
    trivial, wg_algebraic, trivial, pair_algebraic⟩

end Cert.Proof

end
